-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_has_a_density [hPre_has_a_density : Cert.Pre_has_a_density.Facts] (m : (ℓ : Loc Cert.KernelIdeal.nD Cert.KernelIdeal.τ Cert.KernelIdeal.sig) → Buf (Elt Ideal) ℓ) : Prop :=
  ∀ c : Dev Cert.KernelIdeal.nD,
    (Cert.Pre_has_a_density.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_has_a_density [hPre_has_a_density : Cert.Pre_has_a_density.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_has_a_density.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_has_a_density [hKernelIdeal : Cert.KernelIdeal.Facts] [hPre_has_a_density : Cert.Pre_has_a_density.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_has_a_density m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_has_a_density [hReferenceIdeal : Cert.ReferenceIdeal.Facts] [hPre_has_a_density : Cert.Pre_has_a_density.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_has_a_density m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_has_a_density [hKernelIdeal : Cert.KernelIdeal.Facts] [hReferenceIdeal : Cert.ReferenceIdeal.Facts] [hPre_has_a_density : Cert.Pre_has_a_density.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_has_a_density m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_has_a_density : Cert.Pre_has_a_density.Facts),
    quiescent_Kernel (hKernel := hKernel)
    ∧ quiescent_KernelIdeal (hKernelIdeal := hKernelIdeal)
    ∧ quiescent_KernelIdeal_pre_has_a_density (hKernelIdeal := hKernelIdeal) (hPre_has_a_density := hPre_has_a_density)
    ∧ quiescent_ReferenceIdeal (hReferenceIdeal := hReferenceIdeal)
    ∧ quiescent_ReferenceIdeal_pre_has_a_density (hReferenceIdeal := hReferenceIdeal) (hPre_has_a_density := hPre_has_a_density)
    ∧ preserves_Kernel_KernelIdeal
    ∧ algebraic_KernelIdeal_ReferenceIdeal_pre_has_a_density (hKernelIdeal := hKernelIdeal) (hReferenceIdeal := hReferenceIdeal) (hPre_has_a_density := hPre_has_a_density)
-- ==== Pre_has_a_density.lean ====
abbrev S64x32768 : Shape := ⟨2, ![64, 32768]⟩
abbrev S1 : Shape := ⟨1, ![1]⟩
abbrev S_ : Shape := ⟨0, ![]⟩

class Facts : Prop where
  bcast_S_S64x32768 : S_.BroadcastsInDim S64x32768 (![] : Fin 0 → Fin S64x32768.rank)
  reducesTo_S64x32768_S_d0_1 : S64x32768.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S64x32768 .f32) (main_arg1 : FVec F S1 .f32) : IVec S_ 1 :=
  let main_cst : FVec F S_ .f32 := constant S_ .f32 0xFF800000#32
  let main_v0 : FVec F S64x32768 .f32 := broadcastInDim S64x32768 ![] bcast_S_S64x32768 main_cst
  let main_v1 : IVec S64x32768 1 := cmpf .ogt main_arg0 main_v0
  let main_c : IVec S_ 1 := constantI S_ 1 1#1
  let main_v2 : IVec S_ 1 := (fun x v => Host.reduce IntOp.andi x v reducesTo_S64x32768_S_d0_1 h_S_) main_v1 main_c
  let main_cst_0 : FVec F S_ .f32 := constant S_ .f32 0x00000000#32
  let main_v3 : FVec F S1 .f32 := broadcastInDim S1 ![] bcast_S_S1 main_cst_0
  let main_v4 : IVec S1 1 := cmpf .une main_arg1 main_v3
  let main_c_1 : IVec S_ 1 := constantI S_ 1 1#1
  let main_v5 : IVec S_ 1 := (fun x v => Host.reduce IntOp.andi x v reducesTo_S1_S_d0 h_S_) main_v4 main_c_1
  let main_v6 : IVec S_ 1 := andi main_v2 main_v5
  main_v6
-- ==== Kernel.lean ====
abbrev S64x32768 : Shape := ⟨2, ![64, 32768]⟩
abbrev S1 : Shape := ⟨1, ![1]⟩
abbrev S64x128 : Shape := ⟨2, ![64, 128]⟩
abbrev S8x32768 : Shape := ⟨2, ![8, 32768]⟩
abbrev S8x128 : Shape := ⟨2, ![8, 128]⟩
abbrev S8 : Shape := ⟨1, ![8]⟩
abbrev S8x1 : Shape := ⟨2, ![8, 1]⟩
abbrev S1x8x1 : Shape := ⟨3, ![1, 8, 1]⟩
abbrev S1x1x1 : Shape := ⟨3, ![1, 1, 1]⟩
abbrev S16x32768 : Shape := ⟨2, ![16, 32768]⟩
abbrev S1x256 : Shape := ⟨2, ![1, 256]⟩
abbrev S1x1 : Shape := ⟨2, ![1, 1]⟩

abbrev nBuf : Space → Nat
  | .hbm => 4
  | .vmem => 6
  | .smem => 2
  | _ => 0

abbrev bufTy : (tb : Table) → Fin (tcTables nBuf tb) → BufTy
  | .hbm, ⟨0, _⟩ => ⟨S64x32768, .f32⟩
  | .hbm, ⟨1, _⟩ => ⟨S1, .f32⟩
  | .hbm, ⟨2, _⟩ => ⟨S64x128, .i32⟩
  | .hbm, ⟨3, _⟩ => ⟨S64x32768, .f32⟩
  | .local _ .vmem, ⟨0, _⟩ => ⟨S8x32768, .f32⟩
  | .local _ .vmem, ⟨1, _⟩ => ⟨S8x32768, .f32⟩
  | .local _ .vmem, ⟨2, _⟩ => ⟨S8x128, .i32⟩
  | .local _ .vmem, ⟨3, _⟩ => ⟨S8x128, .i32⟩
  | .local _ .vmem, ⟨4, _⟩ => ⟨S16x32768, .f32⟩
  | .local _ .vmem, ⟨5, _⟩ => ⟨S16x32768, .f32⟩
  | .local _ .smem, ⟨0, _⟩ => ⟨S64x128, .i32⟩
  | .local _ .smem, ⟨1, _⟩ => ⟨S1, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c0_i32_28 : BitVec 32 := 0#32
  let v183 : BitVec 32 := Scalar.addi v182 c0_i32_28
  v183
def k0_off1 (k0_t1 : Fin k0_t1_loop.trips) (c0_i32_28 : BitVec 32) : Fin 2 → Nat :=
  let c0 : Index := 0#32
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let v183 : BitVec 32 := Scalar.addi v182 c0_i32_28
  let v184 : BitVec 32 := v183
  let v185 : Index := Scalar.indexCast v184
  ![0, v185.toNat]
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c128_i32 : BitVec 32 := 128#32
  let v200 : BitVec 32 := Scalar.addi v182 c128_i32
  v200
def k0_mult3 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c256_i32 : BitVec 32 := 256#32
  let v217 : BitVec 32 := Scalar.addi v182 c256_i32
  v217
def k0_mult4 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c384_i32 : BitVec 32 := 384#32
  let v234 : BitVec 32 := Scalar.addi v182 c384_i32
  v234
def k0_mult5 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c512_i32 : BitVec 32 := 512#32
  let v251 : BitVec 32 := Scalar.addi v182 c512_i32
  v251
def k0_mult6 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c640_i32 : BitVec 32 := 640#32
  let v268 : BitVec 32 := Scalar.addi v182 c640_i32
  v268
def k0_mult7 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c768_i32 : BitVec 32 := 768#32
  let v285 : BitVec 32 := Scalar.addi v182 c768_i32
  v285
def k0_mult8 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c896_i32 : BitVec 32 := 896#32
  let v302 : BitVec 32 := Scalar.addi v182 c896_i32
  v302
def k0_mult9 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1024_i32 : BitVec 32 := 1024#32
  let v319 : BitVec 32 := Scalar.addi v182 c1024_i32
  v319
def k0_mult10 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1152_i32 : BitVec 32 := 1152#32
  let v336 : BitVec 32 := Scalar.addi v182 c1152_i32
  v336
def k0_mult11 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1280_i32 : BitVec 32 := 1280#32
  let v353 : BitVec 32 := Scalar.addi v182 c1280_i32
  v353
def k0_mult12 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1408_i32 : BitVec 32 := 1408#32
  let v370 : BitVec 32 := Scalar.addi v182 c1408_i32
  v370
def k0_mult13 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1536_i32 : BitVec 32 := 1536#32
  let v387 : BitVec 32 := Scalar.addi v182 c1536_i32
  v387
def k0_mult14 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1664_i32 : BitVec 32 := 1664#32
  let v404 : BitVec 32 := Scalar.addi v182 c1664_i32
  v404
def k0_mult15 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1792_i32 : BitVec 32 := 1792#32
  let v421 : BitVec 32 := Scalar.addi v182 c1792_i32
  v421
def k0_mult16 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c1920_i32 : BitVec 32 := 1920#32
  let v438 : BitVec 32 := Scalar.addi v182 c1920_i32
  v438
def k0_mult17 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2048_i32 : BitVec 32 := 2048#32
  let v455 : BitVec 32 := Scalar.addi v182 c2048_i32
  v455
def k0_mult18 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2176_i32 : BitVec 32 := 2176#32
  let v472 : BitVec 32 := Scalar.addi v182 c2176_i32
  v472
def k0_mult19 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2304_i32 : BitVec 32 := 2304#32
  let v489 : BitVec 32 := Scalar.addi v182 c2304_i32
  v489
def k0_mult20 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2432_i32 : BitVec 32 := 2432#32
  let v506 : BitVec 32 := Scalar.addi v182 c2432_i32
  v506
def k0_mult21 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2560_i32 : BitVec 32 := 2560#32
  let v523 : BitVec 32 := Scalar.addi v182 c2560_i32
  v523
def k0_mult22 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2688_i32 : BitVec 32 := 2688#32
  let v540 : BitVec 32 := Scalar.addi v182 c2688_i32
  v540
def k0_mult23 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2816_i32 : BitVec 32 := 2816#32
  let v557 : BitVec 32 := Scalar.addi v182 c2816_i32
  v557
def k0_mult24 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c2944_i32 : BitVec 32 := 2944#32
  let v574 : BitVec 32 := Scalar.addi v182 c2944_i32
  v574
def k0_mult25 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3072_i32 : BitVec 32 := 3072#32
  let v591 : BitVec 32 := Scalar.addi v182 c3072_i32
  v591
def k0_mult26 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3200_i32 : BitVec 32 := 3200#32
  let v608 : BitVec 32 := Scalar.addi v182 c3200_i32
  v608
def k0_mult27 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3328_i32 : BitVec 32 := 3328#32
  let v625 : BitVec 32 := Scalar.addi v182 c3328_i32
  v625
def k0_mult28 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3456_i32 : BitVec 32 := 3456#32
  let v642 : BitVec 32 := Scalar.addi v182 c3456_i32
  v642
def k0_mult29 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3584_i32 : BitVec 32 := 3584#32
  let v659 : BitVec 32 := Scalar.addi v182 c3584_i32
  v659
def k0_mult30 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3712_i32 : BitVec 32 := 3712#32
  let v676 : BitVec 32 := Scalar.addi v182 c3712_i32
  v676
def k0_mult31 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3840_i32 : BitVec 32 := 3840#32
  let v693 : BitVec 32 := Scalar.addi v182 c3840_i32
  v693
def k0_mult32 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c3968_i32 : BitVec 32 := 3968#32
  let v710 : BitVec 32 := Scalar.addi v182 c3968_i32
  v710
def k0_mult33 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4096_i32 : BitVec 32 := 4096#32
  let v727 : BitVec 32 := Scalar.addi v182 c4096_i32
  v727
def k0_mult34 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4224_i32 : BitVec 32 := 4224#32
  let v744 : BitVec 32 := Scalar.addi v182 c4224_i32
  v744
def k0_mult35 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4352_i32 : BitVec 32 := 4352#32
  let v761 : BitVec 32 := Scalar.addi v182 c4352_i32
  v761
def k0_mult36 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4480_i32 : BitVec 32 := 4480#32
  let v778 : BitVec 32 := Scalar.addi v182 c4480_i32
  v778
def k0_mult37 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4608_i32 : BitVec 32 := 4608#32
  let v795 : BitVec 32 := Scalar.addi v182 c4608_i32
  v795
def k0_mult38 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4736_i32 : BitVec 32 := 4736#32
  let v812 : BitVec 32 := Scalar.addi v182 c4736_i32
  v812
def k0_mult39 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4864_i32 : BitVec 32 := 4864#32
  let v829 : BitVec 32 := Scalar.addi v182 c4864_i32
  v829
def k0_mult40 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c4992_i32 : BitVec 32 := 4992#32
  let v846 : BitVec 32 := Scalar.addi v182 c4992_i32
  v846
def k0_mult41 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c5120_i32 : BitVec 32 := 5120#32
  let v863 : BitVec 32 := Scalar.addi v182 c5120_i32
  v863
def k0_mult42 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c5248_i32 : BitVec 32 := 5248#32
  let v880 : BitVec 32 := Scalar.addi v182 c5248_i32
  v880
def k0_mult43 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c5376_i32 : BitVec 32 := 5376#32
  let v897 : BitVec 32 := Scalar.addi v182 c5376_i32
  v897
def k0_mult44 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c5504_i32 : BitVec 32 := 5504#32
  let v914 : BitVec 32 := Scalar.addi v182 c5504_i32
  v914
def k0_mult45 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c5632_i32 : BitVec 32 := 5632#32
  let v931 : BitVec 32 := Scalar.addi v182 c5632_i32
  v931
def k0_mult46 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c5760_i32 : BitVec 32 := 5760#32
  let v948 : BitVec 32 := Scalar.addi v182 c5760_i32
  v948
def k0_mult47 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c5888_i32 : BitVec 32 := 5888#32
  let v965 : BitVec 32 := Scalar.addi v182 c5888_i32
  v965
def k0_mult48 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6016_i32 : BitVec 32 := 6016#32
  let v982 : BitVec 32 := Scalar.addi v182 c6016_i32
  v982
def k0_mult49 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6144_i32 : BitVec 32 := 6144#32
  let v999 : BitVec 32 := Scalar.addi v182 c6144_i32
  v999
def k0_mult50 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6272_i32 : BitVec 32 := 6272#32
  let v1016 : BitVec 32 := Scalar.addi v182 c6272_i32
  v1016
def k0_mult51 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6400_i32 : BitVec 32 := 6400#32
  let v1033 : BitVec 32 := Scalar.addi v182 c6400_i32
  v1033
def k0_mult52 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6528_i32 : BitVec 32 := 6528#32
  let v1050 : BitVec 32 := Scalar.addi v182 c6528_i32
  v1050
def k0_mult53 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6656_i32 : BitVec 32 := 6656#32
  let v1067 : BitVec 32 := Scalar.addi v182 c6656_i32
  v1067
def k0_mult54 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6784_i32 : BitVec 32 := 6784#32
  let v1084 : BitVec 32 := Scalar.addi v182 c6784_i32
  v1084
def k0_mult55 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c6912_i32 : BitVec 32 := 6912#32
  let v1101 : BitVec 32 := Scalar.addi v182 c6912_i32
  v1101
def k0_mult56 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7040_i32 : BitVec 32 := 7040#32
  let v1118 : BitVec 32 := Scalar.addi v182 c7040_i32
  v1118
def k0_mult57 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7168_i32 : BitVec 32 := 7168#32
  let v1135 : BitVec 32 := Scalar.addi v182 c7168_i32
  v1135
def k0_mult58 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7296_i32 : BitVec 32 := 7296#32
  let v1152 : BitVec 32 := Scalar.addi v182 c7296_i32
  v1152
def k0_mult59 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7424_i32 : BitVec 32 := 7424#32
  let v1169 : BitVec 32 := Scalar.addi v182 c7424_i32
  v1169
def k0_mult60 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7552_i32 : BitVec 32 := 7552#32
  let v1186 : BitVec 32 := Scalar.addi v182 c7552_i32
  v1186
def k0_mult61 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7680_i32 : BitVec 32 := 7680#32
  let v1203 : BitVec 32 := Scalar.addi v182 c7680_i32
  v1203
def k0_mult62 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7808_i32 : BitVec 32 := 7808#32
  let v1220 : BitVec 32 := Scalar.addi v182 c7808_i32
  v1220
def k0_mult63 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c7936_i32 : BitVec 32 := 7936#32
  let v1237 : BitVec 32 := Scalar.addi v182 c7936_i32
  v1237
def k0_mult64 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v182 : BitVec 32 := Scalar.muli arg3 c8192_i32
  let c8064_i32 : BitVec 32 := 8064#32
  let v1254 : BitVec 32 := Scalar.addi v182 c8064_i32
  v1254
@[reducible] def k0_t2_loop : Scf.Loop 32 :=
  let c0_i32_28 : BitVec 32 := 0#32
  let c8_i32 : BitVec 32 := 8#32
  let v182 : BitVec 32 := Scalar.addi c0_i32_28 c8_i32
  let c1_i32_29 : BitVec 32 := 1#32
  ⟨c0_i32_28, v182, c1_i32_29⟩
def k0_mult65 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c0_i32_53 : BitVec 32 := 0#32
  let v929 : BitVec 32 := Scalar.addi v928 c0_i32_53
  v929
def k0_off2 (k0_t2 : Fin k0_t2_loop.trips) (c0_i32_53 : BitVec 32) : Fin 2 → Nat :=
  let c0_54 : Index := 0#32
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let v929 : BitVec 32 := Scalar.addi v928 c0_i32_53
  let v930 : BitVec 32 := v929
  let v931 : Index := Scalar.indexCast v930
  ![0, v931.toNat]
def k0_mult66 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c128_i32 : BitVec 32 := 128#32
  let v958 : BitVec 32 := Scalar.addi v928 c128_i32
  v958
def k0_mult67 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c256_i32 : BitVec 32 := 256#32
  let v987 : BitVec 32 := Scalar.addi v928 c256_i32
  v987
def k0_mult68 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c384_i32 : BitVec 32 := 384#32
  let v1016 : BitVec 32 := Scalar.addi v928 c384_i32
  v1016
def k0_mult69 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c512_i32 : BitVec 32 := 512#32
  let v1045 : BitVec 32 := Scalar.addi v928 c512_i32
  v1045
def k0_mult70 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c640_i32 : BitVec 32 := 640#32
  let v1074 : BitVec 32 := Scalar.addi v928 c640_i32
  v1074
def k0_mult71 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c768_i32 : BitVec 32 := 768#32
  let v1103 : BitVec 32 := Scalar.addi v928 c768_i32
  v1103
def k0_mult72 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c896_i32 : BitVec 32 := 896#32
  let v1132 : BitVec 32 := Scalar.addi v928 c896_i32
  v1132
def k0_mult73 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1024_i32 : BitVec 32 := 1024#32
  let v1161 : BitVec 32 := Scalar.addi v928 c1024_i32
  v1161
def k0_mult74 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1152_i32 : BitVec 32 := 1152#32
  let v1190 : BitVec 32 := Scalar.addi v928 c1152_i32
  v1190
def k0_mult75 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1280_i32 : BitVec 32 := 1280#32
  let v1219 : BitVec 32 := Scalar.addi v928 c1280_i32
  v1219
def k0_mult76 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1408_i32 : BitVec 32 := 1408#32
  let v1248 : BitVec 32 := Scalar.addi v928 c1408_i32
  v1248
def k0_mult77 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1536_i32 : BitVec 32 := 1536#32
  let v1277 : BitVec 32 := Scalar.addi v928 c1536_i32
  v1277
def k0_mult78 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1664_i32 : BitVec 32 := 1664#32
  let v1306 : BitVec 32 := Scalar.addi v928 c1664_i32
  v1306
def k0_mult79 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1792_i32 : BitVec 32 := 1792#32
  let v1335 : BitVec 32 := Scalar.addi v928 c1792_i32
  v1335
def k0_mult80 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c1920_i32 : BitVec 32 := 1920#32
  let v1364 : BitVec 32 := Scalar.addi v928 c1920_i32
  v1364
def k0_mult81 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2048_i32 : BitVec 32 := 2048#32
  let v1393 : BitVec 32 := Scalar.addi v928 c2048_i32
  v1393
def k0_mult82 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2176_i32 : BitVec 32 := 2176#32
  let v1422 : BitVec 32 := Scalar.addi v928 c2176_i32
  v1422
def k0_mult83 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2304_i32 : BitVec 32 := 2304#32
  let v1451 : BitVec 32 := Scalar.addi v928 c2304_i32
  v1451
def k0_mult84 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2432_i32 : BitVec 32 := 2432#32
  let v1480 : BitVec 32 := Scalar.addi v928 c2432_i32
  v1480
def k0_mult85 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2560_i32 : BitVec 32 := 2560#32
  let v1509 : BitVec 32 := Scalar.addi v928 c2560_i32
  v1509
def k0_mult86 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2688_i32 : BitVec 32 := 2688#32
  let v1538 : BitVec 32 := Scalar.addi v928 c2688_i32
  v1538
def k0_mult87 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2816_i32 : BitVec 32 := 2816#32
  let v1567 : BitVec 32 := Scalar.addi v928 c2816_i32
  v1567
def k0_mult88 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c2944_i32 : BitVec 32 := 2944#32
  let v1596 : BitVec 32 := Scalar.addi v928 c2944_i32
  v1596
def k0_mult89 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3072_i32 : BitVec 32 := 3072#32
  let v1625 : BitVec 32 := Scalar.addi v928 c3072_i32
  v1625
def k0_mult90 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3200_i32 : BitVec 32 := 3200#32
  let v1654 : BitVec 32 := Scalar.addi v928 c3200_i32
  v1654
def k0_mult91 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3328_i32 : BitVec 32 := 3328#32
  let v1683 : BitVec 32 := Scalar.addi v928 c3328_i32
  v1683
def k0_mult92 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3456_i32 : BitVec 32 := 3456#32
  let v1712 : BitVec 32 := Scalar.addi v928 c3456_i32
  v1712
def k0_mult93 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3584_i32 : BitVec 32 := 3584#32
  let v1741 : BitVec 32 := Scalar.addi v928 c3584_i32
  v1741
def k0_mult94 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3712_i32 : BitVec 32 := 3712#32
  let v1770 : BitVec 32 := Scalar.addi v928 c3712_i32
  v1770
def k0_mult95 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3840_i32 : BitVec 32 := 3840#32
  let v1799 : BitVec 32 := Scalar.addi v928 c3840_i32
  v1799
def k0_mult96 (k0_t2 : Fin k0_t2_loop.trips) : BitVec 32 :=
  let c0_i32_28 : BitVec 32 := 0#32
  let c1_i32_29 : BitVec 32 := 1#32
  let arg3 : BitVec 32 := Scf.iv c0_i32_28 c1_i32_29 k0_t2
  let c4096_i32 : BitVec 32 := 4096#32
  let v928 : BitVec 32 := Scalar.muli arg3 c4096_i32
  let c3968_i32 : BitVec 32 := 3968#32
  let v1828 : BitVec 32 := Scalar.addi v928 c3968_i32
  v1828
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def k1_off1 (i : grid1.Coords) : Fin 2 → Nat :=
  let arg0 : BitVec 32 := BitVec.ofNat 32 (i 0).val
  let c16_i32 : BitVec 32 := 16#32
  let v8 : BitVec 32 := Scalar.muli arg0 c16_i32
  let c0_i32 : BitVec 32 := 0#32
  let v9 : BitVec 32 := Scalar.addi v8 c0_i32
  let v10 : Index := Scalar.indexCast v9
  let c0_4 : Index := 0#32
  ![v10.toNat, 0]
def k1_mult1 (v11 : BitVec 32) : BitVec 32 :=
  let c32512_i32 : BitVec 32 := 32512#32
  let c0_i32_11 : BitVec 32 := 0#32
  let c32_i32 : BitVec 32 := 32#32
  let v12 : BitVec 32 := Scalar.subi v11 c32_i32
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c128_i32 : BitVec 32 := 128#32
  let c0_i32_7 : BitVec 32 := 0#32
  let v19 : BitVec 1 := Scalar.cmpi .sgt c128_i32 c0_i32_7
  let v20 : BitVec 32 := Scalar.extui v19
  let c0_i32_8 : BitVec 32 := 0#32
  let v21 : BitVec 1 := Scalar.cmpi .slt c128_i32 c0_i32_8
  let v22 : BitVec 32 := Scalar.extui v21
  let v23 : BitVec 32 := Scalar.subi v20 v22
  let v24 : BitVec 1 := Scalar.cmpi .ne v18 v23
  let v25 : BitVec 32 := Scalar.remsi v12 c128_i32
  let c0_i32_9 : BitVec 32 := 0#32
  let v26 : BitVec 1 := Scalar.cmpi .ne v25 c0_i32_9
  let v27 : BitVec 1 := Scalar.andi v24 v26
  let v13 : BitVec 32 := Scalar.divsi v12 c128_i32
  let c1_i32 : BitVec 32 := 1#32
  let v28 : BitVec 32 := Scalar.subi v13 c1_i32
  let v29 : BitVec 32 := Scalar.select v27 v28 v13
  let c128_i32_10 : BitVec 32 := 128#32
  let v30 : BitVec 32 := Scalar.muli v29 c128_i32_10
  let v31 : BitVec 32 := Scalar.maxsi c0_i32_11 v30
  let v32 : BitVec 32 := Scalar.minsi c32512_i32 v31
  v32

def k1_off2 (v11 : BitVec 32) : Fin 2 → Nat :=
  let c0_13 : Index := 0#32
  let c32512_i32 : BitVec 32 := 32512#32
  let c0_i32_11 : BitVec 32 := 0#32
  let c32_i32 : BitVec 32 := 32#32
  let v12 : BitVec 32 := Scalar.subi v11 c32_i32
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c128_i32 : BitVec 32 := 128#32
  let c0_i32_7 : BitVec 32 := 0#32
  let v19 : BitVec 1 := Scalar.cmpi .sgt c128_i32 c0_i32_7
  let v20 : BitVec 32 := Scalar.extui v19
  let c0_i32_8 : BitVec 32 := 0#32
  let v21 : BitVec 1 := Scalar.cmpi .slt c128_i32 c0_i32_8
  let v22 : BitVec 32 := Scalar.extui v21
  let v23 : BitVec 32 := Scalar.subi v20 v22
  let v24 : BitVec 1 := Scalar.cmpi .ne v18 v23
  let v25 : BitVec 32 := Scalar.remsi v12 c128_i32
  let c0_i32_9 : BitVec 32 := 0#32
  let v26 : BitVec 1 := Scalar.cmpi .ne v25 c0_i32_9
  let v27 : BitVec 1 := Scalar.andi v24 v26
  let v13 : BitVec 32 := Scalar.divsi v12 c128_i32
  let c1_i32 : BitVec 32 := 1#32
  let v28 : BitVec 32 := Scalar.subi v13 c1_i32
  let v29 : BitVec 32 := Scalar.select v27 v28 v13
  let c128_i32_10 : BitVec 32 := 128#32
  let v30 : BitVec 32 := Scalar.muli v29 c128_i32_10
  let v31 : BitVec 32 := Scalar.maxsi c0_i32_11 v30
  let v32 : BitVec 32 := Scalar.minsi c32512_i32 v31
  let v33 : BitVec 32 := v32
  let v48 : Index := Scalar.indexCast v33
  ![0, v48.toNat]

def k1_chk1 (v11 : BitVec 32) : Prop :=
  (128 ∣ (k1_mult1 v11).toNat) ∧
  (∀ a, (k1_off2 v11) a + S1x256.size a ≤ S16x32768.size a)
theorem k1_mult1_dvd : ∀ (v11 : BitVec 32) (k1_hw1 : k1_chk1 v11), 128 ∣ (k1_mult1 v11).toNat := fun v11 k1_hw1 => k1_hw1.1
theorem k1_off2_inb : ∀ (v11 : BitVec 32) (k1_hw1 : k1_chk1 v11), ∀ a, (k1_off2 v11) a + S1x256.size a ≤ S16x32768.size a := fun v11 k1_hw1 => k1_hw1.2

def k1_off3 (i : grid1.Coords) : Fin 2 → Nat :=
  let arg0 : BitVec 32 := BitVec.ofNat 32 (i 0).val
  let c16_i32_15 : BitVec 32 := 16#32
  let v54 : BitVec 32 := Scalar.muli arg0 c16_i32_15
  let c0_i32_16 : BitVec 32 := 0#32
  let v55 : BitVec 32 := Scalar.addi v54 c0_i32_16
  let v56 : Index := Scalar.indexCast v55
  let c1 : Index := 1#32
  ![v56.toNat, 1]
def k1_mult2 (v57 : BitVec 32) : BitVec 32 :=
  let c32512_i32_27 : BitVec 32 := 32512#32
  let c0_i32_26 : BitVec 32 := 0#32
  let c32_i32_17 : BitVec 32 := 32#32
  let v58 : BitVec 32 := Scalar.subi v57 c32_i32_17
  let c0_i32_19 : BitVec 32 := 0#32
  let v60 : BitVec 1 := Scalar.cmpi .sgt v58 c0_i32_19
  let v61 : BitVec 32 := Scalar.extui v60
  let c0_i32_20 : BitVec 32 := 0#32
  let v62 : BitVec 1 := Scalar.cmpi .slt v58 c0_i32_20
  let v63 : BitVec 32 := Scalar.extui v62
  let v64 : BitVec 32 := Scalar.subi v61 v63
  let c128_i32_18 : BitVec 32 := 128#32
  let c0_i32_21 : BitVec 32 := 0#32
  let v65 : BitVec 1 := Scalar.cmpi .sgt c128_i32_18 c0_i32_21
  let v66 : BitVec 32 := Scalar.extui v65
  let c0_i32_22 : BitVec 32 := 0#32
  let v67 : BitVec 1 := Scalar.cmpi .slt c128_i32_18 c0_i32_22
  let v68 : BitVec 32 := Scalar.extui v67
  let v69 : BitVec 32 := Scalar.subi v66 v68
  let v70 : BitVec 1 := Scalar.cmpi .ne v64 v69
  let v71 : BitVec 32 := Scalar.remsi v58 c128_i32_18
  let c0_i32_23 : BitVec 32 := 0#32
  let v72 : BitVec 1 := Scalar.cmpi .ne v71 c0_i32_23
  let v73 : BitVec 1 := Scalar.andi v70 v72
  let v59 : BitVec 32 := Scalar.divsi v58 c128_i32_18
  let c1_i32_24 : BitVec 32 := 1#32
  let v74 : BitVec 32 := Scalar.subi v59 c1_i32_24
  let v75 : BitVec 32 := Scalar.select v73 v74 v59
  let c128_i32_25 : BitVec 32 := 128#32
  let v76 : BitVec 32 := Scalar.muli v75 c128_i32_25
  let v77 : BitVec 32 := Scalar.maxsi c0_i32_26 v76
  let v78 : BitVec 32 := Scalar.minsi c32512_i32_27 v77
  v78

def k1_off4 (v57 : BitVec 32) : Fin 2 → Nat :=
  let c0_29 : Index := 0#32
  let c32512_i32_27 : BitVec 32 := 32512#32
  let c0_i32_26 : BitVec 32 := 0#32
  let c32_i32_17 : BitVec 32 := 32#32
  let v58 : BitVec 32 := Scalar.subi v57 c32_i32_17
  let c0_i32_19 : BitVec 32 := 0#32
  let v60 : BitVec 1 := Scalar.cmpi .sgt v58 c0_i32_19
  let v61 : BitVec 32 := Scalar.extui v60
  let c0_i32_20 : BitVec 32 := 0#32
  let v62 : BitVec 1 := Scalar.cmpi .slt v58 c0_i32_20
  let v63 : BitVec 32 := Scalar.extui v62
  let v64 : BitVec 32 := Scalar.subi v61 v63
  let c128_i32_18 : BitVec 32 := 128#32
  let c0_i32_21 : BitVec 32 := 0#32
  let v65 : BitVec 1 := Scalar.cmpi .sgt c128_i32_18 c0_i32_21
  let v66 : BitVec 32 := Scalar.extui v65
  let c0_i32_22 : BitVec 32 := 0#32
  let v67 : BitVec 1 := Scalar.cmpi .slt c128_i32_18 c0_i32_22
  let v68 : BitVec 32 := Scalar.extui v67
  let v69 : BitVec 32 := Scalar.subi v66 v68
  let v70 : BitVec 1 := Scalar.cmpi .ne v64 v69
  let v71 : BitVec 32 := Scalar.remsi v58 c128_i32_18
  let c0_i32_23 : BitVec 32 := 0#32
  let v72 : BitVec 1 := Scalar.cmpi .ne v71 c0_i32_23
  let v73 : BitVec 1 := Scalar.andi v70 v72
  let v59 : BitVec 32 := Scalar.divsi v58 c128_i32_18
  let c1_i32_24 : BitVec 32 := 1#32
  let v74 : BitVec 32 := Scalar.subi v59 c1_i32_24
  let v75 : BitVec 32 := Scalar.select v73 v74 v59
  let c128_i32_25 : BitVec 32 := 128#32
  let v76 : BitVec 32 := Scalar.muli v75 c128_i32_25
  let v77 : BitVec 32 := Scalar.maxsi c0_i32_26 v76
  let v78 : BitVec 32 := Scalar.minsi c32512_i32_27 v77
  let v79 : BitVec 32 := v78
  let v94 : Index := Scalar.indexCast v79
  ![0, v94.toNat]

def k1_chk2 (v57 : BitVec 32) : Prop :=
  (128 ∣ (k1_mult2 v57).toNat) ∧
  (∀ a, (k1_off4 v57) a + S1x256.size a ≤ S16x32768.size a)
theorem k1_mult2_dvd : ∀ (v57 : BitVec 32) (k1_hw2 : k1_chk2 v57), 128 ∣ (k1_mult2 v57).toNat := fun v57 k1_hw2 => k1_hw2.1
theorem k1_off4_inb : ∀ (v57 : BitVec 32) (k1_hw2 : k1_chk2 v57), ∀ a, (k1_off4 v57) a + S1x256.size a ≤ S16x32768.size a := fun v57 k1_hw2 => k1_hw2.2

def k1_off5 (i : grid1.Coords) : Fin 2 → Nat :=
  let arg0 : BitVec 32 := BitVec.ofNat 32 (i 0).val
  let c16_i32_31 : BitVec 32 := 16#32
  let v100 : BitVec 32 := Scalar.muli arg0 c16_i32_31
  let c0_i32_32 : BitVec 32 := 0#32
  let v101 : BitVec 32 := Scalar.addi v100 c0_i32_32
  let v102 : Index := Scalar.indexCast v101
  let c2 : Index := 2#32
  ![v102.toNat, 2]
def k1_mult3 (v103 : BitVec 32) : BitVec 32 :=
  let c32512_i32_43 : BitVec 32 := 32512#32
  let c0_i32_42 : BitVec 32 := 0#32
  let c32_i32_33 : BitVec 32 := 32#32
  let v104 : BitVec 32 := Scalar.subi v103 c32_i32_33
  let c0_i32_35 : BitVec 32 := 0#32
  let v106 : BitVec 1 := Scalar.cmpi .sgt v104 c0_i32_35
  let v107 : BitVec 32 := Scalar.extui v106
  let c0_i32_36 : BitVec 32 := 0#32
  let v108 : BitVec 1 := Scalar.cmpi .slt v104 c0_i32_36
  let v109 : BitVec 32 := Scalar.extui v108
  let v110 : BitVec 32 := Scalar.subi v107 v109
  let c128_i32_34 : BitVec 32 := 128#32
  let c0_i32_37 : BitVec 32 := 0#32
  let v111 : BitVec 1 := Scalar.cmpi .sgt c128_i32_34 c0_i32_37
  let v112 : BitVec 32 := Scalar.extui v111
  let c0_i32_38 : BitVec 32 := 0#32
  let v113 : BitVec 1 := Scalar.cmpi .slt c128_i32_34 c0_i32_38
  let v114 : BitVec 32 := Scalar.extui v113
  let v115 : BitVec 32 := Scalar.subi v112 v114
  let v116 : BitVec 1 := Scalar.cmpi .ne v110 v115
  let v117 : BitVec 32 := Scalar.remsi v104 c128_i32_34
  let c0_i32_39 : BitVec 32 := 0#32
  let v118 : BitVec 1 := Scalar.cmpi .ne v117 c0_i32_39
  let v119 : BitVec 1 := Scalar.andi v116 v118
  let v105 : BitVec 32 := Scalar.divsi v104 c128_i32_34
  let c1_i32_40 : BitVec 32 := 1#32
  let v120 : BitVec 32 := Scalar.subi v105 c1_i32_40
  let v121 : BitVec 32 := Scalar.select v119 v120 v105
  let c128_i32_41 : BitVec 32 := 128#32
  let v122 : BitVec 32 := Scalar.muli v121 c128_i32_41
  let v123 : BitVec 32 := Scalar.maxsi c0_i32_42 v122
  let v124 : BitVec 32 := Scalar.minsi c32512_i32_43 v123
  v124

def k1_off6 (v103 : BitVec 32) : Fin 2 → Nat :=
  let c0_45 : Index := 0#32
  let c32512_i32_43 : BitVec 32 := 32512#32
  let c0_i32_42 : BitVec 32 := 0#32
  let c32_i32_33 : BitVec 32 := 32#32
  let v104 : BitVec 32 := Scalar.subi v103 c32_i32_33
  let c0_i32_35 : BitVec 32 := 0#32
  let v106 : BitVec 1 := Scalar.cmpi .sgt v104 c0_i32_35
  let v107 : BitVec 32 := Scalar.extui v106
  let c0_i32_36 : BitVec 32 := 0#32
  let v108 : BitVec 1 := Scalar.cmpi .slt v104 c0_i32_36
  let v109 : BitVec 32 := Scalar.extui v108
  let v110 : BitVec 32 := Scalar.subi v107 v109
  let c128_i32_34 : BitVec 32 := 128#32
  let c0_i32_37 : BitVec 32 := 0#32
  let v111 : BitVec 1 := Scalar.cmpi .sgt c128_i32_34 c0_i32_37
  let v112 : BitVec 32 := Scalar.extui v111
  let c0_i32_38 : BitVec 32 := 0#32
  let v113 : BitVec 1 := Scalar.cmpi .slt c128_i32_34 c0_i32_38
  let v114 : BitVec 32 := Scalar.extui v113
  let v115 : BitVec 32 := Scalar.subi v112 v114
  let v116 : BitVec 1 := Scalar.cmpi .ne v110 v115
  let v117 : BitVec 32 := Scalar.remsi v104 c128_i32_34
  let c0_i32_39 : BitVec 32 := 0#32
  let v118 : BitVec 1 := Scalar.cmpi .ne v117 c0_i32_39
  let v119 : BitVec 1 := Scalar.andi v116 v118
  let v105 : BitVec 32 := Scalar.divsi v104 c128_i32_34
  let c1_i32_40 : BitVec 32 := 1#32
  let v120 : BitVec 32 := Scalar.subi v105 c1_i32_40
  let v121 : BitVec 32 := Scalar.select v119 v120 v105
  let c128_i32_41 : BitVec 32 := 128#32
  let v122 : BitVec 32 := Scalar.muli v121 c128_i32_41
  let v123 : BitVec 32 := Scalar.maxsi c0_i32_42 v122
  let v124 : BitVec 32 := Scalar.minsi c32512_i32_43 v123
  let v125 : BitVec 32 := v124
  let v140 : Index := Scalar.indexCast v125
  ![0, v140.toNat]

def k1_chk3 (v103 : BitVec 32) : Prop :=
  (128 ∣ (k1_mult3 v103).toNat) ∧
  (∀ a, (k1_off6 v103) a + S1x256.size a ≤ S16x32768.size a)
theorem k1_mult3_dvd : ∀ (v103 : BitVec 32) (k1_hw3 : k1_chk3 v103), 128 ∣ (k1_mult3 v103).toNat := fun v103 k1_hw3 => k1_hw3.1
theorem k1_off6_inb : ∀ (v103 : BitVec 32) (k1_hw3 : k1_chk3 v103), ∀ a, (k1_off6 v103) a + S1x256.size a ≤ S16x32768.size a := fun v103 k1_hw3 => k1_hw3.2

def k1_off7 (i : grid1.Coords) : Fin 2 → Nat :=
  let arg0 : BitVec 32 := BitVec.ofNat 32 (i 0).val
  let c16_i32_47 : BitVec 32 := 16#32
  let v146 : BitVec 32 := Scalar.muli arg0 c16_i32_47
  let c0_i32_48 : BitVec 32 := 0#32
  let v147 : BitVec 32 := Scalar.addi v146 c0_i32_48
  let v148 : Index := Scalar.indexCast v147
  let c3 : Index := 3#32
  ![v148.toNat, 3]
def k1_mult4 (v149 : BitVec 32) : BitVec 32 :=
  let c32512_i32_59 : BitVec 32 := 32512#32
  let c0_i32_58 : BitVec 32 := 0#32
  let c32_i32_49 : BitVec 32 := 32#32
  let v150 : BitVec 32 := Scalar.subi v149 c32_i32_49
  let c0_i32_51 : BitVec 32 := 0#32
  let v152 : BitVec 1 := Scalar.cmpi .sgt v150 c0_i32_51
  let v153 : BitVec 32 := Scalar.extui v152
  let c0_i32_52 : BitVec 32 := 0#32
  let v154 : BitVec 1 := Scalar.cmpi .slt v150 c0_i32_52
  let v155 : BitVec 32 := Scalar.extui v154
  let v156 : BitVec 32 := Scalar.subi v153 v155
  let c128_i32_50 : BitVec 32 := 128#32
  let c0_i32_53 : BitVec 32 := 0#32
  let v157 : BitVec 1 := Scalar.cmpi .sgt c128_i32_50 c0_i32_53
  let v158 : BitVec 32 := Scalar.extui v157
  let c0_i32_54 : BitVec 32 := 0#32
  let v159 : BitVec 1 := Scalar.cmpi .slt c128_i32_50 c0_i32_54
  let v160 : BitVec 32 := Scalar.extui v159
  let v161 : BitVec 32 := Scalar.subi v158 v160
  let v162 : BitVec 1 := Scalar.cmpi .ne v156 v161
  let v163 : BitVec 32 := Scalar.remsi v150 c128_i32_50
  let c0_i32_55 : BitVec 32 := 0#32
  let v164 : BitVec 1 := Scalar.cmpi .ne v163 c0_i32_55
  let v165 : BitVec 1 := Scalar.andi v162 v164
  let v151 : BitVec 32 := Scalar.divsi v150 c128_i32_50
  let c1_i32_56 : BitVec 32 := 1#32
  let v166 : BitVec 32 := Scalar.subi v151 c1_i32_56
  let v167 : BitVec 32 := Scalar.select v165 v166 v151
  let c128_i32_57 : BitVec 32 := 128#32
  let v168 : BitVec 32 := Scalar.muli v167 c128_i32_57
  let v169 : BitVec 32 := Scalar.maxsi c0_i32_58 v168
  let v170 : BitVec 32 := Scalar.minsi c32512_i32_59 v169
  v170

def k1_off8 (v149 : BitVec 32) : Fin 2 → Nat :=
  let c0_61 : Index := 0#32
  let c32512_i32_59 : BitVec 32 := 32512#32
  let c0_i32_58 : BitVec 32 := 0#32
  let c32_i32_49 : BitVec 32 := 32#32
  let v150 : BitVec 32 := Scalar.subi v149 c32_i32_49
  let c0_i32_51 : BitVec 32 := 0#32
  let v152 : BitVec 1 := Scalar.cmpi .sgt v150 c0_i32_51
  let v153 : BitVec 32 := Scalar.extui v152
  let c0_i32_52 : BitVec 32 := 0#32
  let v154 : BitVec 1 := Scalar.cmpi .slt v150 c0_i32_52
  let v155 : BitVec 32 := Scalar.extui v154
  let v156 : BitVec 32 := Scalar.subi v153 v155
  let c128_i32_50 : BitVec 32 := 128#32
  let c0_i32_53 : BitVec 32 := 0#32
  let v157 : BitVec 1 := Scalar.cmpi .sgt c128_i32_50 c0_i32_53
  let v158 : BitVec 32 := Scalar.extui v157
  let c0_i32_54 : BitVec 32 := 0#32
  let v159 : BitVec 1 := Scalar.cmpi .slt c128_i32_50 c0_i32_54
  let v160 : BitVec 32 := Scalar.extui v159
  let v161 : BitVec 32 := Scalar.subi v158 v160
  let v162 : BitVec 1 := Scalar.cmpi .ne v156 v161
  let v163 : BitVec 32 := Scalar.remsi v150 c128_i32_50
  let c0_i32_55 : BitVec 32 := 0#32
  let v164 : BitVec 1 := Scalar.cmpi .ne v163 c0_i32_55
  let v165 : BitVec 1 := Scalar.andi v162 v164
  let v151 : BitVec 32 := Scalar.divsi v150 c128_i32_50
  let c1_i32_56 : BitVec 32 := 1#32
  let v166 : BitVec 32 := Scalar.subi v151 c1_i32_56
  let v167 : BitVec 32 := Scalar.select v165 v166 v151
  let c128_i32_57 : BitVec 32 := 128#32
  let v168 : BitVec 32 := Scalar.muli v167 c128_i32_57
  let v169 : BitVec 32 := Scalar.maxsi c0_i32_58 v168
  let v170 : BitVec 32 := Scalar.minsi c32512_i32_59 v169
  let v171 : BitVec 32 := v170
  let v186 : Index := Scalar.indexCast v171
  ![0, v186.toNat]

def k1_chk4 (v149 : BitVec 32) : Prop :=
  (128 ∣ (k1_mult4 v149).toNat) ∧
  (∀ a, (k1_off8 v149) a + S1x256.size a ≤ S16x32768.size a)
theorem k1_mult4_dvd : ∀ (v149 : BitVec 32) (k1_hw4 : k1_chk4 v149), 128 ∣ (k1_mult4 v149).toNat := fun v149 k1_hw4 => k1_hw4.1
theorem k1_off8_inb : ∀ (v149 : BitVec 32) (k1_hw4 : k1_chk4 v149), ∀ a, (k1_off8 v149) a + S1x256.size a ≤ S16x32768.size a := fun v149 k1_hw4 => k1_hw4.2

def k1_off9 (i : grid1.Coords) : Fin 2 → Nat :=
  let arg0 : BitVec 32 := BitVec.ofNat 32 (i 0).val
  let c16_i32_63 : BitVec 32 := 16#32
  let v192 : BitVec 32 := Scalar.muli arg0 c16_i32_63
  let c0_i32_64 : BitVec 32 := 0#32
  let v193 : BitVec 32 := Scalar.addi v192 c0_i32_64
  let v194 : Index := Scalar.indexCast v193
  let c4 : Index := 4#32
  ![v194.toNat, 4]
def k1_mult5 (v195 : BitVec 32) : BitVec 32 :=
  let c32512_i32_75 : BitVec 32 := 32512#32
  let c0_i32_74 : BitVec 32 := 0#32
  let c32_i32_65 : BitVec 32 := 32#32
  let v196 : BitVec 32 := Scalar.subi v195 c32_i32_65
  let c0_i32_67 : BitVec 32 := 0#32
  let v198 : BitVec 1 := Scalar.cmpi .sgt v196 c0_i32_67
  let v199 : BitVec 32 := Scalar.extui v198
  let c0_i32_68 : BitVec 32 := 0#32
  let v200 : BitVec 1 := Scalar.cmpi .slt v196 c0_i32_68
  let v201 : BitVec 32 := Scalar.extui v200
  let v202 : BitVec 32 := Scalar.subi v199 v201
  let c128_i32_66 : BitVec 32 := 128#32
  let c0_i32_69 : BitVec 32 := 0#32
  let v203 : BitVec 1 := Scalar.cmpi .sgt c128_i32_66 c0_i32_69
  let v204 : BitVec 32 := Scalar.extui v203
  let c0_i32_70 : BitVec 32 := 0#32
  let v205 : BitVec 1 := Scalar.cmpi .slt c128_i32_66 c0_i32_70
  let v206 : BitVec 32 := Scalar.extui v205
  let v207 : BitVec 32 := Scalar.subi v204 v206
  let v208 : BitVec 1 := Scalar.cmpi .ne v202 v207
  let v209 : BitVec 32 := Scalar.remsi v196 c128_i32_66
  let c0_i32_71 : BitVec 32 := 0#32
  let v210 : BitVec 1 := Scalar.cmpi .ne v209 c0_i32_71
  let v211 : BitVec 1 := Scalar.andi v208 v210
  let v197 : BitVec 32 := Scalar.divsi v196 c128_i32_66
  let c1_i32_72 : BitVec 32 := 1#32
  let v212 : BitVec 32 := Scalar.subi v197 c1_i32_72
  let v213 : BitVec 32 := Scalar.select v211 v212 v197
  let c128_i32_73 : BitVec 32 := 128#32
  let v214 : BitVec 32 := Scalar.muli v213 c128_i32_73
  let v215 : BitVec 32 := Scalar.maxsi c0_i32_74 v214
  let v216 : BitVec 32 := Scalar.minsi c32512_i32_75 v215
  v216

def k1_off10 (v195 : BitVec 32) : Fin 2 → Nat :=
  let c0_77 : Index := 0#32
  let c32512_i32_75 : BitVec 32 := 32512#32
  let c0_i32_74 : BitVec 32 := 0#32
  let c32_i32_65 : BitVec 32 := 32#32
  let v196 : BitVec 32 := Scalar.subi v195 c32_i32_65
  let c0_i32_67 : BitVec 32 := 0#32
  let v198 : BitVec 1 := Scalar.cmpi .sgt v196 c0_i32_67
  let v199 : BitVec 32 := Scalar.extui v198
  let c0_i32_68 : BitVec 32 := 0#32
  let v200 : BitVec 1 := Scalar.cmpi .slt v196 c0_i32_68
  let v201 : BitVec 32 := Scalar.extui v200
  let v202 : BitVec 32 := Scalar.subi v199 v201
  let c128_i32_66 : BitVec 32 := 128#32
  let c0_i32_69 : BitVec 32 := 0#32
  let v203 : BitVec 1 := Scalar.cmpi .sgt c128_i32_66 c0_i32_69
  let v204 : BitVec 32 := Scalar.extui v203
  let c0_i32_70 : BitVec 32 := 0#32
  let v205 : BitVec 1 := Scalar.cmpi .slt c128_i32_66 c0_i32_70
  let v206 : BitVec 32 := Scalar.extui v205
  let v207 : BitVec 32 := Scalar.subi v204 v206
  let v208 : BitVec 1 := Scalar.cmpi .ne v202 v207
  let v209 : BitVec 32 := Scalar.remsi v196 c128_i32_66
  let c0_i32_71 : BitVec 32 := 0#32
  let v210 : BitVec 1 := Scalar.cmpi .ne v209 c0_i32_71
  let v211 : BitVec 1 := Scalar.andi v208 v210
  let v197 : BitVec 32 := Scalar.divsi v196 c128_i32_66
  let c1_i32_72 : BitVec 32 := 1#32
  let v212 : BitVec 32 := Scalar.subi v197 c1_i32_72
  let v213 : BitVec 32 := Scalar.select v211 v212 v197
  let c128_i32_73 : BitVec 32 := 128#32
  let v214 : BitVec 32 := Scalar.muli v213 c128_i32_73
  let v215 : BitVec 32 := Scalar.maxsi c0_i32_74 v214
  let v216 : BitVec 32 := Scalar.minsi c32512_i32_75 v215
  let v217 : BitVec 32 := v216
  let v232 : Index := Scalar.indexCast v217
  ![0, v232.toNat]

def k1_chk5 (v195 : BitVec 32) : Prop :=
  (128 ∣ (k1_mult5 v195).toNat) ∧
  (∀ a, (k1_off10 v195) a + S1x256.size a ≤ S16x32768.size a)
theorem k1_mult5_dvd : ∀ (v195 : BitVec 32) (k1_hw5 : k1_chk5 v195), 128 ∣ (k1_mult5 v195).toNat := fun v195 k1_hw5 => k1_hw5.1
theorem k1_off10_inb : ∀ (v195 : BitVec 32) (k1_hw5 : k1_chk5 v195), ∀ a, (k1_off10 v195) a + S1x256.size a ≤ S16x32768.size a := fun v195 k1_hw5 => k1_hw5.2

def k1_off11 (i : grid1.Coords) : Fin 2 → Nat :=
  let arg0 : BitVec 32 := BitVec.ofNat 32 (i 0).val
  let c16_i32_79 : BitVec 32 := 16#32
  let v238 : BitVec 32 := Scalar.muli arg0 c16_i32_79
  let c1_i32_80 : BitVec 32 := 1#32
  let v239 : BitVec 32 := Scalar.addi v238 c1_i32_80
  let v240 : Index := Scalar.indexCast v239
  let c0_81 : Index := 0#32
  ![v240.toNat, 0]
def k1_mult6 (v241 : BitVec 32) : BitVec 32 :=
  let c32512_i32_92 : BitVec 32 := 32512#32
  let c0_i32_91 : BitVec 32 := 0#32
  let c32_i32_82 : BitVec 32 := 32#32
  let v242 : BitVec 32 := Scalar.subi v241 c32_i32_82
  let c0_i32_84 : BitVec 32 := 0#32
  let v244 : BitVec 1 := Scalar.cmpi .sgt v242 c0_i32_84
  let v245 : BitVec 32 := Scalar.extui v244
  let c0_i32_85 : BitVec 32 := 0#32
  let v246 : BitVec 1 := Scalar.cmpi .slt v242 c0_i32_85
  let v247 : BitVec 32 := Scalar.extui v246
  let v248 : BitVec 32 := Scalar.subi v245 v247
  let c128_i32_83 : BitVec 32 := 128#32
  let c0_i32_86 : BitVec 32 := 0#32
  let v249 : BitVec 1 := Scalar.cmpi .sgt c128_i32_83 c0_i32_86
  let v250 : BitVec 32 := Scalar.extui v249
  let c0_i32_87 : BitVec 32 := 0#32
  let v251 : BitVec 1 := Scalar.cmpi .slt c128_i32_83 c0_i32_87
  let v252 : BitVec 32 := Scalar.extui v251
  let v253 : BitVec 32 := Scalar.subi v250 v252
  let v254 : BitVec 1 := Scalar.cmpi .ne v248 v253
  let v255 : BitVec 32 := Scalar.remsi v242 c128_i32_83
  let c0_i32_88 : BitVec 32 := 0#32
  let v256 : BitVec 1 := Scalar.cmpi .ne v255 c0_i32_88
  let v257 : BitVec 1 := Scalar.andi v254 v256
  let v243 : BitVec 32 := Scalar.divsi v242 c128_i32_83
  let c1_i32_89 : BitVec 32 := 1#32
  let v258 : BitVec 32 := Scalar.subi v243 c1_i32_89
  let v259 : BitVec 32 := Scalar.select v257 v258 v243
  let c128_i32_90 : BitVec 32 := 128#32
  let v260 : BitVec 32 := Scalar.muli v259 c128_i32_90
  let v261 : BitVec 32 := Scalar.maxsi c0_i32_91 v260
  let v262 : BitVec 32 := Scalar.minsi c32512_i32_92 v261
  v262

def k1_off12 (v241 : BitVec 32) : Fin 2 → Nat :=
  let c1_94 : Index := 1#32
  let c32512_i32_92 : BitVec 32 := 32512#32
  let c0_i32_91 : BitVec 32 := 0#32
  let c32_i32_82 : BitVec 32 := 32#32
  let v242 : BitVec 32 := Scalar.subi v241 c32_i32_82
  let c0_i32_84 : BitVec 32 := 0#32
  let v244 : BitVec 1 := Scalar.cmpi .sgt v242 c0_i32_84
  let v245 : BitVec 32 := Scalar.extui v244
  let c0_i32_85 : BitVec 32 := 0#32
  let v246 : BitVec 1 := Scalar.cmpi .slt v242 c0_i32_85
  let v247 : BitVec 32 := Scalar.extui v246
  let v248 : BitVec 32 := Scalar.subi v245 v247
  let c128_i32_83 : BitVec 32 := 128#32
  let c0_i32_86 : BitVec 32 := 0#32
  let v249 : BitVec 1 := Scalar.cmpi .sgt c128_i32_83 c0_i32_86
  let v250 : BitVec 32 := Scalar.extui v249
  let c0_i32_87 : BitVec 32 := 0#32
  let v251 : BitVec 1 := Scalar.cmpi .slt c128_i32_83 c0_i32_87
  let v252 : BitVec 32 := Scalar.extui v251
  let v253 : BitVec 32 := Scalar.subi v250 v252
  let v254 : BitVec 1 := Scalar.cmpi .ne v248 v253
  let v255 : BitVec 32 := Scalar.remsi v242 c128_i32_83
  let c0_i32_88 : BitVec 32 := 0#32
  let v256 : BitVec 1 := Scalar.cmpi .ne v255 c0_i32_88
  let v257 : BitVec 1 := Scalar.andi v254 v256
  let v243 : BitVec 32 := Scalar.divsi v242 c128_i32_83
  let c1_i32_89 : BitVec 32 := 1#32
  let v258 : BitVec 32 := Scalar.subi v243 c1_i32_89
  let v259 : BitVec 32 := Scalar.select v257 v258 v243
  let c128_i32_90 : BitVec 32 := 128#32
  let v260 : BitVec 32 := Scalar.muli v259 c128_i32_90
  let v261 : BitVec 32 := Scalar.maxsi c0_i32_91 v260
  let v262 : BitVec 32 := Scalar.minsi c32512_i32_92 v261
  let v263 : BitVec 32 := v262
  let v278 : Index := Scalar.indexCast v263
  ![1, v278.toNat]

def k1_chk6 (v241 : BitVec 32) : Prop :=
  (128 ∣ (k1_mult6 v241).toNat) ∧
  (∀ a, (k1_off12 v241) a + S1x256.size a ≤ S16x32768.size a)
theorem k1_mult6_dvd : ∀ (v241 : BitVec 32) (k1_hw6 : k1_chk6 v241), 128 ∣ (k1_mult6 v241).toNat := fun v241 k1_hw6 => k1_hw6.1
theorem k1_off12_inb : ∀ (v241 : BitVec 32) (k1_hw6 : k1_chk6 v241), ∀ a, (k1_off12 v241) a + S1x256.size a ≤ S16x32768.size a := fun v241 k1_hw6 => k1_hw6.2

def k1_off13 (i : grid1.Coords) : Fin 2 → Nat :=
  let arg0 : BitVec 32 := BitVec.ofNat 32 (i 0).val
  let c16_i32_96 : BitVec 32 := 16#32
  let v284 : BitVec 32 := Scalar.muli arg0 c16_i32_96
  let c1_i32_97 : BitVec 32 := 1#32
  let v285 : BitVec 32 := Scalar.addi v284 c1_i32_97
  let v286 : Index := Scalar.indexCast v285
  let c1_98 : Index := 1#32
  ![v286.toNat, 1]
def k1_mult7 (v287 : BitVec 32) : BitVec 32 :=
  let c32512_i32_109 : BitVec 32 := 32512#32
  let c0_i32_108 : BitVec 32 := 0#32
  let c32_i32_99 : BitVec 32 := 32#32
  let v288 : BitVec 32 := Scalar.subi v287 c32_i32_99
  let c0_i32_101 : BitVec 32 := 0#32
  let v290 : BitVec 1 := Scalar.cmpi .sgt v288 c0_i32_101
  let v291 : BitVec 32 := Scalar.extui v290
  let c0_i32_102 : BitVec 32 := 0#32
  let v292 : BitVec 1 := Scalar.cmpi .slt v288 c0_i32_102
  let v293 : BitVec 32 := Scalar.extui v292
  let v294 : BitVec 32 := Scalar.subi v291 v293
  let c128_i32_100 : BitVec 32 := 128#32
  let c0_i32_103 : BitVec 32 := 0#32
  let v295 : BitVec 1 := Scalar.cmpi .sgt c128_i32_100 c0_i32_103
  let v296 : BitVec 32 := Scalar.extui v295
  let c0_i32_104 : BitVec 32 := 0#32
  let v297 : BitVec 1 := Scalar.cmpi .slt c128_i32_100 c0_i32_104
  let v298 : BitVec 32 := Scalar.extui v297
  let v299 : BitVec 32 := Scalar.subi v296 v298
  let v300 : BitVec 1 := Scalar.cmpi .ne v294 v299
  let v301 : BitVec 32 := Scalar.remsi v288 c128_i32_100
  let c0_i32_105 : BitVec 32 := 0#32
  let v302 : BitVec 1 := Scalar.cmpi .ne v301 c0_i32_105
  let v303 : BitVec 1 := Scalar.andi v300 v302
  let v289 : BitVec 32 := Scalar.divsi v288 c128_i32_100
  let c1_i32_106 : BitVec 32 := 1#32
  let v304 : BitVec 32 := Scalar.subi v289 c1_i32_106
  let v305 : BitVec 32 := Scalar.select v303 v304 v289
  let c128_i32_107 : BitVec 32 := 128#32
  let v306 : BitVec 32 := Scalar.muli v305 c128_i32_107
  let v307 : BitVec 32 := Scalar.maxsi c0_i32_108 v306
  let v308 : BitVec 32 := Scalar.minsi c32512_i32_109 v307
  v308

def k1_off14 (v287 : BitVec 32) : Fin 2 → Nat :=
  let c1_111 : Index := 1#32
  let c32512_i32_109 : BitVec 32 := 32512#32
  let c0_i32_108 : BitVec 32 := 0#32
  let c32_i32_99 : BitVec 32 := 32#32
  let v288 : BitVec 32 := Scalar.subi v287 c32_i32_99
  let c0_i32_101 : BitVec 32 := 0#32
  let v290 : BitVec 1 := Scalar.cmpi .sgt v288 c0_i32_101
  let v291 : BitVec 32 := Scalar.extui v290
  let c0_i32_102 : BitVec 32 := 0#32
  let v292 : BitVec 1 := Scalar.cmpi .slt v288 c0_i32_102
  let v293 : BitVec 32 := Scalar.extui v292
  let v294 : BitVec 32 := Scalar.subi v291 v293
  let c128_i32_100 : BitVec 32 := 128#32
  let c0_i32_103 : BitVec 32 := 0#32
  let v295 : BitVec 1 := Scalar.cmpi .sgt c128_i32_100 c0_i32_103
  let v296 : BitVec 32 := Scalar.extui v295
  let c0_i32_104 : BitVec 32 := 0#32
  let v297 : BitVec 1 := Scalar.cmpi .slt c128_i32_100 c0_i32_104
  let v298 : BitVec 32 := Scalar.extui v297
  let v299 : BitVec 32 := Scalar.subi v296 v298
  let v300 : BitVec 1 := Scalar.cmpi .ne v294 v299
  let v301 : BitVec 32 := Scalar.remsi v288 c128_i32_100
  let c0_i32_105 : BitVec 32 := 0#32
  let v302 : BitVec 1 := Scalar.cmpi .ne v301 c0_i32_105
  let v303 : BitVec 1 := Scalar.andi v300 v302
  let v289 : BitVec 32 := Scalar.divsi v288 c128_i32_100
  let c1_i32_106 : BitVec 32 := 1#32
  let v304 : BitVec 32 := Scalar.subi v289 c1_i32_106
  let v305 : BitVec 32 := Scalar.select v303 v304 v289
  let c128_i32_107 : BitVec 32 := 128#32
  let v306 : BitVec 32 := Scalar.muli v305 c128_i32_107
  let v307 : BitVec 32 := Scalar.maxsi c0_i32_108 v306
  let v308 : BitVec 32 := Scalar.minsi c32512_i32_109 v307
  let v309 : BitVec 32 := v308
  let v324 : Index := Scalar.indexCast v309
  ![1, v324.toNat]

def k1_chk7 (v287 : BitVec 32) : Prop :=
  (128 ∣ (k1_mult7 v287).toNat) ∧
  (∀ a, (k1_off14 v287) a + S1x256.size a ≤ S16x32768.size a)
theorem k1_mult7_dvd : ∀ (v287 : BitVec 32) (k1_hw7 : k1_chk7 v287), 128 ∣ (k1_mult7 v287).toNat := fun v287 k1_hw7 => k1_hw7.1
theorem k1_off14_inb : ∀ (v287 : BitVec 32) (k1_hw7 : k1_chk7 v287), ∀ a, (k1_off14 v287) a + S1x256.size a ≤ S16x32768.size a := fun v287 k1_hw7 => k1_hw7.2

def k1_off15 (i : grid1.Coords) : Fin 2 → Nat :=
  let arg0 : BitVec 32 := BitVec.ofNat 32 (i 0).val
  let c16_i32_113 : BitVec 32 := 16#32
  let v330 : BitVec 32 := Scalar.muli arg0 c16_i32_113
  let c1_i32_114 : BitVec 32 := 1#32
  let v331 : BitVec 32 := Scalar.addi v330 c1_i32_114
  let v332 : Index := Scalar.indexCast v331
  let c2_115 : Index := 2#32
  ![v332.toNat, 2]
def k1_mult8 (v333 : BitVec 32) : BitVec 32 :=
  let c32512_i32_126 : BitVec 32 := 32512#32
  let c0_i32_125 : BitVec 32 := 0#32
  let c32_i32_116 : BitVec 32 := 32#32
  let v334 : BitVec 32 := Scalar.subi v333 c32_i32_116
  let c0_i32_118 : BitVec 32 := 0#32
  let v336 : BitVec 1 := Scalar.cmpi .sgt v334 c0_i32_118
  let v337 : BitVec 32 := Scalar.extui v336
  let c0_i32_119 : BitVec 32 := 0#32
  let v338 : BitVec 1 := Scalar.cmpi .slt v334 c0_i32_119
  let v339 : BitVec 32 := Scalar.extui v338
  let v340 : BitVec 32 := Scalar.subi v337 v339
  let c128_i32_117 : BitVec 32 := 128#32
  let c0_i32_120 : BitVec 32 := 0#32
  let v341 : BitVec 1 := Scalar.cmpi .sgt c128_i32_117 c0_i32_120
  let v342 : BitVec 32 := Scalar.extui v341
  let c0_i32_121 : BitVec 32 := 0#32
  let v343 : BitVec 1 := Scalar.cmpi .slt c128_i32_117 c0_i32_121
  let v344 : BitVec 32 := Scalar.extui v343
  let v345 : BitVec 32 := Scalar.subi v342 v344
  let v346 : BitVec 1 := Scalar.cmpi .ne v340 v345
  let v347 : BitVec 32 := Scalar.remsi v334 c128_i32_117
  let c0_i32_122 : BitVec 32 := 0#32
  let v348 : BitVec 1 := Scalar.cmpi .ne v347 c0_i32_122
  let v349 : BitVec 1 := Scalar.andi v346 v348
  let v335 : BitVec 32 := Scalar.divsi v334 c128_i32_117
  let c1_i32_123 : BitVec 32 := 1#32
  let v350 : BitVec 32 := Scalar.subi v335 c1_i32_123
  let v351 : BitVec 32 := Scalar.select v349 v350 v335
  let c128_i32_124 : BitVec 32 := 128#32
  let v352 : BitVec 32 := Scalar.muli v351 c128_i32_124
  let v353 : BitVec 32 := Scalar.maxsi c0_i32_125 v352
  let v354 : BitVec 32 := Scalar.minsi c32512_i32_126 v353
  v354

def k1_off16 (v333 : BitVec 32) : Fin 2 → Nat :=
  let c1_128 : Index := 1#32
  let c32512_i32_126 : BitVec 32 := 32512#32
  let c0_i32_125 : BitVec 32 := 0#32
  let c32_i32_116 : BitVec 32 := 32#32
  let v334 : BitVec 32 := Scalar.subi v333 c32_i32_116
  let c0_i32_118 : BitVec 32 := 0#32
  let v336 : BitVec 1 := Scalar.cmpi .sgt v334 c0_i32_118
  let v337 : BitVec 32 := Scalar.extui v336
  let c0_i32_119 : BitVec 32 := 0#32
  let v338 : BitVec 1 := Scalar.cmpi .slt v334 c0_i32_119
  let v339 : BitVec 32 := Scalar.extui v338
  let v340 : BitVec 32 := Scalar.subi v337 v339
  let c128_i32_117 : BitVec 32 := 128#32
  let c0_i32_120 : BitVec 32 := 0#32
  let v341 : BitVec 1 := Scalar.cmpi .sgt c128_i32_117 c0_i32_120
  let v342 : BitVec 32 := Scalar.extui v341
  let c0_i32_121 : BitVec 32 := 0#32
  let v343 : BitVec 1 := Scalar.cmpi .slt c128_i32_117 c0_i32_121
  let v344 : BitVec 32 := Scalar.extui v343
  let v345 : BitVec 32 := Scalar.subi v342 v344
  let v346 : BitVec 1 := Scalar.cmpi .ne v340 v345
  let v347 : BitVec 32 := Scalar.remsi v334 c128_i32_117
  let c0_i32_122 : BitVec 32 := 0#32
  let v348 : BitVec 1 := Scalar.cmpi .ne v347 c0_i32_122
  let v349 : BitVec 1 := Scalar.andi v346 v348
  let v335 : BitVec 32 := Scalar.divsi v334 c128_i32_117
  let c1_i32_123 : BitVec 32 := 1#32
  let v350 : BitVec 32 := Scalar.subi v335 c1_i32_123
  let v351 : BitVec 32 := Scalar.select v349 v350 v335
  let c128_i32_124 : BitVec 32 := 128#32
  let v352 : BitVec 32 := Scalar.muli v351 c128_i32_124
  let v353 : BitVec 32 := Scalar.maxsi c0_i32_125 v352
  let v354 : BitVec 32 := Scalar.minsi c32512_i32_126 v353
  let v355 : BitVec 32 := v354
  let v370 : Index := Scalar.indexCast v355
  ![1, v370.toNat]

def k1_chk8 (v333 : BitVec 32) : Prop :=
  (128 ∣ (k1_mult8 v333).toNat) ∧
  (∀ a, (k1_off16 v333) a + S1x256.size a ≤ S16x32768.size a)
theorem k1_mult8_dvd : ∀ (v333 : BitVec 32) (k1_hw8 : k1_chk8 v333), 128 ∣ (k1_mult8 v333).toNat := fun v333 k1_hw8 => k1_hw8.1
theorem k1_off16_inb : ∀ (v333 : BitVec 32) (k1_hw8 : k1_chk8 v333), ∀ a, (k1_off16 v333) a + S1x256.size a ≤ S16x32768.size a := fun v333 k1_hw8 => k1_hw8.2

def k1_off17 (i : grid1.Coords) : Fin 2 → Nat :=
  let arg0 : BitVec 32 := BitVec.ofNat 32 (i 0).val
  let c16_i32_130 : BitVec 32 := 16#32
  let v376 : BitVec 32 := Scalar.muli arg0 c16_i32_130
  let c1_i32_131 : BitVec 32 := 1#32
  let v377 : BitVec 32 := Scalar.addi v376 c1_i32_131
  let v378 : Index := Scalar.indexCast v377
  let c3_132 : Index := 3#32
  ![v378.toNat, 3]
def k1_mult9 (v379 : BitVec 32) : BitVec 32 :=
  let c32512_i32_143 : BitVec 32 := 32512#32
  let c0_i32_142 : BitVec 32 := 0#32
  let c32_i32_133 : BitVec 32 := 32#32
  let v380 : BitVec 32 := Scalar.subi v379 c32_i32_133
  let c0_i32_135 : BitVec 32 := 0#32
  let v382 : BitVec 1 := Scalar.cmpi .sgt v380 c0_i32_135
  let v383 : BitVec 32 := Scalar.extui v382
  let c0_i32_136 : BitVec 32 := 0#32
  let v384 : BitVec 1 := Scalar.cmpi .slt v380 c0_i32_136
  let v385 : BitVec 32 := Scalar.extui v384
  let v386 : BitVec 32 := Scalar.subi v383 v385
  let c128_i32_134 : BitVec 32 := 128#32
  let c0_i32_137 : BitVec 32 := 0#32
  let v387 : BitVec 1 := Scalar.cmpi .sgt c128_i32_134 c0_i32_137
  let v388 : BitVec 32 := Scalar.extui v387
  let c0_i32_138 : BitVec 32 := 0#32
  let v389 : BitVec 1 := Scalar.cmpi .slt c128_i32_134 c0_i32_138
  let v390 : BitVec 32 := Scalar.extui v389
  let v391 : BitVec 32 := Scalar.subi v388 v390
  let v392 : BitVec 1 := Scalar.cmpi .ne v386 v391
  let v393 : BitVec 32 := Scalar.remsi v380 c128_i32_134
  let c0_i32_139 : BitVec 32 := 0#32
  let v394 : BitVec 1 := Scalar.cmpi .ne v393 c0_i32_139
  let v395 : BitVec 1 := Scalar.andi v392 v394
  let v381 : BitVec 32 := Scalar.divsi v380 c128_i32_134
  let c1_i32_140 : BitVec 32 := 1#32
  let v396 : BitVec 32 := Scalar.subi v381 c1_i32_140
  let v397 : BitVec 32 := Scalar.select v395 v396 v381
  let c128_i32_141 : BitVec 32 := 128#32
  let v398 : BitVec 32 := Scalar.muli v397 c128_i32_141
  let v399 : BitVec 32 := Scalar.maxsi c0_i32_142 v398
  let v400 : BitVec 32 := Scalar.minsi c32512_i32_143 v399
  v400

def k1_off18 (v379 : BitVec 32) : Fin 2 → Nat :=
  let c1_145 : Index := 1#32
  let c32512_i32_143 : BitVec 32 := 32512#32
  let c0_i32_142 : BitVec 32 := 0#32
  let c32_i32_133 : BitVec 32 := 32#32
  let v380 : BitVec 32 := Scalar.subi v379 c32_i32_133
  let c0_i32_135 : BitVec 32 := 0#32
  let v382 : BitVec 1 := Scalar.cmpi .sgt v380 c0_i32_135
  let v383 : BitVec 32 := Scalar.extui v382
  let c0_i32_136 : BitVec 32 := 0#32
  let v384 : BitVec 1 := Scalar.cmpi .slt v380 c0_i32_136
  let v385 : BitVec 32 := Scalar.extui v384
  let v386 : BitVec 32 := Scalar.subi v383 v385
  let c128_i32_134 : BitVec 32 := 128#32
  let c0_i32_137 : BitVec 32 := 0#32
  let v387 : BitVec 1 := Scalar.cmpi .sgt c128_i32_134 c0_i32_137
  let v388 : BitVec 32 := Scalar.extui v387
  let c0_i32_138 : BitVec 32 := 0#32
  let v389 : BitVec 1 := Scalar.cmpi .slt c128_i32_134 c0_i32_138
  let v390 : BitVec 32 := Scalar.extui v389
  let v391 : BitVec 32 := Scalar.subi v388 v390
  let v392 : BitVec 1 := Scalar.cmpi .ne v386 v391
  let v393 : BitVec 32 := Scalar.remsi v380 c128_i32_134
  let c0_i32_139 : BitVec 32 := 0#32
  let v394 : BitVec 1 := Scalar.cmpi .ne v393 c0_i32_139
  let v395 : BitVec 1 := Scalar.andi v392 v394
  let v381 : BitVec 32 := Scalar.divsi v380 c128_i32_134
  let c1_i32_140 : BitVec 32 := 1#32
  let v396 : BitVec 32 := Scalar.subi v381 c1_i32_140
  let v397 : BitVec 32 := Scalar.select v395 v396 v381
  let c128_i32_141 : BitVec 32 := 128#32
  let v398 : BitVec 32 := Scalar.muli v397 c128_i32_141
  let v399 : BitVec 32 := Scalar.maxsi c0_i32_142 v398
  let v400 : BitVec 32 := Scalar.minsi c32512_i32_143 v399
  let v401 : BitVec 32 := v400
  let v416 : Index := Scalar.indexCast v401
  ![1, v416.toNat]

def k1_chk9 (v379 : BitVec 32) : Prop :=
  (128 ∣ (k1_mult9 v379).toNat) ∧
  (∀ a, (k1_off18 v379) a + S1x256.size a ≤ S16x32768.size a)
theorem k1_mult9_dvd : ∀ (v379 : BitVec 32) (k1_hw9 : k1_chk9 v379), 128 ∣ (k1_mult9 v379).toNat := fun v379 k1_hw9 => k1_hw9.1
theorem k1_off18_inb : ∀ (v379 : BitVec 32) (k1_hw9 : k1_chk9 v379), ∀ a, (k1_off18 v379) a + S1x256.size a ≤ S16x32768.size a := fun v379 k1_hw9 => k1_hw9.2

def k1_off19 (i : grid1.Coords) : Fin 2 → Nat :=
  let arg0 : BitVec 32 := BitVec.ofNat 32 (i 0).val
  let c16_i32_147 : BitVec 32 := 16#32
  let v422 : BitVec 32 := Scalar.muli arg0 c16_i32_147
  let c1_i32_148 : BitVec 32 := 1#32
  let v423 : BitVec 32 := Scalar.addi v422 c1_i32_148
  let v424 : Index := Scalar.indexCast v423
  let c4_149 : Index := 4#32
  ![v424.toNat, 4]
def k1_mult10 (v425 : BitVec 32) : BitVec 32 :=
  let c32512_i32_160 : BitVec 32 := 32512#32
  let c0_i32_159 : BitVec 32 := 0#32
  let c32_i32_150 : BitVec 32 := 32#32
  let v426 : BitVec 32 := Scalar.subi v425 c32_i32_150
  let c0_i32_152 : BitVec 32 := 0#32
  let v428 : BitVec 1 := Scalar.cmpi .sgt v426 c0_i32_152
  let v429 : BitVec 32 := Scalar.extui v428
  let c0_i32_153 : BitVec 32 := 0#32
  let v430 : BitVec 1 := Scalar.cmpi .slt v426 c0_i32_153
  let v431 : BitVec 32 := Scalar.extui v430
  let v432 : BitVec 32 := Scalar.subi v429 v431
  let c128_i32_151 : BitVec 32 := 128#32
  let c0_i32_154 : BitVec 32 := 0#32
  let v433 : BitVec 1 := Scalar.cmpi .sgt c128_i32_151 c0_i32_154
  let v434 : BitVec 32 := Scalar.extui v433
  let c0_i32_155 : BitVec 32 := 0#32
  let v435 : BitVec 1 := Scalar.cmpi .slt c128_i32_151 c0_i32_155
  let v436 : BitVec 32 := Scalar.extui v435
  let v437 : BitVec 32 := Scalar.subi v434 v436
  let v438 : BitVec 1 := Scalar.cmpi .ne v432 v437
  let v439 : BitVec 32 := Scalar.remsi v426 c128_i32_151
  let c0_i32_156 : BitVec 32 := 0#32
  let v440 : BitVec 1 := Scalar.cmpi .ne v439 c0_i32_156
  let v441 : BitVec 1 := Scalar.andi v438 v440
  let v427 : BitVec 32 := Scalar.divsi v426 c128_i32_151
  let c1_i32_157 : BitVec 32 := 1#32
  let v442 : BitVec 32 := Scalar.subi v427 c1_i32_157
  let v443 : BitVec 32 := Scalar.select v441 v442 v427
  let c128_i32_158 : BitVec 32 := 128#32
  let v444 : BitVec 32 := Scalar.muli v443 c128_i32_158
  let v445 : BitVec 32 := Scalar.maxsi c0_i32_159 v444
  let v446 : BitVec 32 := Scalar.minsi c32512_i32_160 v445
  v446

def k1_off20 (v425 : BitVec 32) : Fin 2 → Nat :=
  let c1_162 : Index := 1#32
  let c32512_i32_160 : BitVec 32 := 32512#32
  let c0_i32_159 : BitVec 32 := 0#32
  let c32_i32_150 : BitVec 32 := 32#32
  let v426 : BitVec 32 := Scalar.subi v425 c32_i32_150
  let c0_i32_152 : BitVec 32 := 0#32
  let v428 : BitVec 1 := Scalar.cmpi .sgt v426 c0_i32_152
  let v429 : BitVec 32 := Scalar.extui v428
  let c0_i32_153 : BitVec 32 := 0#32
  let v430 : BitVec 1 := Scalar.cmpi .slt v426 c0_i32_153
  let v431 : BitVec 32 := Scalar.extui v430
  let v432 : BitVec 32 := Scalar.subi v429 v431
  let c128_i32_151 : BitVec 32 := 128#32
  let c0_i32_154 : BitVec 32 := 0#32
  let v433 : BitVec 1 := Scalar.cmpi .sgt c128_i32_151 c0_i32_154
  let v434 : BitVec 32 := Scalar.extui v433
  let c0_i32_155 : BitVec 32 := 0#32
  let v435 : BitVec 1 := Scalar.cmpi .slt c128_i32_151 c0_i32_155
  let v436 : BitVec 32 := Scalar.extui v435
  let v437 : BitVec 32 := Scalar.subi v434 v436
  let v438 : BitVec 1 := Scalar.cmpi .ne v432 v437
  let v439 : BitVec 32 := Scalar.remsi v426 c128_i32_151
  let c0_i32_156 : BitVec 32 := 0#32
  let v440 : BitVec 1 := Scalar.cmpi .ne v439 c0_i32_156
  let v441 : BitVec 1 := Scalar.andi v438 v440
  let v427 : BitVec 32 := Scalar.divsi v426 c128_i32_151
  let c1_i32_157 : BitVec 32 := 1#32
  let v442 : BitVec 32 := Scalar.subi v427 c1_i32_157
  let v443 : BitVec 32 := Scalar.select v441 v442 v427
  let c128_i32_158 : BitVec 32 := 128#32
  let v444 : BitVec 32 := Scalar.muli v443 c128_i32_158
  let v445 : BitVec 32 := Scalar.maxsi c0_i32_159 v444
  let v446 : BitVec 32 := Scalar.minsi c32512_i32_160 v445
  let v447 : BitVec 32 := v446
  let v462 : Index := Scalar.indexCast v447
  ![1, v462.toNat]

def k1_chk10 (v425 : BitVec 32) : Prop :=
  (128 ∣ (k1_mult10 v425).toNat) ∧
  (∀ a, (k1_off20 v425) a + S1x256.size a ≤ S16x32768.size a)
theorem k1_mult10_dvd : ∀ (v425 : BitVec 32) (k1_hw10 : k1_chk10 v425), 128 ∣ (k1_mult10 v425).toNat := fun v425 k1_hw10 => k1_hw10.1
theorem k1_off20_inb : ∀ (v425 : BitVec 32) (k1_hw10 : k1_chk10 v425), ∀ a, (k1_off20 v425) a + S1x256.size a ≤ S16x32768.size a := fun v425 k1_hw10 => k1_hw10.2

def k1_off21 (i : grid1.Coords) : Fin 2 → Nat :=
  let arg0 : BitVec 32 := BitVec.ofNat 32 (i 0).val
  let c16_i32_164 : BitVec 32 := 16#32
  let v468 : BitVec 32 := Scalar.muli arg0 c16_i32_164
  let c2_i32 : BitVec 32 := 2#32
  let v469 : BitVec 32 := Scalar.addi v468 c2_i32
  let v470 : Index := Scalar.indexCast v469
  let c0_165 : Index := 0#32
  ![v470.toNat, 0]
def k1_mult11 (v471 : BitVec 32) : BitVec 32 :=
  let c32512_i32_176 : BitVec 32 := 32512#32
  let c0_i32_175 : BitVec 32 := 0#32
  let c32_i32_166 : BitVec 32 := 32#32
  let v472 : BitVec 32 := Scalar.subi v471 c32_i32_166
  let c0_i32_168 : BitVec 32 := 0#32
  let v474 : BitVec 1 := Scalar.cmpi .sgt v472 c0_i32_168
  let v475 : BitVec 32 := Scalar.extui v474
  let c0_i32_169 : BitVec 32 := 0#32
  let v476 : BitVec 1 := Scalar.cmpi .slt v472 c0_i32_169
  let v477 : BitVec 32 := Scalar.extui v476
  let v478 : BitVec 32 := Scalar.subi v475 v477
  let c128_i32_167 : BitVec 32 := 128#32
  let c0_i32_170 : BitVec 32 := 0#32
  let v479 : BitVec 1 := Scalar.cmpi .sgt c128_i32_167 c0_i32_170
  let v480 : BitVec 32 := Scalar.extui v479
  let c0_i32_171 : BitVec 32 := 0#32
  let v481 : BitVec 1 := Scalar.cmpi .slt c128_i32_167 c0_i32_171
  let v482 : BitVec 32 := Scalar.extui v481
  let v483 : BitVec 32 := Scalar.subi v480 v482
  let v484 : BitVec 1 := Scalar.cmpi .ne v478 v483
  let v485 : BitVec 32 := Scalar.remsi v472 c128_i32_167
  let c0_i32_172 : BitVec 32 := 0#32
  let v486 : BitVec 1 := Scalar.cmpi .ne v485 c0_i32_172
  let v487 : BitVec 1 := Scalar.andi v484 v486
  let v473 : BitVec 32 := Scalar.divsi v472 c128_i32_167
  let c1_i32_173 : BitVec 32 := 1#32
  let v488 : BitVec 32 := Scalar.subi v473 c1_i32_173
  let v489 : BitVec 32 := Scalar.select v487 v488 v473
  let c128_i32_174 : BitVec 32 := 128#32
  let v490 : BitVec 32 := Scalar.muli v489 c128_i32_174
  let v491 : BitVec 32 := Scalar.maxsi c0_i32_175 v490
  let v492 : BitVec 32 := Scalar.minsi c32512_i32_176 v491
  v492

def k1_off22 (v471 : BitVec 32) : Fin 2 → Nat :=
  let c2_178 : Index := 2#32
  let c32512_i32_176 : BitVec 32 := 32512#32
  let c0_i32_175 : BitVec 32 := 0#32
  let c32_i32_166 : BitVec 32 := 32#32
  let v472 : BitVec 32 := Scalar.subi v471 c32_i32_166
  let c0_i32_168 : BitVec 32 := 0#32
  let v474 : BitVec 1 := Scalar.cmpi .sgt v472 c0_i32_168
  let v475 : BitVec 32 := Scalar.extui v474
  let c0_i32_169 : BitVec 32 := 0#32
  let v476 : BitVec 1 := Scalar.cmpi .slt v472 c0_i32_169
  let v477 : BitVec 32 := Scalar.extui v476
  let v478 : BitVec 32 := Scalar.subi v475 v477
  let c128_i32_167 : BitVec 32 := 128#32
  let c0_i32_170 : BitVec 32 := 0#32
  let v479 : BitVec 1 := Scalar.cmpi .sgt c128_i32_167 c0_i32_170
  let v480 : BitVec 32 := Scalar.extui v479
  let c0_i32_171 : BitVec 32 := 0#32
  let v481 : BitVec 1 := Scalar.cmpi .slt c128_i32_167 c0_i32_171
  let v482 : BitVec 32 := Scalar.extui v481
  let v483 : BitVec 32 := Scalar.subi v480 v482
  let v484 : BitVec 1 := Scalar.cmpi .ne v478 v483
  let v485 : BitVec 32 := Scalar.remsi v472 c128_i32_167
  let c0_i32_172 : BitVec 32 := 0#32
  let v486 : BitVec 1 := Scalar.cmpi .ne v485 c0_i32_172
  let v487 : BitVec 1 := Scalar.andi v484 v486
  let v473 : BitVec 32 := Scalar.divsi v472 c128_i32_167
  let c1_i32_173 : BitVec 32 := 1#32
  let v488 : BitVec 32 := Scalar.subi v473 c1_i32_173
  let v489 : BitVec 32 := Scalar.select v487 v488 v473
  let c128_i32_174 : BitVec 32 := 128#32
  let v490 : BitVec 32 := Scalar.muli v489 c128_i32_174
  let v491 : BitVec 32 := Scalar.maxsi c0_i32_175 v490
  let v492 : BitVec 32 := Scalar.minsi c32512_i32_176 v491
  let v493 : BitVec 32 := v492
  let v508 : Index := Scalar.indexCast v493
  ![2, v508.toNat]

def k1_chk11 (v471 : BitVec 32) : Prop :=
  (128 ∣ (k1_mult11 v471).toNat) ∧
  (∀ a, (k1_off22 v471) a + S1x256.size a ≤ S16x32768.size a)
theorem k1_mult11_dvd : ∀ (v471 : BitVec 32) (k1_hw11 : k1_chk11 v471), 128 ∣ (k1_mult11 v471).toNat := fun v471 k1_hw11 => k1_hw11.1
theorem k1_off22_inb : ∀ (v471 : BitVec 32) (k1_hw11 : k1_chk11 v471), ∀ a, (k1_off22 v471) a + S1x256.size a ≤ S16x32768.size a := fun v471 k1_hw11 => k1_hw11.2

def k1_off23 (i : grid1.Coords) : Fin 2 → Nat :=
  let arg0 : BitVec 32 := BitVec.ofNat 32 (i 0).val
  let c16_i32_180 : BitVec 32 := 16#32
  let v514 : BitVec 32 := Scalar.muli arg0 c16_i32_180
  let c2_i32_181 : BitVec 32 := 2#32
  let v515 : BitVec 32 := Scalar.addi v514 c2_i32_181
  let v516 : Index := Scalar.indexCast v515
  let c1_182 : Index := 1#32
  ![v516.toNat, 1]
def k1_mult12 (v517 : BitVec 32) : BitVec 32 :=
  let c32512_i32_193 : BitVec 32 := 32512#32
  let c0_i32_192 : BitVec 32 := 0#32
  let c32_i32_183 : BitVec 32 := 32#32
  let v518 : BitVec 32 := Scalar.subi v517 c32_i32_183
  let c0_i32_185 : BitVec 32 := 0#32
  let v520 : BitVec 1 := Scalar.cmpi .sgt v518 c0_i32_185
  let v521 : BitVec 32 := Scalar.extui v520
  let c0_i32_186 : BitVec 32 := 0#32
  let v522 : BitVec 1 := Scalar.cmpi .slt v518 c0_i32_186
  let v523 : BitVec 32 := Scalar.extui v522
  let v524 : BitVec 32 := Scalar.subi v521 v523
  let c128_i32_184 : BitVec 32 := 128#32
  let c0_i32_187 : BitVec 32 := 0#32
  let v525 : BitVec 1 := Scalar.cmpi .sgt c128_i32_184 c0_i32_187
  let v526 : BitVec 32 := Scalar.extui v525
  let c0_i32_188 : BitVec 32 := 0#32
  let v527 : BitVec 1 := Scalar.cmpi .slt c128_i32_184 c0_i32_188
  let v528 : BitVec 32 := Scalar.extui v527
  let v529 : BitVec 32 := Scalar.subi v526 v528
  let v530 : BitVec 1 := Scalar.cmpi .ne v524 v529
  let v531 : BitVec 32 := Scalar.remsi v518 c128_i32_184
  let c0_i32_189 : BitVec 32 := 0#32
  let v532 : BitVec 1 := Scalar.cmpi .ne v531 c0_i32_189
  let v533 : BitVec 1 := Scalar.andi v530 v532
  let v519 : BitVec 32 := Scalar.divsi v518 c128_i32_184
  let c1_i32_190 : BitVec 32 := 1#32
  let v534 : BitVec 32 := Scalar.subi v519 c1_i32_190
  let v535 : BitVec 32 := Scalar.select v533 v534 v519
  let c128_i32_191 : BitVec 32 := 128#32
  let v536 : BitVec 32 := Scalar.muli v535 c128_i32_191
  let v537 : BitVec 32 := Scalar.maxsi c0_i32_192 v536
  let v538 : BitVec 32 := Scalar.minsi c32512_i32_193 v537
  v538

def k1_off24 (v517 : BitVec 32) : Fin 2 → Nat :=
  let c2_195 : Index := 2#32
  let c32512_i32_193 : BitVec 32 := 32512#32
  let c0_i32_192 : BitVec 32 := 0#32
  let c32_i32_183 : BitVec 32 := 32#32
  let v518 : BitVec 32 := Scalar.subi v517 c32_i32_183
  let c0_i32_185 : BitVec 32 := 0#32
  let v520 : BitVec 1 := Scalar.cmpi .sgt v518 c0_i32_185
  let v521 : BitVec 32 := Scalar.extui v520
  let c0_i32_186 : BitVec 32 := 0#32
  let v522 : BitVec 1 := Scalar.cmpi .slt v518 c0_i32_186
  let v523 : BitVec 32 := Scalar.extui v522
  let v524 : BitVec 32 := Scalar.subi v521 v523
  let c128_i32_184 : BitVec 32 := 128#32
  let c0_i32_187 : BitVec 32 := 0#32
  let v525 : BitVec 1 := Scalar.cmpi .sgt c128_i32_184 c0_i32_187
  let v526 : BitVec 32 := Scalar.extui v525
  let c0_i32_188 : BitVec 32 := 0#32
  let v527 : BitVec 1 := Scalar.cmpi .slt c128_i32_184 c0_i32_188
  let v528 : BitVec 32 := Scalar.extui v527
  let v529 : BitVec 32 := Scalar.subi v526 v528
  let v530 : BitVec 1 := Scalar.cmpi .ne v524 v529
  let v531 : BitVec 32 := Scalar.remsi v518 c128_i32_184
  let c0_i32_189 : BitVec 32 := 0#32
  let v532 : BitVec 1 := Scalar.cmpi .ne v531 c0_i32_189
  let v533 : BitVec 1 := Scalar.andi v530 v532
  let v519 : BitVec 32 := Scalar.divsi v518 c128_i32_184
  let c1_i32_190 : BitVec 32 := 1#32
  let v534 : BitVec 32 := Scalar.subi v519 c1_i32_190
  let v535 : BitVec 32 := Scalar.select v533 v534 v519
  let c128_i32_191 : BitVec 32 := 128#32
  let v536 : BitVec 32 := Scalar.muli v535 c128_i32_191
  let v537 : BitVec 32 := Scalar.maxsi c0_i32_192 v536
  let v538 : BitVec 32 := Scalar.minsi c32512_i32_193 v537
  let v539 : BitVec 32 := v538
  let v554 : Index := Scalar.indexCast v539
  ![2, v554.toNat]

def k1_chk12 (v517 : BitVec 32) : Prop :=
  (128 ∣ (k1_mult12 v517).toNat) ∧
  (∀ a, (k1_off24 v517) a + S1x256.size a ≤ S16x32768.size a)
theorem k1_mult12_dvd : ∀ (v517 : BitVec 32) (k1_hw12 : k1_chk12 v517), 128 ∣ (k1_mult12 v517).toNat := fun v517 k1_hw12 => k1_hw12.1
theorem k1_off24_inb : ∀ (v517 : BitVec 32) (k1_hw12 : k1_chk12 v517), ∀ a, (k1_off24 v517) a + S1x256.size a ≤ S16x32768.size a := fun v517 k1_hw12 => k1_hw12.2

def k1_off25 (i : grid1.Coords) : Fin 2 → Nat :=
  let arg0 : BitVec 32 := BitVec.ofNat 32 (i 0).val
  let c16_i32_197 : BitVec 32 := 16#32
  let v560 : BitVec 32 := Scalar.muli arg0 c16_i32_197
  let c2_i32_198 : BitVec 32 := 2#32
  let v561 : BitVec 32 := Scalar.addi v560 c2_i32_198
  let v562 : Index := Scalar.indexCast v561
  let c2_199 : Index := 2#32
  ![v562.toNat, 2]
def k1_mult13 (v563 : BitVec 32) : BitVec 32 :=
  let c32512_i32_210 : BitVec 32 := 32512#32
  let c0_i32_209 : BitVec 32 := 0#32
  let c32_i32_200 : BitVec 32 := 32#32
  let v564 : BitVec 32 := Scalar.subi v563 c32_i32_200
  let c0_i32_202 : BitVec 32 := 0#32
  let v566 : BitVec 1 := Scalar.cmpi .sgt v564 c0_i32_202
  let v567 : BitVec 32 := Scalar.extui v566
  let c0_i32_203 : BitVec 32 := 0#32
  let v568 : BitVec 1 := Scalar.cmpi .slt v564 c0_i32_203
  let v569 : BitVec 32 := Scalar.extui v568
  let v570 : BitVec 32 := Scalar.subi v567 v569
  let c128_i32_201 : BitVec 32 := 128#32
  let c0_i32_204 : BitVec 32 := 0#32
  let v571 : BitVec 1 := Scalar.cmpi .sgt c128_i32_201 c0_i32_204
  let v572 : BitVec 32 := Scalar.extui v571
  let c0_i32_205 : BitVec 32 := 0#32
  let v573 : BitVec 1 := Scalar.cmpi .slt c128_i32_201 c0_i32_205
  let v574 : BitVec 32 := Scalar.extui v573
  let v575 : BitVec 32 := Scalar.subi v572 v574
  let v576 : BitVec 1 := Scalar.cmpi .ne v570 v575
  let v577 : BitVec 32 := Scalar.remsi v564 c128_i32_201
  let c0_i32_206 : BitVec 32 := 0#32
  let v578 : BitVec 1 := Scalar.cmpi .ne v577 c0_i32_206
  let v579 : BitVec 1 := Scalar.andi v576 v578
  let v565 : BitVec 32 := Scalar.divsi v564 c128_i32_201
  let c1_i32_207 : BitVec 32 := 1#32
  let v580 : BitVec 32 := Scalar.subi v565 c1_i32_207
  let v581 : BitVec 32 := Scalar.select v579 v580 v565
  let c128_i32_208 : BitVec 32 := 128#32
  let v582 : BitVec 32 := Scalar.muli v581 c128_i32_208
  let v583 : BitVec 32 := Scalar.maxsi c0_i32_209 v582
  let v584 : BitVec 32 := Scalar.minsi c32512_i32_210 v583
  v584

def k1_off26 (v563 : BitVec 32) : Fin 2 → Nat :=
  let c2_212 : Index := 2#32
  let c32512_i32_210 : BitVec 32 := 32512#32
  let c0_i32_209 : BitVec 32 := 0#32
  let c32_i32_200 : BitVec 32 := 32#32
  let v564 : BitVec 32 := Scalar.subi v563 c32_i32_200
  let c0_i32_202 : BitVec 32 := 0#32
  let v566 : BitVec 1 := Scalar.cmpi .sgt v564 c0_i32_202
  let v567 : BitVec 32 := Scalar.extui v566
  let c0_i32_203 : BitVec 32 := 0#32
  let v568 : BitVec 1 := Scalar.cmpi .slt v564 c0_i32_203
  let v569 : BitVec 32 := Scalar.extui v568
  let v570 : BitVec 32 := Scalar.subi v567 v569
  let c128_i32_201 : BitVec 32 := 128#32
  let c0_i32_204 : BitVec 32 := 0#32
  let v571 : BitVec 1 := Scalar.cmpi .sgt c128_i32_201 c0_i32_204
  let v572 : BitVec 32 := Scalar.extui v571
  let c0_i32_205 : BitVec 32 := 0#32
  let v573 : BitVec 1 := Scalar.cmpi .slt c128_i32_201 c0_i32_205
  let v574 : BitVec 32 := Scalar.extui v573
  let v575 : BitVec 32 := Scalar.subi v572 v574
  let v576 : BitVec 1 := Scalar.cmpi .ne v570 v575
  let v577 : BitVec 32 := Scalar.remsi v564 c128_i32_201
  let c0_i32_206 : BitVec 32 := 0#32
  let v578 : BitVec 1 := Scalar.cmpi .ne v577 c0_i32_206
  let v579 : BitVec 1 := Scalar.andi v576 v578
  let v565 : BitVec 32 := Scalar.divsi v564 c128_i32_201
  let c1_i32_207 : BitVec 32 := 1#32
  let v580 : BitVec 32 := Scalar.subi v565 c1_i32_207
  let v581 : BitVec 32 := Scalar.select v579 v580 v565
  let c128_i32_208 : BitVec 32 := 128#32
  let v582 : BitVec 32 := Scalar.muli v581 c128_i32_208
  let v583 : BitVec 32 := Scalar.maxsi c0_i32_209 v582
  let v584 : BitVec 32 := Scalar.minsi c32512_i32_210 v583
  let v585 : BitVec 32 := v584
  let v600 : Index := Scalar.indexCast v585
  ![2, v600.toNat]

def k1_chk13 (v563 : BitVec 32) : Prop :=
  (128 ∣ (k1_mult13 v563).toNat) ∧
  (∀ a, (k1_off26 v563) a + S1x256.size a ≤ S16x32768.size a)
theorem k1_mult13_dvd : ∀ (v563 : BitVec 32) (k1_hw13 : k1_chk13 v563), 128 ∣ (k1_mult13 v563).toNat := fun v563 k1_hw13 => k1_hw13.1
theorem k1_off26_inb : ∀ (v563 : BitVec 32) (k1_hw13 : k1_chk13 v563), ∀ a, (k1_off26 v563) a + S1x256.size a ≤ S16x32768.size a := fun v563 k1_hw13 => k1_hw13.2

def k1_off27 (i : grid1.Coords) : Fin 2 → Nat :=
  let arg0 : BitVec 32 := BitVec.ofNat 32 (i 0).val
  let c16_i32_214 : BitVec 32 := 16#32
  let v606 : BitVec 32 := Scalar.muli arg0 c16_i32_214
  let c2_i32_215 : BitVec 32 := 2#32
  let v607 : BitVec 32 := Scalar.addi v606 c2_i32_215
  let v608 : Index := Scalar.indexCast v607
  let c3_216 : Index := 3#32
  ![v608.toNat, 3]
def k1_mult14 (v609 : BitVec 32) : BitVec 32 :=
  let c32512_i32_227 : BitVec 32 := 32512#32
  let c0_i32_226 : BitVec 32 := 0#32
  let c32_i32_217 : BitVec 32 := 32#32
  let v610 : BitVec 32 := Scalar.subi v609 c32_i32_217
  let c0_i32_219 : BitVec 32 := 0#32
  let v612 : BitVec 1 := Scalar.cmpi .sgt v610 c0_i32_219
  let v613 : BitVec 32 := Scalar.extui v612
  let c0_i32_220 : BitVec 32 := 0#32
  let v614 : BitVec 1 := Scalar.cmpi .slt v610 c0_i32_220
  let v615 : BitVec 32 := Scalar.extui v614
  let v616 : BitVec 32 := Scalar.subi v613 v615
  let c128_i32_218 : BitVec 32 := 128#32
  let c0_i32_221 : BitVec 32 := 0#32
  let v617 : BitVec 1 := Scalar.cmpi .sgt c128_i32_218 c0_i32_221
  let v618 : BitVec 32 := Scalar.extui v617
  let c0_i32_222 : BitVec 32 := 0#32
  let v619 : BitVec 1 := Scalar.cmpi .slt c128_i32_218 c0_i32_222
  let v620 : BitVec 32 := Scalar.extui v619
  let v621 : BitVec 32 := Scalar.subi v618 v620
  let v622 : BitVec 1 := Scalar.cmpi .ne v616 v621
  let v623 : BitVec 32 := Scalar.remsi v610 c128_i32_218
  let c0_i32_223 : BitVec 32 := 0#32
  let v624 : BitVec 1 := Scalar.cmpi .ne v623 c0_i32_223
  let v625 : BitVec 1 := Scalar.andi v622 v624
  let v611 : BitVec 32 := Scalar.divsi v610 c128_i32_218
  let c1_i32_224 : BitVec 32 := 1#32
  let v626 : BitVec 32 := Scalar.subi v611 c1_i32_224
  let v627 : BitVec 32 := Scalar.select v625 v626 v611
  let c128_i32_225 : BitVec 32 := 128#32
  let v628 : BitVec 32 := Scalar.muli v627 c128_i32_225
  let v629 : BitVec 32 := Scalar.maxsi c0_i32_226 v628
  let v630 : BitVec 32 := Scalar.minsi c32512_i32_227 v629
  v630

def k1_off28 (v609 : BitVec 32) : Fin 2 → Nat :=
  let c2_229 : Index := 2#32
  let c32512_i32_227 : BitVec 32 := 32512#32
  let c0_i32_226 : BitVec 32 := 0#32
  let c32_i32_217 : BitVec 32 := 32#32
  let v610 : BitVec 32 := Scalar.subi v609 c32_i32_217
  let c0_i32_219 : BitVec 32 := 0#32
  let v612 : BitVec 1 := Scalar.cmpi .sgt v610 c0_i32_219
  let v613 : BitVec 32 := Scalar.extui v612
  let c0_i32_220 : BitVec 32 := 0#32
  let v614 : BitVec 1 := Scalar.cmpi .slt v610 c0_i32_220
  let v615 : BitVec 32 := Scalar.extui v614
  let v616 : BitVec 32 := Scalar.subi v613 v615
  let c128_i32_218 : BitVec 32 := 128#32
  let c0_i32_221 : BitVec 32 := 0#32
  let v617 : BitVec 1 := Scalar.cmpi .sgt c128_i32_218 c0_i32_221
  let v618 : BitVec 32 := Scalar.extui v617
  let c0_i32_222 : BitVec 32 := 0#32
  let v619 : BitVec 1 := Scalar.cmpi .slt c128_i32_218 c0_i32_222
  let v620 : BitVec 32 := Scalar.extui v619
  let v621 : BitVec 32 := Scalar.subi v618 v620
  let v622 : BitVec 1 := Scalar.cmpi .ne v616 v621
  let v623 : BitVec 32 := Scalar.remsi v610 c128_i32_218
  let c0_i32_223 : BitVec 32 := 0#32
  let v624 : BitVec 1 := Scalar.cmpi .ne v623 c0_i32_223
  let v625 : BitVec 1 := Scalar.andi v622 v624
  let v611 : BitVec 32 := Scalar.divsi v610 c128_i32_218
  let c1_i32_224 : BitVec 32 := 1#32
  let v626 : BitVec 32 := Scalar.subi v611 c1_i32_224
  let v627 : BitVec 32 := Scalar.select v625 v626 v611
  let c128_i32_225 : BitVec 32 := 128#32
  let v628 : BitVec 32 := Scalar.muli v627 c128_i32_225
  let v629 : BitVec 32 := Scalar.maxsi c0_i32_226 v628
  let v630 : BitVec 32 := Scalar.minsi c32512_i32_227 v629
  let v631 : BitVec 32 := v630
  let v646 : Index := Scalar.indexCast v631
  ![2, v646.toNat]

def k1_chk14 (v609 : BitVec 32) : Prop :=
  (128 ∣ (k1_mult14 v609).toNat) ∧
  (∀ a, (k1_off28 v609) a + S1x256.size a ≤ S16x32768.size a)
theorem k1_mult14_dvd : ∀ (v609 : BitVec 32) (k1_hw14 : k1_chk14 v609), 128 ∣ (k1_mult14 v609).toNat := fun v609 k1_hw14 => k1_hw14.1
theorem k1_off28_inb : ∀ (v609 : BitVec 32) (k1_hw14 : k1_chk14 v609), ∀ a, (k1_off28 v609) a + S1x256.size a ≤ S16x32768.size a := fun v609 k1_hw14 => k1_hw14.2

def k1_off29 (i : grid1.Coords) : Fin 2 → Nat :=
  let arg0 : BitVec 32 := BitVec.ofNat 32 (i 0).val
  let c16_i32_231 : BitVec 32 := 16#32
  let v652 : BitVec 32 := Scalar.muli arg0 c16_i32_231
  let c2_i32_232 : BitVec 32 := 2#32
  let v653 : BitVec 32 := Scalar.addi v652 c2_i32_232
  let v654 : Index := Scalar.indexCast v653
  let c4_233 : Index := 4#32
  ![v654.toNat, 4]
def k1_mult15 (v655 : BitVec 32) : BitVec 32 :=
  let c32512_i32_244 : BitVec 32 := 32512#32
  let c0_i32_243 : BitVec 32 := 0#32
  let c32_i32_234 : BitVec 32 := 32#32
  let v656 : BitVec 32 := Scalar.subi v655 c32_i32_234
  let c0_i32_236 : BitVec 32 := 0#32
  let v658 : BitVec 1 := Scalar.cmpi .sgt v656 c0_i32_236
  let v659 : BitVec 32 := Scalar.extui v658
  let c0_i32_237 : BitVec 32 := 0#32
  let v660 : BitVec 1 := Scalar.cmpi .slt v656 c0_i32_237
  let v661 : BitVec 32 := Scalar.extui v660
  let v662 : BitVec 32 := Scalar.subi v659 v661
  let c128_i32_235 : BitVec 32 := 128#32
  let c0_i32_238 : BitVec 32 := 0#32
  let v663 : BitVec 1 := Scalar.cmpi .sgt c128_i32_235 c0_i32_238
  let v664 : BitVec 32 := Scalar.extui v663
  let c0_i32_239 : BitVec 32 := 0#32
  let v665 : BitVec 1 := Scalar.cmpi .slt c128_i32_235 c0_i32_239
  let v666 : BitVec 32 := Scalar.extui v665
  let v667 : BitVec 32 := Scalar.subi v664 v666
  let v668 : BitVec 1 := Scalar.cmpi .ne v662 v667
  let v669 : BitVec 32 := Scalar.remsi v656 c128_i32_235
  let c0_i32_240 : BitVec 32 := 0#32
  let v670 : BitVec 1 := Scalar.cmpi .ne v669 c0_i32_240
  let v671 : BitVec 1 := Scalar.andi v668 v670
  let v657 : BitVec 32 := Scalar.divsi v656 c128_i32_235
  let c1_i32_241 : BitVec 32 := 1#32
  let v672 : BitVec 32 := Scalar.subi v657 c1_i32_241
  let v673 : BitVec 32 := Scalar.select v671 v672 v657
  let c128_i32_242 : BitVec 32 := 128#32
  let v674 : BitVec 32 := Scalar.muli v673 c128_i32_242
  let v675 : BitVec 32 := Scalar.maxsi c0_i32_243 v674
  let v676 : BitVec 32 := Scalar.minsi c32512_i32_244 v675
  v676

def k1_off30 (v655 : BitVec 32) : Fin 2 → Nat :=
  let c2_246 : Index := 2#32
  let c32512_i32_244 : BitVec 32 := 32512#32
  let c0_i32_243 : BitVec 32 := 0#32
  let c32_i32_234 : BitVec 32 := 32#32
  let v656 : BitVec 32 := Scalar.subi v655 c32_i32_234
  let c0_i32_236 : BitVec 32 := 0#32
  let v658 : BitVec 1 := Scalar.cmpi .sgt v656 c0_i32_236
  let v659 : BitVec 32 := Scalar.extui v658
  let c0_i32_237 : BitVec 32 := 0#32
  let v660 : BitVec 1 := Scalar.cmpi .slt v656 c0_i32_237
  let v661 : BitVec 32 := Scalar.extui v660
  let v662 : BitVec 32 := Scalar.subi v659 v661
  let c128_i32_235 : BitVec 32 := 128#32
  let c0_i32_238 : BitVec 32 := 0#32
  let v663 : BitVec 1 := Scalar.cmpi .sgt c128_i32_235 c0_i32_238
  let v664 : BitVec 32 := Scalar.extui v663
  let c0_i32_239 : BitVec 32 := 0#32
  let v665 : BitVec 1 := Scalar.cmpi .slt c128_i32_235 c0_i32_239
  let v666 : BitVec 32 := Scalar.extui v665
  let v667 : BitVec 32 := Scalar.subi v664 v666
  let v668 : BitVec 1 := Scalar.cmpi .ne v662 v667
  let v669 : BitVec 32 := Scalar.remsi v656 c128_i32_235
  let c0_i32_240 : BitVec 32 := 0#32
  let v670 : BitVec 1 := Scalar.cmpi .ne v669 c0_i32_240
  let v671 : BitVec 1 := Scalar.andi v668 v670
  let v657 : BitVec 32 := Scalar.divsi v656 c128_i32_235
  let c1_i32_241 : BitVec 32 := 1#32
  let v672 : BitVec 32 := Scalar.subi v657 c1_i32_241
  let v673 : BitVec 32 := Scalar.select v671 v672 v657
  let c128_i32_242 : BitVec 32 := 128#32
  let v674 : BitVec 32 := Scalar.muli v673 c128_i32_242
  let v675 : BitVec 32 := Scalar.maxsi c0_i32_243 v674
  let v676 : BitVec 32 := Scalar.minsi c32512_i32_244 v675
  let v677 : BitVec 32 := v676
  let v692 : Index := Scalar.indexCast v677
  ![2, v692.toNat]

def k1_chk15 (v655 : BitVec 32) : Prop :=
  (128 ∣ (k1_mult15 v655).toNat) ∧
  (∀ a, (k1_off30 v655) a + S1x256.size a ≤ S16x32768.size a)
theorem k1_mult15_dvd : ∀ (v655 : BitVec 32) (k1_hw15 : k1_chk15 v655), 128 ∣ (k1_mult15 v655).toNat := fun v655 k1_hw15 => k1_hw15.1
theorem k1_off30_inb : ∀ (v655 : BitVec 32) (k1_hw15 : k1_chk15 v655), ∀ a, (k1_off30 v655) a + S1x256.size a ≤ S16x32768.size a := fun v655 k1_hw15 => k1_hw15.2

def k1_off31 (i : grid1.Coords) : Fin 2 → Nat :=
  let arg0 : BitVec 32 := BitVec.ofNat 32 (i 0).val
  let c16_i32_248 : BitVec 32 := 16#32
  let v698 : BitVec 32 := Scalar.muli arg0 c16_i32_248
  let c3_i32 : BitVec 32 := 3#32
  let v699 : BitVec 32 := Scalar.addi v698 c3_i32
  let v700 : Index := Scalar.indexCast v699
  let c0_249 : Index := 0#32
  ![v700.toNat, 0]
def k1_mult16 (v701 : BitVec 32) : BitVec 32 :=
  let c32512_i32_260 : BitVec 32 := 32512#32
  let c0_i32_259 : BitVec 32 := 0#32
  let c32_i32_250 : BitVec 32 := 32#32
  let v702 : BitVec 32 := Scalar.subi v701 c32_i32_250
  let c0_i32_252 : BitVec 32 := 0#32
  let v704 : BitVec 1 := Scalar.cmpi .sgt v702 c0_i32_252
  let v705 : BitVec 32 := Scalar.extui v704
  let c0_i32_253 : BitVec 32 := 0#32
  let v706 : BitVec 1 := Scalar.cmpi .slt v702 c0_i32_253
  let v707 : BitVec 32 := Scalar.extui v706
  let v708 : BitVec 32 := Scalar.subi v705 v707
  let c128_i32_251 : BitVec 32 := 128#32
  let c0_i32_254 : BitVec 32 := 0#32
  let v709 : BitVec 1 := Scalar.cmpi .sgt c128_i32_251 c0_i32_254
  let v710 : BitVec 32 := Scalar.extui v709
  let c0_i32_255 : BitVec 32 := 0#32
  let v711 : BitVec 1 := Scalar.cmpi .slt c128_i32_251 c0_i32_255
  let v712 : BitVec 32 := Scalar.extui v711
  let v713 : BitVec 32 := Scalar.subi v710 v712
  let v714 : BitVec 1 := Scalar.cmpi .ne v708 v713
  let v715 : BitVec 32 := Scalar.remsi v702 c128_i32_251
  let c0_i32_256 : BitVec 32 := 0#32
  let v716 : BitVec 1 := Scalar.cmpi .ne v715 c0_i32_256
  let v717 : BitVec 1 := Scalar.andi v714 v716
  let v703 : BitVec 32 := Scalar.divsi v702 c128_i32_251
  let c1_i32_257 : BitVec 32 := 1#32
  let v718 : BitVec 32 := Scalar.subi v703 c1_i32_257
  let v719 : BitVec 32 := Scalar.select v717 v718 v703
  let c128_i32_258 : BitVec 32 := 128#32
  let v720 : BitVec 32 := Scalar.muli v719 c128_i32_258
  let v721 : BitVec 32 := Scalar.maxsi c0_i32_259 v720
  let v722 : BitVec 32 := Scalar.minsi c32512_i32_260 v721
  v722

def k1_off32 (v701 : BitVec 32) : Fin 2 → Nat :=
  let c3_262 : Index := 3#32
  let c32512_i32_260 : BitVec 32 := 32512#32
  let c0_i32_259 : BitVec 32 := 0#32
  let c32_i32_250 : BitVec 32 := 32#32
  let v702 : BitVec 32 := Scalar.subi v701 c32_i32_250
  let c0_i32_252 : BitVec 32 := 0#32
  let v704 : BitVec 1 := Scalar.cmpi .sgt v702 c0_i32_252
  let v705 : BitVec 32 := Scalar.extui v704
  let c0_i32_253 : BitVec 32 := 0#32
  let v706 : BitVec 1 := Scalar.cmpi .slt v702 c0_i32_253
  let v707 : BitVec 32 := Scalar.extui v706
  let v708 : BitVec 32 := Scalar.subi v705 v707
  let c128_i32_251 : BitVec 32 := 128#32
  let c0_i32_254 : BitVec 32 := 0#32
  let v709 : BitVec 1 := Scalar.cmpi .sgt c128_i32_251 c0_i32_254
  let v710 : BitVec 32 := Scalar.extui v709
  let c0_i32_255 : BitVec 32 := 0#32
  let v711 : BitVec 1 := Scalar.cmpi .slt c128_i32_251 c0_i32_255
  let v712 : BitVec 32 := Scalar.extui v711
  let v713 : BitVec 32 := Scalar.subi v710 v712
  let v714 : BitVec 1 := Scalar.cmpi .ne v708 v713
  let v715 : BitVec 32 := Scalar.remsi v702 c128_i32_251
  let c0_i32_256 : BitVec 32 := 0#32
  let v716 : BitVec 1 := Scalar.cmpi .ne v715 c0_i32_256
  let v717 : BitVec 1 := Scalar.andi v714 v716
  let v703 : BitVec 32 := Scalar.divsi v702 c128_i32_251
  let c1_i32_257 : BitVec 32 := 1#32
  let v718 : BitVec 32 := Scalar.subi v703 c1_i32_257
  let v719 : BitVec 32 := Scalar.select v717 v718 v703
  let c128_i32_258 : BitVec 32 := 128#32
  let v720 : BitVec 32 := Scalar.muli v719 c128_i32_258
  let v721 : BitVec 32 := Scalar.maxsi c0_i32_259 v720
  let v722 : BitVec 32 := Scalar.minsi c32512_i32_260 v721
  let v723 : BitVec 32 := v722
  let v738 : Index := Scalar.indexCast v723
  ![3, v738.toNat]

def k1_chk16 (v701 : BitVec 32) : Prop :=
  (128 ∣ (k1_mult16 v701).toNat) ∧
  (∀ a, (k1_off32 v701) a + S1x256.size a ≤ S16x32768.size a)
theorem k1_mult16_dvd : ∀ (v701 : BitVec 32) (k1_hw16 : k1_chk16 v701), 128 ∣ (k1_mult16 v701).toNat := fun v701 k1_hw16 => k1_hw16.1
theorem k1_off32_inb : ∀ (v701 : BitVec 32) (k1_hw16 : k1_chk16 v701), ∀ a, (k1_off32 v701) a + S1x256.size a ≤ S16x32768.size a := fun v701 k1_hw16 => k1_hw16.2

def k1_off33 (i : grid1.Coords) : Fin 2 → Nat :=
  let arg0 : BitVec 32 := BitVec.ofNat 32 (i 0).val
  let c16_i32_264 : BitVec 32 := 16#32
  let v744 : BitVec 32 := Scalar.muli arg0 c16_i32_264
  let c3_i32_265 : BitVec 32 := 3#32
  let v745 : BitVec 32 := Scalar.addi v744 c3_i32_265
  let v746 : Index := Scalar.indexCast v745
  let c1_266 : Index := 1#32
  ![v746.toNat, 1]
def k1_mult17 (v747 : BitVec 32) : BitVec 32 :=
  let c32512_i32_277 : BitVec 32 := 32512#32
  let c0_i32_276 : BitVec 32 := 0#32
  let c32_i32_267 : BitVec 32 := 32#32
  let v748 : BitVec 32 := Scalar.subi v747 c32_i32_267
  let c0_i32_269 : BitVec 32 := 0#32
  let v750 : BitVec 1 := Scalar.cmpi .sgt v748 c0_i32_269
  let v751 : BitVec 32 := Scalar.extui v750
  let c0_i32_270 : BitVec 32 := 0#32
  let v752 : BitVec 1 := Scalar.cmpi .slt v748 c0_i32_270
  let v753 : BitVec 32 := Scalar.extui v752
  let v754 : BitVec 32 := Scalar.subi v751 v753
  let c128_i32_268 : BitVec 32 := 128#32
  let c0_i32_271 : BitVec 32 := 0#32
  let v755 : BitVec 1 := Scalar.cmpi .sgt c128_i32_268 c0_i32_271
  let v756 : BitVec 32 := Scalar.extui v755
  let c0_i32_272 : BitVec 32 := 0#32
  let v757 : BitVec 1 := Scalar.cmpi .slt c128_i32_268 c0_i32_272
  let v758 : BitVec 32 := Scalar.extui v757
  let v759 : BitVec 32 := Scalar.subi v756 v758
  let v760 : BitVec 1 := Scalar.cmpi .ne v754 v759
  let v761 : BitVec 32 := Scalar.remsi v748 c128_i32_268
  let c0_i32_273 : BitVec 32 := 0#32
  let v762 : BitVec 1 := Scalar.cmpi .ne v761 c0_i32_273
  let v763 : BitVec 1 := Scalar.andi v760 v762
  let v749 : BitVec 32 := Scalar.divsi v748 c128_i32_268
  let c1_i32_274 : BitVec 32 := 1#32
  let v764 : BitVec 32 := Scalar.subi v749 c1_i32_274
  let v765 : BitVec 32 := Scalar.select v763 v764 v749
  let c128_i32_275 : BitVec 32 := 128#32
  let v766 : BitVec 32 := Scalar.muli v765 c128_i32_275
  let v767 : BitVec 32 := Scalar.maxsi c0_i32_276 v766
  let v768 : BitVec 32 := Scalar.minsi c32512_i32_277 v767
  v768

def k1_off34 (v747 : BitVec 32) : Fin 2 → Nat :=
  let c3_279 : Index := 3#32
  let c32512_i32_277 : BitVec 32 := 32512#32
  let c0_i32_276 : BitVec 32 := 0#32
  let c32_i32_267 : BitVec 32 := 32#32
  let v748 : BitVec 32 := Scalar.subi v747 c32_i32_267
  let c0_i32_269 : BitVec 32 := 0#32
  let v750 : BitVec 1 := Scalar.cmpi .sgt v748 c0_i32_269
  let v751 : BitVec 32 := Scalar.extui v750
  let c0_i32_270 : BitVec 32 := 0#32
  let v752 : BitVec 1 := Scalar.cmpi .slt v748 c0_i32_270
  let v753 : BitVec 32 := Scalar.extui v752
  let v754 : BitVec 32 := Scalar.subi v751 v753
  let c128_i32_268 : BitVec 32 := 128#32
  let c0_i32_271 : BitVec 32 := 0#32
  let v755 : BitVec 1 := Scalar.cmpi .sgt c128_i32_268 c0_i32_271
  let v756 : BitVec 32 := Scalar.extui v755
  let c0_i32_272 : BitVec 32 := 0#32
  let v757 : BitVec 1 := Scalar.cmpi .slt c128_i32_268 c0_i32_272
  let v758 : BitVec 32 := Scalar.extui v757
  let v759 : BitVec 32 := Scalar.subi v756 v758
  let v760 : BitVec 1 := Scalar.cmpi .ne v754 v759
  let v761 : BitVec 32 := Scalar.remsi v748 c128_i32_268
  let c0_i32_273 : BitVec 32 := 0#32
  let v762 : BitVec 1 := Scalar.cmpi .ne v761 c0_i32_273
  let v763 : BitVec 1 := Scalar.andi v760 v762
  let v749 : BitVec 32 := Scalar.divsi v748 c128_i32_268
  let c1_i32_274 : BitVec 32 := 1#32
  let v764 : BitVec 32 := Scalar.subi v749 c1_i32_274
  let v765 : BitVec 32 := Scalar.select v763 v764 v749
  let c128_i32_275 : BitVec 32 := 128#32
  let v766 : BitVec 32 := Scalar.muli v765 c128_i32_275
  let v767 : BitVec 32 := Scalar.maxsi c0_i32_276 v766
  let v768 : BitVec 32 := Scalar.minsi c32512_i32_277 v767
  let v769 : BitVec 32 := v768
  let v784 : Index := Scalar.indexCast v769
  ![3, v784.toNat]

def k1_chk17 (v747 : BitVec 32) : Prop :=
  (128 ∣ (k1_mult17 v747).toNat) ∧
  (∀ a, (k1_off34 v747) a + S1x256.size a ≤ S16x32768.size a)
theorem k1_mult17_dvd : ∀ (v747 : BitVec 32) (k1_hw17 : k1_chk17 v747), 128 ∣ (k1_mult17 v747).toNat := fun v747 k1_hw17 => k1_hw17.1
theorem k1_off34_inb : ∀ (v747 : BitVec 32) (k1_hw17 : k1_chk17 v747), ∀ a, (k1_off34 v747) a + S1x256.size a ≤ S16x32768.size a := fun v747 k1_hw17 => k1_hw17.2

def k1_off35 (i : grid1.Coords) : Fin 2 → Nat :=
  let arg0 : BitVec 32 := BitVec.ofNat 32 (i 0).val
  let c16_i32_281 : BitVec 32 := 16#32
  let v790 : BitVec 32 := Scalar.muli arg0 c16_i32_281
  let c3_i32_282 : BitVec 32 := 3#32
  let v791 : BitVec 32 := Scalar.addi v790 c3_i32_282
  let v792 : Index := Scalar.indexCast v791
  let c2_283 : Index := 2#32
  ![v792.toNat, 2]
def k1_mult18 (v793 : BitVec 32) : BitVec 32 :=
  let c32512_i32_294 : BitVec 32 := 32512#32
  let c0_i32_293 : BitVec 32 := 0#32
  let c32_i32_284 : BitVec 32 := 32#32
  let v794 : BitVec 32 := Scalar.subi v793 c32_i32_284
  let c0_i32_286 : BitVec 32 := 0#32
  let v796 : BitVec 1 := Scalar.cmpi .sgt v794 c0_i32_286
  let v797 : BitVec 32 := Scalar.extui v796
  let c0_i32_287 : BitVec 32 := 0#32
  let v798 : BitVec 1 := Scalar.cmpi .slt v794 c0_i32_287
  let v799 : BitVec 32 := Scalar.extui v798
  let v800 : BitVec 32 := Scalar.subi v797 v799
  let c128_i32_285 : BitVec 32 := 128#32
  let c0_i32_288 : BitVec 32 := 0#32
  let v801 : BitVec 1 := Scalar.cmpi .sgt c128_i32_285 c0_i32_288
  let v802 : BitVec 32 := Scalar.extui v801
  let c0_i32_289 : BitVec 32 := 0#32
  let v803 : BitVec 1 := Scalar.cmpi .slt c128_i32_285 c0_i32_289
  let v804 : BitVec 32 := Scalar.extui v803
  let v805 : BitVec 32 := Scalar.subi v802 v804
  let v806 : BitVec 1 := Scalar.cmpi .ne v800 v805
  let v807 : BitVec 32 := Scalar.remsi v794 c128_i32_285
  let c0_i32_290 : BitVec 32 := 0#32
  let v808 : BitVec 1 := Scalar.cmpi .ne v807 c0_i32_290
  let v809 : BitVec 1 := Scalar.andi v806 v808
  let v795 : BitVec 32 := Scalar.divsi v794 c128_i32_285
  let c1_i32_291 : BitVec 32 := 1#32
  let v810 : BitVec 32 := Scalar.subi v795 c1_i32_291
  let v811 : BitVec 32 := Scalar.select v809 v810 v795
  let c128_i32_292 : BitVec 32 := 128#32
  let v812 : BitVec 32 := Scalar.muli v811 c128_i32_292
  let v813 : BitVec 32 := Scalar.maxsi c0_i32_293 v812
  let v814 : BitVec 32 := Scalar.minsi c32512_i32_294 v813
  v814

def k1_off36 (v793 : BitVec 32) : Fin 2 → Nat :=
  let c3_296 : Index := 3#32
  let c32512_i32_294 : BitVec 32 := 32512#32
  let c0_i32_293 : BitVec 32 := 0#32
  let c32_i32_284 : BitVec 32 := 32#32
  let v794 : BitVec 32 := Scalar.subi v793 c32_i32_284
  let c0_i32_286 : BitVec 32 := 0#32
  let v796 : BitVec 1 := Scalar.cmpi .sgt v794 c0_i32_286
  let v797 : BitVec 32 := Scalar.extui v796
  let c0_i32_287 : BitVec 32 := 0#32
  let v798 : BitVec 1 := Scalar.cmpi .slt v794 c0_i32_287
  let v799 : BitVec 32 := Scalar.extui v798
  let v800 : BitVec 32 := Scalar.subi v797 v799
  let c128_i32_285 : BitVec 32 := 128#32
  let c0_i32_288 : BitVec 32 := 0#32
  let v801 : BitVec 1 := Scalar.cmpi .sgt c128_i32_285 c0_i32_288
  let v802 : BitVec 32 := Scalar.extui v801
  let c0_i32_289 : BitVec 32 := 0#32
  let v803 : BitVec 1 := Scalar.cmpi .slt c128_i32_285 c0_i32_289
  let v804 : BitVec 32 := Scalar.extui v803
  let v805 : BitVec 32 := Scalar.subi v802 v804
  let v806 : BitVec 1 := Scalar.cmpi .ne v800 v805
  let v807 : BitVec 32 := Scalar.remsi v794 c128_i32_285
  let c0_i32_290 : BitVec 32 := 0#32
  let v808 : BitVec 1 := Scalar.cmpi .ne v807 c0_i32_290
  let v809 : BitVec 1 := Scalar.andi v806 v808
  let v795 : BitVec 32 := Scalar.divsi v794 c128_i32_285
  let c1_i32_291 : BitVec 32 := 1#32
  let v810 : BitVec 32 := Scalar.subi v795 c1_i32_291
  let v811 : BitVec 32 := Scalar.select v809 v810 v795
  let c128_i32_292 : BitVec 32 := 128#32
  let v812 : BitVec 32 := Scalar.muli v811 c128_i32_292
  let v813 : BitVec 32 := Scalar.maxsi c0_i32_293 v812
  let v814 : BitVec 32 := Scalar.minsi c32512_i32_294 v813
  let v815 : BitVec 32 := v814
  let v830 : Index := Scalar.indexCast v815
  ![3, v830.toNat]

def k1_chk18 (v793 : BitVec 32) : Prop :=
  (128 ∣ (k1_mult18 v793).toNat) ∧
  (∀ a, (k1_off36 v793) a + S1x256.size a ≤ S16x32768.size a)
theorem k1_mult18_dvd : ∀ (v793 : BitVec 32) (k1_hw18 : k1_chk18 v793), 128 ∣ (k1_mult18 v793).toNat := fun v793 k1_hw18 => k1_hw18.1
theorem k1_off36_inb : ∀ (v793 : BitVec 32) (k1_hw18 : k1_chk18 v793), ∀ a, (k1_off36 v793) a + S1x256.size a ≤ S16x32768.size a := fun v793 k1_hw18 => k1_hw18.2

def k1_off37 (i : grid1.Coords) : Fin 2 → Nat :=
  let arg0 : BitVec 32 := BitVec.ofNat 32 (i 0).val
  let c16_i32_298 : BitVec 32 := 16#32
  let v836 : BitVec 32 := Scalar.muli arg0 c16_i32_298
  let c3_i32_299 : BitVec 32 := 3#32
  let v837 : BitVec 32 := Scalar.addi v836 c3_i32_299
  let v838 : Index := Scalar.indexCast v837
  let c3_300 : Index := 3#32
  ![v838.toNat, 3]
def k1_mult19 (v839 : BitVec 32) : BitVec 32 :=
  let c32512_i32_311 : BitVec 32 := 32512#32
  let c0_i32_310 : BitVec 32 := 0#32
  let c32_i32_301 : BitVec 32 := 32#32
  let v840 : BitVec 32 := Scalar.subi v839 c32_i32_301
  let c0_i32_303 : BitVec 32 := 0#32
  let v842 : BitVec 1 := Scalar.cmpi .sgt v840 c0_i32_303
  let v843 : BitVec 32 := Scalar.extui v842
  let c0_i32_304 : BitVec 32 := 0#32
  let v844 : BitVec 1 := Scalar.cmpi .slt v840 c0_i32_304
  let v845 : BitVec 32 := Scalar.extui v844
  let v846 : BitVec 32 := Scalar.subi v843 v845
  let c128_i32_302 : BitVec 32 := 128#32
  let c0_i32_305 : BitVec 32 := 0#32
  let v847 : BitVec 1 := Scalar.cmpi .sgt c128_i32_302 c0_i32_305
  let v848 : BitVec 32 := Scalar.extui v847
  let c0_i32_306 : BitVec 32 := 0#32
  let v849 : BitVec 1 := Scalar.cmpi .slt c128_i32_302 c0_i32_306
  let v850 : BitVec 32 := Scalar.extui v849
  let v851 : BitVec 32 := Scalar.subi v848 v850
  let v852 : BitVec 1 := Scalar.cmpi .ne v846 v851
  let v853 : BitVec 32 := Scalar.remsi v840 c128_i32_302
  let c0_i32_307 : BitVec 32 := 0#32
  let v854 : BitVec 1 := Scalar.cmpi .ne v853 c0_i32_307
  let v855 : BitVec 1 := Scalar.andi v852 v854
  let v841 : BitVec 32 := Scalar.divsi v840 c128_i32_302
  let c1_i32_308 : BitVec 32 := 1#32
  let v856 : BitVec 32 := Scalar.subi v841 c1_i32_308
  let v857 : BitVec 32 := Scalar.select v855 v856 v841
  let c128_i32_309 : BitVec 32 := 128#32
  let v858 : BitVec 32 := Scalar.muli v857 c128_i32_309
  let v859 : BitVec 32 := Scalar.maxsi c0_i32_310 v858
  let v860 : BitVec 32 := Scalar.minsi c32512_i32_311 v859
  v860

def k1_off38 (v839 : BitVec 32) : Fin 2 → Nat :=
  let c3_313 : Index := 3#32
  let c32512_i32_311 : BitVec 32 := 32512#32
  let c0_i32_310 : BitVec 32 := 0#32
  let c32_i32_301 : BitVec 32 := 32#32
  let v840 : BitVec 32 := Scalar.subi v839 c32_i32_301
  let c0_i32_303 : BitVec 32 := 0#32
  let v842 : BitVec 1 := Scalar.cmpi .sgt v840 c0_i32_303
  let v843 : BitVec 32 := Scalar.extui v842
  let c0_i32_304 : BitVec 32 := 0#32
  let v844 : BitVec 1 := Scalar.cmpi .slt v840 c0_i32_304
  let v845 : BitVec 32 := Scalar.extui v844
  let v846 : BitVec 32 := Scalar.subi v843 v845
  let c128_i32_302 : BitVec 32 := 128#32
  let c0_i32_305 : BitVec 32 := 0#32
  let v847 : BitVec 1 := Scalar.cmpi .sgt c128_i32_302 c0_i32_305
  let v848 : BitVec 32 := Scalar.extui v847
  let c0_i32_306 : BitVec 32 := 0#32
  let v849 : BitVec 1 := Scalar.cmpi .slt c128_i32_302 c0_i32_306
  let v850 : BitVec 32 := Scalar.extui v849
  let v851 : BitVec 32 := Scalar.subi v848 v850
  let v852 : BitVec 1 := Scalar.cmpi .ne v846 v851
  let v853 : BitVec 32 := Scalar.remsi v840 c128_i32_302
  let c0_i32_307 : BitVec 32 := 0#32
  let v854 : BitVec 1 := Scalar.cmpi .ne v853 c0_i32_307
  let v855 : BitVec 1 := Scalar.andi v852 v854
  let v841 : BitVec 32 := Scalar.divsi v840 c128_i32_302
  let c1_i32_308 : BitVec 32 := 1#32
  let v856 : BitVec 32 := Scalar.subi v841 c1_i32_308
  let v857 : BitVec 32 := Scalar.select v855 v856 v841
  let c128_i32_309 : BitVec 32 := 128#32
  let v858 : BitVec 32 := Scalar.muli v857 c128_i32_309
  let v859 : BitVec 32 := Scalar.maxsi c0_i32_310 v858
  let v860 : BitVec 32 := Scalar.minsi c32512_i32_311 v859
  let v861 : BitVec 32 := v860
  let v876 : Index := Scalar.indexCast v861
  ![3, v876.toNat]

def k1_chk19 (v839 : BitVec 32) : Prop :=
  (128 ∣ (k1_mult19 v839).toNat) ∧
  (∀ a, (k1_off38 v839) a + S1x256.size a ≤ S16x32768.size a)
theorem k1_mult19_dvd : ∀ (v839 : BitVec 32) (k1_hw19 : k1_chk19 v839), 128 ∣ (k1_mult19 v839).toNat := fun v839 k1_hw19 => k1_hw19.1
theorem k1_off38_inb : ∀ (v839 : BitVec 32) (k1_hw19 : k1_chk19 v839), ∀ a, (k1_off38 v839) a + S1x256.size a ≤ S16x32768.size a := fun v839 k1_hw19 => k1_hw19.2

def k1_off39 (i : grid1.Coords) : Fin 2 → Nat :=
  let arg0 : BitVec 32 := BitVec.ofNat 32 (i 0).val
  let c16_i32_315 : BitVec 32 := 16#32
  let v882 : BitVec 32 := Scalar.muli arg0 c16_i32_315
  let c3_i32_316 : BitVec 32 := 3#32
  let v883 : BitVec 32 := Scalar.addi v882 c3_i32_316
  let v884 : Index := Scalar.indexCast v883
  let c4_317 : Index := 4#32
  ![v884.toNat, 4]
def k1_mult20 (v885 : BitVec 32) : BitVec 32 :=
  let c32512_i32_328 : BitVec 32 := 32512#32
  let c0_i32_327 : BitVec 32 := 0#32
  let c32_i32_318 : BitVec 32 := 32#32
  let v886 : BitVec 32 := Scalar.subi v885 c32_i32_318
  let c0_i32_320 : BitVec 32 := 0#32
  let v888 : BitVec 1 := Scalar.cmpi .sgt v886 c0_i32_320
  let v889 : BitVec 32 := Scalar.extui v888
  let c0_i32_321 : BitVec 32 := 0#32
  let v890 : BitVec 1 := Scalar.cmpi .slt v886 c0_i32_321
  let v891 : BitVec 32 := Scalar.extui v890
  let v892 : BitVec 32 := Scalar.subi v889 v891
  let c128_i32_319 : BitVec 32 := 128#32
  let c0_i32_322 : BitVec 32 := 0#32
  let v893 : BitVec 1 := Scalar.cmpi .sgt c128_i32_319 c0_i32_322
  let v894 : BitVec 32 := Scalar.extui v893
  let c0_i32_323 : BitVec 32 := 0#32
  let v895 : BitVec 1 := Scalar.cmpi .slt c128_i32_319 c0_i32_323
  let v896 : BitVec 32 := Scalar.extui v895
  let v897 : BitVec 32 := Scalar.subi v894 v896
  let v898 : BitVec 1 := Scalar.cmpi .ne v892 v897
  let v899 : BitVec 32 := Scalar.remsi v886 c128_i32_319
  let c0_i32_324 : BitVec 32 := 0#32
  let v900 : BitVec 1 := Scalar.cmpi .ne v899 c0_i32_324
  let v901 : BitVec 1 := Scalar.andi v898 v900
  let v887 : BitVec 32 := Scalar.divsi v886 c128_i32_319
  let c1_i32_325 : BitVec 32 := 1#32
  let v902 : BitVec 32 := Scalar.subi v887 c1_i32_325
  let v903 : BitVec 32 := Scalar.select v901 v902 v887
  let c128_i32_326 : BitVec 32 := 128#32
  let v904 : BitVec 32 := Scalar.muli v903 c128_i32_326
  let v905 : BitVec 32 := Scalar.maxsi c0_i32_327 v904
  let v906 : BitVec 32 := Scalar.minsi c32512_i32_328 v905
  v906

def k1_off40 (v885 : BitVec 32) : Fin 2 → Nat :=
  let c3_330 : Index := 3#32
  let c32512_i32_328 : BitVec 32 := 32512#32
  let c0_i32_327 : BitVec 32 := 0#32
  let c32_i32_318 : BitVec 32 := 32#32
  let v886 : BitVec 32 := Scalar.subi v885 c32_i32_318
  let c0_i32_320 : BitVec 32 := 0#32
  let v888 : BitVec 1 := Scalar.cmpi .sgt v886 c0_i32_320
  let v889 : BitVec 32 := Scalar.extui v888
  let c0_i32_321 : BitVec 32 := 0#32
  let v890 : BitVec 1 := Scalar.cmpi .slt v886 c0_i32_321
  let v891 : BitVec 32 := Scalar.extui v890
  let v892 : BitVec 32 := Scalar.subi v889 v891
  let c128_i32_319 : BitVec 32 := 128#32
  let c0_i32_322 : BitVec 32 := 0#32
  let v893 : BitVec 1 := Scalar.cmpi .sgt c128_i32_319 c0_i32_322
  let v894 : BitVec 32 := Scalar.extui v893
  let c0_i32_323 : BitVec 32 := 0#32
  let v895 : BitVec 1 := Scalar.cmpi .slt c128_i32_319 c0_i32_323
  let v896 : BitVec 32 := Scalar.extui v895
  let v897 : BitVec 32 := Scalar.subi v894 v896
  let v898 : BitVec 1 := Scalar.cmpi .ne v892 v897
  let v899 : BitVec 32 := Scalar.remsi v886 c128_i32_319
  let c0_i32_324 : BitVec 32 := 0#32
  let v900 : BitVec 1 := Scalar.cmpi .ne v899 c0_i32_324
  let v901 : BitVec 1 := Scalar.andi v898 v900
  let v887 : BitVec 32 := Scalar.divsi v886 c128_i32_319
  let c1_i32_325 : BitVec 32 := 1#32
  let v902 : BitVec 32 := Scalar.subi v887 c1_i32_325
  let v903 : BitVec 32 := Scalar.select v901 v902 v887
  let c128_i32_326 : BitVec 32 := 128#32
  let v904 : BitVec 32 := Scalar.muli v903 c128_i32_326
  let v905 : BitVec 32 := Scalar.maxsi c0_i32_327 v904
  let v906 : BitVec 32 := Scalar.minsi c32512_i32_328 v905
  let v907 : BitVec 32 := v906
  let v922 : Index := Scalar.indexCast v907
  ![3, v922.toNat]

def k1_chk20 (v885 : BitVec 32) : Prop :=
  (128 ∣ (k1_mult20 v885).toNat) ∧
  (∀ a, (k1_off40 v885) a + S1x256.size a ≤ S16x32768.size a)
theorem k1_mult20_dvd : ∀ (v885 : BitVec 32) (k1_hw20 : k1_chk20 v885), 128 ∣ (k1_mult20 v885).toNat := fun v885 k1_hw20 => k1_hw20.1
theorem k1_off40_inb : ∀ (v885 : BitVec 32) (k1_hw20 : k1_chk20 v885), ∀ a, (k1_off40 v885) a + S1x256.size a ≤ S16x32768.size a := fun v885 k1_hw20 => k1_hw20.2

def k1_off41 (i : grid1.Coords) : Fin 2 → Nat :=
  let arg0 : BitVec 32 := BitVec.ofNat 32 (i 0).val
  let c16_i32_332 : BitVec 32 := 16#32
  let v928 : BitVec 32 := Scalar.muli arg0 c16_i32_332
  let c4_i32 : BitVec 32 := 4#32
  let v929 : BitVec 32 := Scalar.addi v928 c4_i32
  let v930 : Index := Scalar.indexCast v929
  let c0_333 : Index := 0#32
  ![v930.toNat, 0]
def k1_mult21 (v931 : BitVec 32) : BitVec 32 :=
  let c32512_i32_344 : BitVec 32 := 32512#32
  let c0_i32_343 : BitVec 32 := 0#32
  let c32_i32_334 : BitVec 32 := 32#32
  let v932 : BitVec 32 := Scalar.subi v931 c32_i32_334
  let c0_i32_336 : BitVec 32 := 0#32
  let v934 : BitVec 1 := Scalar.cmpi .sgt v932 c0_i32_336
  let v935 : BitVec 32 := Scalar.extui v934
  let c0_i32_337 : BitVec 32 := 0#32
  let v936 : BitVec 1 := Scalar.cmpi .slt v932 c0_i32_337
  let v937 : BitVec 32 := Scalar.extui v936
  let v938 : BitVec 32 := Scalar.subi v935 v937
  let c128_i32_335 : BitVec 32 := 128#32
  let c0_i32_338 : BitVec 32 := 0#32
  let v939 : BitVec 1 := Scalar.cmpi .sgt c128_i32_335 c0_i32_338
  let v940 : BitVec 32 := Scalar.extui v939
  let c0_i32_339 : BitVec 32 := 0#32
  let v941 : BitVec 1 := Scalar.cmpi .slt c128_i32_335 c0_i32_339
  let v942 : BitVec 32 := Scalar.extui v941
  let v943 : BitVec 32 := Scalar.subi v940 v942
  let v944 : BitVec 1 := Scalar.cmpi .ne v938 v943
  let v945 : BitVec 32 := Scalar.remsi v932 c128_i32_335
  let c0_i32_340 : BitVec 32 := 0#32
  let v946 : BitVec 1 := Scalar.cmpi .ne v945 c0_i32_340
  let v947 : BitVec 1 := Scalar.andi v944 v946
  let v933 : BitVec 32 := Scalar.divsi v932 c128_i32_335
  let c1_i32_341 : BitVec 32 := 1#32
  let v948 : BitVec 32 := Scalar.subi v933 c1_i32_341
  let v949 : BitVec 32 := Scalar.select v947 v948 v933
  let c128_i32_342 : BitVec 32 := 128#32
  let v950 : BitVec 32 := Scalar.muli v949 c128_i32_342
  let v951 : BitVec 32 := Scalar.maxsi c0_i32_343 v950
  let v952 : BitVec 32 := Scalar.minsi c32512_i32_344 v951
  v952

def k1_off42 (v931 : BitVec 32) : Fin 2 → Nat :=
  let c4_346 : Index := 4#32
  let c32512_i32_344 : BitVec 32 := 32512#32
  let c0_i32_343 : BitVec 32 := 0#32
  let c32_i32_334 : BitVec 32 := 32#32
  let v932 : BitVec 32 := Scalar.subi v931 c32_i32_334
  let c0_i32_336 : BitVec 32 := 0#32
  let v934 : BitVec 1 := Scalar.cmpi .sgt v932 c0_i32_336
  let v935 : BitVec 32 := Scalar.extui v934
  let c0_i32_337 : BitVec 32 := 0#32
  let v936 : BitVec 1 := Scalar.cmpi .slt v932 c0_i32_337
  let v937 : BitVec 32 := Scalar.extui v936
  let v938 : BitVec 32 := Scalar.subi v935 v937
  let c128_i32_335 : BitVec 32 := 128#32
  let c0_i32_338 : BitVec 32 := 0#32
  let v939 : BitVec 1 := Scalar.cmpi .sgt c128_i32_335 c0_i32_338
  let v940 : BitVec 32 := Scalar.extui v939
  let c0_i32_339 : BitVec 32 := 0#32
  let v941 : BitVec 1 := Scalar.cmpi .slt c128_i32_335 c0_i32_339
  let v942 : BitVec 32 := Scalar.extui v941
  let v943 : BitVec 32 := Scalar.subi v940 v942
  let v944 : BitVec 1 := Scalar.cmpi .ne v938 v943
  let v945 : BitVec 32 := Scalar.remsi v932 c128_i32_335
  let c0_i32_340 : BitVec 32 := 0#32
  let v946 : BitVec 1 := Scalar.cmpi .ne v945 c0_i32_340
  let v947 : BitVec 1 := Scalar.andi v944 v946
  let v933 : BitVec 32 := Scalar.divsi v932 c128_i32_335
  let c1_i32_341 : BitVec 32 := 1#32
  let v948 : BitVec 32 := Scalar.subi v933 c1_i32_341
  let v949 : BitVec 32 := Scalar.select v947 v948 v933
  let c128_i32_342 : BitVec 32 := 128#32
  let v950 : BitVec 32 := Scalar.muli v949 c128_i32_342
  let v951 : BitVec 32 := Scalar.maxsi c0_i32_343 v950
  let v952 : BitVec 32 := Scalar.minsi c32512_i32_344 v951
  let v953 : BitVec 32 := v952
  let v968 : Index := Scalar.indexCast v953
  ![4, v968.toNat]

def k1_chk21 (v931 : BitVec 32) : Prop :=
  (128 ∣ (k1_mult21 v931).toNat) ∧
  (∀ a, (k1_off42 v931) a + S1x256.size a ≤ S16x32768.size a)
theorem k1_mult21_dvd : ∀ (v931 : BitVec 32) (k1_hw21 : k1_chk21 v931), 128 ∣ (k1_mult21 v931).toNat := fun v931 k1_hw21 => k1_hw21.1
theorem k1_off42_inb : ∀ (v931 : BitVec 32) (k1_hw21 : k1_chk21 v931), ∀ a, (k1_off42 v931) a + S1x256.size a ≤ S16x32768.size a := fun v931 k1_hw21 => k1_hw21.2

def k1_off43 (i : grid1.Coords) : Fin 2 → Nat :=
  let arg0 : BitVec 32 := BitVec.ofNat 32 (i 0).val
  let c16_i32_348 : BitVec 32 := 16#32
  let v974 : BitVec 32 := Scalar.muli arg0 c16_i32_348
  let c4_i32_349 : BitVec 32 := 4#32
  let v975 : BitVec 32 := Scalar.addi v974 c4_i32_349
  let v976 : Index := Scalar.indexCast v975
  let c1_350 : Index := 1#32
  ![v976.toNat, 1]
def k1_mult22 (v977 : BitVec 32) : BitVec 32 :=
  let c32512_i32_361 : BitVec 32 := 32512#32
  let c0_i32_360 : BitVec 32 := 0#32
  let c32_i32_351 : BitVec 32 := 32#32
  let v978 : BitVec 32 := Scalar.subi v977 c32_i32_351
  let c0_i32_353 : BitVec 32 := 0#32
  let v980 : BitVec 1 := Scalar.cmpi .sgt v978 c0_i32_353
  let v981 : BitVec 32 := Scalar.extui v980
  let c0_i32_354 : BitVec 32 := 0#32
  let v982 : BitVec 1 := Scalar.cmpi .slt v978 c0_i32_354
  let v983 : BitVec 32 := Scalar.extui v982
  let v984 : BitVec 32 := Scalar.subi v981 v983
  let c128_i32_352 : BitVec 32 := 128#32
  let c0_i32_355 : BitVec 32 := 0#32
  let v985 : BitVec 1 := Scalar.cmpi .sgt c128_i32_352 c0_i32_355
  let v986 : BitVec 32 := Scalar.extui v985
  let c0_i32_356 : BitVec 32 := 0#32
  let v987 : BitVec 1 := Scalar.cmpi .slt c128_i32_352 c0_i32_356
  let v988 : BitVec 32 := Scalar.extui v987
  let v989 : BitVec 32 := Scalar.subi v986 v988
  let v990 : BitVec 1 := Scalar.cmpi .ne v984 v989
  let v991 : BitVec 32 := Scalar.remsi v978 c128_i32_352
  let c0_i32_357 : BitVec 32 := 0#32
  let v992 : BitVec 1 := Scalar.cmpi .ne v991 c0_i32_357
  let v993 : BitVec 1 := Scalar.andi v990 v992
  let v979 : BitVec 32 := Scalar.divsi v978 c128_i32_352
  let c1_i32_358 : BitVec 32 := 1#32
  let v994 : BitVec 32 := Scalar.subi v979 c1_i32_358
  let v995 : BitVec 32 := Scalar.select v993 v994 v979
  let c128_i32_359 : BitVec 32 := 128#32
  let v996 : BitVec 32 := Scalar.muli v995 c128_i32_359
  let v997 : BitVec 32 := Scalar.maxsi c0_i32_360 v996
  let v998 : BitVec 32 := Scalar.minsi c32512_i32_361 v997
  v998

def k1_off44 (v977 : BitVec 32) : Fin 2 → Nat :=
  let c4_363 : Index := 4#32
  let c32512_i32_361 : BitVec 32 := 32512#32
  let c0_i32_360 : BitVec 32 := 0#32
  let c32_i32_351 : BitVec 32 := 32#32
  let v978 : BitVec 32 := Scalar.subi v977 c32_i32_351
  let c0_i32_353 : BitVec 32 := 0#32
  let v980 : BitVec 1 := Scalar.cmpi .sgt v978 c0_i32_353
  let v981 : BitVec 32 := Scalar.extui v980
  let c0_i32_354 : BitVec 32 := 0#32
  let v982 : BitVec 1 := Scalar.cmpi .slt v978 c0_i32_354
  let v983 : BitVec 32 := Scalar.extui v982
  let v984 : BitVec 32 := Scalar.subi v981 v983
  let c128_i32_352 : BitVec 32 := 128#32
  let c0_i32_355 : BitVec 32 := 0#32
  let v985 : BitVec 1 := Scalar.cmpi .sgt c128_i32_352 c0_i32_355
  let v986 : BitVec 32 := Scalar.extui v985
  let c0_i32_356 : BitVec 32 := 0#32
  let v987 : BitVec 1 := Scalar.cmpi .slt c128_i32_352 c0_i32_356
  let v988 : BitVec 32 := Scalar.extui v987
  let v989 : BitVec 32 := Scalar.subi v986 v988
  let v990 : BitVec 1 := Scalar.cmpi .ne v984 v989
  let v991 : BitVec 32 := Scalar.remsi v978 c128_i32_352
  let c0_i32_357 : BitVec 32 := 0#32
  let v992 : BitVec 1 := Scalar.cmpi .ne v991 c0_i32_357
  let v993 : BitVec 1 := Scalar.andi v990 v992
  let v979 : BitVec 32 := Scalar.divsi v978 c128_i32_352
  let c1_i32_358 : BitVec 32 := 1#32
  let v994 : BitVec 32 := Scalar.subi v979 c1_i32_358
  let v995 : BitVec 32 := Scalar.select v993 v994 v979
  let c128_i32_359 : BitVec 32 := 128#32
  let v996 : BitVec 32 := Scalar.muli v995 c128_i32_359
  let v997 : BitVec 32 := Scalar.maxsi c0_i32_360 v996
  let v998 : BitVec 32 := Scalar.minsi c32512_i32_361 v997
  let v999 : BitVec 32 := v998
  let v1014 : Index := Scalar.indexCast v999
  ![4, v1014.toNat]

def k1_chk22 (v977 : BitVec 32) : Prop :=
  (128 ∣ (k1_mult22 v977).toNat) ∧
  (∀ a, (k1_off44 v977) a + S1x256.size a ≤ S16x32768.size a)
theorem k1_mult22_dvd : ∀ (v977 : BitVec 32) (k1_hw22 : k1_chk22 v977), 128 ∣ (k1_mult22 v977).toNat := fun v977 k1_hw22 => k1_hw22.1
theorem k1_off44_inb : ∀ (v977 : BitVec 32) (k1_hw22 : k1_chk22 v977), ∀ a, (k1_off44 v977) a + S1x256.size a ≤ S16x32768.size a := fun v977 k1_hw22 => k1_hw22.2

def k1_off45 (i : grid1.Coords) : Fin 2 → Nat :=
  let arg0 : BitVec 32 := BitVec.ofNat 32 (i 0).val
  let c16_i32_365 : BitVec 32 := 16#32
  let v1020 : BitVec 32 := Scalar.muli arg0 c16_i32_365
  let c4_i32_366 : BitVec 32 := 4#32
  let v1021 : BitVec 32 := Scalar.addi v1020 c4_i32_366
  let v1022 : Index := Scalar.indexCast v1021
  let c2_367 : Index := 2#32
  ![v1022.toNat, 2]
def k1_mult23 (v1023 : BitVec 32) : BitVec 32 :=
  let c32512_i32_378 : BitVec 32 := 32512#32
  let c0_i32_377 : BitVec 32 := 0#32
  let c32_i32_368 : BitVec 32 := 32#32
  let v1024 : BitVec 32 := Scalar.subi v1023 c32_i32_368
  let c0_i32_370 : BitVec 32 := 0#32
  let v1026 : BitVec 1 := Scalar.cmpi .sgt v1024 c0_i32_370
  let v1027 : BitVec 32 := Scalar.extui v1026
  let c0_i32_371 : BitVec 32 := 0#32
  let v1028 : BitVec 1 := Scalar.cmpi .slt v1024 c0_i32_371
  let v1029 : BitVec 32 := Scalar.extui v1028
  let v1030 : BitVec 32 := Scalar.subi v1027 v1029
  let c128_i32_369 : BitVec 32 := 128#32
  let c0_i32_372 : BitVec 32 := 0#32
  let v1031 : BitVec 1 := Scalar.cmpi .sgt c128_i32_369 c0_i32_372
  let v1032 : BitVec 32 := Scalar.extui v1031
  let c0_i32_373 : BitVec 32 := 0#32
  let v1033 : BitVec 1 := Scalar.cmpi .slt c128_i32_369 c0_i32_373
  let v1034 : BitVec 32 := Scalar.extui v1033
  let v1035 : BitVec 32 := Scalar.subi v1032 v1034
  let v1036 : BitVec 1 := Scalar.cmpi .ne v1030 v1035
  let v1037 : BitVec 32 := Scalar.remsi v1024 c128_i32_369
  let c0_i32_374 : BitVec 32 := 0#32
  let v1038 : BitVec 1 := Scalar.cmpi .ne v1037 c0_i32_374
  let v1039 : BitVec 1 := Scalar.andi v1036 v1038
  let v1025 : BitVec 32 := Scalar.divsi v1024 c128_i32_369
  let c1_i32_375 : BitVec 32 := 1#32
  let v1040 : BitVec 32 := Scalar.subi v1025 c1_i32_375
  let v1041 : BitVec 32 := Scalar.select v1039 v1040 v1025
  let c128_i32_376 : BitVec 32 := 128#32
  let v1042 : BitVec 32 := Scalar.muli v1041 c128_i32_376
  let v1043 : BitVec 32 := Scalar.maxsi c0_i32_377 v1042
  let v1044 : BitVec 32 := Scalar.minsi c32512_i32_378 v1043
  v1044

def k1_off46 (v1023 : BitVec 32) : Fin 2 → Nat :=
  let c4_380 : Index := 4#32
  let c32512_i32_378 : BitVec 32 := 32512#32
  let c0_i32_377 : BitVec 32 := 0#32
  let c32_i32_368 : BitVec 32 := 32#32
  let v1024 : BitVec 32 := Scalar.subi v1023 c32_i32_368
  let c0_i32_370 : BitVec 32 := 0#32
  let v1026 : BitVec 1 := Scalar.cmpi .sgt v1024 c0_i32_370
  let v1027 : BitVec 32 := Scalar.extui v1026
  let c0_i32_371 : BitVec 32 := 0#32
  let v1028 : BitVec 1 := Scalar.cmpi .slt v1024 c0_i32_371
  let v1029 : BitVec 32 := Scalar.extui v1028
  let v1030 : BitVec 32 := Scalar.subi v1027 v1029
  let c128_i32_369 : BitVec 32 := 128#32
  let c0_i32_372 : BitVec 32 := 0#32
  let v1031 : BitVec 1 := Scalar.cmpi .sgt c128_i32_369 c0_i32_372
  let v1032 : BitVec 32 := Scalar.extui v1031
  let c0_i32_373 : BitVec 32 := 0#32
  let v1033 : BitVec 1 := Scalar.cmpi .slt c128_i32_369 c0_i32_373
  let v1034 : BitVec 32 := Scalar.extui v1033
  let v1035 : BitVec 32 := Scalar.subi v1032 v1034
  let v1036 : BitVec 1 := Scalar.cmpi .ne v1030 v1035
  let v1037 : BitVec 32 := Scalar.remsi v1024 c128_i32_369
  let c0_i32_374 : BitVec 32 := 0#32
  let v1038 : BitVec 1 := Scalar.cmpi .ne v1037 c0_i32_374
  let v1039 : BitVec 1 := Scalar.andi v1036 v1038
  let v1025 : BitVec 32 := Scalar.divsi v1024 c128_i32_369
  let c1_i32_375 : BitVec 32 := 1#32
  let v1040 : BitVec 32 := Scalar.subi v1025 c1_i32_375
  let v1041 : BitVec 32 := Scalar.select v1039 v1040 v1025
  let c128_i32_376 : BitVec 32 := 128#32
  let v1042 : BitVec 32 := Scalar.muli v1041 c128_i32_376
  let v1043 : BitVec 32 := Scalar.maxsi c0_i32_377 v1042
  let v1044 : BitVec 32 := Scalar.minsi c32512_i32_378 v1043
  let v1045 : BitVec 32 := v1044
  let v1060 : Index := Scalar.indexCast v1045
  ![4, v1060.toNat]

def k1_chk23 (v1023 : BitVec 32) : Prop :=
  (128 ∣ (k1_mult23 v1023).toNat) ∧
  (∀ a, (k1_off46 v1023) a + S1x256.size a ≤ S16x32768.size a)
theorem k1_mult23_dvd : ∀ (v1023 : BitVec 32) (k1_hw23 : k1_chk23 v1023), 128 ∣ (k1_mult23 v1023).toNat := fun v1023 k1_hw23 => k1_hw23.1
theorem k1_off46_inb : ∀ (v1023 : BitVec 32) (k1_hw23 : k1_chk23 v1023), ∀ a, (k1_off46 v1023) a + S1x256.size a ≤ S16x32768.size a := fun v1023 k1_hw23 => k1_hw23.2

def k1_off47 (i : grid1.Coords) : Fin 2 → Nat :=
  let arg0 : BitVec 32 := BitVec.ofNat 32 (i 0).val
  let c16_i32_382 : BitVec 32 := 16#32
  let v1066 : BitVec 32 := Scalar.muli arg0 c16_i32_382
  let c4_i32_383 : BitVec 32 := 4#32
  let v1067 : BitVec 32 := Scalar.addi v1066 c4_i32_383
  let v1068 : Index := Scalar.indexCast v1067
  let c3_384 : Index := 3#32
  ![v1068.toNat, 3]
def k1_mult24 (v1069 : BitVec 32) : BitVec 32 :=
  let c32512_i32_395 : BitVec 32 := 32512#32
  let c0_i32_394 : BitVec 32 := 0#32
  let c32_i32_385 : BitVec 32 := 32#32
  let v1070 : BitVec 32 := Scalar.subi v1069 c32_i32_385
  let c0_i32_387 : BitVec 32 := 0#32
  let v1072 : BitVec 1 := Scalar.cmpi .sgt v1070 c0_i32_387
  let v1073 : BitVec 32 := Scalar.extui v1072
  let c0_i32_388 : BitVec 32 := 0#32
  let v1074 : BitVec 1 := Scalar.cmpi .slt v1070 c0_i32_388
  let v1075 : BitVec 32 := Scalar.extui v1074
  let v1076 : BitVec 32 := Scalar.subi v1073 v1075
  let c128_i32_386 : BitVec 32 := 128#32
  let c0_i32_389 : BitVec 32 := 0#32
  let v1077 : BitVec 1 := Scalar.cmpi .sgt c128_i32_386 c0_i32_389
  let v1078 : BitVec 32 := Scalar.extui v1077
  let c0_i32_390 : BitVec 32 := 0#32
  let v1079 : BitVec 1 := Scalar.cmpi .slt c128_i32_386 c0_i32_390
  let v1080 : BitVec 32 := Scalar.extui v1079
  let v1081 : BitVec 32 := Scalar.subi v1078 v1080
  let v1082 : BitVec 1 := Scalar.cmpi .ne v1076 v1081
  let v1083 : BitVec 32 := Scalar.remsi v1070 c128_i32_386
  let c0_i32_391 : BitVec 32 := 0#32
  let v1084 : BitVec 1 := Scalar.cmpi .ne v1083 c0_i32_391
  let v1085 : BitVec 1 := Scalar.andi v1082 v1084
  let v1071 : BitVec 32 := Scalar.divsi v1070 c128_i32_386
  let c1_i32_392 : BitVec 32 := 1#32
  let v1086 : BitVec 32 := Scalar.subi v1071 c1_i32_392
  let v1087 : BitVec 32 := Scalar.select v1085 v1086 v1071
  let c128_i32_393 : BitVec 32 := 128#32
  let v1088 : BitVec 32 := Scalar.muli v1087 c128_i32_393
  let v1089 : BitVec 32 := Scalar.maxsi c0_i32_394 v1088
  let v1090 : BitVec 32 := Scalar.minsi c32512_i32_395 v1089
  v1090

def k1_off48 (v1069 : BitVec 32) : Fin 2 → Nat :=
  let c4_397 : Index := 4#32
  let c32512_i32_395 : BitVec 32 := 32512#32
  let c0_i32_394 : BitVec 32 := 0#32
  let c32_i32_385 : BitVec 32 := 32#32
  let v1070 : BitVec 32 := Scalar.subi v1069 c32_i32_385
  let c0_i32_387 : BitVec 32 := 0#32
  let v1072 : BitVec 1 := Scalar.cmpi .sgt v1070 c0_i32_387
  let v1073 : BitVec 32 := Scalar.extui v1072
  let c0_i32_388 : BitVec 32 := 0#32
  let v1074 : BitVec 1 := Scalar.cmpi .slt v1070 c0_i32_388
  let v1075 : BitVec 32 := Scalar.extui v1074
  let v1076 : BitVec 32 := Scalar.subi v1073 v1075
  let c128_i32_386 : BitVec 32 := 128#32
  let c0_i32_389 : BitVec 32 := 0#32
  let v1077 : BitVec 1 := Scalar.cmpi .sgt c128_i32_386 c0_i32_389
  let v1078 : BitVec 32 := Scalar.extui v1077
  let c0_i32_390 : BitVec 32 := 0#32
  let v1079 : BitVec 1 := Scalar.cmpi .slt c128_i32_386 c0_i32_390
  let v1080 : BitVec 32 := Scalar.extui v1079
  let v1081 : BitVec 32 := Scalar.subi v1078 v1080
  let v1082 : BitVec 1 := Scalar.cmpi .ne v1076 v1081
  let v1083 : BitVec 32 := Scalar.remsi v1070 c128_i32_386
  let c0_i32_391 : BitVec 32 := 0#32
  let v1084 : BitVec 1 := Scalar.cmpi .ne v1083 c0_i32_391
  let v1085 : BitVec 1 := Scalar.andi v1082 v1084
  let v1071 : BitVec 32 := Scalar.divsi v1070 c128_i32_386
  let c1_i32_392 : BitVec 32 := 1#32
  let v1086 : BitVec 32 := Scalar.subi v1071 c1_i32_392
  let v1087 : BitVec 32 := Scalar.select v1085 v1086 v1071
  let c128_i32_393 : BitVec 32 := 128#32
  let v1088 : BitVec 32 := Scalar.muli v1087 c128_i32_393
  let v1089 : BitVec 32 := Scalar.maxsi c0_i32_394 v1088
  let v1090 : BitVec 32 := Scalar.minsi c32512_i32_395 v1089
  let v1091 : BitVec 32 := v1090
  let v1106 : Index := Scalar.indexCast v1091
  ![4, v1106.toNat]

def k1_chk24 (v1069 : BitVec 32) : Prop :=
  (128 ∣ (k1_mult24 v1069).toNat) ∧
  (∀ a, (k1_off48 v1069) a + S1x256.size a ≤ S16x32768.size a)
theorem k1_mult24_dvd : ∀ (v1069 : BitVec 32) (k1_hw24 : k1_chk24 v1069), 128 ∣ (k1_mult24 v1069).toNat := fun v1069 k1_hw24 => k1_hw24.1
theorem k1_off48_inb : ∀ (v1069 : BitVec 32) (k1_hw24 : k1_chk24 v1069), ∀ a, (k1_off48 v1069) a + S1x256.size a ≤ S16x32768.size a := fun v1069 k1_hw24 => k1_hw24.2

def k1_off49 (i : grid1.Coords) : Fin 2 → Nat :=
  let arg0 : BitVec 32 := BitVec.ofNat 32 (i 0).val
  let c16_i32_399 : BitVec 32 := 16#32
  let v1112 : BitVec 32 := Scalar.muli arg0 c16_i32_399
  let c4_i32_400 : BitVec 32 := 4#32
  let v1113 : BitVec 32 := Scalar.addi v1112 c4_i32_400
  let v1114 : Index := Scalar.indexCast v1113
  let c4_401 : Index := 4#32
  ![v1114.toNat, 4]
def k1_mult25 (v1115 : BitVec 32) : BitVec 32 :=
  let c32512_i32_412 : BitVec 32 := 32512#32
  let c0_i32_411 : BitVec 32 := 0#32
  let c32_i32_402 : BitVec 32 := 32#32
  let v1116 : BitVec 32 := Scalar.subi v1115 c32_i32_402
  let c0_i32_404 : BitVec 32 := 0#32
  let v1118 : BitVec 1 := Scalar.cmpi .sgt v1116 c0_i32_404
  let v1119 : BitVec 32 := Scalar.extui v1118
  let c0_i32_405 : BitVec 32 := 0#32
  let v1120 : BitVec 1 := Scalar.cmpi .slt v1116 c0_i32_405
  let v1121 : BitVec 32 := Scalar.extui v1120
  let v1122 : BitVec 32 := Scalar.subi v1119 v1121
  let c128_i32_403 : BitVec 32 := 128#32
  let c0_i32_406 : BitVec 32 := 0#32
  let v1123 : BitVec 1 := Scalar.cmpi .sgt c128_i32_403 c0_i32_406
  let v1124 : BitVec 32 := Scalar.extui v1123
  let c0_i32_407 : BitVec 32 := 0#32
  let v1125 : BitVec 1 := Scalar.cmpi .slt c128_i32_403 c0_i32_407
  let v1126 : BitVec 32 := Scalar.extui v1125
  let v1127 : BitVec 32 := Scalar.subi v1124 v1126
  let v1128 : BitVec 1 := Scalar.cmpi .ne v1122 v1127
  let v1129 : BitVec 32 := Scalar.remsi v1116 c128_i32_403
  let c0_i32_408 : BitVec 32 := 0#32
  let v1130 : BitVec 1 := Scalar.cmpi .ne v1129 c0_i32_408
  let v1131 : BitVec 1 := Scalar.andi v1128 v1130
  let v1117 : BitVec 32 := Scalar.divsi v1116 c128_i32_403
  let c1_i32_409 : BitVec 32 := 1#32
  let v1132 : BitVec 32 := Scalar.subi v1117 c1_i32_409
  let v1133 : BitVec 32 := Scalar.select v1131 v1132 v1117
  let c128_i32_410 : BitVec 32 := 128#32
  let v1134 : BitVec 32 := Scalar.muli v1133 c128_i32_410
  let v1135 : BitVec 32 := Scalar.maxsi c0_i32_411 v1134
  let v1136 : BitVec 32 := Scalar.minsi c32512_i32_412 v1135
  v1136

def k1_off50 (v1115 : BitVec 32) : Fin 2 → Nat :=
  let c4_414 : Index := 4#32
  let c32512_i32_412 : BitVec 32 := 32512#32
  let c0_i32_411 : BitVec 32 := 0#32
  let c32_i32_402 : BitVec 32 := 32#32
  let v1116 : BitVec 32 := Scalar.subi v1115 c32_i32_402
  let c0_i32_404 : BitVec 32 := 0#32
  let v1118 : BitVec 1 := Scalar.cmpi .sgt v1116 c0_i32_404
  let v1119 : BitVec 32 := Scalar.extui v1118
  let c0_i32_405 : BitVec 32 := 0#32
  let v1120 : BitVec 1 := Scalar.cmpi .slt v1116 c0_i32_405
  let v1121 : BitVec 32 := Scalar.extui v1120
  let v1122 : BitVec 32 := Scalar.subi v1119 v1121
  let c128_i32_403 : BitVec 32 := 128#32
  let c0_i32_406 : BitVec 32 := 0#32
  let v1123 : BitVec 1 := Scalar.cmpi .sgt c128_i32_403 c0_i32_406
  let v1124 : BitVec 32 := Scalar.extui v1123
  let c0_i32_407 : BitVec 32 := 0#32
  let v1125 : BitVec 1 := Scalar.cmpi .slt c128_i32_403 c0_i32_407
  let v1126 : BitVec 32 := Scalar.extui v1125
  let v1127 : BitVec 32 := Scalar.subi v1124 v1126
  let v1128 : BitVec 1 := Scalar.cmpi .ne v1122 v1127
  let v1129 : BitVec 32 := Scalar.remsi v1116 c128_i32_403
  let c0_i32_408 : BitVec 32 := 0#32
  let v1130 : BitVec 1 := Scalar.cmpi .ne v1129 c0_i32_408
  let v1131 : BitVec 1 := Scalar.andi v1128 v1130
  let v1117 : BitVec 32 := Scalar.divsi v1116 c128_i32_403
  let c1_i32_409 : BitVec 32 := 1#32
  let v1132 : BitVec 32 := Scalar.subi v1117 c1_i32_409
  let v1133 : BitVec 32 := Scalar.select v1131 v1132 v1117
  let c128_i32_410 : BitVec 32 := 128#32
  let v1134 : BitVec 32 := Scalar.muli v1133 c128_i32_410
  let v1135 : BitVec 32 := Scalar.maxsi c0_i32_411 v1134
  let v1136 : BitVec 32 := Scalar.minsi c32512_i32_412 v1135
  let v1137 : BitVec 32 := v1136
  let v1152 : Index := Scalar.indexCast v1137
  ![4, v1152.toNat]

def k1_chk25 (v1115 : BitVec 32) : Prop :=
  (128 ∣ (k1_mult25 v1115).toNat) ∧
  (∀ a, (k1_off50 v1115) a + S1x256.size a ≤ S16x32768.size a)
theorem k1_mult25_dvd : ∀ (v1115 : BitVec 32) (k1_hw25 : k1_chk25 v1115), 128 ∣ (k1_mult25 v1115).toNat := fun v1115 k1_hw25 => k1_hw25.1
theorem k1_off50_inb : ∀ (v1115 : BitVec 32) (k1_hw25 : k1_chk25 v1115), ∀ a, (k1_off50 v1115) a + S1x256.size a ≤ S16x32768.size a := fun v1115 k1_hw25 => k1_hw25.2

def k1_off51 (i : grid1.Coords) : Fin 2 → Nat :=
  let arg0 : BitVec 32 := BitVec.ofNat 32 (i 0).val
  let c16_i32_416 : BitVec 32 := 16#32
  let v1158 : BitVec 32 := Scalar.muli arg0 c16_i32_416
  let c5_i32 : BitVec 32 := 5#32
  let v1159 : BitVec 32 := Scalar.addi v1158 c5_i32
  let v1160 : Index := Scalar.indexCast v1159
  let c0_417 : Index := 0#32
  ![v1160.toNat, 0]
def k1_mult26 (v1161 : BitVec 32) : BitVec 32 :=
  let c32512_i32_428 : BitVec 32 := 32512#32
  let c0_i32_427 : BitVec 32 := 0#32
  let c32_i32_418 : BitVec 32 := 32#32
  let v1162 : BitVec 32 := Scalar.subi v1161 c32_i32_418
  let c0_i32_420 : BitVec 32 := 0#32
  let v1164 : BitVec 1 := Scalar.cmpi .sgt v1162 c0_i32_420
  let v1165 : BitVec 32 := Scalar.extui v1164
  let c0_i32_421 : BitVec 32 := 0#32
  let v1166 : BitVec 1 := Scalar.cmpi .slt v1162 c0_i32_421
  let v1167 : BitVec 32 := Scalar.extui v1166
  let v1168 : BitVec 32 := Scalar.subi v1165 v1167
  let c128_i32_419 : BitVec 32 := 128#32
  let c0_i32_422 : BitVec 32 := 0#32
  let v1169 : BitVec 1 := Scalar.cmpi .sgt c128_i32_419 c0_i32_422
  let v1170 : BitVec 32 := Scalar.extui v1169
  let c0_i32_423 : BitVec 32 := 0#32
  let v1171 : BitVec 1 := Scalar.cmpi .slt c128_i32_419 c0_i32_423
  let v1172 : BitVec 32 := Scalar.extui v1171
  let v1173 : BitVec 32 := Scalar.subi v1170 v1172
  let v1174 : BitVec 1 := Scalar.cmpi .ne v1168 v1173
  let v1175 : BitVec 32 := Scalar.remsi v1162 c128_i32_419
  let c0_i32_424 : BitVec 32 := 0#32
  let v1176 : BitVec 1 := Scalar.cmpi .ne v1175 c0_i32_424
  let v1177 : BitVec 1 := Scalar.andi v1174 v1176
  let v1163 : BitVec 32 := Scalar.divsi v1162 c128_i32_419
  let c1_i32_425 : BitVec 32 := 1#32
  let v1178 : BitVec 32 := Scalar.subi v1163 c1_i32_425
  let v1179 : BitVec 32 := Scalar.select v1177 v1178 v1163
  let c128_i32_426 : BitVec 32 := 128#32
  let v1180 : BitVec 32 := Scalar.muli v1179 c128_i32_426
  let v1181 : BitVec 32 := Scalar.maxsi c0_i32_427 v1180
  let v1182 : BitVec 32 := Scalar.minsi c32512_i32_428 v1181
  v1182

def k1_off52 (v1161 : BitVec 32) : Fin 2 → Nat :=
  let c5 : Index := 5#32
  let c32512_i32_428 : BitVec 32 := 32512#32
  let c0_i32_427 : BitVec 32 := 0#32
  let c32_i32_418 : BitVec 32 := 32#32
  let v1162 : BitVec 32 := Scalar.subi v1161 c32_i32_418
  let c0_i32_420 : BitVec 32 := 0#32
  let v1164 : BitVec 1 := Scalar.cmpi .sgt v1162 c0_i32_420
  let v1165 : BitVec 32 := Scalar.extui v1164
  let c0_i32_421 : BitVec 32 := 0#32
  let v1166 : BitVec 1 := Scalar.cmpi .slt v1162 c0_i32_421
  let v1167 : BitVec 32 := Scalar.extui v1166
  let v1168 : BitVec 32 := Scalar.subi v1165 v1167
  let c128_i32_419 : BitVec 32 := 128#32
  let c0_i32_422 : BitVec 32 := 0#32
  let v1169 : BitVec 1 := Scalar.cmpi .sgt c128_i32_419 c0_i32_422
  let v1170 : BitVec 32 := Scalar.extui v1169
  let c0_i32_423 : BitVec 32 := 0#32
  let v1171 : BitVec 1 := Scalar.cmpi .slt c128_i32_419 c0_i32_423
  let v1172 : BitVec 32 := Scalar.extui v1171
  let v1173 : BitVec 32 := Scalar.subi v1170 v1172
  let v1174 : BitVec 1 := Scalar.cmpi .ne v1168 v1173
  let v1175 : BitVec 32 := Scalar.remsi v1162 c128_i32_419
  let c0_i32_424 : BitVec 32 := 0#32
  let v1176 : BitVec 1 := Scalar.cmpi .ne v1175 c0_i32_424
  let v1177 : BitVec 1 := Scalar.andi v1174 v1176
  let v1163 : BitVec 32 := Scalar.divsi v1162 c128_i32_419
  let c1_i32_425 : BitVec 32 := 1#32
  let v1178 : BitVec 32 := Scalar.subi v1163 c1_i32_425
  let v1179 : BitVec 32 := Scalar.select v1177 v1178 v1163
  let c128_i32_426 : BitVec 32 := 128#32
  let v1180 : BitVec 32 := Scalar.muli v1179 c128_i32_426
  let v1181 : BitVec 32 := Scalar.maxsi c0_i32_427 v1180
  let v1182 : BitVec 32 := Scalar.minsi c32512_i32_428 v1181
  let v1183 : BitVec 32 := v1182
  let v1198 : Index := Scalar.indexCast v1183
  ![5, v1198.toNat]

def k1_chk26 (v1161 : BitVec 32) : Prop :=
  (128 ∣ (k1_mult26 v1161).toNat) ∧
  (∀ a, (k1_off52 v1161) a + S1x256.size a ≤ S16x32768.size a)
theorem k1_mult26_dvd : ∀ (v1161 : BitVec 32) (k1_hw26 : k1_chk26 v1161), 128 ∣ (k1_mult26 v1161).toNat := fun v1161 k1_hw26 => k1_hw26.1
theorem k1_off52_inb : ∀ (v1161 : BitVec 32) (k1_hw26 : k1_chk26 v1161), ∀ a, (k1_off52 v1161) a + S1x256.size a ≤ S16x32768.size a := fun v1161 k1_hw26 => k1_hw26.2

def k1_off53 (i : grid1.Coords) : Fin 2 → Nat :=
  let arg0 : BitVec 32 := BitVec.ofNat 32 (i 0).val
  let c16_i32_431 : BitVec 32 := 16#32
  let v1204 : BitVec 32 := Scalar.muli arg0 c16_i32_431
  let c5_i32_432 : BitVec 32 := 5#32
  let v1205 : BitVec 32 := Scalar.addi v1204 c5_i32_432
  let v1206 : Index := Scalar.indexCast v1205
  let c1_433 : Index := 1#32
  ![v1206.toNat, 1]
def k1_mult27 (v1207 : BitVec 32) : BitVec 32 :=
  let c32512_i32_444 : BitVec 32 := 32512#32
  let c0_i32_443 : BitVec 32 := 0#32
  let c32_i32_434 : BitVec 32 := 32#32
  let v1208 : BitVec 32 := Scalar.subi v1207 c32_i32_434
  let c0_i32_436 : BitVec 32 := 0#32
  let v1210 : BitVec 1 := Scalar.cmpi .sgt v1208 c0_i32_436
  let v1211 : BitVec 32 := Scalar.extui v1210
  let c0_i32_437 : BitVec 32 := 0#32
  let v1212 : BitVec 1 := Scalar.cmpi .slt v1208 c0_i32_437
  let v1213 : BitVec 32 := Scalar.extui v1212
  let v1214 : BitVec 32 := Scalar.subi v1211 v1213
  let c128_i32_435 : BitVec 32 := 128#32
  let c0_i32_438 : BitVec 32 := 0#32
  let v1215 : BitVec 1 := Scalar.cmpi .sgt c128_i32_435 c0_i32_438
  let v1216 : BitVec 32 := Scalar.extui v1215
  let c0_i32_439 : BitVec 32 := 0#32
  let v1217 : BitVec 1 := Scalar.cmpi .slt c128_i32_435 c0_i32_439
  let v1218 : BitVec 32 := Scalar.extui v1217
  let v1219 : BitVec 32 := Scalar.subi v1216 v1218
  let v1220 : BitVec 1 := Scalar.cmpi .ne v1214 v1219
  let v1221 : BitVec 32 := Scalar.remsi v1208 c128_i32_435
  let c0_i32_440 : BitVec 32 := 0#32
  let v1222 : BitVec 1 := Scalar.cmpi .ne v1221 c0_i32_440
  let v1223 : BitVec 1 := Scalar.andi v1220 v1222
  let v1209 : BitVec 32 := Scalar.divsi v1208 c128_i32_435
  let c1_i32_441 : BitVec 32 := 1#32
  let v1224 : BitVec 32 := Scalar.subi v1209 c1_i32_441
  let v1225 : BitVec 32 := Scalar.select v1223 v1224 v1209
  let c128_i32_442 : BitVec 32 := 128#32
  let v1226 : BitVec 32 := Scalar.muli v1225 c128_i32_442
  let v1227 : BitVec 32 := Scalar.maxsi c0_i32_443 v1226
  let v1228 : BitVec 32 := Scalar.minsi c32512_i32_444 v1227
  v1228

def k1_off54 (v1207 : BitVec 32) : Fin 2 → Nat :=
  let c5_446 : Index := 5#32
  let c32512_i32_444 : BitVec 32 := 32512#32
  let c0_i32_443 : BitVec 32 := 0#32
  let c32_i32_434 : BitVec 32 := 32#32
  let v1208 : BitVec 32 := Scalar.subi v1207 c32_i32_434
  let c0_i32_436 : BitVec 32 := 0#32
  let v1210 : BitVec 1 := Scalar.cmpi .sgt v1208 c0_i32_436
  let v1211 : BitVec 32 := Scalar.extui v1210
  let c0_i32_437 : BitVec 32 := 0#32
  let v1212 : BitVec 1 := Scalar.cmpi .slt v1208 c0_i32_437
  let v1213 : BitVec 32 := Scalar.extui v1212
  let v1214 : BitVec 32 := Scalar.subi v1211 v1213
  let c128_i32_435 : BitVec 32 := 128#32
  let c0_i32_438 : BitVec 32 := 0#32
  let v1215 : BitVec 1 := Scalar.cmpi .sgt c128_i32_435 c0_i32_438
  let v1216 : BitVec 32 := Scalar.extui v1215
  let c0_i32_439 : BitVec 32 := 0#32
  let v1217 : BitVec 1 := Scalar.cmpi .slt c128_i32_435 c0_i32_439
  let v1218 : BitVec 32 := Scalar.extui v1217
  let v1219 : BitVec 32 := Scalar.subi v1216 v1218
  let v1220 : BitVec 1 := Scalar.cmpi .ne v1214 v1219
  let v1221 : BitVec 32 := Scalar.remsi v1208 c128_i32_435
  let c0_i32_440 : BitVec 32 := 0#32
  let v1222 : BitVec 1 := Scalar.cmpi .ne v1221 c0_i32_440
  let v1223 : BitVec 1 := Scalar.andi v1220 v1222
  let v1209 : BitVec 32 := Scalar.divsi v1208 c128_i32_435
  let c1_i32_441 : BitVec 32 := 1#32
  let v1224 : BitVec 32 := Scalar.subi v1209 c1_i32_441
  let v1225 : BitVec 32 := Scalar.select v1223 v1224 v1209
  let c128_i32_442 : BitVec 32 := 128#32
  let v1226 : BitVec 32 := Scalar.muli v1225 c128_i32_442
  let v1227 : BitVec 32 := Scalar.maxsi c0_i32_443 v1226
  let v1228 : BitVec 32 := Scalar.minsi c32512_i32_444 v1227
  let v1229 : BitVec 32 := v1228
  let v1244 : Index := Scalar.indexCast v1229
  ![5, v1244.toNat]

def k1_chk27 (v1207 : BitVec 32) : Prop :=
  (128 ∣ (k1_mult27 v1207).toNat) ∧
  (∀ a, (k1_off54 v1207) a + S1x256.size a ≤ S16x32768.size a)
theorem k1_mult27_dvd : ∀ (v1207 : BitVec 32) (k1_hw27 : k1_chk27 v1207), 128 ∣ (k1_mult27 v1207).toNat := fun v1207 k1_hw27 => k1_hw27.1
theorem k1_off54_inb : ∀ (v1207 : BitVec 32) (k1_hw27 : k1_chk27 v1207), ∀ a, (k1_off54 v1207) a + S1x256.size a ≤ S16x32768.size a := fun v1207 k1_hw27 => k1_hw27.2

def k1_off55 (i : grid1.Coords) : Fin 2 → Nat :=
  let arg0 : BitVec 32 := BitVec.ofNat 32 (i 0).val
  let c16_i32_448 : BitVec 32 := 16#32
  let v1250 : BitVec 32 := Scalar.muli arg0 c16_i32_448
  let c5_i32_449 : BitVec 32 := 5#32
  let v1251 : BitVec 32 := Scalar.addi v1250 c5_i32_449
  let v1252 : Index := Scalar.indexCast v1251
  let c2_450 : Index := 2#32
  ![v1252.toNat, 2]
def k1_mult28 (v1253 : BitVec 32) : BitVec 32 :=
  let c32512_i32_461 : BitVec 32 := 32512#32
  let c0_i32_460 : BitVec 32 := 0#32
  let c32_i32_451 : BitVec 32 := 32#32
  let v1254 : BitVec 32 := Scalar.subi v1253 c32_i32_451
  let c0_i32_453 : BitVec 32 := 0#32
  let v1256 : BitVec 1 := Scalar.cmpi .sgt v1254 c0_i32_453
  let v1257 : BitVec 32 := Scalar.extui v1256
  let c0_i32_454 : BitVec 32 := 0#32
  let v1258 : BitVec 1 := Scalar.cmpi .slt v1254 c0_i32_454
  let v1259 : BitVec 32 := Scalar.extui v1258
  let v1260 : BitVec 32 := Scalar.subi v1257 v1259
  let c128_i32_452 : BitVec 32 := 128#32
  let c0_i32_455 : BitVec 32 := 0#32
  let v1261 : BitVec 1 := Scalar.cmpi .sgt c128_i32_452 c0_i32_455
  let v1262 : BitVec 32 := Scalar.extui v1261
  let c0_i32_456 : BitVec 32 := 0#32
  let v1263 : BitVec 1 := Scalar.cmpi .slt c128_i32_452 c0_i32_456
  let v1264 : BitVec 32 := Scalar.extui v1263
  let v1265 : BitVec 32 := Scalar.subi v1262 v1264
  let v1266 : BitVec 1 := Scalar.cmpi .ne v1260 v1265
  let v1267 : BitVec 32 := Scalar.remsi v1254 c128_i32_452
  let c0_i32_457 : BitVec 32 := 0#32
  let v1268 : BitVec 1 := Scalar.cmpi .ne v1267 c0_i32_457
  let v1269 : BitVec 1 := Scalar.andi v1266 v1268
  let v1255 : BitVec 32 := Scalar.divsi v1254 c128_i32_452
  let c1_i32_458 : BitVec 32 := 1#32
  let v1270 : BitVec 32 := Scalar.subi v1255 c1_i32_458
  let v1271 : BitVec 32 := Scalar.select v1269 v1270 v1255
  let c128_i32_459 : BitVec 32 := 128#32
  let v1272 : BitVec 32 := Scalar.muli v1271 c128_i32_459
  let v1273 : BitVec 32 := Scalar.maxsi c0_i32_460 v1272
  let v1274 : BitVec 32 := Scalar.minsi c32512_i32_461 v1273
  v1274

def k1_off56 (v1253 : BitVec 32) : Fin 2 → Nat :=
  let c5_463 : Index := 5#32
  let c32512_i32_461 : BitVec 32 := 32512#32
  let c0_i32_460 : BitVec 32 := 0#32
  let c32_i32_451 : BitVec 32 := 32#32
  let v1254 : BitVec 32 := Scalar.subi v1253 c32_i32_451
  let c0_i32_453 : BitVec 32 := 0#32
  let v1256 : BitVec 1 := Scalar.cmpi .sgt v1254 c0_i32_453
  let v1257 : BitVec 32 := Scalar.extui v1256
  let c0_i32_454 : BitVec 32 := 0#32
  let v1258 : BitVec 1 := Scalar.cmpi .slt v1254 c0_i32_454
  let v1259 : BitVec 32 := Scalar.extui v1258
  let v1260 : BitVec 32 := Scalar.subi v1257 v1259
  let c128_i32_452 : BitVec 32 := 128#32
  let c0_i32_455 : BitVec 32 := 0#32
  let v1261 : BitVec 1 := Scalar.cmpi .sgt c128_i32_452 c0_i32_455
  let v1262 : BitVec 32 := Scalar.extui v1261
  let c0_i32_456 : BitVec 32 := 0#32
  let v1263 : BitVec 1 := Scalar.cmpi .slt c128_i32_452 c0_i32_456
  let v1264 : BitVec 32 := Scalar.extui v1263
  let v1265 : BitVec 32 := Scalar.subi v1262 v1264
  let v1266 : BitVec 1 := Scalar.cmpi .ne v1260 v1265
  let v1267 : BitVec 32 := Scalar.remsi v1254 c128_i32_452
  let c0_i32_457 : BitVec 32 := 0#32
  let v1268 : BitVec 1 := Scalar.cmpi .ne v1267 c0_i32_457
  let v1269 : BitVec 1 := Scalar.andi v1266 v1268
  let v1255 : BitVec 32 := Scalar.divsi v1254 c128_i32_452
  let c1_i32_458 : BitVec 32 := 1#32
  let v1270 : BitVec 32 := Scalar.subi v1255 c1_i32_458
  let v1271 : BitVec 32 := Scalar.select v1269 v1270 v1255
  let c128_i32_459 : BitVec 32 := 128#32
  let v1272 : BitVec 32 := Scalar.muli v1271 c128_i32_459
  let v1273 : BitVec 32 := Scalar.maxsi c0_i32_460 v1272
  let v1274 : BitVec 32 := Scalar.minsi c32512_i32_461 v1273
  let v1275 : BitVec 32 := v1274
  let v1290 : Index := Scalar.indexCast v1275
  ![5, v1290.toNat]

def k1_chk28 (v1253 : BitVec 32) : Prop :=
  (128 ∣ (k1_mult28 v1253).toNat) ∧
  (∀ a, (k1_off56 v1253) a + S1x256.size a ≤ S16x32768.size a)
theorem k1_mult28_dvd : ∀ (v1253 : BitVec 32) (k1_hw28 : k1_chk28 v1253), 128 ∣ (k1_mult28 v1253).toNat := fun v1253 k1_hw28 => k1_hw28.1
theorem k1_off56_inb : ∀ (v1253 : BitVec 32) (k1_hw28 : k1_chk28 v1253), ∀ a, (k1_off56 v1253) a + S1x256.size a ≤ S16x32768.size a := fun v1253 k1_hw28 => k1_hw28.2

def k1_off57 (i : grid1.Coords) : Fin 2 → Nat :=
  let arg0 : BitVec 32 := BitVec.ofNat 32 (i 0).val
  let c16_i32_465 : BitVec 32 := 16#32
  let v1296 : BitVec 32 := Scalar.muli arg0 c16_i32_465
  let c5_i32_466 : BitVec 32 := 5#32
  let v1297 : BitVec 32 := Scalar.addi v1296 c5_i32_466
  let v1298 : Index := Scalar.indexCast v1297
  let c3_467 : Index := 3#32
  ![v1298.toNat, 3]
def k1_mult29 (v1299 : BitVec 32) : BitVec 32 :=
  let c32512_i32_478 : BitVec 32 := 32512#32
  let c0_i32_477 : BitVec 32 := 0#32
  let c32_i32_468 : BitVec 32 := 32#32
  let v1300 : BitVec 32 := Scalar.subi v1299 c32_i32_468
  let c0_i32_470 : BitVec 32 := 0#32
  let v1302 : BitVec 1 := Scalar.cmpi .sgt v1300 c0_i32_470
  let v1303 : BitVec 32 := Scalar.extui v1302
  let c0_i32_471 : BitVec 32 := 0#32
  let v1304 : BitVec 1 := Scalar.cmpi .slt v1300 c0_i32_471
  let v1305 : BitVec 32 := Scalar.extui v1304
  let v1306 : BitVec 32 := Scalar.subi v1303 v1305
  let c128_i32_469 : BitVec 32 := 128#32
  let c0_i32_472 : BitVec 32 := 0#32
  let v1307 : BitVec 1 := Scalar.cmpi .sgt c128_i32_469 c0_i32_472
  let v1308 : BitVec 32 := Scalar.extui v1307
  let c0_i32_473 : BitVec 32 := 0#32
  let v1309 : BitVec 1 := Scalar.cmpi .slt c128_i32_469 c0_i32_473
  let v1310 : BitVec 32 := Scalar.extui v1309
  let v1311 : BitVec 32 := Scalar.subi v1308 v1310
  let v1312 : BitVec 1 := Scalar.cmpi .ne v1306 v1311
  let v1313 : BitVec 32 := Scalar.remsi v1300 c128_i32_469
  let c0_i32_474 : BitVec 32 := 0#32
  let v1314 : BitVec 1 := Scalar.cmpi .ne v1313 c0_i32_474
  let v1315 : BitVec 1 := Scalar.andi v1312 v1314
  let v1301 : BitVec 32 := Scalar.divsi v1300 c128_i32_469
  let c1_i32_475 : BitVec 32 := 1#32
  let v1316 : BitVec 32 := Scalar.subi v1301 c1_i32_475
  let v1317 : BitVec 32 := Scalar.select v1315 v1316 v1301
  let c128_i32_476 : BitVec 32 := 128#32
  let v1318 : BitVec 32 := Scalar.muli v1317 c128_i32_476
  let v1319 : BitVec 32 := Scalar.maxsi c0_i32_477 v1318
  let v1320 : BitVec 32 := Scalar.minsi c32512_i32_478 v1319
  v1320

def k1_off58 (v1299 : BitVec 32) : Fin 2 → Nat :=
  let c5_480 : Index := 5#32
  let c32512_i32_478 : BitVec 32 := 32512#32
  let c0_i32_477 : BitVec 32 := 0#32
  let c32_i32_468 : BitVec 32 := 32#32
  let v1300 : BitVec 32 := Scalar.subi v1299 c32_i32_468
  let c0_i32_470 : BitVec 32 := 0#32
  let v1302 : BitVec 1 := Scalar.cmpi .sgt v1300 c0_i32_470
  let v1303 : BitVec 32 := Scalar.extui v1302
  let c0_i32_471 : BitVec 32 := 0#32
  let v1304 : BitVec 1 := Scalar.cmpi .slt v1300 c0_i32_471
  let v1305 : BitVec 32 := Scalar.extui v1304
  let v1306 : BitVec 32 := Scalar.subi v1303 v1305
  let c128_i32_469 : BitVec 32 := 128#32
  let c0_i32_472 : BitVec 32 := 0#32
  let v1307 : BitVec 1 := Scalar.cmpi .sgt c128_i32_469 c0_i32_472
  let v1308 : BitVec 32 := Scalar.extui v1307
  let c0_i32_473 : BitVec 32 := 0#32
  let v1309 : BitVec 1 := Scalar.cmpi .slt c128_i32_469 c0_i32_473
  let v1310 : BitVec 32 := Scalar.extui v1309
  let v1311 : BitVec 32 := Scalar.subi v1308 v1310
  let v1312 : BitVec 1 := Scalar.cmpi .ne v1306 v1311
  let v1313 : BitVec 32 := Scalar.remsi v1300 c128_i32_469
  let c0_i32_474 : BitVec 32 := 0#32
  let v1314 : BitVec 1 := Scalar.cmpi .ne v1313 c0_i32_474
  let v1315 : BitVec 1 := Scalar.andi v1312 v1314
  let v1301 : BitVec 32 := Scalar.divsi v1300 c128_i32_469
  let c1_i32_475 : BitVec 32 := 1#32
  let v1316 : BitVec 32 := Scalar.subi v1301 c1_i32_475
  let v1317 : BitVec 32 := Scalar.select v1315 v1316 v1301
  let c128_i32_476 : BitVec 32 := 128#32
  let v1318 : BitVec 32 := Scalar.muli v1317 c128_i32_476
  let v1319 : BitVec 32 := Scalar.maxsi c0_i32_477 v1318
  let v1320 : BitVec 32 := Scalar.minsi c32512_i32_478 v1319
  let v1321 : BitVec 32 := v1320
  let v1336 : Index := Scalar.indexCast v1321
  ![5, v1336.toNat]

def k1_chk29 (v1299 : BitVec 32) : Prop :=
  (128 ∣ (k1_mult29 v1299).toNat) ∧
  (∀ a, (k1_off58 v1299) a + S1x256.size a ≤ S16x32768.size a)
theorem k1_mult29_dvd : ∀ (v1299 : BitVec 32) (k1_hw29 : k1_chk29 v1299), 128 ∣ (k1_mult29 v1299).toNat := fun v1299 k1_hw29 => k1_hw29.1
theorem k1_off58_inb : ∀ (v1299 : BitVec 32) (k1_hw29 : k1_chk29 v1299), ∀ a, (k1_off58 v1299) a + S1x256.size a ≤ S16x32768.size a := fun v1299 k1_hw29 => k1_hw29.2

def k1_off59 (i : grid1.Coords) : Fin 2 → Nat :=
  let arg0 : BitVec 32 := BitVec.ofNat 32 (i 0).val
  let c16_i32_482 : BitVec 32 := 16#32
  let v1342 : BitVec 32 := Scalar.muli arg0 c16_i32_482
  let c5_i32_483 : BitVec 32 := 5#32
  let v1343 : BitVec 32 := Scalar.addi v1342 c5_i32_483
  let v1344 : Index := Scalar.indexCast v1343
  let c4_484 : Index := 4#32
  ![v1344.toNat, 4]
def k1_mult30 (v1345 : BitVec 32) : BitVec 32 :=
  let c32512_i32_495 : BitVec 32 := 32512#32
  let c0_i32_494 : BitVec 32 := 0#32
  let c32_i32_485 : BitVec 32 := 32#32
  let v1346 : BitVec 32 := Scalar.subi v1345 c32_i32_485
  let c0_i32_487 : BitVec 32 := 0#32
  let v1348 : BitVec 1 := Scalar.cmpi .sgt v1346 c0_i32_487
  let v1349 : BitVec 32 := Scalar.extui v1348
  let c0_i32_488 : BitVec 32 := 0#32
  let v1350 : BitVec 1 := Scalar.cmpi .slt v1346 c0_i32_488
  let v1351 : BitVec 32 := Scalar.extui v1350
  let v1352 : BitVec 32 := Scalar.subi v1349 v1351
  let c128_i32_486 : BitVec 32 := 128#32
  let c0_i32_489 : BitVec 32 := 0#32
  let v1353 : BitVec 1 := Scalar.cmpi .sgt c128_i32_486 c0_i32_489
  let v1354 : BitVec 32 := Scalar.extui v1353
  let c0_i32_490 : BitVec 32 := 0#32
  let v1355 : BitVec 1 := Scalar.cmpi .slt c128_i32_486 c0_i32_490
  let v1356 : BitVec 32 := Scalar.extui v1355
  let v1357 : BitVec 32 := Scalar.subi v1354 v1356
  let v1358 : BitVec 1 := Scalar.cmpi .ne v1352 v1357
  let v1359 : BitVec 32 := Scalar.remsi v1346 c128_i32_486
  let c0_i32_491 : BitVec 32 := 0#32
  let v1360 : BitVec 1 := Scalar.cmpi .ne v1359 c0_i32_491
  let v1361 : BitVec 1 := Scalar.andi v1358 v1360
  let v1347 : BitVec 32 := Scalar.divsi v1346 c128_i32_486
  let c1_i32_492 : BitVec 32 := 1#32
  let v1362 : BitVec 32 := Scalar.subi v1347 c1_i32_492
  let v1363 : BitVec 32 := Scalar.select v1361 v1362 v1347
  let c128_i32_493 : BitVec 32 := 128#32
  let v1364 : BitVec 32 := Scalar.muli v1363 c128_i32_493
  let v1365 : BitVec 32 := Scalar.maxsi c0_i32_494 v1364
  let v1366 : BitVec 32 := Scalar.minsi c32512_i32_495 v1365
  v1366

def k1_off60 (v1345 : BitVec 32) : Fin 2 → Nat :=
  let c5_497 : Index := 5#32
  let c32512_i32_495 : BitVec 32 := 32512#32
  let c0_i32_494 : BitVec 32 := 0#32
  let c32_i32_485 : BitVec 32 := 32#32
  let v1346 : BitVec 32 := Scalar.subi v1345 c32_i32_485
  let c0_i32_487 : BitVec 32 := 0#32
  let v1348 : BitVec 1 := Scalar.cmpi .sgt v1346 c0_i32_487
  let v1349 : BitVec 32 := Scalar.extui v1348
  let c0_i32_488 : BitVec 32 := 0#32
  let v1350 : BitVec 1 := Scalar.cmpi .slt v1346 c0_i32_488
  let v1351 : BitVec 32 := Scalar.extui v1350
  let v1352 : BitVec 32 := Scalar.subi v1349 v1351
  let c128_i32_486 : BitVec 32 := 128#32
  let c0_i32_489 : BitVec 32 := 0#32
  let v1353 : BitVec 1 := Scalar.cmpi .sgt c128_i32_486 c0_i32_489
  let v1354 : BitVec 32 := Scalar.extui v1353
  let c0_i32_490 : BitVec 32 := 0#32
  let v1355 : BitVec 1 := Scalar.cmpi .slt c128_i32_486 c0_i32_490
  let v1356 : BitVec 32 := Scalar.extui v1355
  let v1357 : BitVec 32 := Scalar.subi v1354 v1356
  let v1358 : BitVec 1 := Scalar.cmpi .ne v1352 v1357
  let v1359 : BitVec 32 := Scalar.remsi v1346 c128_i32_486
  let c0_i32_491 : BitVec 32 := 0#32
  let v1360 : BitVec 1 := Scalar.cmpi .ne v1359 c0_i32_491
  let v1361 : BitVec 1 := Scalar.andi v1358 v1360
  let v1347 : BitVec 32 := Scalar.divsi v1346 c128_i32_486
  let c1_i32_492 : BitVec 32 := 1#32
  let v1362 : BitVec 32 := Scalar.subi v1347 c1_i32_492
  let v1363 : BitVec 32 := Scalar.select v1361 v1362 v1347
  let c128_i32_493 : BitVec 32 := 128#32
  let v1364 : BitVec 32 := Scalar.muli v1363 c128_i32_493
  let v1365 : BitVec 32 := Scalar.maxsi c0_i32_494 v1364
  let v1366 : BitVec 32 := Scalar.minsi c32512_i32_495 v1365
  let v1367 : BitVec 32 := v1366
  let v1382 : Index := Scalar.indexCast v1367
  ![5, v1382.toNat]

def k1_chk30 (v1345 : BitVec 32) : Prop :=
  (128 ∣ (k1_mult30 v1345).toNat) ∧
  (∀ a, (k1_off60 v1345) a + S1x256.size a ≤ S16x32768.size a)
theorem k1_mult30_dvd : ∀ (v1345 : BitVec 32) (k1_hw30 : k1_chk30 v1345), 128 ∣ (k1_mult30 v1345).toNat := fun v1345 k1_hw30 => k1_hw30.1
theorem k1_off60_inb : ∀ (v1345 : BitVec 32) (k1_hw30 : k1_chk30 v1345), ∀ a, (k1_off60 v1345) a + S1x256.size a ≤ S16x32768.size a := fun v1345 k1_hw30 => k1_hw30.2

def k1_off61 (i : grid1.Coords) : Fin 2 → Nat :=
  let arg0 : BitVec 32 := BitVec.ofNat 32 (i 0).val
  let c16_i32_499 : BitVec 32 := 16#32
  let v1388 : BitVec 32 := Scalar.muli arg0 c16_i32_499
  let c6_i32 : BitVec 32 := 6#32
  let v1389 : BitVec 32 := Scalar.addi v1388 c6_i32
  let v1390 : Index := Scalar.indexCast v1389
  let c0_500 : Index := 0#32
  ![v1390.toNat, 0]
def k1_mult31 (v1391 : BitVec 32) : BitVec 32 :=
  let c32512_i32_511 : BitVec 32 := 32512#32
  let c0_i32_510 : BitVec 32 := 0#32
  let c32_i32_501 : BitVec 32 := 32#32
  let v1392 : BitVec 32 := Scalar.subi v1391 c32_i32_501
  let c0_i32_503 : BitVec 32 := 0#32
  let v1394 : BitVec 1 := Scalar.cmpi .sgt v1392 c0_i32_503
  let v1395 : BitVec 32 := Scalar.extui v1394
  let c0_i32_504 : BitVec 32 := 0#32
  let v1396 : BitVec 1 := Scalar.cmpi .slt v1392 c0_i32_504
  let v1397 : BitVec 32 := Scalar.extui v1396
  let v1398 : BitVec 32 := Scalar.subi v1395 v1397
  let c128_i32_502 : BitVec 32 := 128#32
  let c0_i32_505 : BitVec 32 := 0#32
  let v1399 : BitVec 1 := Scalar.cmpi .sgt c128_i32_502 c0_i32_505
  let v1400 : BitVec 32 := Scalar.extui v1399
  let c0_i32_506 : BitVec 32 := 0#32
  let v1401 : BitVec 1 := Scalar.cmpi .slt c128_i32_502 c0_i32_506
  let v1402 : BitVec 32 := Scalar.extui v1401
  let v1403 : BitVec 32 := Scalar.subi v1400 v1402
  let v1404 : BitVec 1 := Scalar.cmpi .ne v1398 v1403
  let v1405 : BitVec 32 := Scalar.remsi v1392 c128_i32_502
  let c0_i32_507 : BitVec 32 := 0#32
  let v1406 : BitVec 1 := Scalar.cmpi .ne v1405 c0_i32_507
  let v1407 : BitVec 1 := Scalar.andi v1404 v1406
  let v1393 : BitVec 32 := Scalar.divsi v1392 c128_i32_502
  let c1_i32_508 : BitVec 32 := 1#32
  let v1408 : BitVec 32 := Scalar.subi v1393 c1_i32_508
  let v1409 : BitVec 32 := Scalar.select v1407 v1408 v1393
  let c128_i32_509 : BitVec 32 := 128#32
  let v1410 : BitVec 32 := Scalar.muli v1409 c128_i32_509
  let v1411 : BitVec 32 := Scalar.maxsi c0_i32_510 v1410
  let v1412 : BitVec 32 := Scalar.minsi c32512_i32_511 v1411
  v1412

def k1_off62 (v1391 : BitVec 32) : Fin 2 → Nat :=
  let c6 : Index := 6#32
  let c32512_i32_511 : BitVec 32 := 32512#32
  let c0_i32_510 : BitVec 32 := 0#32
  let c32_i32_501 : BitVec 32 := 32#32
  let v1392 : BitVec 32 := Scalar.subi v1391 c32_i32_501
  let c0_i32_503 : BitVec 32 := 0#32
  let v1394 : BitVec 1 := Scalar.cmpi .sgt v1392 c0_i32_503
  let v1395 : BitVec 32 := Scalar.extui v1394
  let c0_i32_504 : BitVec 32 := 0#32
  let v1396 : BitVec 1 := Scalar.cmpi .slt v1392 c0_i32_504
  let v1397 : BitVec 32 := Scalar.extui v1396
  let v1398 : BitVec 32 := Scalar.subi v1395 v1397
  let c128_i32_502 : BitVec 32 := 128#32
  let c0_i32_505 : BitVec 32 := 0#32
  let v1399 : BitVec 1 := Scalar.cmpi .sgt c128_i32_502 c0_i32_505
  let v1400 : BitVec 32 := Scalar.extui v1399
  let c0_i32_506 : BitVec 32 := 0#32
  let v1401 : BitVec 1 := Scalar.cmpi .slt c128_i32_502 c0_i32_506
  let v1402 : BitVec 32 := Scalar.extui v1401
  let v1403 : BitVec 32 := Scalar.subi v1400 v1402
  let v1404 : BitVec 1 := Scalar.cmpi .ne v1398 v1403
  let v1405 : BitVec 32 := Scalar.remsi v1392 c128_i32_502
  let c0_i32_507 : BitVec 32 := 0#32
  let v1406 : BitVec 1 := Scalar.cmpi .ne v1405 c0_i32_507
  let v1407 : BitVec 1 := Scalar.andi v1404 v1406
  let v1393 : BitVec 32 := Scalar.divsi v1392 c128_i32_502
  let c1_i32_508 : BitVec 32 := 1#32
  let v1408 : BitVec 32 := Scalar.subi v1393 c1_i32_508
  let v1409 : BitVec 32 := Scalar.select v1407 v1408 v1393
  let c128_i32_509 : BitVec 32 := 128#32
  let v1410 : BitVec 32 := Scalar.muli v1409 c128_i32_509
  let v1411 : BitVec 32 := Scalar.maxsi c0_i32_510 v1410
  let v1412 : BitVec 32 := Scalar.minsi c32512_i32_511 v1411
  let v1413 : BitVec 32 := v1412
  let v1428 : Index := Scalar.indexCast v1413
  ![6, v1428.toNat]

def k1_chk31 (v1391 : BitVec 32) : Prop :=
  (128 ∣ (k1_mult31 v1391).toNat) ∧
  (∀ a, (k1_off62 v1391) a + S1x256.size a ≤ S16x32768.size a)
theorem k1_mult31_dvd : ∀ (v1391 : BitVec 32) (k1_hw31 : k1_chk31 v1391), 128 ∣ (k1_mult31 v1391).toNat := fun v1391 k1_hw31 => k1_hw31.1
theorem k1_off62_inb : ∀ (v1391 : BitVec 32) (k1_hw31 : k1_chk31 v1391), ∀ a, (k1_off62 v1391) a + S1x256.size a ≤ S16x32768.size a := fun v1391 k1_hw31 => k1_hw31.2

def k1_off63 (i : grid1.Coords) : Fin 2 → Nat :=
  let arg0 : BitVec 32 := BitVec.ofNat 32 (i 0).val
  let c16_i32_514 : BitVec 32 := 16#32
  let v1434 : BitVec 32 := Scalar.muli arg0 c16_i32_514
  let c6_i32_515 : BitVec 32 := 6#32
  let v1435 : BitVec 32 := Scalar.addi v1434 c6_i32_515
  let v1436 : Index := Scalar.indexCast v1435
  let c1_516 : Index := 1#32
  ![v1436.toNat, 1]
def k1_mult32 (v1437 : BitVec 32) : BitVec 32 :=
  let c32512_i32_527 : BitVec 32 := 32512#32
  let c0_i32_526 : BitVec 32 := 0#32
  let c32_i32_517 : BitVec 32 := 32#32
  let v1438 : BitVec 32 := Scalar.subi v1437 c32_i32_517
  let c0_i32_519 : BitVec 32 := 0#32
  let v1440 : BitVec 1 := Scalar.cmpi .sgt v1438 c0_i32_519
  let v1441 : BitVec 32 := Scalar.extui v1440
  let c0_i32_520 : BitVec 32 := 0#32
  let v1442 : BitVec 1 := Scalar.cmpi .slt v1438 c0_i32_520
  let v1443 : BitVec 32 := Scalar.extui v1442
  let v1444 : BitVec 32 := Scalar.subi v1441 v1443
  let c128_i32_518 : BitVec 32 := 128#32
  let c0_i32_521 : BitVec 32 := 0#32
  let v1445 : BitVec 1 := Scalar.cmpi .sgt c128_i32_518 c0_i32_521
  let v1446 : BitVec 32 := Scalar.extui v1445
  let c0_i32_522 : BitVec 32 := 0#32
  let v1447 : BitVec 1 := Scalar.cmpi .slt c128_i32_518 c0_i32_522
  let v1448 : BitVec 32 := Scalar.extui v1447
  let v1449 : BitVec 32 := Scalar.subi v1446 v1448
  let v1450 : BitVec 1 := Scalar.cmpi .ne v1444 v1449
  let v1451 : BitVec 32 := Scalar.remsi v1438 c128_i32_518
  let c0_i32_523 : BitVec 32 := 0#32
  let v1452 : BitVec 1 := Scalar.cmpi .ne v1451 c0_i32_523
  let v1453 : BitVec 1 := Scalar.andi v1450 v1452
  let v1439 : BitVec 32 := Scalar.divsi v1438 c128_i32_518
  let c1_i32_524 : BitVec 32 := 1#32
  let v1454 : BitVec 32 := Scalar.subi v1439 c1_i32_524
  let v1455 : BitVec 32 := Scalar.select v1453 v1454 v1439
  let c128_i32_525 : BitVec 32 := 128#32
  let v1456 : BitVec 32 := Scalar.muli v1455 c128_i32_525
  let v1457 : BitVec 32 := Scalar.maxsi c0_i32_526 v1456
  let v1458 : BitVec 32 := Scalar.minsi c32512_i32_527 v1457
  v1458

def k1_off64 (v1437 : BitVec 32) : Fin 2 → Nat :=
  let c6_529 : Index := 6#32
  let c32512_i32_527 : BitVec 32 := 32512#32
  let c0_i32_526 : BitVec 32 := 0#32
  let c32_i32_517 : BitVec 32 := 32#32
  let v1438 : BitVec 32 := Scalar.subi v1437 c32_i32_517
  let c0_i32_519 : BitVec 32 := 0#32
  let v1440 : BitVec 1 := Scalar.cmpi .sgt v1438 c0_i32_519
  let v1441 : BitVec 32 := Scalar.extui v1440
  let c0_i32_520 : BitVec 32 := 0#32
  let v1442 : BitVec 1 := Scalar.cmpi .slt v1438 c0_i32_520
  let v1443 : BitVec 32 := Scalar.extui v1442
  let v1444 : BitVec 32 := Scalar.subi v1441 v1443
  let c128_i32_518 : BitVec 32 := 128#32
  let c0_i32_521 : BitVec 32 := 0#32
  let v1445 : BitVec 1 := Scalar.cmpi .sgt c128_i32_518 c0_i32_521
  let v1446 : BitVec 32 := Scalar.extui v1445
  let c0_i32_522 : BitVec 32 := 0#32
  let v1447 : BitVec 1 := Scalar.cmpi .slt c128_i32_518 c0_i32_522
  let v1448 : BitVec 32 := Scalar.extui v1447
  let v1449 : BitVec 32 := Scalar.subi v1446 v1448
  let v1450 : BitVec 1 := Scalar.cmpi .ne v1444 v1449
  let v1451 : BitVec 32 := Scalar.remsi v1438 c128_i32_518
  let c0_i32_523 : BitVec 32 := 0#32
  let v1452 : BitVec 1 := Scalar.cmpi .ne v1451 c0_i32_523
  let v1453 : BitVec 1 := Scalar.andi v1450 v1452
  let v1439 : BitVec 32 := Scalar.divsi v1438 c128_i32_518
  let c1_i32_524 : BitVec 32 := 1#32
  let v1454 : BitVec 32 := Scalar.subi v1439 c1_i32_524
  let v1455 : BitVec 32 := Scalar.select v1453 v1454 v1439
  let c128_i32_525 : BitVec 32 := 128#32
  let v1456 : BitVec 32 := Scalar.muli v1455 c128_i32_525
  let v1457 : BitVec 32 := Scalar.maxsi c0_i32_526 v1456
  let v1458 : BitVec 32 := Scalar.minsi c32512_i32_527 v1457
  let v1459 : BitVec 32 := v1458
  let v1474 : Index := Scalar.indexCast v1459
  ![6, v1474.toNat]

def k1_chk32 (v1437 : BitVec 32) : Prop :=
  (128 ∣ (k1_mult32 v1437).toNat) ∧
  (∀ a, (k1_off64 v1437) a + S1x256.size a ≤ S16x32768.size a)
theorem k1_mult32_dvd : ∀ (v1437 : BitVec 32) (k1_hw32 : k1_chk32 v1437), 128 ∣ (k1_mult32 v1437).toNat := fun v1437 k1_hw32 => k1_hw32.1
theorem k1_off64_inb : ∀ (v1437 : BitVec 32) (k1_hw32 : k1_chk32 v1437), ∀ a, (k1_off64 v1437) a + S1x256.size a ≤ S16x32768.size a := fun v1437 k1_hw32 => k1_hw32.2

def k1_off65 (i : grid1.Coords) : Fin 2 → Nat :=
  let arg0 : BitVec 32 := BitVec.ofNat 32 (i 0).val
  let c16_i32_531 : BitVec 32 := 16#32
  let v1480 : BitVec 32 := Scalar.muli arg0 c16_i32_531
  let c6_i32_532 : BitVec 32 := 6#32
  let v1481 : BitVec 32 := Scalar.addi v1480 c6_i32_532
  let v1482 : Index := Scalar.indexCast v1481
  let c2_533 : Index := 2#32
  ![v1482.toNat, 2]
def k1_mult33 (v1483 : BitVec 32) : BitVec 32 :=
  let c32512_i32_544 : BitVec 32 := 32512#32
  let c0_i32_543 : BitVec 32 := 0#32
  let c32_i32_534 : BitVec 32 := 32#32
  let v1484 : BitVec 32 := Scalar.subi v1483 c32_i32_534
  let c0_i32_536 : BitVec 32 := 0#32
  let v1486 : BitVec 1 := Scalar.cmpi .sgt v1484 c0_i32_536
  let v1487 : BitVec 32 := Scalar.extui v1486
  let c0_i32_537 : BitVec 32 := 0#32
  let v1488 : BitVec 1 := Scalar.cmpi .slt v1484 c0_i32_537
  let v1489 : BitVec 32 := Scalar.extui v1488
  let v1490 : BitVec 32 := Scalar.subi v1487 v1489
  let c128_i32_535 : BitVec 32 := 128#32
  let c0_i32_538 : BitVec 32 := 0#32
  let v1491 : BitVec 1 := Scalar.cmpi .sgt c128_i32_535 c0_i32_538
  let v1492 : BitVec 32 := Scalar.extui v1491
  let c0_i32_539 : BitVec 32 := 0#32
  let v1493 : BitVec 1 := Scalar.cmpi .slt c128_i32_535 c0_i32_539
  let v1494 : BitVec 32 := Scalar.extui v1493
  let v1495 : BitVec 32 := Scalar.subi v1492 v1494
  let v1496 : BitVec 1 := Scalar.cmpi .ne v1490 v1495
  let v1497 : BitVec 32 := Scalar.remsi v1484 c128_i32_535
  let c0_i32_540 : BitVec 32 := 0#32
  let v1498 : BitVec 1 := Scalar.cmpi .ne v1497 c0_i32_540
  let v1499 : BitVec 1 := Scalar.andi v1496 v1498
  let v1485 : BitVec 32 := Scalar.divsi v1484 c128_i32_535
  let c1_i32_541 : BitVec 32 := 1#32
  let v1500 : BitVec 32 := Scalar.subi v1485 c1_i32_541
  let v1501 : BitVec 32 := Scalar.select v1499 v1500 v1485
  let c128_i32_542 : BitVec 32 := 128#32
  let v1502 : BitVec 32 := Scalar.muli v1501 c128_i32_542
  let v1503 : BitVec 32 := Scalar.maxsi c0_i32_543 v1502
  let v1504 : BitVec 32 := Scalar.minsi c32512_i32_544 v1503
  v1504

def k1_off66 (v1483 : BitVec 32) : Fin 2 → Nat :=
  let c6_546 : Index := 6#32
  let c32512_i32_544 : BitVec 32 := 32512#32
  let c0_i32_543 : BitVec 32 := 0#32
  let c32_i32_534 : BitVec 32 := 32#32
  let v1484 : BitVec 32 := Scalar.subi v1483 c32_i32_534
  let c0_i32_536 : BitVec 32 := 0#32
  let v1486 : BitVec 1 := Scalar.cmpi .sgt v1484 c0_i32_536
  let v1487 : BitVec 32 := Scalar.extui v1486
  let c0_i32_537 : BitVec 32 := 0#32
  let v1488 : BitVec 1 := Scalar.cmpi .slt v1484 c0_i32_537
  let v1489 : BitVec 32 := Scalar.extui v1488
  let v1490 : BitVec 32 := Scalar.subi v1487 v1489
  let c128_i32_535 : BitVec 32 := 128#32
  let c0_i32_538 : BitVec 32 := 0#32
  let v1491 : BitVec 1 := Scalar.cmpi .sgt c128_i32_535 c0_i32_538
  let v1492 : BitVec 32 := Scalar.extui v1491
  let c0_i32_539 : BitVec 32 := 0#32
  let v1493 : BitVec 1 := Scalar.cmpi .slt c128_i32_535 c0_i32_539
  let v1494 : BitVec 32 := Scalar.extui v1493
  let v1495 : BitVec 32 := Scalar.subi v1492 v1494
  let v1496 : BitVec 1 := Scalar.cmpi .ne v1490 v1495
  let v1497 : BitVec 32 := Scalar.remsi v1484 c128_i32_535
  let c0_i32_540 : BitVec 32 := 0#32
  let v1498 : BitVec 1 := Scalar.cmpi .ne v1497 c0_i32_540
  let v1499 : BitVec 1 := Scalar.andi v1496 v1498
  let v1485 : BitVec 32 := Scalar.divsi v1484 c128_i32_535
  let c1_i32_541 : BitVec 32 := 1#32
  let v1500 : BitVec 32 := Scalar.subi v1485 c1_i32_541
  let v1501 : BitVec 32 := Scalar.select v1499 v1500 v1485
  let c128_i32_542 : BitVec 32 := 128#32
  let v1502 : BitVec 32 := Scalar.muli v1501 c128_i32_542
  let v1503 : BitVec 32 := Scalar.maxsi c0_i32_543 v1502
  let v1504 : BitVec 32 := Scalar.minsi c32512_i32_544 v1503
  let v1505 : BitVec 32 := v1504
  let v1520 : Index := Scalar.indexCast v1505
  ![6, v1520.toNat]

def k1_chk33 (v1483 : BitVec 32) : Prop :=
  (128 ∣ (k1_mult33 v1483).toNat) ∧
  (∀ a, (k1_off66 v1483) a + S1x256.size a ≤ S16x32768.size a)
theorem k1_mult33_dvd : ∀ (v1483 : BitVec 32) (k1_hw33 : k1_chk33 v1483), 128 ∣ (k1_mult33 v1483).toNat := fun v1483 k1_hw33 => k1_hw33.1
theorem k1_off66_inb : ∀ (v1483 : BitVec 32) (k1_hw33 : k1_chk33 v1483), ∀ a, (k1_off66 v1483) a + S1x256.size a ≤ S16x32768.size a := fun v1483 k1_hw33 => k1_hw33.2

def k1_off67 (i : grid1.Coords) : Fin 2 → Nat :=
  let arg0 : BitVec 32 := BitVec.ofNat 32 (i 0).val
  let c16_i32_548 : BitVec 32 := 16#32
  let v1526 : BitVec 32 := Scalar.muli arg0 c16_i32_548
  let c6_i32_549 : BitVec 32 := 6#32
  let v1527 : BitVec 32 := Scalar.addi v1526 c6_i32_549
  let v1528 : Index := Scalar.indexCast v1527
  let c3_550 : Index := 3#32
  ![v1528.toNat, 3]
def k1_mult34 (v1529 : BitVec 32) : BitVec 32 :=
  let c32512_i32_561 : BitVec 32 := 32512#32
  let c0_i32_560 : BitVec 32 := 0#32
  let c32_i32_551 : BitVec 32 := 32#32
  let v1530 : BitVec 32 := Scalar.subi v1529 c32_i32_551
  let c0_i32_553 : BitVec 32 := 0#32
  let v1532 : BitVec 1 := Scalar.cmpi .sgt v1530 c0_i32_553
  let v1533 : BitVec 32 := Scalar.extui v1532
  let c0_i32_554 : BitVec 32 := 0#32
  let v1534 : BitVec 1 := Scalar.cmpi .slt v1530 c0_i32_554
  let v1535 : BitVec 32 := Scalar.extui v1534
  let v1536 : BitVec 32 := Scalar.subi v1533 v1535
  let c128_i32_552 : BitVec 32 := 128#32
  let c0_i32_555 : BitVec 32 := 0#32
  let v1537 : BitVec 1 := Scalar.cmpi .sgt c128_i32_552 c0_i32_555
  let v1538 : BitVec 32 := Scalar.extui v1537
  let c0_i32_556 : BitVec 32 := 0#32
  let v1539 : BitVec 1 := Scalar.cmpi .slt c128_i32_552 c0_i32_556
  let v1540 : BitVec 32 := Scalar.extui v1539
  let v1541 : BitVec 32 := Scalar.subi v1538 v1540
  let v1542 : BitVec 1 := Scalar.cmpi .ne v1536 v1541
  let v1543 : BitVec 32 := Scalar.remsi v1530 c128_i32_552
  let c0_i32_557 : BitVec 32 := 0#32
  let v1544 : BitVec 1 := Scalar.cmpi .ne v1543 c0_i32_557
  let v1545 : BitVec 1 := Scalar.andi v1542 v1544
  let v1531 : BitVec 32 := Scalar.divsi v1530 c128_i32_552
  let c1_i32_558 : BitVec 32 := 1#32
  let v1546 : BitVec 32 := Scalar.subi v1531 c1_i32_558
  let v1547 : BitVec 32 := Scalar.select v1545 v1546 v1531
  let c128_i32_559 : BitVec 32 := 128#32
  let v1548 : BitVec 32 := Scalar.muli v1547 c128_i32_559
  let v1549 : BitVec 32 := Scalar.maxsi c0_i32_560 v1548
  let v1550 : BitVec 32 := Scalar.minsi c32512_i32_561 v1549
  v1550

def k1_off68 (v1529 : BitVec 32) : Fin 2 → Nat :=
  let c6_563 : Index := 6#32
  let c32512_i32_561 : BitVec 32 := 32512#32
  let c0_i32_560 : BitVec 32 := 0#32
  let c32_i32_551 : BitVec 32 := 32#32
  let v1530 : BitVec 32 := Scalar.subi v1529 c32_i32_551
  let c0_i32_553 : BitVec 32 := 0#32
  let v1532 : BitVec 1 := Scalar.cmpi .sgt v1530 c0_i32_553
  let v1533 : BitVec 32 := Scalar.extui v1532
  let c0_i32_554 : BitVec 32 := 0#32
  let v1534 : BitVec 1 := Scalar.cmpi .slt v1530 c0_i32_554
  let v1535 : BitVec 32 := Scalar.extui v1534
  let v1536 : BitVec 32 := Scalar.subi v1533 v1535
  let c128_i32_552 : BitVec 32 := 128#32
  let c0_i32_555 : BitVec 32 := 0#32
  let v1537 : BitVec 1 := Scalar.cmpi .sgt c128_i32_552 c0_i32_555
  let v1538 : BitVec 32 := Scalar.extui v1537
  let c0_i32_556 : BitVec 32 := 0#32
  let v1539 : BitVec 1 := Scalar.cmpi .slt c128_i32_552 c0_i32_556
  let v1540 : BitVec 32 := Scalar.extui v1539
  let v1541 : BitVec 32 := Scalar.subi v1538 v1540
  let v1542 : BitVec 1 := Scalar.cmpi .ne v1536 v1541
  let v1543 : BitVec 32 := Scalar.remsi v1530 c128_i32_552
  let c0_i32_557 : BitVec 32 := 0#32
  let v1544 : BitVec 1 := Scalar.cmpi .ne v1543 c0_i32_557
  let v1545 : BitVec 1 := Scalar.andi v1542 v1544
  let v1531 : BitVec 32 := Scalar.divsi v1530 c128_i32_552
  let c1_i32_558 : BitVec 32 := 1#32
  let v1546 : BitVec 32 := Scalar.subi v1531 c1_i32_558
  let v1547 : BitVec 32 := Scalar.select v1545 v1546 v1531
  let c128_i32_559 : BitVec 32 := 128#32
  let v1548 : BitVec 32 := Scalar.muli v1547 c128_i32_559
  let v1549 : BitVec 32 := Scalar.maxsi c0_i32_560 v1548
  let v1550 : BitVec 32 := Scalar.minsi c32512_i32_561 v1549
  let v1551 : BitVec 32 := v1550
  let v1566 : Index := Scalar.indexCast v1551
  ![6, v1566.toNat]

def k1_chk34 (v1529 : BitVec 32) : Prop :=
  (128 ∣ (k1_mult34 v1529).toNat) ∧
  (∀ a, (k1_off68 v1529) a + S1x256.size a ≤ S16x32768.size a)
theorem k1_mult34_dvd : ∀ (v1529 : BitVec 32) (k1_hw34 : k1_chk34 v1529), 128 ∣ (k1_mult34 v1529).toNat := fun v1529 k1_hw34 => k1_hw34.1
theorem k1_off68_inb : ∀ (v1529 : BitVec 32) (k1_hw34 : k1_chk34 v1529), ∀ a, (k1_off68 v1529) a + S1x256.size a ≤ S16x32768.size a := fun v1529 k1_hw34 => k1_hw34.2

def k1_off69 (i : grid1.Coords) : Fin 2 → Nat :=
  let arg0 : BitVec 32 := BitVec.ofNat 32 (i 0).val
  let c16_i32_565 : BitVec 32 := 16#32
  let v1572 : BitVec 32 := Scalar.muli arg0 c16_i32_565
  let c6_i32_566 : BitVec 32 := 6#32
  let v1573 : BitVec 32 := Scalar.addi v1572 c6_i32_566
  let v1574 : Index := Scalar.indexCast v1573
  let c4_567 : Index := 4#32
  ![v1574.toNat, 4]
def k1_mult35 (v1575 : BitVec 32) : BitVec 32 :=
  let c32512_i32_578 : BitVec 32 := 32512#32
  let c0_i32_577 : BitVec 32 := 0#32
  let c32_i32_568 : BitVec 32 := 32#32
  let v1576 : BitVec 32 := Scalar.subi v1575 c32_i32_568
  let c0_i32_570 : BitVec 32 := 0#32
  let v1578 : BitVec 1 := Scalar.cmpi .sgt v1576 c0_i32_570
  let v1579 : BitVec 32 := Scalar.extui v1578
  let c0_i32_571 : BitVec 32 := 0#32
  let v1580 : BitVec 1 := Scalar.cmpi .slt v1576 c0_i32_571
  let v1581 : BitVec 32 := Scalar.extui v1580
  let v1582 : BitVec 32 := Scalar.subi v1579 v1581
  let c128_i32_569 : BitVec 32 := 128#32
  let c0_i32_572 : BitVec 32 := 0#32
  let v1583 : BitVec 1 := Scalar.cmpi .sgt c128_i32_569 c0_i32_572
  let v1584 : BitVec 32 := Scalar.extui v1583
  let c0_i32_573 : BitVec 32 := 0#32
  let v1585 : BitVec 1 := Scalar.cmpi .slt c128_i32_569 c0_i32_573
  let v1586 : BitVec 32 := Scalar.extui v1585
  let v1587 : BitVec 32 := Scalar.subi v1584 v1586
  let v1588 : BitVec 1 := Scalar.cmpi .ne v1582 v1587
  let v1589 : BitVec 32 := Scalar.remsi v1576 c128_i32_569
  let c0_i32_574 : BitVec 32 := 0#32
  let v1590 : BitVec 1 := Scalar.cmpi .ne v1589 c0_i32_574
  let v1591 : BitVec 1 := Scalar.andi v1588 v1590
  let v1577 : BitVec 32 := Scalar.divsi v1576 c128_i32_569
  let c1_i32_575 : BitVec 32 := 1#32
  let v1592 : BitVec 32 := Scalar.subi v1577 c1_i32_575
  let v1593 : BitVec 32 := Scalar.select v1591 v1592 v1577
  let c128_i32_576 : BitVec 32 := 128#32
  let v1594 : BitVec 32 := Scalar.muli v1593 c128_i32_576
  let v1595 : BitVec 32 := Scalar.maxsi c0_i32_577 v1594
  let v1596 : BitVec 32 := Scalar.minsi c32512_i32_578 v1595
  v1596

def k1_off70 (v1575 : BitVec 32) : Fin 2 → Nat :=
  let c6_580 : Index := 6#32
  let c32512_i32_578 : BitVec 32 := 32512#32
  let c0_i32_577 : BitVec 32 := 0#32
  let c32_i32_568 : BitVec 32 := 32#32
  let v1576 : BitVec 32 := Scalar.subi v1575 c32_i32_568
  let c0_i32_570 : BitVec 32 := 0#32
  let v1578 : BitVec 1 := Scalar.cmpi .sgt v1576 c0_i32_570
  let v1579 : BitVec 32 := Scalar.extui v1578
  let c0_i32_571 : BitVec 32 := 0#32
  let v1580 : BitVec 1 := Scalar.cmpi .slt v1576 c0_i32_571
  let v1581 : BitVec 32 := Scalar.extui v1580
  let v1582 : BitVec 32 := Scalar.subi v1579 v1581
  let c128_i32_569 : BitVec 32 := 128#32
  let c0_i32_572 : BitVec 32 := 0#32
  let v1583 : BitVec 1 := Scalar.cmpi .sgt c128_i32_569 c0_i32_572
  let v1584 : BitVec 32 := Scalar.extui v1583
  let c0_i32_573 : BitVec 32 := 0#32
  let v1585 : BitVec 1 := Scalar.cmpi .slt c128_i32_569 c0_i32_573
  let v1586 : BitVec 32 := Scalar.extui v1585
  let v1587 : BitVec 32 := Scalar.subi v1584 v1586
  let v1588 : BitVec 1 := Scalar.cmpi .ne v1582 v1587
  let v1589 : BitVec 32 := Scalar.remsi v1576 c128_i32_569
  let c0_i32_574 : BitVec 32 := 0#32
  let v1590 : BitVec 1 := Scalar.cmpi .ne v1589 c0_i32_574
  let v1591 : BitVec 1 := Scalar.andi v1588 v1590
  let v1577 : BitVec 32 := Scalar.divsi v1576 c128_i32_569
  let c1_i32_575 : BitVec 32 := 1#32
  let v1592 : BitVec 32 := Scalar.subi v1577 c1_i32_575
  let v1593 : BitVec 32 := Scalar.select v1591 v1592 v1577
  let c128_i32_576 : BitVec 32 := 128#32
  let v1594 : BitVec 32 := Scalar.muli v1593 c128_i32_576
  let v1595 : BitVec 32 := Scalar.maxsi c0_i32_577 v1594
  let v1596 : BitVec 32 := Scalar.minsi c32512_i32_578 v1595
  let v1597 : BitVec 32 := v1596
  let v1612 : Index := Scalar.indexCast v1597
  ![6, v1612.toNat]

def k1_chk35 (v1575 : BitVec 32) : Prop :=
  (128 ∣ (k1_mult35 v1575).toNat) ∧
  (∀ a, (k1_off70 v1575) a + S1x256.size a ≤ S16x32768.size a)
theorem k1_mult35_dvd : ∀ (v1575 : BitVec 32) (k1_hw35 : k1_chk35 v1575), 128 ∣ (k1_mult35 v1575).toNat := fun v1575 k1_hw35 => k1_hw35.1
theorem k1_off70_inb : ∀ (v1575 : BitVec 32) (k1_hw35 : k1_chk35 v1575), ∀ a, (k1_off70 v1575) a + S1x256.size a ≤ S16x32768.size a := fun v1575 k1_hw35 => k1_hw35.2

def k1_off71 (i : grid1.Coords) : Fin 2 → Nat :=
  let arg0 : BitVec 32 := BitVec.ofNat 32 (i 0).val
  let c16_i32_582 : BitVec 32 := 16#32
  let v1618 : BitVec 32 := Scalar.muli arg0 c16_i32_582
  let c7_i32 : BitVec 32 := 7#32
  let v1619 : BitVec 32 := Scalar.addi v1618 c7_i32
  let v1620 : Index := Scalar.indexCast v1619
  let c0_583 : Index := 0#32
  ![v1620.toNat, 0]
def k1_mult36 (v1621 : BitVec 32) : BitVec 32 :=
  let c32512_i32_594 : BitVec 32 := 32512#32
  let c0_i32_593 : BitVec 32 := 0#32
  let c32_i32_584 : BitVec 32 := 32#32
  let v1622 : BitVec 32 := Scalar.subi v1621 c32_i32_584
  let c0_i32_586 : BitVec 32 := 0#32
  let v1624 : BitVec 1 := Scalar.cmpi .sgt v1622 c0_i32_586
  let v1625 : BitVec 32 := Scalar.extui v1624
  let c0_i32_587 : BitVec 32 := 0#32
  let v1626 : BitVec 1 := Scalar.cmpi .slt v1622 c0_i32_587
  let v1627 : BitVec 32 := Scalar.extui v1626
  let v1628 : BitVec 32 := Scalar.subi v1625 v1627
  let c128_i32_585 : BitVec 32 := 128#32
  let c0_i32_588 : BitVec 32 := 0#32
  let v1629 : BitVec 1 := Scalar.cmpi .sgt c128_i32_585 c0_i32_588
  let v1630 : BitVec 32 := Scalar.extui v1629
  let c0_i32_589 : BitVec 32 := 0#32
  let v1631 : BitVec 1 := Scalar.cmpi .slt c128_i32_585 c0_i32_589
  let v1632 : BitVec 32 := Scalar.extui v1631
  let v1633 : BitVec 32 := Scalar.subi v1630 v1632
  let v1634 : BitVec 1 := Scalar.cmpi .ne v1628 v1633
  let v1635 : BitVec 32 := Scalar.remsi v1622 c128_i32_585
  let c0_i32_590 : BitVec 32 := 0#32
  let v1636 : BitVec 1 := Scalar.cmpi .ne v1635 c0_i32_590
  let v1637 : BitVec 1 := Scalar.andi v1634 v1636
  let v1623 : BitVec 32 := Scalar.divsi v1622 c128_i32_585
  let c1_i32_591 : BitVec 32 := 1#32
  let v1638 : BitVec 32 := Scalar.subi v1623 c1_i32_591
  let v1639 : BitVec 32 := Scalar.select v1637 v1638 v1623
  let c128_i32_592 : BitVec 32 := 128#32
  let v1640 : BitVec 32 := Scalar.muli v1639 c128_i32_592
  let v1641 : BitVec 32 := Scalar.maxsi c0_i32_593 v1640
  let v1642 : BitVec 32 := Scalar.minsi c32512_i32_594 v1641
  v1642

def k1_off72 (v1621 : BitVec 32) : Fin 2 → Nat :=
  let c7 : Index := 7#32
  let c32512_i32_594 : BitVec 32 := 32512#32
  let c0_i32_593 : BitVec 32 := 0#32
  let c32_i32_584 : BitVec 32 := 32#32
  let v1622 : BitVec 32 := Scalar.subi v1621 c32_i32_584
  let c0_i32_586 : BitVec 32 := 0#32
  let v1624 : BitVec 1 := Scalar.cmpi .sgt v1622 c0_i32_586
  let v1625 : BitVec 32 := Scalar.extui v1624
  let c0_i32_587 : BitVec 32 := 0#32
  let v1626 : BitVec 1 := Scalar.cmpi .slt v1622 c0_i32_587
  let v1627 : BitVec 32 := Scalar.extui v1626
  let v1628 : BitVec 32 := Scalar.subi v1625 v1627
  let c128_i32_585 : BitVec 32 := 128#32
  let c0_i32_588 : BitVec 32 := 0#32
  let v1629 : BitVec 1 := Scalar.cmpi .sgt c128_i32_585 c0_i32_588
  let v1630 : BitVec 32 := Scalar.extui v1629
  let c0_i32_589 : BitVec 32 := 0#32
  let v1631 : BitVec 1 := Scalar.cmpi .slt c128_i32_585 c0_i32_589
  let v1632 : BitVec 32 := Scalar.extui v1631
  let v1633 : BitVec 32 := Scalar.subi v1630 v1632
  let v1634 : BitVec 1 := Scalar.cmpi .ne v1628 v1633
  let v1635 : BitVec 32 := Scalar.remsi v1622 c128_i32_585
  let c0_i32_590 : BitVec 32 := 0#32
  let v1636 : BitVec 1 := Scalar.cmpi .ne v1635 c0_i32_590
  let v1637 : BitVec 1 := Scalar.andi v1634 v1636
  let v1623 : BitVec 32 := Scalar.divsi v1622 c128_i32_585
  let c1_i32_591 : BitVec 32 := 1#32
  let v1638 : BitVec 32 := Scalar.subi v1623 c1_i32_591
  let v1639 : BitVec 32 := Scalar.select v1637 v1638 v1623
  let c128_i32_592 : BitVec 32 := 128#32
  let v1640 : BitVec 32 := Scalar.muli v1639 c128_i32_592
  let v1641 : BitVec 32 := Scalar.maxsi c0_i32_593 v1640
  let v1642 : BitVec 32 := Scalar.minsi c32512_i32_594 v1641
  let v1643 : BitVec 32 := v1642
  let v1658 : Index := Scalar.indexCast v1643
  ![7, v1658.toNat]

def k1_chk36 (v1621 : BitVec 32) : Prop :=
  (128 ∣ (k1_mult36 v1621).toNat) ∧
  (∀ a, (k1_off72 v1621) a + S1x256.size a ≤ S16x32768.size a)
theorem k1_mult36_dvd : ∀ (v1621 : BitVec 32) (k1_hw36 : k1_chk36 v1621), 128 ∣ (k1_mult36 v1621).toNat := fun v1621 k1_hw36 => k1_hw36.1
theorem k1_off72_inb : ∀ (v1621 : BitVec 32) (k1_hw36 : k1_chk36 v1621), ∀ a, (k1_off72 v1621) a + S1x256.size a ≤ S16x32768.size a := fun v1621 k1_hw36 => k1_hw36.2

def k1_off73 (i : grid1.Coords) : Fin 2 → Nat :=
  let arg0 : BitVec 32 := BitVec.ofNat 32 (i 0).val
  let c16_i32_597 : BitVec 32 := 16#32
  let v1664 : BitVec 32 := Scalar.muli arg0 c16_i32_597
  let c7_i32_598 : BitVec 32 := 7#32
  let v1665 : BitVec 32 := Scalar.addi v1664 c7_i32_598
  let v1666 : Index := Scalar.indexCast v1665
  let c1_599 : Index := 1#32
  ![v1666.toNat, 1]
def k1_mult37 (v1667 : BitVec 32) : BitVec 32 :=
  let c32512_i32_610 : BitVec 32 := 32512#32
  let c0_i32_609 : BitVec 32 := 0#32
  let c32_i32_600 : BitVec 32 := 32#32
  let v1668 : BitVec 32 := Scalar.subi v1667 c32_i32_600
  let c0_i32_602 : BitVec 32 := 0#32
  let v1670 : BitVec 1 := Scalar.cmpi .sgt v1668 c0_i32_602
  let v1671 : BitVec 32 := Scalar.extui v1670
  let c0_i32_603 : BitVec 32 := 0#32
  let v1672 : BitVec 1 := Scalar.cmpi .slt v1668 c0_i32_603
  let v1673 : BitVec 32 := Scalar.extui v1672
  let v1674 : BitVec 32 := Scalar.subi v1671 v1673
  let c128_i32_601 : BitVec 32 := 128#32
  let c0_i32_604 : BitVec 32 := 0#32
  let v1675 : BitVec 1 := Scalar.cmpi .sgt c128_i32_601 c0_i32_604
  let v1676 : BitVec 32 := Scalar.extui v1675
  let c0_i32_605 : BitVec 32 := 0#32
  let v1677 : BitVec 1 := Scalar.cmpi .slt c128_i32_601 c0_i32_605
  let v1678 : BitVec 32 := Scalar.extui v1677
  let v1679 : BitVec 32 := Scalar.subi v1676 v1678
  let v1680 : BitVec 1 := Scalar.cmpi .ne v1674 v1679
  let v1681 : BitVec 32 := Scalar.remsi v1668 c128_i32_601
  let c0_i32_606 : BitVec 32 := 0#32
  let v1682 : BitVec 1 := Scalar.cmpi .ne v1681 c0_i32_606
  let v1683 : BitVec 1 := Scalar.andi v1680 v1682
  let v1669 : BitVec 32 := Scalar.divsi v1668 c128_i32_601
  let c1_i32_607 : BitVec 32 := 1#32
  let v1684 : BitVec 32 := Scalar.subi v1669 c1_i32_607
  let v1685 : BitVec 32 := Scalar.select v1683 v1684 v1669
  let c128_i32_608 : BitVec 32 := 128#32
  let v1686 : BitVec 32 := Scalar.muli v1685 c128_i32_608
  let v1687 : BitVec 32 := Scalar.maxsi c0_i32_609 v1686
  let v1688 : BitVec 32 := Scalar.minsi c32512_i32_610 v1687
  v1688

def k1_off74 (v1667 : BitVec 32) : Fin 2 → Nat :=
  let c7_612 : Index := 7#32
  let c32512_i32_610 : BitVec 32 := 32512#32
  let c0_i32_609 : BitVec 32 := 0#32
  let c32_i32_600 : BitVec 32 := 32#32
  let v1668 : BitVec 32 := Scalar.subi v1667 c32_i32_600
  let c0_i32_602 : BitVec 32 := 0#32
  let v1670 : BitVec 1 := Scalar.cmpi .sgt v1668 c0_i32_602
  let v1671 : BitVec 32 := Scalar.extui v1670
  let c0_i32_603 : BitVec 32 := 0#32
  let v1672 : BitVec 1 := Scalar.cmpi .slt v1668 c0_i32_603
  let v1673 : BitVec 32 := Scalar.extui v1672
  let v1674 : BitVec 32 := Scalar.subi v1671 v1673
  let c128_i32_601 : BitVec 32 := 128#32
  let c0_i32_604 : BitVec 32 := 0#32
  let v1675 : BitVec 1 := Scalar.cmpi .sgt c128_i32_601 c0_i32_604
  let v1676 : BitVec 32 := Scalar.extui v1675
  let c0_i32_605 : BitVec 32 := 0#32
  let v1677 : BitVec 1 := Scalar.cmpi .slt c128_i32_601 c0_i32_605
  let v1678 : BitVec 32 := Scalar.extui v1677
  let v1679 : BitVec 32 := Scalar.subi v1676 v1678
  let v1680 : BitVec 1 := Scalar.cmpi .ne v1674 v1679
  let v1681 : BitVec 32 := Scalar.remsi v1668 c128_i32_601
  let c0_i32_606 : BitVec 32 := 0#32
  let v1682 : BitVec 1 := Scalar.cmpi .ne v1681 c0_i32_606
  let v1683 : BitVec 1 := Scalar.andi v1680 v1682
  let v1669 : BitVec 32 := Scalar.divsi v1668 c128_i32_601
  let c1_i32_607 : BitVec 32 := 1#32
  let v1684 : BitVec 32 := Scalar.subi v1669 c1_i32_607
  let v1685 : BitVec 32 := Scalar.select v1683 v1684 v1669
  let c128_i32_608 : BitVec 32 := 128#32
  let v1686 : BitVec 32 := Scalar.muli v1685 c128_i32_608
  let v1687 : BitVec 32 := Scalar.maxsi c0_i32_609 v1686
  let v1688 : BitVec 32 := Scalar.minsi c32512_i32_610 v1687
  let v1689 : BitVec 32 := v1688
  let v1704 : Index := Scalar.indexCast v1689
  ![7, v1704.toNat]

def k1_chk37 (v1667 : BitVec 32) : Prop :=
  (128 ∣ (k1_mult37 v1667).toNat) ∧
  (∀ a, (k1_off74 v1667) a + S1x256.size a ≤ S16x32768.size a)
theorem k1_mult37_dvd : ∀ (v1667 : BitVec 32) (k1_hw37 : k1_chk37 v1667), 128 ∣ (k1_mult37 v1667).toNat := fun v1667 k1_hw37 => k1_hw37.1
theorem k1_off74_inb : ∀ (v1667 : BitVec 32) (k1_hw37 : k1_chk37 v1667), ∀ a, (k1_off74 v1667) a + S1x256.size a ≤ S16x32768.size a := fun v1667 k1_hw37 => k1_hw37.2

def k1_off75 (i : grid1.Coords) : Fin 2 → Nat :=
  let arg0 : BitVec 32 := BitVec.ofNat 32 (i 0).val
  let c16_i32_614 : BitVec 32 := 16#32
  let v1710 : BitVec 32 := Scalar.muli arg0 c16_i32_614
  let c7_i32_615 : BitVec 32 := 7#32
  let v1711 : BitVec 32 := Scalar.addi v1710 c7_i32_615
  let v1712 : Index := Scalar.indexCast v1711
  let c2_616 : Index := 2#32
  ![v1712.toNat, 2]
def k1_mult38 (v1713 : BitVec 32) : BitVec 32 :=
  let c32512_i32_627 : BitVec 32 := 32512#32
  let c0_i32_626 : BitVec 32 := 0#32
  let c32_i32_617 : BitVec 32 := 32#32
  let v1714 : BitVec 32 := Scalar.subi v1713 c32_i32_617
  let c0_i32_619 : BitVec 32 := 0#32
  let v1716 : BitVec 1 := Scalar.cmpi .sgt v1714 c0_i32_619
  let v1717 : BitVec 32 := Scalar.extui v1716
  let c0_i32_620 : BitVec 32 := 0#32
  let v1718 : BitVec 1 := Scalar.cmpi .slt v1714 c0_i32_620
  let v1719 : BitVec 32 := Scalar.extui v1718
  let v1720 : BitVec 32 := Scalar.subi v1717 v1719
  let c128_i32_618 : BitVec 32 := 128#32
  let c0_i32_621 : BitVec 32 := 0#32
  let v1721 : BitVec 1 := Scalar.cmpi .sgt c128_i32_618 c0_i32_621
  let v1722 : BitVec 32 := Scalar.extui v1721
  let c0_i32_622 : BitVec 32 := 0#32
  let v1723 : BitVec 1 := Scalar.cmpi .slt c128_i32_618 c0_i32_622
  let v1724 : BitVec 32 := Scalar.extui v1723
  let v1725 : BitVec 32 := Scalar.subi v1722 v1724
  let v1726 : BitVec 1 := Scalar.cmpi .ne v1720 v1725
  let v1727 : BitVec 32 := Scalar.remsi v1714 c128_i32_618
  let c0_i32_623 : BitVec 32 := 0#32
  let v1728 : BitVec 1 := Scalar.cmpi .ne v1727 c0_i32_623
  let v1729 : BitVec 1 := Scalar.andi v1726 v1728
  let v1715 : BitVec 32 := Scalar.divsi v1714 c128_i32_618
  let c1_i32_624 : BitVec 32 := 1#32
  let v1730 : BitVec 32 := Scalar.subi v1715 c1_i32_624
  let v1731 : BitVec 32 := Scalar.select v1729 v1730 v1715
  let c128_i32_625 : BitVec 32 := 128#32
  let v1732 : BitVec 32 := Scalar.muli v1731 c128_i32_625
  let v1733 : BitVec 32 := Scalar.maxsi c0_i32_626 v1732
  let v1734 : BitVec 32 := Scalar.minsi c32512_i32_627 v1733
  v1734

def k1_off76 (v1713 : BitVec 32) : Fin 2 → Nat :=
  let c7_629 : Index := 7#32
  let c32512_i32_627 : BitVec 32 := 32512#32
  let c0_i32_626 : BitVec 32 := 0#32
  let c32_i32_617 : BitVec 32 := 32#32
  let v1714 : BitVec 32 := Scalar.subi v1713 c32_i32_617
  let c0_i32_619 : BitVec 32 := 0#32
  let v1716 : BitVec 1 := Scalar.cmpi .sgt v1714 c0_i32_619
  let v1717 : BitVec 32 := Scalar.extui v1716
  let c0_i32_620 : BitVec 32 := 0#32
  let v1718 : BitVec 1 := Scalar.cmpi .slt v1714 c0_i32_620
  let v1719 : BitVec 32 := Scalar.extui v1718
  let v1720 : BitVec 32 := Scalar.subi v1717 v1719
  let c128_i32_618 : BitVec 32 := 128#32
  let c0_i32_621 : BitVec 32 := 0#32
  let v1721 : BitVec 1 := Scalar.cmpi .sgt c128_i32_618 c0_i32_621
  let v1722 : BitVec 32 := Scalar.extui v1721
  let c0_i32_622 : BitVec 32 := 0#32
  let v1723 : BitVec 1 := Scalar.cmpi .slt c128_i32_618 c0_i32_622
  let v1724 : BitVec 32 := Scalar.extui v1723
  let v1725 : BitVec 32 := Scalar.subi v1722 v1724
  let v1726 : BitVec 1 := Scalar.cmpi .ne v1720 v1725
  let v1727 : BitVec 32 := Scalar.remsi v1714 c128_i32_618
  let c0_i32_623 : BitVec 32 := 0#32
  let v1728 : BitVec 1 := Scalar.cmpi .ne v1727 c0_i32_623
  let v1729 : BitVec 1 := Scalar.andi v1726 v1728
  let v1715 : BitVec 32 := Scalar.divsi v1714 c128_i32_618
  let c1_i32_624 : BitVec 32 := 1#32
  let v1730 : BitVec 32 := Scalar.subi v1715 c1_i32_624
  let v1731 : BitVec 32 := Scalar.select v1729 v1730 v1715
  let c128_i32_625 : BitVec 32 := 128#32
  let v1732 : BitVec 32 := Scalar.muli v1731 c128_i32_625
  let v1733 : BitVec 32 := Scalar.maxsi c0_i32_626 v1732
  let v1734 : BitVec 32 := Scalar.minsi c32512_i32_627 v1733
  let v1735 : BitVec 32 := v1734
  let v1750 : Index := Scalar.indexCast v1735
  ![7, v1750.toNat]

def k1_chk38 (v1713 : BitVec 32) : Prop :=
  (128 ∣ (k1_mult38 v1713).toNat) ∧
  (∀ a, (k1_off76 v1713) a + S1x256.size a ≤ S16x32768.size a)
theorem k1_mult38_dvd : ∀ (v1713 : BitVec 32) (k1_hw38 : k1_chk38 v1713), 128 ∣ (k1_mult38 v1713).toNat := fun v1713 k1_hw38 => k1_hw38.1
theorem k1_off76_inb : ∀ (v1713 : BitVec 32) (k1_hw38 : k1_chk38 v1713), ∀ a, (k1_off76 v1713) a + S1x256.size a ≤ S16x32768.size a := fun v1713 k1_hw38 => k1_hw38.2

def k1_off77 (i : grid1.Coords) : Fin 2 → Nat :=
  let arg0 : BitVec 32 := BitVec.ofNat 32 (i 0).val
  let c16_i32_631 : BitVec 32 := 16#32
  let v1756 : BitVec 32 := Scalar.muli arg0 c16_i32_631
  let c7_i32_632 : BitVec 32 := 7#32
  let v1757 : BitVec 32 := Scalar.addi v1756 c7_i32_632
  let v1758 : Index := Scalar.indexCast v1757
  let c3_633 : Index := 3#32
  ![v1758.toNat, 3]
def k1_mult39 (v1759 : BitVec 32) : BitVec 32 :=
  let c32512_i32_644 : BitVec 32 := 32512#32
  let c0_i32_643 : BitVec 32 := 0#32
  let c32_i32_634 : BitVec 32 := 32#32
  let v1760 : BitVec 32 := Scalar.subi v1759 c32_i32_634
  let c0_i32_636 : BitVec 32 := 0#32
  let v1762 : BitVec 1 := Scalar.cmpi .sgt v1760 c0_i32_636
  let v1763 : BitVec 32 := Scalar.extui v1762
  let c0_i32_637 : BitVec 32 := 0#32
  let v1764 : BitVec 1 := Scalar.cmpi .slt v1760 c0_i32_637
  let v1765 : BitVec 32 := Scalar.extui v1764
  let v1766 : BitVec 32 := Scalar.subi v1763 v1765
  let c128_i32_635 : BitVec 32 := 128#32
  let c0_i32_638 : BitVec 32 := 0#32
  let v1767 : BitVec 1 := Scalar.cmpi .sgt c128_i32_635 c0_i32_638
  let v1768 : BitVec 32 := Scalar.extui v1767
  let c0_i32_639 : BitVec 32 := 0#32
  let v1769 : BitVec 1 := Scalar.cmpi .slt c128_i32_635 c0_i32_639
  let v1770 : BitVec 32 := Scalar.extui v1769
  let v1771 : BitVec 32 := Scalar.subi v1768 v1770
  let v1772 : BitVec 1 := Scalar.cmpi .ne v1766 v1771
  let v1773 : BitVec 32 := Scalar.remsi v1760 c128_i32_635
  let c0_i32_640 : BitVec 32 := 0#32
  let v1774 : BitVec 1 := Scalar.cmpi .ne v1773 c0_i32_640
  let v1775 : BitVec 1 := Scalar.andi v1772 v1774
  let v1761 : BitVec 32 := Scalar.divsi v1760 c128_i32_635
  let c1_i32_641 : BitVec 32 := 1#32
  let v1776 : BitVec 32 := Scalar.subi v1761 c1_i32_641
  let v1777 : BitVec 32 := Scalar.select v1775 v1776 v1761
  let c128_i32_642 : BitVec 32 := 128#32
  let v1778 : BitVec 32 := Scalar.muli v1777 c128_i32_642
  let v1779 : BitVec 32 := Scalar.maxsi c0_i32_643 v1778
  let v1780 : BitVec 32 := Scalar.minsi c32512_i32_644 v1779
  v1780

def k1_off78 (v1759 : BitVec 32) : Fin 2 → Nat :=
  let c7_646 : Index := 7#32
  let c32512_i32_644 : BitVec 32 := 32512#32
  let c0_i32_643 : BitVec 32 := 0#32
  let c32_i32_634 : BitVec 32 := 32#32
  let v1760 : BitVec 32 := Scalar.subi v1759 c32_i32_634
  let c0_i32_636 : BitVec 32 := 0#32
  let v1762 : BitVec 1 := Scalar.cmpi .sgt v1760 c0_i32_636
  let v1763 : BitVec 32 := Scalar.extui v1762
  let c0_i32_637 : BitVec 32 := 0#32
  let v1764 : BitVec 1 := Scalar.cmpi .slt v1760 c0_i32_637
  let v1765 : BitVec 32 := Scalar.extui v1764
  let v1766 : BitVec 32 := Scalar.subi v1763 v1765
  let c128_i32_635 : BitVec 32 := 128#32
  let c0_i32_638 : BitVec 32 := 0#32
  let v1767 : BitVec 1 := Scalar.cmpi .sgt c128_i32_635 c0_i32_638
  let v1768 : BitVec 32 := Scalar.extui v1767
  let c0_i32_639 : BitVec 32 := 0#32
  let v1769 : BitVec 1 := Scalar.cmpi .slt c128_i32_635 c0_i32_639
  let v1770 : BitVec 32 := Scalar.extui v1769
  let v1771 : BitVec 32 := Scalar.subi v1768 v1770
  let v1772 : BitVec 1 := Scalar.cmpi .ne v1766 v1771
  let v1773 : BitVec 32 := Scalar.remsi v1760 c128_i32_635
  let c0_i32_640 : BitVec 32 := 0#32
  let v1774 : BitVec 1 := Scalar.cmpi .ne v1773 c0_i32_640
  let v1775 : BitVec 1 := Scalar.andi v1772 v1774
  let v1761 : BitVec 32 := Scalar.divsi v1760 c128_i32_635
  let c1_i32_641 : BitVec 32 := 1#32
  let v1776 : BitVec 32 := Scalar.subi v1761 c1_i32_641
  let v1777 : BitVec 32 := Scalar.select v1775 v1776 v1761
  let c128_i32_642 : BitVec 32 := 128#32
  let v1778 : BitVec 32 := Scalar.muli v1777 c128_i32_642
  let v1779 : BitVec 32 := Scalar.maxsi c0_i32_643 v1778
  let v1780 : BitVec 32 := Scalar.minsi c32512_i32_644 v1779
  let v1781 : BitVec 32 := v1780
  let v1796 : Index := Scalar.indexCast v1781
  ![7, v1796.toNat]

def k1_chk39 (v1759 : BitVec 32) : Prop :=
  (128 ∣ (k1_mult39 v1759).toNat) ∧
  (∀ a, (k1_off78 v1759) a + S1x256.size a ≤ S16x32768.size a)
theorem k1_mult39_dvd : ∀ (v1759 : BitVec 32) (k1_hw39 : k1_chk39 v1759), 128 ∣ (k1_mult39 v1759).toNat := fun v1759 k1_hw39 => k1_hw39.1
theorem k1_off78_inb : ∀ (v1759 : BitVec 32) (k1_hw39 : k1_chk39 v1759), ∀ a, (k1_off78 v1759) a + S1x256.size a ≤ S16x32768.size a := fun v1759 k1_hw39 => k1_hw39.2

def k1_off79 (i : grid1.Coords) : Fin 2 → Nat :=
  let arg0 : BitVec 32 := BitVec.ofNat 32 (i 0).val
  let c16_i32_648 : BitVec 32 := 16#32
  let v1802 : BitVec 32 := Scalar.muli arg0 c16_i32_648
  let c7_i32_649 : BitVec 32 := 7#32
  let v1803 : BitVec 32 := Scalar.addi v1802 c7_i32_649
  let v1804 : Index := Scalar.indexCast v1803
  let c4_650 : Index := 4#32
  ![v1804.toNat, 4]
def k1_mult40 (v1805 : BitVec 32) : BitVec 32 :=
  let c32512_i32_661 : BitVec 32 := 32512#32
  let c0_i32_660 : BitVec 32 := 0#32
  let c32_i32_651 : BitVec 32 := 32#32
  let v1806 : BitVec 32 := Scalar.subi v1805 c32_i32_651
  let c0_i32_653 : BitVec 32 := 0#32
  let v1808 : BitVec 1 := Scalar.cmpi .sgt v1806 c0_i32_653
  let v1809 : BitVec 32 := Scalar.extui v1808
  let c0_i32_654 : BitVec 32 := 0#32
  let v1810 : BitVec 1 := Scalar.cmpi .slt v1806 c0_i32_654
  let v1811 : BitVec 32 := Scalar.extui v1810
  let v1812 : BitVec 32 := Scalar.subi v1809 v1811
  let c128_i32_652 : BitVec 32 := 128#32
  let c0_i32_655 : BitVec 32 := 0#32
  let v1813 : BitVec 1 := Scalar.cmpi .sgt c128_i32_652 c0_i32_655
  let v1814 : BitVec 32 := Scalar.extui v1813
  let c0_i32_656 : BitVec 32 := 0#32
  let v1815 : BitVec 1 := Scalar.cmpi .slt c128_i32_652 c0_i32_656
  let v1816 : BitVec 32 := Scalar.extui v1815
  let v1817 : BitVec 32 := Scalar.subi v1814 v1816
  let v1818 : BitVec 1 := Scalar.cmpi .ne v1812 v1817
  let v1819 : BitVec 32 := Scalar.remsi v1806 c128_i32_652
  let c0_i32_657 : BitVec 32 := 0#32
  let v1820 : BitVec 1 := Scalar.cmpi .ne v1819 c0_i32_657
  let v1821 : BitVec 1 := Scalar.andi v1818 v1820
  let v1807 : BitVec 32 := Scalar.divsi v1806 c128_i32_652
  let c1_i32_658 : BitVec 32 := 1#32
  let v1822 : BitVec 32 := Scalar.subi v1807 c1_i32_658
  let v1823 : BitVec 32 := Scalar.select v1821 v1822 v1807
  let c128_i32_659 : BitVec 32 := 128#32
  let v1824 : BitVec 32 := Scalar.muli v1823 c128_i32_659
  let v1825 : BitVec 32 := Scalar.maxsi c0_i32_660 v1824
  let v1826 : BitVec 32 := Scalar.minsi c32512_i32_661 v1825
  v1826

def k1_off80 (v1805 : BitVec 32) : Fin 2 → Nat :=
  let c7_663 : Index := 7#32
  let c32512_i32_661 : BitVec 32 := 32512#32
  let c0_i32_660 : BitVec 32 := 0#32
  let c32_i32_651 : BitVec 32 := 32#32
  let v1806 : BitVec 32 := Scalar.subi v1805 c32_i32_651
  let c0_i32_653 : BitVec 32 := 0#32
  let v1808 : BitVec 1 := Scalar.cmpi .sgt v1806 c0_i32_653
  let v1809 : BitVec 32 := Scalar.extui v1808
  let c0_i32_654 : BitVec 32 := 0#32
  let v1810 : BitVec 1 := Scalar.cmpi .slt v1806 c0_i32_654
  let v1811 : BitVec 32 := Scalar.extui v1810
  let v1812 : BitVec 32 := Scalar.subi v1809 v1811
  let c128_i32_652 : BitVec 32 := 128#32
  let c0_i32_655 : BitVec 32 := 0#32
  let v1813 : BitVec 1 := Scalar.cmpi .sgt c128_i32_652 c0_i32_655
  let v1814 : BitVec 32 := Scalar.extui v1813
  let c0_i32_656 : BitVec 32 := 0#32
  let v1815 : BitVec 1 := Scalar.cmpi .slt c128_i32_652 c0_i32_656
  let v1816 : BitVec 32 := Scalar.extui v1815
  let v1817 : BitVec 32 := Scalar.subi v1814 v1816
  let v1818 : BitVec 1 := Scalar.cmpi .ne v1812 v1817
  let v1819 : BitVec 32 := Scalar.remsi v1806 c128_i32_652
  let c0_i32_657 : BitVec 32 := 0#32
  let v1820 : BitVec 1 := Scalar.cmpi .ne v1819 c0_i32_657
  let v1821 : BitVec 1 := Scalar.andi v1818 v1820
  let v1807 : BitVec 32 := Scalar.divsi v1806 c128_i32_652
  let c1_i32_658 : BitVec 32 := 1#32
  let v1822 : BitVec 32 := Scalar.subi v1807 c1_i32_658
  let v1823 : BitVec 32 := Scalar.select v1821 v1822 v1807
  let c128_i32_659 : BitVec 32 := 128#32
  let v1824 : BitVec 32 := Scalar.muli v1823 c128_i32_659
  let v1825 : BitVec 32 := Scalar.maxsi c0_i32_660 v1824
  let v1826 : BitVec 32 := Scalar.minsi c32512_i32_661 v1825
  let v1827 : BitVec 32 := v1826
  let v1842 : Index := Scalar.indexCast v1827
  ![7, v1842.toNat]

def k1_chk40 (v1805 : BitVec 32) : Prop :=
  (128 ∣ (k1_mult40 v1805).toNat) ∧
  (∀ a, (k1_off80 v1805) a + S1x256.size a ≤ S16x32768.size a)
theorem k1_mult40_dvd : ∀ (v1805 : BitVec 32) (k1_hw40 : k1_chk40 v1805), 128 ∣ (k1_mult40 v1805).toNat := fun v1805 k1_hw40 => k1_hw40.1
theorem k1_off80_inb : ∀ (v1805 : BitVec 32) (k1_hw40 : k1_chk40 v1805), ∀ a, (k1_off80 v1805) a + S1x256.size a ≤ S16x32768.size a := fun v1805 k1_hw40 => k1_hw40.2

def k1_off81 (i : grid1.Coords) : Fin 2 → Nat :=
  let arg0 : BitVec 32 := BitVec.ofNat 32 (i 0).val
  let c16_i32_665 : BitVec 32 := 16#32
  let v1848 : BitVec 32 := Scalar.muli arg0 c16_i32_665
  let c8_i32 : BitVec 32 := 8#32
  let v1849 : BitVec 32 := Scalar.addi v1848 c8_i32
  let v1850 : Index := Scalar.indexCast v1849
  let c0_666 : Index := 0#32
  ![v1850.toNat, 0]
def k1_mult41 (v1851 : BitVec 32) : BitVec 32 :=
  let c32512_i32_677 : BitVec 32 := 32512#32
  let c0_i32_676 : BitVec 32 := 0#32
  let c32_i32_667 : BitVec 32 := 32#32
  let v1852 : BitVec 32 := Scalar.subi v1851 c32_i32_667
  let c0_i32_669 : BitVec 32 := 0#32
  let v1854 : BitVec 1 := Scalar.cmpi .sgt v1852 c0_i32_669
  let v1855 : BitVec 32 := Scalar.extui v1854
  let c0_i32_670 : BitVec 32 := 0#32
  let v1856 : BitVec 1 := Scalar.cmpi .slt v1852 c0_i32_670
  let v1857 : BitVec 32 := Scalar.extui v1856
  let v1858 : BitVec 32 := Scalar.subi v1855 v1857
  let c128_i32_668 : BitVec 32 := 128#32
  let c0_i32_671 : BitVec 32 := 0#32
  let v1859 : BitVec 1 := Scalar.cmpi .sgt c128_i32_668 c0_i32_671
  let v1860 : BitVec 32 := Scalar.extui v1859
  let c0_i32_672 : BitVec 32 := 0#32
  let v1861 : BitVec 1 := Scalar.cmpi .slt c128_i32_668 c0_i32_672
  let v1862 : BitVec 32 := Scalar.extui v1861
  let v1863 : BitVec 32 := Scalar.subi v1860 v1862
  let v1864 : BitVec 1 := Scalar.cmpi .ne v1858 v1863
  let v1865 : BitVec 32 := Scalar.remsi v1852 c128_i32_668
  let c0_i32_673 : BitVec 32 := 0#32
  let v1866 : BitVec 1 := Scalar.cmpi .ne v1865 c0_i32_673
  let v1867 : BitVec 1 := Scalar.andi v1864 v1866
  let v1853 : BitVec 32 := Scalar.divsi v1852 c128_i32_668
  let c1_i32_674 : BitVec 32 := 1#32
  let v1868 : BitVec 32 := Scalar.subi v1853 c1_i32_674
  let v1869 : BitVec 32 := Scalar.select v1867 v1868 v1853
  let c128_i32_675 : BitVec 32 := 128#32
  let v1870 : BitVec 32 := Scalar.muli v1869 c128_i32_675
  let v1871 : BitVec 32 := Scalar.maxsi c0_i32_676 v1870
  let v1872 : BitVec 32 := Scalar.minsi c32512_i32_677 v1871
  v1872

def k1_off82 (v1851 : BitVec 32) : Fin 2 → Nat :=
  let c8 : Index := 8#32
  let c32512_i32_677 : BitVec 32 := 32512#32
  let c0_i32_676 : BitVec 32 := 0#32
  let c32_i32_667 : BitVec 32 := 32#32
  let v1852 : BitVec 32 := Scalar.subi v1851 c32_i32_667
  let c0_i32_669 : BitVec 32 := 0#32
  let v1854 : BitVec 1 := Scalar.cmpi .sgt v1852 c0_i32_669
  let v1855 : BitVec 32 := Scalar.extui v1854
  let c0_i32_670 : BitVec 32 := 0#32
  let v1856 : BitVec 1 := Scalar.cmpi .slt v1852 c0_i32_670
  let v1857 : BitVec 32 := Scalar.extui v1856
  let v1858 : BitVec 32 := Scalar.subi v1855 v1857
  let c128_i32_668 : BitVec 32 := 128#32
  let c0_i32_671 : BitVec 32 := 0#32
  let v1859 : BitVec 1 := Scalar.cmpi .sgt c128_i32_668 c0_i32_671
  let v1860 : BitVec 32 := Scalar.extui v1859
  let c0_i32_672 : BitVec 32 := 0#32
  let v1861 : BitVec 1 := Scalar.cmpi .slt c128_i32_668 c0_i32_672
  let v1862 : BitVec 32 := Scalar.extui v1861
  let v1863 : BitVec 32 := Scalar.subi v1860 v1862
  let v1864 : BitVec 1 := Scalar.cmpi .ne v1858 v1863
  let v1865 : BitVec 32 := Scalar.remsi v1852 c128_i32_668
  let c0_i32_673 : BitVec 32 := 0#32
  let v1866 : BitVec 1 := Scalar.cmpi .ne v1865 c0_i32_673
  let v1867 : BitVec 1 := Scalar.andi v1864 v1866
  let v1853 : BitVec 32 := Scalar.divsi v1852 c128_i32_668
  let c1_i32_674 : BitVec 32 := 1#32
  let v1868 : BitVec 32 := Scalar.subi v1853 c1_i32_674
  let v1869 : BitVec 32 := Scalar.select v1867 v1868 v1853
  let c128_i32_675 : BitVec 32 := 128#32
  let v1870 : BitVec 32 := Scalar.muli v1869 c128_i32_675
  let v1871 : BitVec 32 := Scalar.maxsi c0_i32_676 v1870
  let v1872 : BitVec 32 := Scalar.minsi c32512_i32_677 v1871
  let v1873 : BitVec 32 := v1872
  let v1888 : Index := Scalar.indexCast v1873
  ![8, v1888.toNat]

def k1_chk41 (v1851 : BitVec 32) : Prop :=
  (128 ∣ (k1_mult41 v1851).toNat) ∧
  (∀ a, (k1_off82 v1851) a + S1x256.size a ≤ S16x32768.size a)
theorem k1_mult41_dvd : ∀ (v1851 : BitVec 32) (k1_hw41 : k1_chk41 v1851), 128 ∣ (k1_mult41 v1851).toNat := fun v1851 k1_hw41 => k1_hw41.1
theorem k1_off82_inb : ∀ (v1851 : BitVec 32) (k1_hw41 : k1_chk41 v1851), ∀ a, (k1_off82 v1851) a + S1x256.size a ≤ S16x32768.size a := fun v1851 k1_hw41 => k1_hw41.2

def k1_off83 (i : grid1.Coords) : Fin 2 → Nat :=
  let arg0 : BitVec 32 := BitVec.ofNat 32 (i 0).val
  let c16_i32_680 : BitVec 32 := 16#32
  let v1894 : BitVec 32 := Scalar.muli arg0 c16_i32_680
  let c8_i32_681 : BitVec 32 := 8#32
  let v1895 : BitVec 32 := Scalar.addi v1894 c8_i32_681
  let v1896 : Index := Scalar.indexCast v1895
  let c1_682 : Index := 1#32
  ![v1896.toNat, 1]
def k1_mult42 (v1897 : BitVec 32) : BitVec 32 :=
  let c32512_i32_693 : BitVec 32 := 32512#32
  let c0_i32_692 : BitVec 32 := 0#32
  let c32_i32_683 : BitVec 32 := 32#32
  let v1898 : BitVec 32 := Scalar.subi v1897 c32_i32_683
  let c0_i32_685 : BitVec 32 := 0#32
  let v1900 : BitVec 1 := Scalar.cmpi .sgt v1898 c0_i32_685
  let v1901 : BitVec 32 := Scalar.extui v1900
  let c0_i32_686 : BitVec 32 := 0#32
  let v1902 : BitVec 1 := Scalar.cmpi .slt v1898 c0_i32_686
  let v1903 : BitVec 32 := Scalar.extui v1902
  let v1904 : BitVec 32 := Scalar.subi v1901 v1903
  let c128_i32_684 : BitVec 32 := 128#32
  let c0_i32_687 : BitVec 32 := 0#32
  let v1905 : BitVec 1 := Scalar.cmpi .sgt c128_i32_684 c0_i32_687
  let v1906 : BitVec 32 := Scalar.extui v1905
  let c0_i32_688 : BitVec 32 := 0#32
  let v1907 : BitVec 1 := Scalar.cmpi .slt c128_i32_684 c0_i32_688
  let v1908 : BitVec 32 := Scalar.extui v1907
  let v1909 : BitVec 32 := Scalar.subi v1906 v1908
  let v1910 : BitVec 1 := Scalar.cmpi .ne v1904 v1909
  let v1911 : BitVec 32 := Scalar.remsi v1898 c128_i32_684
  let c0_i32_689 : BitVec 32 := 0#32
  let v1912 : BitVec 1 := Scalar.cmpi .ne v1911 c0_i32_689
  let v1913 : BitVec 1 := Scalar.andi v1910 v1912
  let v1899 : BitVec 32 := Scalar.divsi v1898 c128_i32_684
  let c1_i32_690 : BitVec 32 := 1#32
  let v1914 : BitVec 32 := Scalar.subi v1899 c1_i32_690
  let v1915 : BitVec 32 := Scalar.select v1913 v1914 v1899
  let c128_i32_691 : BitVec 32 := 128#32
  let v1916 : BitVec 32 := Scalar.muli v1915 c128_i32_691
  let v1917 : BitVec 32 := Scalar.maxsi c0_i32_692 v1916
  let v1918 : BitVec 32 := Scalar.minsi c32512_i32_693 v1917
  v1918

def k1_off84 (v1897 : BitVec 32) : Fin 2 → Nat :=
  let c8_695 : Index := 8#32
  let c32512_i32_693 : BitVec 32 := 32512#32
  let c0_i32_692 : BitVec 32 := 0#32
  let c32_i32_683 : BitVec 32 := 32#32
  let v1898 : BitVec 32 := Scalar.subi v1897 c32_i32_683
  let c0_i32_685 : BitVec 32 := 0#32
  let v1900 : BitVec 1 := Scalar.cmpi .sgt v1898 c0_i32_685
  let v1901 : BitVec 32 := Scalar.extui v1900
  let c0_i32_686 : BitVec 32 := 0#32
  let v1902 : BitVec 1 := Scalar.cmpi .slt v1898 c0_i32_686
  let v1903 : BitVec 32 := Scalar.extui v1902
  let v1904 : BitVec 32 := Scalar.subi v1901 v1903
  let c128_i32_684 : BitVec 32 := 128#32
  let c0_i32_687 : BitVec 32 := 0#32
  let v1905 : BitVec 1 := Scalar.cmpi .sgt c128_i32_684 c0_i32_687
  let v1906 : BitVec 32 := Scalar.extui v1905
  let c0_i32_688 : BitVec 32 := 0#32
  let v1907 : BitVec 1 := Scalar.cmpi .slt c128_i32_684 c0_i32_688
  let v1908 : BitVec 32 := Scalar.extui v1907
  let v1909 : BitVec 32 := Scalar.subi v1906 v1908
  let v1910 : BitVec 1 := Scalar.cmpi .ne v1904 v1909
  let v1911 : BitVec 32 := Scalar.remsi v1898 c128_i32_684
  let c0_i32_689 : BitVec 32 := 0#32
  let v1912 : BitVec 1 := Scalar.cmpi .ne v1911 c0_i32_689
  let v1913 : BitVec 1 := Scalar.andi v1910 v1912
  let v1899 : BitVec 32 := Scalar.divsi v1898 c128_i32_684
  let c1_i32_690 : BitVec 32 := 1#32
  let v1914 : BitVec 32 := Scalar.subi v1899 c1_i32_690
  let v1915 : BitVec 32 := Scalar.select v1913 v1914 v1899
  let c128_i32_691 : BitVec 32 := 128#32
  let v1916 : BitVec 32 := Scalar.muli v1915 c128_i32_691
  let v1917 : BitVec 32 := Scalar.maxsi c0_i32_692 v1916
  let v1918 : BitVec 32 := Scalar.minsi c32512_i32_693 v1917
  let v1919 : BitVec 32 := v1918
  let v1934 : Index := Scalar.indexCast v1919
  ![8, v1934.toNat]

def k1_chk42 (v1897 : BitVec 32) : Prop :=
  (128 ∣ (k1_mult42 v1897).toNat) ∧
  (∀ a, (k1_off84 v1897) a + S1x256.size a ≤ S16x32768.size a)
theorem k1_mult42_dvd : ∀ (v1897 : BitVec 32) (k1_hw42 : k1_chk42 v1897), 128 ∣ (k1_mult42 v1897).toNat := fun v1897 k1_hw42 => k1_hw42.1
theorem k1_off84_inb : ∀ (v1897 : BitVec 32) (k1_hw42 : k1_chk42 v1897), ∀ a, (k1_off84 v1897) a + S1x256.size a ≤ S16x32768.size a := fun v1897 k1_hw42 => k1_hw42.2

def k1_off85 (i : grid1.Coords) : Fin 2 → Nat :=
  let arg0 : BitVec 32 := BitVec.ofNat 32 (i 0).val
  let c16_i32_697 : BitVec 32 := 16#32
  let v1940 : BitVec 32 := Scalar.muli arg0 c16_i32_697
  let c8_i32_698 : BitVec 32 := 8#32
  let v1941 : BitVec 32 := Scalar.addi v1940 c8_i32_698
  let v1942 : Index := Scalar.indexCast v1941
  let c2_699 : Index := 2#32
  ![v1942.toNat, 2]
def k1_mult43 (v1943 : BitVec 32) : BitVec 32 :=
  let c32512_i32_710 : BitVec 32 := 32512#32
  let c0_i32_709 : BitVec 32 := 0#32
  let c32_i32_700 : BitVec 32 := 32#32
  let v1944 : BitVec 32 := Scalar.subi v1943 c32_i32_700
  let c0_i32_702 : BitVec 32 := 0#32
  let v1946 : BitVec 1 := Scalar.cmpi .sgt v1944 c0_i32_702
  let v1947 : BitVec 32 := Scalar.extui v1946
  let c0_i32_703 : BitVec 32 := 0#32
  let v1948 : BitVec 1 := Scalar.cmpi .slt v1944 c0_i32_703
  let v1949 : BitVec 32 := Scalar.extui v1948
  let v1950 : BitVec 32 := Scalar.subi v1947 v1949
  let c128_i32_701 : BitVec 32 := 128#32
  let c0_i32_704 : BitVec 32 := 0#32
  let v1951 : BitVec 1 := Scalar.cmpi .sgt c128_i32_701 c0_i32_704
  let v1952 : BitVec 32 := Scalar.extui v1951
  let c0_i32_705 : BitVec 32 := 0#32
  let v1953 : BitVec 1 := Scalar.cmpi .slt c128_i32_701 c0_i32_705
  let v1954 : BitVec 32 := Scalar.extui v1953
  let v1955 : BitVec 32 := Scalar.subi v1952 v1954
  let v1956 : BitVec 1 := Scalar.cmpi .ne v1950 v1955
  let v1957 : BitVec 32 := Scalar.remsi v1944 c128_i32_701
  let c0_i32_706 : BitVec 32 := 0#32
  let v1958 : BitVec 1 := Scalar.cmpi .ne v1957 c0_i32_706
  let v1959 : BitVec 1 := Scalar.andi v1956 v1958
  let v1945 : BitVec 32 := Scalar.divsi v1944 c128_i32_701
  let c1_i32_707 : BitVec 32 := 1#32
  let v1960 : BitVec 32 := Scalar.subi v1945 c1_i32_707
  let v1961 : BitVec 32 := Scalar.select v1959 v1960 v1945
  let c128_i32_708 : BitVec 32 := 128#32
  let v1962 : BitVec 32 := Scalar.muli v1961 c128_i32_708
  let v1963 : BitVec 32 := Scalar.maxsi c0_i32_709 v1962
  let v1964 : BitVec 32 := Scalar.minsi c32512_i32_710 v1963
  v1964

def k1_off86 (v1943 : BitVec 32) : Fin 2 → Nat :=
  let c8_712 : Index := 8#32
  let c32512_i32_710 : BitVec 32 := 32512#32
  let c0_i32_709 : BitVec 32 := 0#32
  let c32_i32_700 : BitVec 32 := 32#32
  let v1944 : BitVec 32 := Scalar.subi v1943 c32_i32_700
  let c0_i32_702 : BitVec 32 := 0#32
  let v1946 : BitVec 1 := Scalar.cmpi .sgt v1944 c0_i32_702
  let v1947 : BitVec 32 := Scalar.extui v1946
  let c0_i32_703 : BitVec 32 := 0#32
  let v1948 : BitVec 1 := Scalar.cmpi .slt v1944 c0_i32_703
  let v1949 : BitVec 32 := Scalar.extui v1948
  let v1950 : BitVec 32 := Scalar.subi v1947 v1949
  let c128_i32_701 : BitVec 32 := 128#32
  let c0_i32_704 : BitVec 32 := 0#32
  let v1951 : BitVec 1 := Scalar.cmpi .sgt c128_i32_701 c0_i32_704
  let v1952 : BitVec 32 := Scalar.extui v1951
  let c0_i32_705 : BitVec 32 := 0#32
  let v1953 : BitVec 1 := Scalar.cmpi .slt c128_i32_701 c0_i32_705
  let v1954 : BitVec 32 := Scalar.extui v1953
  let v1955 : BitVec 32 := Scalar.subi v1952 v1954
  let v1956 : BitVec 1 := Scalar.cmpi .ne v1950 v1955
  let v1957 : BitVec 32 := Scalar.remsi v1944 c128_i32_701
  let c0_i32_706 : BitVec 32 := 0#32
  let v1958 : BitVec 1 := Scalar.cmpi .ne v1957 c0_i32_706
  let v1959 : BitVec 1 := Scalar.andi v1956 v1958
  let v1945 : BitVec 32 := Scalar.divsi v1944 c128_i32_701
  let c1_i32_707 : BitVec 32 := 1#32
  let v1960 : BitVec 32 := Scalar.subi v1945 c1_i32_707
  let v1961 : BitVec 32 := Scalar.select v1959 v1960 v1945
  let c128_i32_708 : BitVec 32 := 128#32
  let v1962 : BitVec 32 := Scalar.muli v1961 c128_i32_708
  let v1963 : BitVec 32 := Scalar.maxsi c0_i32_709 v1962
  let v1964 : BitVec 32 := Scalar.minsi c32512_i32_710 v1963
  let v1965 : BitVec 32 := v1964
  let v1980 : Index := Scalar.indexCast v1965
  ![8, v1980.toNat]

def k1_chk43 (v1943 : BitVec 32) : Prop :=
  (128 ∣ (k1_mult43 v1943).toNat) ∧
  (∀ a, (k1_off86 v1943) a + S1x256.size a ≤ S16x32768.size a)
theorem k1_mult43_dvd : ∀ (v1943 : BitVec 32) (k1_hw43 : k1_chk43 v1943), 128 ∣ (k1_mult43 v1943).toNat := fun v1943 k1_hw43 => k1_hw43.1
theorem k1_off86_inb : ∀ (v1943 : BitVec 32) (k1_hw43 : k1_chk43 v1943), ∀ a, (k1_off86 v1943) a + S1x256.size a ≤ S16x32768.size a := fun v1943 k1_hw43 => k1_hw43.2

def k1_off87 (i : grid1.Coords) : Fin 2 → Nat :=
  let arg0 : BitVec 32 := BitVec.ofNat 32 (i 0).val
  let c16_i32_714 : BitVec 32 := 16#32
  let v1986 : BitVec 32 := Scalar.muli arg0 c16_i32_714
  let c8_i32_715 : BitVec 32 := 8#32
  let v1987 : BitVec 32 := Scalar.addi v1986 c8_i32_715
  let v1988 : Index := Scalar.indexCast v1987
  let c3_716 : Index := 3#32
  ![v1988.toNat, 3]
def k1_mult44 (v1989 : BitVec 32) : BitVec 32 :=
  let c32512_i32_727 : BitVec 32 := 32512#32
  let c0_i32_726 : BitVec 32 := 0#32
  let c32_i32_717 : BitVec 32 := 32#32
  let v1990 : BitVec 32 := Scalar.subi v1989 c32_i32_717
  let c0_i32_719 : BitVec 32 := 0#32
  let v1992 : BitVec 1 := Scalar.cmpi .sgt v1990 c0_i32_719
  let v1993 : BitVec 32 := Scalar.extui v1992
  let c0_i32_720 : BitVec 32 := 0#32
  let v1994 : BitVec 1 := Scalar.cmpi .slt v1990 c0_i32_720
  let v1995 : BitVec 32 := Scalar.extui v1994
  let v1996 : BitVec 32 := Scalar.subi v1993 v1995
  let c128_i32_718 : BitVec 32 := 128#32
  let c0_i32_721 : BitVec 32 := 0#32
  let v1997 : BitVec 1 := Scalar.cmpi .sgt c128_i32_718 c0_i32_721
  let v1998 : BitVec 32 := Scalar.extui v1997
  let c0_i32_722 : BitVec 32 := 0#32
  let v1999 : BitVec 1 := Scalar.cmpi .slt c128_i32_718 c0_i32_722
  let v2000 : BitVec 32 := Scalar.extui v1999
  let v2001 : BitVec 32 := Scalar.subi v1998 v2000
  let v2002 : BitVec 1 := Scalar.cmpi .ne v1996 v2001
  let v2003 : BitVec 32 := Scalar.remsi v1990 c128_i32_718
  let c0_i32_723 : BitVec 32 := 0#32
  let v2004 : BitVec 1 := Scalar.cmpi .ne v2003 c0_i32_723
  let v2005 : BitVec 1 := Scalar.andi v2002 v2004
  let v1991 : BitVec 32 := Scalar.divsi v1990 c128_i32_718
  let c1_i32_724 : BitVec 32 := 1#32
  let v2006 : BitVec 32 := Scalar.subi v1991 c1_i32_724
  let v2007 : BitVec 32 := Scalar.select v2005 v2006 v1991
  let c128_i32_725 : BitVec 32 := 128#32
  let v2008 : BitVec 32 := Scalar.muli v2007 c128_i32_725
  let v2009 : BitVec 32 := Scalar.maxsi c0_i32_726 v2008
  let v2010 : BitVec 32 := Scalar.minsi c32512_i32_727 v2009
  v2010

def k1_off88 (v1989 : BitVec 32) : Fin 2 → Nat :=
  let c8_729 : Index := 8#32
  let c32512_i32_727 : BitVec 32 := 32512#32
  let c0_i32_726 : BitVec 32 := 0#32
  let c32_i32_717 : BitVec 32 := 32#32
  let v1990 : BitVec 32 := Scalar.subi v1989 c32_i32_717
  let c0_i32_719 : BitVec 32 := 0#32
  let v1992 : BitVec 1 := Scalar.cmpi .sgt v1990 c0_i32_719
  let v1993 : BitVec 32 := Scalar.extui v1992
  let c0_i32_720 : BitVec 32 := 0#32
  let v1994 : BitVec 1 := Scalar.cmpi .slt v1990 c0_i32_720
  let v1995 : BitVec 32 := Scalar.extui v1994
  let v1996 : BitVec 32 := Scalar.subi v1993 v1995
  let c128_i32_718 : BitVec 32 := 128#32
  let c0_i32_721 : BitVec 32 := 0#32
  let v1997 : BitVec 1 := Scalar.cmpi .sgt c128_i32_718 c0_i32_721
  let v1998 : BitVec 32 := Scalar.extui v1997
  let c0_i32_722 : BitVec 32 := 0#32
  let v1999 : BitVec 1 := Scalar.cmpi .slt c128_i32_718 c0_i32_722
  let v2000 : BitVec 32 := Scalar.extui v1999
  let v2001 : BitVec 32 := Scalar.subi v1998 v2000
  let v2002 : BitVec 1 := Scalar.cmpi .ne v1996 v2001
  let v2003 : BitVec 32 := Scalar.remsi v1990 c128_i32_718
  let c0_i32_723 : BitVec 32 := 0#32
  let v2004 : BitVec 1 := Scalar.cmpi .ne v2003 c0_i32_723
  let v2005 : BitVec 1 := Scalar.andi v2002 v2004
  let v1991 : BitVec 32 := Scalar.divsi v1990 c128_i32_718
  let c1_i32_724 : BitVec 32 := 1#32
  let v2006 : BitVec 32 := Scalar.subi v1991 c1_i32_724
  let v2007 : BitVec 32 := Scalar.select v2005 v2006 v1991
  let c128_i32_725 : BitVec 32 := 128#32
  let v2008 : BitVec 32 := Scalar.muli v2007 c128_i32_725
  let v2009 : BitVec 32 := Scalar.maxsi c0_i32_726 v2008
  let v2010 : BitVec 32 := Scalar.minsi c32512_i32_727 v2009
  let v2011 : BitVec 32 := v2010
  let v2026 : Index := Scalar.indexCast v2011
  ![8, v2026.toNat]

def k1_chk44 (v1989 : BitVec 32) : Prop :=
  (128 ∣ (k1_mult44 v1989).toNat) ∧
  (∀ a, (k1_off88 v1989) a + S1x256.size a ≤ S16x32768.size a)
theorem k1_mult44_dvd : ∀ (v1989 : BitVec 32) (k1_hw44 : k1_chk44 v1989), 128 ∣ (k1_mult44 v1989).toNat := fun v1989 k1_hw44 => k1_hw44.1
theorem k1_off88_inb : ∀ (v1989 : BitVec 32) (k1_hw44 : k1_chk44 v1989), ∀ a, (k1_off88 v1989) a + S1x256.size a ≤ S16x32768.size a := fun v1989 k1_hw44 => k1_hw44.2

def k1_off89 (i : grid1.Coords) : Fin 2 → Nat :=
  let arg0 : BitVec 32 := BitVec.ofNat 32 (i 0).val
  let c16_i32_731 : BitVec 32 := 16#32
  let v2032 : BitVec 32 := Scalar.muli arg0 c16_i32_731
  let c8_i32_732 : BitVec 32 := 8#32
  let v2033 : BitVec 32 := Scalar.addi v2032 c8_i32_732
  let v2034 : Index := Scalar.indexCast v2033
  let c4_733 : Index := 4#32
  ![v2034.toNat, 4]
def k1_mult45 (v2035 : BitVec 32) : BitVec 32 :=
  let c32512_i32_744 : BitVec 32 := 32512#32
  let c0_i32_743 : BitVec 32 := 0#32
  let c32_i32_734 : BitVec 32 := 32#32
  let v2036 : BitVec 32 := Scalar.subi v2035 c32_i32_734
  let c0_i32_736 : BitVec 32 := 0#32
  let v2038 : BitVec 1 := Scalar.cmpi .sgt v2036 c0_i32_736
  let v2039 : BitVec 32 := Scalar.extui v2038
  let c0_i32_737 : BitVec 32 := 0#32
  let v2040 : BitVec 1 := Scalar.cmpi .slt v2036 c0_i32_737
  let v2041 : BitVec 32 := Scalar.extui v2040
  let v2042 : BitVec 32 := Scalar.subi v2039 v2041
  let c128_i32_735 : BitVec 32 := 128#32
  let c0_i32_738 : BitVec 32 := 0#32
  let v2043 : BitVec 1 := Scalar.cmpi .sgt c128_i32_735 c0_i32_738
  let v2044 : BitVec 32 := Scalar.extui v2043
  let c0_i32_739 : BitVec 32 := 0#32
  let v2045 : BitVec 1 := Scalar.cmpi .slt c128_i32_735 c0_i32_739
  let v2046 : BitVec 32 := Scalar.extui v2045
  let v2047 : BitVec 32 := Scalar.subi v2044 v2046
  let v2048 : BitVec 1 := Scalar.cmpi .ne v2042 v2047
  let v2049 : BitVec 32 := Scalar.remsi v2036 c128_i32_735
  let c0_i32_740 : BitVec 32 := 0#32
  let v2050 : BitVec 1 := Scalar.cmpi .ne v2049 c0_i32_740
  let v2051 : BitVec 1 := Scalar.andi v2048 v2050
  let v2037 : BitVec 32 := Scalar.divsi v2036 c128_i32_735
  let c1_i32_741 : BitVec 32 := 1#32
  let v2052 : BitVec 32 := Scalar.subi v2037 c1_i32_741
  let v2053 : BitVec 32 := Scalar.select v2051 v2052 v2037
  let c128_i32_742 : BitVec 32 := 128#32
  let v2054 : BitVec 32 := Scalar.muli v2053 c128_i32_742
  let v2055 : BitVec 32 := Scalar.maxsi c0_i32_743 v2054
  let v2056 : BitVec 32 := Scalar.minsi c32512_i32_744 v2055
  v2056

def k1_off90 (v2035 : BitVec 32) : Fin 2 → Nat :=
  let c8_746 : Index := 8#32
  let c32512_i32_744 : BitVec 32 := 32512#32
  let c0_i32_743 : BitVec 32 := 0#32
  let c32_i32_734 : BitVec 32 := 32#32
  let v2036 : BitVec 32 := Scalar.subi v2035 c32_i32_734
  let c0_i32_736 : BitVec 32 := 0#32
  let v2038 : BitVec 1 := Scalar.cmpi .sgt v2036 c0_i32_736
  let v2039 : BitVec 32 := Scalar.extui v2038
  let c0_i32_737 : BitVec 32 := 0#32
  let v2040 : BitVec 1 := Scalar.cmpi .slt v2036 c0_i32_737
  let v2041 : BitVec 32 := Scalar.extui v2040
  let v2042 : BitVec 32 := Scalar.subi v2039 v2041
  let c128_i32_735 : BitVec 32 := 128#32
  let c0_i32_738 : BitVec 32 := 0#32
  let v2043 : BitVec 1 := Scalar.cmpi .sgt c128_i32_735 c0_i32_738
  let v2044 : BitVec 32 := Scalar.extui v2043
  let c0_i32_739 : BitVec 32 := 0#32
  let v2045 : BitVec 1 := Scalar.cmpi .slt c128_i32_735 c0_i32_739
  let v2046 : BitVec 32 := Scalar.extui v2045
  let v2047 : BitVec 32 := Scalar.subi v2044 v2046
  let v2048 : BitVec 1 := Scalar.cmpi .ne v2042 v2047
  let v2049 : BitVec 32 := Scalar.remsi v2036 c128_i32_735
  let c0_i32_740 : BitVec 32 := 0#32
  let v2050 : BitVec 1 := Scalar.cmpi .ne v2049 c0_i32_740
  let v2051 : BitVec 1 := Scalar.andi v2048 v2050
  let v2037 : BitVec 32 := Scalar.divsi v2036 c128_i32_735
  let c1_i32_741 : BitVec 32 := 1#32
  let v2052 : BitVec 32 := Scalar.subi v2037 c1_i32_741
  let v2053 : BitVec 32 := Scalar.select v2051 v2052 v2037
  let c128_i32_742 : BitVec 32 := 128#32
  let v2054 : BitVec 32 := Scalar.muli v2053 c128_i32_742
  let v2055 : BitVec 32 := Scalar.maxsi c0_i32_743 v2054
  let v2056 : BitVec 32 := Scalar.minsi c32512_i32_744 v2055
  let v2057 : BitVec 32 := v2056
  let v2072 : Index := Scalar.indexCast v2057
  ![8, v2072.toNat]

def k1_chk45 (v2035 : BitVec 32) : Prop :=
  (128 ∣ (k1_mult45 v2035).toNat) ∧
  (∀ a, (k1_off90 v2035) a + S1x256.size a ≤ S16x32768.size a)
theorem k1_mult45_dvd : ∀ (v2035 : BitVec 32) (k1_hw45 : k1_chk45 v2035), 128 ∣ (k1_mult45 v2035).toNat := fun v2035 k1_hw45 => k1_hw45.1
theorem k1_off90_inb : ∀ (v2035 : BitVec 32) (k1_hw45 : k1_chk45 v2035), ∀ a, (k1_off90 v2035) a + S1x256.size a ≤ S16x32768.size a := fun v2035 k1_hw45 => k1_hw45.2

def k1_off91 (i : grid1.Coords) : Fin 2 → Nat :=
  let arg0 : BitVec 32 := BitVec.ofNat 32 (i 0).val
  let c16_i32_748 : BitVec 32 := 16#32
  let v2078 : BitVec 32 := Scalar.muli arg0 c16_i32_748
  let c9_i32 : BitVec 32 := 9#32
  let v2079 : BitVec 32 := Scalar.addi v2078 c9_i32
  let v2080 : Index := Scalar.indexCast v2079
  let c0_749 : Index := 0#32
  ![v2080.toNat, 0]
def k1_mult46 (v2081 : BitVec 32) : BitVec 32 :=
  let c32512_i32_760 : BitVec 32 := 32512#32
  let c0_i32_759 : BitVec 32 := 0#32
  let c32_i32_750 : BitVec 32 := 32#32
  let v2082 : BitVec 32 := Scalar.subi v2081 c32_i32_750
  let c0_i32_752 : BitVec 32 := 0#32
  let v2084 : BitVec 1 := Scalar.cmpi .sgt v2082 c0_i32_752
  let v2085 : BitVec 32 := Scalar.extui v2084
  let c0_i32_753 : BitVec 32 := 0#32
  let v2086 : BitVec 1 := Scalar.cmpi .slt v2082 c0_i32_753
  let v2087 : BitVec 32 := Scalar.extui v2086
  let v2088 : BitVec 32 := Scalar.subi v2085 v2087
  let c128_i32_751 : BitVec 32 := 128#32
  let c0_i32_754 : BitVec 32 := 0#32
  let v2089 : BitVec 1 := Scalar.cmpi .sgt c128_i32_751 c0_i32_754
  let v2090 : BitVec 32 := Scalar.extui v2089
  let c0_i32_755 : BitVec 32 := 0#32
  let v2091 : BitVec 1 := Scalar.cmpi .slt c128_i32_751 c0_i32_755
  let v2092 : BitVec 32 := Scalar.extui v2091
  let v2093 : BitVec 32 := Scalar.subi v2090 v2092
  let v2094 : BitVec 1 := Scalar.cmpi .ne v2088 v2093
  let v2095 : BitVec 32 := Scalar.remsi v2082 c128_i32_751
  let c0_i32_756 : BitVec 32 := 0#32
  let v2096 : BitVec 1 := Scalar.cmpi .ne v2095 c0_i32_756
  let v2097 : BitVec 1 := Scalar.andi v2094 v2096
  let v2083 : BitVec 32 := Scalar.divsi v2082 c128_i32_751
  let c1_i32_757 : BitVec 32 := 1#32
  let v2098 : BitVec 32 := Scalar.subi v2083 c1_i32_757
  let v2099 : BitVec 32 := Scalar.select v2097 v2098 v2083
  let c128_i32_758 : BitVec 32 := 128#32
  let v2100 : BitVec 32 := Scalar.muli v2099 c128_i32_758
  let v2101 : BitVec 32 := Scalar.maxsi c0_i32_759 v2100
  let v2102 : BitVec 32 := Scalar.minsi c32512_i32_760 v2101
  v2102

def k1_off92 (v2081 : BitVec 32) : Fin 2 → Nat :=
  let c9 : Index := 9#32
  let c32512_i32_760 : BitVec 32 := 32512#32
  let c0_i32_759 : BitVec 32 := 0#32
  let c32_i32_750 : BitVec 32 := 32#32
  let v2082 : BitVec 32 := Scalar.subi v2081 c32_i32_750
  let c0_i32_752 : BitVec 32 := 0#32
  let v2084 : BitVec 1 := Scalar.cmpi .sgt v2082 c0_i32_752
  let v2085 : BitVec 32 := Scalar.extui v2084
  let c0_i32_753 : BitVec 32 := 0#32
  let v2086 : BitVec 1 := Scalar.cmpi .slt v2082 c0_i32_753
  let v2087 : BitVec 32 := Scalar.extui v2086
  let v2088 : BitVec 32 := Scalar.subi v2085 v2087
  let c128_i32_751 : BitVec 32 := 128#32
  let c0_i32_754 : BitVec 32 := 0#32
  let v2089 : BitVec 1 := Scalar.cmpi .sgt c128_i32_751 c0_i32_754
  let v2090 : BitVec 32 := Scalar.extui v2089
  let c0_i32_755 : BitVec 32 := 0#32
  let v2091 : BitVec 1 := Scalar.cmpi .slt c128_i32_751 c0_i32_755
  let v2092 : BitVec 32 := Scalar.extui v2091
  let v2093 : BitVec 32 := Scalar.subi v2090 v2092
  let v2094 : BitVec 1 := Scalar.cmpi .ne v2088 v2093
  let v2095 : BitVec 32 := Scalar.remsi v2082 c128_i32_751
  let c0_i32_756 : BitVec 32 := 0#32
  let v2096 : BitVec 1 := Scalar.cmpi .ne v2095 c0_i32_756
  let v2097 : BitVec 1 := Scalar.andi v2094 v2096
  let v2083 : BitVec 32 := Scalar.divsi v2082 c128_i32_751
  let c1_i32_757 : BitVec 32 := 1#32
  let v2098 : BitVec 32 := Scalar.subi v2083 c1_i32_757
  let v2099 : BitVec 32 := Scalar.select v2097 v2098 v2083
  let c128_i32_758 : BitVec 32 := 128#32
  let v2100 : BitVec 32 := Scalar.muli v2099 c128_i32_758
  let v2101 : BitVec 32 := Scalar.maxsi c0_i32_759 v2100
  let v2102 : BitVec 32 := Scalar.minsi c32512_i32_760 v2101
  let v2103 : BitVec 32 := v2102
  let v2118 : Index := Scalar.indexCast v2103
  ![9, v2118.toNat]

def k1_chk46 (v2081 : BitVec 32) : Prop :=
  (128 ∣ (k1_mult46 v2081).toNat) ∧
  (∀ a, (k1_off92 v2081) a + S1x256.size a ≤ S16x32768.size a)
theorem k1_mult46_dvd : ∀ (v2081 : BitVec 32) (k1_hw46 : k1_chk46 v2081), 128 ∣ (k1_mult46 v2081).toNat := fun v2081 k1_hw46 => k1_hw46.1
theorem k1_off92_inb : ∀ (v2081 : BitVec 32) (k1_hw46 : k1_chk46 v2081), ∀ a, (k1_off92 v2081) a + S1x256.size a ≤ S16x32768.size a := fun v2081 k1_hw46 => k1_hw46.2

def k1_off93 (i : grid1.Coords) : Fin 2 → Nat :=
  let arg0 : BitVec 32 := BitVec.ofNat 32 (i 0).val
  let c16_i32_763 : BitVec 32 := 16#32
  let v2124 : BitVec 32 := Scalar.muli arg0 c16_i32_763
  let c9_i32_764 : BitVec 32 := 9#32
  let v2125 : BitVec 32 := Scalar.addi v2124 c9_i32_764
  let v2126 : Index := Scalar.indexCast v2125
  let c1_765 : Index := 1#32
  ![v2126.toNat, 1]
def k1_mult47 (v2127 : BitVec 32) : BitVec 32 :=
  let c32512_i32_776 : BitVec 32 := 32512#32
  let c0_i32_775 : BitVec 32 := 0#32
  let c32_i32_766 : BitVec 32 := 32#32
  let v2128 : BitVec 32 := Scalar.subi v2127 c32_i32_766
  let c0_i32_768 : BitVec 32 := 0#32
  let v2130 : BitVec 1 := Scalar.cmpi .sgt v2128 c0_i32_768
  let v2131 : BitVec 32 := Scalar.extui v2130
  let c0_i32_769 : BitVec 32 := 0#32
  let v2132 : BitVec 1 := Scalar.cmpi .slt v2128 c0_i32_769
  let v2133 : BitVec 32 := Scalar.extui v2132
  let v2134 : BitVec 32 := Scalar.subi v2131 v2133
  let c128_i32_767 : BitVec 32 := 128#32
  let c0_i32_770 : BitVec 32 := 0#32
  let v2135 : BitVec 1 := Scalar.cmpi .sgt c128_i32_767 c0_i32_770
  let v2136 : BitVec 32 := Scalar.extui v2135
  let c0_i32_771 : BitVec 32 := 0#32
  let v2137 : BitVec 1 := Scalar.cmpi .slt c128_i32_767 c0_i32_771
  let v2138 : BitVec 32 := Scalar.extui v2137
  let v2139 : BitVec 32 := Scalar.subi v2136 v2138
  let v2140 : BitVec 1 := Scalar.cmpi .ne v2134 v2139
  let v2141 : BitVec 32 := Scalar.remsi v2128 c128_i32_767
  let c0_i32_772 : BitVec 32 := 0#32
  let v2142 : BitVec 1 := Scalar.cmpi .ne v2141 c0_i32_772
  let v2143 : BitVec 1 := Scalar.andi v2140 v2142
  let v2129 : BitVec 32 := Scalar.divsi v2128 c128_i32_767
  let c1_i32_773 : BitVec 32 := 1#32
  let v2144 : BitVec 32 := Scalar.subi v2129 c1_i32_773
  let v2145 : BitVec 32 := Scalar.select v2143 v2144 v2129
  let c128_i32_774 : BitVec 32 := 128#32
  let v2146 : BitVec 32 := Scalar.muli v2145 c128_i32_774
  let v2147 : BitVec 32 := Scalar.maxsi c0_i32_775 v2146
  let v2148 : BitVec 32 := Scalar.minsi c32512_i32_776 v2147
  v2148

def k1_off94 (v2127 : BitVec 32) : Fin 2 → Nat :=
  let c9_778 : Index := 9#32
  let c32512_i32_776 : BitVec 32 := 32512#32
  let c0_i32_775 : BitVec 32 := 0#32
  let c32_i32_766 : BitVec 32 := 32#32
  let v2128 : BitVec 32 := Scalar.subi v2127 c32_i32_766
  let c0_i32_768 : BitVec 32 := 0#32
  let v2130 : BitVec 1 := Scalar.cmpi .sgt v2128 c0_i32_768
  let v2131 : BitVec 32 := Scalar.extui v2130
  let c0_i32_769 : BitVec 32 := 0#32
  let v2132 : BitVec 1 := Scalar.cmpi .slt v2128 c0_i32_769
  let v2133 : BitVec 32 := Scalar.extui v2132
  let v2134 : BitVec 32 := Scalar.subi v2131 v2133
  let c128_i32_767 : BitVec 32 := 128#32
  let c0_i32_770 : BitVec 32 := 0#32
  let v2135 : BitVec 1 := Scalar.cmpi .sgt c128_i32_767 c0_i32_770
  let v2136 : BitVec 32 := Scalar.extui v2135
  let c0_i32_771 : BitVec 32 := 0#32
  let v2137 : BitVec 1 := Scalar.cmpi .slt c128_i32_767 c0_i32_771
  let v2138 : BitVec 32 := Scalar.extui v2137
  let v2139 : BitVec 32 := Scalar.subi v2136 v2138
  let v2140 : BitVec 1 := Scalar.cmpi .ne v2134 v2139
  let v2141 : BitVec 32 := Scalar.remsi v2128 c128_i32_767
  let c0_i32_772 : BitVec 32 := 0#32
  let v2142 : BitVec 1 := Scalar.cmpi .ne v2141 c0_i32_772
  let v2143 : BitVec 1 := Scalar.andi v2140 v2142
  let v2129 : BitVec 32 := Scalar.divsi v2128 c128_i32_767
  let c1_i32_773 : BitVec 32 := 1#32
  let v2144 : BitVec 32 := Scalar.subi v2129 c1_i32_773
  let v2145 : BitVec 32 := Scalar.select v2143 v2144 v2129
  let c128_i32_774 : BitVec 32 := 128#32
  let v2146 : BitVec 32 := Scalar.muli v2145 c128_i32_774
  let v2147 : BitVec 32 := Scalar.maxsi c0_i32_775 v2146
  let v2148 : BitVec 32 := Scalar.minsi c32512_i32_776 v2147
  let v2149 : BitVec 32 := v2148
  let v2164 : Index := Scalar.indexCast v2149
  ![9, v2164.toNat]

def k1_chk47 (v2127 : BitVec 32) : Prop :=
  (128 ∣ (k1_mult47 v2127).toNat) ∧
  (∀ a, (k1_off94 v2127) a + S1x256.size a ≤ S16x32768.size a)
theorem k1_mult47_dvd : ∀ (v2127 : BitVec 32) (k1_hw47 : k1_chk47 v2127), 128 ∣ (k1_mult47 v2127).toNat := fun v2127 k1_hw47 => k1_hw47.1
theorem k1_off94_inb : ∀ (v2127 : BitVec 32) (k1_hw47 : k1_chk47 v2127), ∀ a, (k1_off94 v2127) a + S1x256.size a ≤ S16x32768.size a := fun v2127 k1_hw47 => k1_hw47.2

def k1_off95 (i : grid1.Coords) : Fin 2 → Nat :=
  let arg0 : BitVec 32 := BitVec.ofNat 32 (i 0).val
  let c16_i32_780 : BitVec 32 := 16#32
  let v2170 : BitVec 32 := Scalar.muli arg0 c16_i32_780
  let c9_i32_781 : BitVec 32 := 9#32
  let v2171 : BitVec 32 := Scalar.addi v2170 c9_i32_781
  let v2172 : Index := Scalar.indexCast v2171
  let c2_782 : Index := 2#32
  ![v2172.toNat, 2]
def k1_mult48 (v2173 : BitVec 32) : BitVec 32 :=
  let c32512_i32_793 : BitVec 32 := 32512#32
  let c0_i32_792 : BitVec 32 := 0#32
  let c32_i32_783 : BitVec 32 := 32#32
  let v2174 : BitVec 32 := Scalar.subi v2173 c32_i32_783
  let c0_i32_785 : BitVec 32 := 0#32
  let v2176 : BitVec 1 := Scalar.cmpi .sgt v2174 c0_i32_785
  let v2177 : BitVec 32 := Scalar.extui v2176
  let c0_i32_786 : BitVec 32 := 0#32
  let v2178 : BitVec 1 := Scalar.cmpi .slt v2174 c0_i32_786
  let v2179 : BitVec 32 := Scalar.extui v2178
  let v2180 : BitVec 32 := Scalar.subi v2177 v2179
  let c128_i32_784 : BitVec 32 := 128#32
  let c0_i32_787 : BitVec 32 := 0#32
  let v2181 : BitVec 1 := Scalar.cmpi .sgt c128_i32_784 c0_i32_787
  let v2182 : BitVec 32 := Scalar.extui v2181
  let c0_i32_788 : BitVec 32 := 0#32
  let v2183 : BitVec 1 := Scalar.cmpi .slt c128_i32_784 c0_i32_788
  let v2184 : BitVec 32 := Scalar.extui v2183
  let v2185 : BitVec 32 := Scalar.subi v2182 v2184
  let v2186 : BitVec 1 := Scalar.cmpi .ne v2180 v2185
  let v2187 : BitVec 32 := Scalar.remsi v2174 c128_i32_784
  let c0_i32_789 : BitVec 32 := 0#32
  let v2188 : BitVec 1 := Scalar.cmpi .ne v2187 c0_i32_789
  let v2189 : BitVec 1 := Scalar.andi v2186 v2188
  let v2175 : BitVec 32 := Scalar.divsi v2174 c128_i32_784
  let c1_i32_790 : BitVec 32 := 1#32
  let v2190 : BitVec 32 := Scalar.subi v2175 c1_i32_790
  let v2191 : BitVec 32 := Scalar.select v2189 v2190 v2175
  let c128_i32_791 : BitVec 32 := 128#32
  let v2192 : BitVec 32 := Scalar.muli v2191 c128_i32_791
  let v2193 : BitVec 32 := Scalar.maxsi c0_i32_792 v2192
  let v2194 : BitVec 32 := Scalar.minsi c32512_i32_793 v2193
  v2194

def k1_off96 (v2173 : BitVec 32) : Fin 2 → Nat :=
  let c9_795 : Index := 9#32
  let c32512_i32_793 : BitVec 32 := 32512#32
  let c0_i32_792 : BitVec 32 := 0#32
  let c32_i32_783 : BitVec 32 := 32#32
  let v2174 : BitVec 32 := Scalar.subi v2173 c32_i32_783
  let c0_i32_785 : BitVec 32 := 0#32
  let v2176 : BitVec 1 := Scalar.cmpi .sgt v2174 c0_i32_785
  let v2177 : BitVec 32 := Scalar.extui v2176
  let c0_i32_786 : BitVec 32 := 0#32
  let v2178 : BitVec 1 := Scalar.cmpi .slt v2174 c0_i32_786
  let v2179 : BitVec 32 := Scalar.extui v2178
  let v2180 : BitVec 32 := Scalar.subi v2177 v2179
  let c128_i32_784 : BitVec 32 := 128#32
  let c0_i32_787 : BitVec 32 := 0#32
  let v2181 : BitVec 1 := Scalar.cmpi .sgt c128_i32_784 c0_i32_787
  let v2182 : BitVec 32 := Scalar.extui v2181
  let c0_i32_788 : BitVec 32 := 0#32
  let v2183 : BitVec 1 := Scalar.cmpi .slt c128_i32_784 c0_i32_788
  let v2184 : BitVec 32 := Scalar.extui v2183
  let v2185 : BitVec 32 := Scalar.subi v2182 v2184
  let v2186 : BitVec 1 := Scalar.cmpi .ne v2180 v2185
  let v2187 : BitVec 32 := Scalar.remsi v2174 c128_i32_784
  let c0_i32_789 : BitVec 32 := 0#32
  let v2188 : BitVec 1 := Scalar.cmpi .ne v2187 c0_i32_789
  let v2189 : BitVec 1 := Scalar.andi v2186 v2188
  let v2175 : BitVec 32 := Scalar.divsi v2174 c128_i32_784
  let c1_i32_790 : BitVec 32 := 1#32
  let v2190 : BitVec 32 := Scalar.subi v2175 c1_i32_790
  let v2191 : BitVec 32 := Scalar.select v2189 v2190 v2175
  let c128_i32_791 : BitVec 32 := 128#32
  let v2192 : BitVec 32 := Scalar.muli v2191 c128_i32_791
  let v2193 : BitVec 32 := Scalar.maxsi c0_i32_792 v2192
  let v2194 : BitVec 32 := Scalar.minsi c32512_i32_793 v2193
  let v2195 : BitVec 32 := v2194
  let v2210 : Index := Scalar.indexCast v2195
  ![9, v2210.toNat]

def k1_chk48 (v2173 : BitVec 32) : Prop :=
  (128 ∣ (k1_mult48 v2173).toNat) ∧
  (∀ a, (k1_off96 v2173) a + S1x256.size a ≤ S16x32768.size a)
theorem k1_mult48_dvd : ∀ (v2173 : BitVec 32) (k1_hw48 : k1_chk48 v2173), 128 ∣ (k1_mult48 v2173).toNat := fun v2173 k1_hw48 => k1_hw48.1
theorem k1_off96_inb : ∀ (v2173 : BitVec 32) (k1_hw48 : k1_chk48 v2173), ∀ a, (k1_off96 v2173) a + S1x256.size a ≤ S16x32768.size a := fun v2173 k1_hw48 => k1_hw48.2

def k1_off97 (i : grid1.Coords) : Fin 2 → Nat :=
  let arg0 : BitVec 32 := BitVec.ofNat 32 (i 0).val
  let c16_i32_797 : BitVec 32 := 16#32
  let v2216 : BitVec 32 := Scalar.muli arg0 c16_i32_797
  let c9_i32_798 : BitVec 32 := 9#32
  let v2217 : BitVec 32 := Scalar.addi v2216 c9_i32_798
  let v2218 : Index := Scalar.indexCast v2217
  let c3_799 : Index := 3#32
  ![v2218.toNat, 3]
def k1_mult49 (v2219 : BitVec 32) : BitVec 32 :=
  let c32512_i32_810 : BitVec 32 := 32512#32
  let c0_i32_809 : BitVec 32 := 0#32
  let c32_i32_800 : BitVec 32 := 32#32
  let v2220 : BitVec 32 := Scalar.subi v2219 c32_i32_800
  let c0_i32_802 : BitVec 32 := 0#32
  let v2222 : BitVec 1 := Scalar.cmpi .sgt v2220 c0_i32_802
  let v2223 : BitVec 32 := Scalar.extui v2222
  let c0_i32_803 : BitVec 32 := 0#32
  let v2224 : BitVec 1 := Scalar.cmpi .slt v2220 c0_i32_803
  let v2225 : BitVec 32 := Scalar.extui v2224
  let v2226 : BitVec 32 := Scalar.subi v2223 v2225
  let c128_i32_801 : BitVec 32 := 128#32
  let c0_i32_804 : BitVec 32 := 0#32
  let v2227 : BitVec 1 := Scalar.cmpi .sgt c128_i32_801 c0_i32_804
  let v2228 : BitVec 32 := Scalar.extui v2227
  let c0_i32_805 : BitVec 32 := 0#32
  let v2229 : BitVec 1 := Scalar.cmpi .slt c128_i32_801 c0_i32_805
  let v2230 : BitVec 32 := Scalar.extui v2229
  let v2231 : BitVec 32 := Scalar.subi v2228 v2230
  let v2232 : BitVec 1 := Scalar.cmpi .ne v2226 v2231
  let v2233 : BitVec 32 := Scalar.remsi v2220 c128_i32_801
  let c0_i32_806 : BitVec 32 := 0#32
  let v2234 : BitVec 1 := Scalar.cmpi .ne v2233 c0_i32_806
  let v2235 : BitVec 1 := Scalar.andi v2232 v2234
  let v2221 : BitVec 32 := Scalar.divsi v2220 c128_i32_801
  let c1_i32_807 : BitVec 32 := 1#32
  let v2236 : BitVec 32 := Scalar.subi v2221 c1_i32_807
  let v2237 : BitVec 32 := Scalar.select v2235 v2236 v2221
  let c128_i32_808 : BitVec 32 := 128#32
  let v2238 : BitVec 32 := Scalar.muli v2237 c128_i32_808
  let v2239 : BitVec 32 := Scalar.maxsi c0_i32_809 v2238
  let v2240 : BitVec 32 := Scalar.minsi c32512_i32_810 v2239
  v2240

def k1_off98 (v2219 : BitVec 32) : Fin 2 → Nat :=
  let c9_812 : Index := 9#32
  let c32512_i32_810 : BitVec 32 := 32512#32
  let c0_i32_809 : BitVec 32 := 0#32
  let c32_i32_800 : BitVec 32 := 32#32
  let v2220 : BitVec 32 := Scalar.subi v2219 c32_i32_800
  let c0_i32_802 : BitVec 32 := 0#32
  let v2222 : BitVec 1 := Scalar.cmpi .sgt v2220 c0_i32_802
  let v2223 : BitVec 32 := Scalar.extui v2222
  let c0_i32_803 : BitVec 32 := 0#32
  let v2224 : BitVec 1 := Scalar.cmpi .slt v2220 c0_i32_803
  let v2225 : BitVec 32 := Scalar.extui v2224
  let v2226 : BitVec 32 := Scalar.subi v2223 v2225
  let c128_i32_801 : BitVec 32 := 128#32
  let c0_i32_804 : BitVec 32 := 0#32
  let v2227 : BitVec 1 := Scalar.cmpi .sgt c128_i32_801 c0_i32_804
  let v2228 : BitVec 32 := Scalar.extui v2227
  let c0_i32_805 : BitVec 32 := 0#32
  let v2229 : BitVec 1 := Scalar.cmpi .slt c128_i32_801 c0_i32_805
  let v2230 : BitVec 32 := Scalar.extui v2229
  let v2231 : BitVec 32 := Scalar.subi v2228 v2230
  let v2232 : BitVec 1 := Scalar.cmpi .ne v2226 v2231
  let v2233 : BitVec 32 := Scalar.remsi v2220 c128_i32_801
  let c0_i32_806 : BitVec 32 := 0#32
  let v2234 : BitVec 1 := Scalar.cmpi .ne v2233 c0_i32_806
  let v2235 : BitVec 1 := Scalar.andi v2232 v2234
  let v2221 : BitVec 32 := Scalar.divsi v2220 c128_i32_801
  let c1_i32_807 : BitVec 32 := 1#32
  let v2236 : BitVec 32 := Scalar.subi v2221 c1_i32_807
  let v2237 : BitVec 32 := Scalar.select v2235 v2236 v2221
  let c128_i32_808 : BitVec 32 := 128#32
  let v2238 : BitVec 32 := Scalar.muli v2237 c128_i32_808
  let v2239 : BitVec 32 := Scalar.maxsi c0_i32_809 v2238
  let v2240 : BitVec 32 := Scalar.minsi c32512_i32_810 v2239
  let v2241 : BitVec 32 := v2240
  let v2256 : Index := Scalar.indexCast v2241
  ![9, v2256.toNat]

def k1_chk49 (v2219 : BitVec 32) : Prop :=
  (128 ∣ (k1_mult49 v2219).toNat) ∧
  (∀ a, (k1_off98 v2219) a + S1x256.size a ≤ S16x32768.size a)
theorem k1_mult49_dvd : ∀ (v2219 : BitVec 32) (k1_hw49 : k1_chk49 v2219), 128 ∣ (k1_mult49 v2219).toNat := fun v2219 k1_hw49 => k1_hw49.1
theorem k1_off98_inb : ∀ (v2219 : BitVec 32) (k1_hw49 : k1_chk49 v2219), ∀ a, (k1_off98 v2219) a + S1x256.size a ≤ S16x32768.size a := fun v2219 k1_hw49 => k1_hw49.2

def k1_off99 (i : grid1.Coords) : Fin 2 → Nat :=
  let arg0 : BitVec 32 := BitVec.ofNat 32 (i 0).val
  let c16_i32_814 : BitVec 32 := 16#32
  let v2262 : BitVec 32 := Scalar.muli arg0 c16_i32_814
  let c9_i32_815 : BitVec 32 := 9#32
  let v2263 : BitVec 32 := Scalar.addi v2262 c9_i32_815
  let v2264 : Index := Scalar.indexCast v2263
  let c4_816 : Index := 4#32
  ![v2264.toNat, 4]
def k1_mult50 (v2265 : BitVec 32) : BitVec 32 :=
  let c32512_i32_827 : BitVec 32 := 32512#32
  let c0_i32_826 : BitVec 32 := 0#32
  let c32_i32_817 : BitVec 32 := 32#32
  let v2266 : BitVec 32 := Scalar.subi v2265 c32_i32_817
  let c0_i32_819 : BitVec 32 := 0#32
  let v2268 : BitVec 1 := Scalar.cmpi .sgt v2266 c0_i32_819
  let v2269 : BitVec 32 := Scalar.extui v2268
  let c0_i32_820 : BitVec 32 := 0#32
  let v2270 : BitVec 1 := Scalar.cmpi .slt v2266 c0_i32_820
  let v2271 : BitVec 32 := Scalar.extui v2270
  let v2272 : BitVec 32 := Scalar.subi v2269 v2271
  let c128_i32_818 : BitVec 32 := 128#32
  let c0_i32_821 : BitVec 32 := 0#32
  let v2273 : BitVec 1 := Scalar.cmpi .sgt c128_i32_818 c0_i32_821
  let v2274 : BitVec 32 := Scalar.extui v2273
  let c0_i32_822 : BitVec 32 := 0#32
  let v2275 : BitVec 1 := Scalar.cmpi .slt c128_i32_818 c0_i32_822
  let v2276 : BitVec 32 := Scalar.extui v2275
  let v2277 : BitVec 32 := Scalar.subi v2274 v2276
  let v2278 : BitVec 1 := Scalar.cmpi .ne v2272 v2277
  let v2279 : BitVec 32 := Scalar.remsi v2266 c128_i32_818
  let c0_i32_823 : BitVec 32 := 0#32
  let v2280 : BitVec 1 := Scalar.cmpi .ne v2279 c0_i32_823
  let v2281 : BitVec 1 := Scalar.andi v2278 v2280
  let v2267 : BitVec 32 := Scalar.divsi v2266 c128_i32_818
  let c1_i32_824 : BitVec 32 := 1#32
  let v2282 : BitVec 32 := Scalar.subi v2267 c1_i32_824
  let v2283 : BitVec 32 := Scalar.select v2281 v2282 v2267
  let c128_i32_825 : BitVec 32 := 128#32
  let v2284 : BitVec 32 := Scalar.muli v2283 c128_i32_825
  let v2285 : BitVec 32 := Scalar.maxsi c0_i32_826 v2284
  let v2286 : BitVec 32 := Scalar.minsi c32512_i32_827 v2285
  v2286

def k1_off100 (v2265 : BitVec 32) : Fin 2 → Nat :=
  let c9_829 : Index := 9#32
  let c32512_i32_827 : BitVec 32 := 32512#32
  let c0_i32_826 : BitVec 32 := 0#32
  let c32_i32_817 : BitVec 32 := 32#32
  let v2266 : BitVec 32 := Scalar.subi v2265 c32_i32_817
  let c0_i32_819 : BitVec 32 := 0#32
  let v2268 : BitVec 1 := Scalar.cmpi .sgt v2266 c0_i32_819
  let v2269 : BitVec 32 := Scalar.extui v2268
  let c0_i32_820 : BitVec 32 := 0#32
  let v2270 : BitVec 1 := Scalar.cmpi .slt v2266 c0_i32_820
  let v2271 : BitVec 32 := Scalar.extui v2270
  let v2272 : BitVec 32 := Scalar.subi v2269 v2271
  let c128_i32_818 : BitVec 32 := 128#32
  let c0_i32_821 : BitVec 32 := 0#32
  let v2273 : BitVec 1 := Scalar.cmpi .sgt c128_i32_818 c0_i32_821
  let v2274 : BitVec 32 := Scalar.extui v2273
  let c0_i32_822 : BitVec 32 := 0#32
  let v2275 : BitVec 1 := Scalar.cmpi .slt c128_i32_818 c0_i32_822
  let v2276 : BitVec 32 := Scalar.extui v2275
  let v2277 : BitVec 32 := Scalar.subi v2274 v2276
  let v2278 : BitVec 1 := Scalar.cmpi .ne v2272 v2277
  let v2279 : BitVec 32 := Scalar.remsi v2266 c128_i32_818
  let c0_i32_823 : BitVec 32 := 0#32
  let v2280 : BitVec 1 := Scalar.cmpi .ne v2279 c0_i32_823
  let v2281 : BitVec 1 := Scalar.andi v2278 v2280
  let v2267 : BitVec 32 := Scalar.divsi v2266 c128_i32_818
  let c1_i32_824 : BitVec 32 := 1#32
  let v2282 : BitVec 32 := Scalar.subi v2267 c1_i32_824
  let v2283 : BitVec 32 := Scalar.select v2281 v2282 v2267
  let c128_i32_825 : BitVec 32 := 128#32
  let v2284 : BitVec 32 := Scalar.muli v2283 c128_i32_825
  let v2285 : BitVec 32 := Scalar.maxsi c0_i32_826 v2284
  let v2286 : BitVec 32 := Scalar.minsi c32512_i32_827 v2285
  let v2287 : BitVec 32 := v2286
  let v2302 : Index := Scalar.indexCast v2287
  ![9, v2302.toNat]

def k1_chk50 (v2265 : BitVec 32) : Prop :=
  (128 ∣ (k1_mult50 v2265).toNat) ∧
  (∀ a, (k1_off100 v2265) a + S1x256.size a ≤ S16x32768.size a)
theorem k1_mult50_dvd : ∀ (v2265 : BitVec 32) (k1_hw50 : k1_chk50 v2265), 128 ∣ (k1_mult50 v2265).toNat := fun v2265 k1_hw50 => k1_hw50.1
theorem k1_off100_inb : ∀ (v2265 : BitVec 32) (k1_hw50 : k1_chk50 v2265), ∀ a, (k1_off100 v2265) a + S1x256.size a ≤ S16x32768.size a := fun v2265 k1_hw50 => k1_hw50.2

def k1_off101 (i : grid1.Coords) : Fin 2 → Nat :=
  let arg0 : BitVec 32 := BitVec.ofNat 32 (i 0).val
  let c16_i32_831 : BitVec 32 := 16#32
  let v2308 : BitVec 32 := Scalar.muli arg0 c16_i32_831
  let c10_i32 : BitVec 32 := 10#32
  let v2309 : BitVec 32 := Scalar.addi v2308 c10_i32
  let v2310 : Index := Scalar.indexCast v2309
  let c0_832 : Index := 0#32
  ![v2310.toNat, 0]
def k1_mult51 (v2311 : BitVec 32) : BitVec 32 :=
  let c32512_i32_843 : BitVec 32 := 32512#32
  let c0_i32_842 : BitVec 32 := 0#32
  let c32_i32_833 : BitVec 32 := 32#32
  let v2312 : BitVec 32 := Scalar.subi v2311 c32_i32_833
  let c0_i32_835 : BitVec 32 := 0#32
  let v2314 : BitVec 1 := Scalar.cmpi .sgt v2312 c0_i32_835
  let v2315 : BitVec 32 := Scalar.extui v2314
  let c0_i32_836 : BitVec 32 := 0#32
  let v2316 : BitVec 1 := Scalar.cmpi .slt v2312 c0_i32_836
  let v2317 : BitVec 32 := Scalar.extui v2316
  let v2318 : BitVec 32 := Scalar.subi v2315 v2317
  let c128_i32_834 : BitVec 32 := 128#32
  let c0_i32_837 : BitVec 32 := 0#32
  let v2319 : BitVec 1 := Scalar.cmpi .sgt c128_i32_834 c0_i32_837
  let v2320 : BitVec 32 := Scalar.extui v2319
  let c0_i32_838 : BitVec 32 := 0#32
  let v2321 : BitVec 1 := Scalar.cmpi .slt c128_i32_834 c0_i32_838
  let v2322 : BitVec 32 := Scalar.extui v2321
  let v2323 : BitVec 32 := Scalar.subi v2320 v2322
  let v2324 : BitVec 1 := Scalar.cmpi .ne v2318 v2323
  let v2325 : BitVec 32 := Scalar.remsi v2312 c128_i32_834
  let c0_i32_839 : BitVec 32 := 0#32
  let v2326 : BitVec 1 := Scalar.cmpi .ne v2325 c0_i32_839
  let v2327 : BitVec 1 := Scalar.andi v2324 v2326
  let v2313 : BitVec 32 := Scalar.divsi v2312 c128_i32_834
  let c1_i32_840 : BitVec 32 := 1#32
  let v2328 : BitVec 32 := Scalar.subi v2313 c1_i32_840
  let v2329 : BitVec 32 := Scalar.select v2327 v2328 v2313
  let c128_i32_841 : BitVec 32 := 128#32
  let v2330 : BitVec 32 := Scalar.muli v2329 c128_i32_841
  let v2331 : BitVec 32 := Scalar.maxsi c0_i32_842 v2330
  let v2332 : BitVec 32 := Scalar.minsi c32512_i32_843 v2331
  v2332

def k1_off102 (v2311 : BitVec 32) : Fin 2 → Nat :=
  let c10 : Index := 10#32
  let c32512_i32_843 : BitVec 32 := 32512#32
  let c0_i32_842 : BitVec 32 := 0#32
  let c32_i32_833 : BitVec 32 := 32#32
  let v2312 : BitVec 32 := Scalar.subi v2311 c32_i32_833
  let c0_i32_835 : BitVec 32 := 0#32
  let v2314 : BitVec 1 := Scalar.cmpi .sgt v2312 c0_i32_835
  let v2315 : BitVec 32 := Scalar.extui v2314
  let c0_i32_836 : BitVec 32 := 0#32
  let v2316 : BitVec 1 := Scalar.cmpi .slt v2312 c0_i32_836
  let v2317 : BitVec 32 := Scalar.extui v2316
  let v2318 : BitVec 32 := Scalar.subi v2315 v2317
  let c128_i32_834 : BitVec 32 := 128#32
  let c0_i32_837 : BitVec 32 := 0#32
  let v2319 : BitVec 1 := Scalar.cmpi .sgt c128_i32_834 c0_i32_837
  let v2320 : BitVec 32 := Scalar.extui v2319
  let c0_i32_838 : BitVec 32 := 0#32
  let v2321 : BitVec 1 := Scalar.cmpi .slt c128_i32_834 c0_i32_838
  let v2322 : BitVec 32 := Scalar.extui v2321
  let v2323 : BitVec 32 := Scalar.subi v2320 v2322
  let v2324 : BitVec 1 := Scalar.cmpi .ne v2318 v2323
  let v2325 : BitVec 32 := Scalar.remsi v2312 c128_i32_834
  let c0_i32_839 : BitVec 32 := 0#32
  let v2326 : BitVec 1 := Scalar.cmpi .ne v2325 c0_i32_839
  let v2327 : BitVec 1 := Scalar.andi v2324 v2326
  let v2313 : BitVec 32 := Scalar.divsi v2312 c128_i32_834
  let c1_i32_840 : BitVec 32 := 1#32
  let v2328 : BitVec 32 := Scalar.subi v2313 c1_i32_840
  let v2329 : BitVec 32 := Scalar.select v2327 v2328 v2313
  let c128_i32_841 : BitVec 32 := 128#32
  let v2330 : BitVec 32 := Scalar.muli v2329 c128_i32_841
  let v2331 : BitVec 32 := Scalar.maxsi c0_i32_842 v2330
  let v2332 : BitVec 32 := Scalar.minsi c32512_i32_843 v2331
  let v2333 : BitVec 32 := v2332
  let v2348 : Index := Scalar.indexCast v2333
  ![10, v2348.toNat]

def k1_chk51 (v2311 : BitVec 32) : Prop :=
  (128 ∣ (k1_mult51 v2311).toNat) ∧
  (∀ a, (k1_off102 v2311) a + S1x256.size a ≤ S16x32768.size a)
theorem k1_mult51_dvd : ∀ (v2311 : BitVec 32) (k1_hw51 : k1_chk51 v2311), 128 ∣ (k1_mult51 v2311).toNat := fun v2311 k1_hw51 => k1_hw51.1
theorem k1_off102_inb : ∀ (v2311 : BitVec 32) (k1_hw51 : k1_chk51 v2311), ∀ a, (k1_off102 v2311) a + S1x256.size a ≤ S16x32768.size a := fun v2311 k1_hw51 => k1_hw51.2

def k1_off103 (i : grid1.Coords) : Fin 2 → Nat :=
  let arg0 : BitVec 32 := BitVec.ofNat 32 (i 0).val
  let c16_i32_846 : BitVec 32 := 16#32
  let v2354 : BitVec 32 := Scalar.muli arg0 c16_i32_846
  let c10_i32_847 : BitVec 32 := 10#32
  let v2355 : BitVec 32 := Scalar.addi v2354 c10_i32_847
  let v2356 : Index := Scalar.indexCast v2355
  let c1_848 : Index := 1#32
  ![v2356.toNat, 1]
def k1_mult52 (v2357 : BitVec 32) : BitVec 32 :=
  let c32512_i32_859 : BitVec 32 := 32512#32
  let c0_i32_858 : BitVec 32 := 0#32
  let c32_i32_849 : BitVec 32 := 32#32
  let v2358 : BitVec 32 := Scalar.subi v2357 c32_i32_849
  let c0_i32_851 : BitVec 32 := 0#32
  let v2360 : BitVec 1 := Scalar.cmpi .sgt v2358 c0_i32_851
  let v2361 : BitVec 32 := Scalar.extui v2360
  let c0_i32_852 : BitVec 32 := 0#32
  let v2362 : BitVec 1 := Scalar.cmpi .slt v2358 c0_i32_852
  let v2363 : BitVec 32 := Scalar.extui v2362
  let v2364 : BitVec 32 := Scalar.subi v2361 v2363
  let c128_i32_850 : BitVec 32 := 128#32
  let c0_i32_853 : BitVec 32 := 0#32
  let v2365 : BitVec 1 := Scalar.cmpi .sgt c128_i32_850 c0_i32_853
  let v2366 : BitVec 32 := Scalar.extui v2365
  let c0_i32_854 : BitVec 32 := 0#32
  let v2367 : BitVec 1 := Scalar.cmpi .slt c128_i32_850 c0_i32_854
  let v2368 : BitVec 32 := Scalar.extui v2367
  let v2369 : BitVec 32 := Scalar.subi v2366 v2368
  let v2370 : BitVec 1 := Scalar.cmpi .ne v2364 v2369
  let v2371 : BitVec 32 := Scalar.remsi v2358 c128_i32_850
  let c0_i32_855 : BitVec 32 := 0#32
  let v2372 : BitVec 1 := Scalar.cmpi .ne v2371 c0_i32_855
  let v2373 : BitVec 1 := Scalar.andi v2370 v2372
  let v2359 : BitVec 32 := Scalar.divsi v2358 c128_i32_850
  let c1_i32_856 : BitVec 32 := 1#32
  let v2374 : BitVec 32 := Scalar.subi v2359 c1_i32_856
  let v2375 : BitVec 32 := Scalar.select v2373 v2374 v2359
  let c128_i32_857 : BitVec 32 := 128#32
  let v2376 : BitVec 32 := Scalar.muli v2375 c128_i32_857
  let v2377 : BitVec 32 := Scalar.maxsi c0_i32_858 v2376
  let v2378 : BitVec 32 := Scalar.minsi c32512_i32_859 v2377
  v2378

def k1_off104 (v2357 : BitVec 32) : Fin 2 → Nat :=
  let c10_861 : Index := 10#32
  let c32512_i32_859 : BitVec 32 := 32512#32
  let c0_i32_858 : BitVec 32 := 0#32
  let c32_i32_849 : BitVec 32 := 32#32
  let v2358 : BitVec 32 := Scalar.subi v2357 c32_i32_849
  let c0_i32_851 : BitVec 32 := 0#32
  let v2360 : BitVec 1 := Scalar.cmpi .sgt v2358 c0_i32_851
  let v2361 : BitVec 32 := Scalar.extui v2360
  let c0_i32_852 : BitVec 32 := 0#32
  let v2362 : BitVec 1 := Scalar.cmpi .slt v2358 c0_i32_852
  let v2363 : BitVec 32 := Scalar.extui v2362
  let v2364 : BitVec 32 := Scalar.subi v2361 v2363
  let c128_i32_850 : BitVec 32 := 128#32
  let c0_i32_853 : BitVec 32 := 0#32
  let v2365 : BitVec 1 := Scalar.cmpi .sgt c128_i32_850 c0_i32_853
  let v2366 : BitVec 32 := Scalar.extui v2365
  let c0_i32_854 : BitVec 32 := 0#32
  let v2367 : BitVec 1 := Scalar.cmpi .slt c128_i32_850 c0_i32_854
  let v2368 : BitVec 32 := Scalar.extui v2367
  let v2369 : BitVec 32 := Scalar.subi v2366 v2368
  let v2370 : BitVec 1 := Scalar.cmpi .ne v2364 v2369
  let v2371 : BitVec 32 := Scalar.remsi v2358 c128_i32_850
  let c0_i32_855 : BitVec 32 := 0#32
  let v2372 : BitVec 1 := Scalar.cmpi .ne v2371 c0_i32_855
  let v2373 : BitVec 1 := Scalar.andi v2370 v2372
  let v2359 : BitVec 32 := Scalar.divsi v2358 c128_i32_850
  let c1_i32_856 : BitVec 32 := 1#32
  let v2374 : BitVec 32 := Scalar.subi v2359 c1_i32_856
  let v2375 : BitVec 32 := Scalar.select v2373 v2374 v2359
  let c128_i32_857 : BitVec 32 := 128#32
  let v2376 : BitVec 32 := Scalar.muli v2375 c128_i32_857
  let v2377 : BitVec 32 := Scalar.maxsi c0_i32_858 v2376
  let v2378 : BitVec 32 := Scalar.minsi c32512_i32_859 v2377
  let v2379 : BitVec 32 := v2378
  let v2394 : Index := Scalar.indexCast v2379
  ![10, v2394.toNat]

def k1_chk52 (v2357 : BitVec 32) : Prop :=
  (128 ∣ (k1_mult52 v2357).toNat) ∧
  (∀ a, (k1_off104 v2357) a + S1x256.size a ≤ S16x32768.size a)
theorem k1_mult52_dvd : ∀ (v2357 : BitVec 32) (k1_hw52 : k1_chk52 v2357), 128 ∣ (k1_mult52 v2357).toNat := fun v2357 k1_hw52 => k1_hw52.1
theorem k1_off104_inb : ∀ (v2357 : BitVec 32) (k1_hw52 : k1_chk52 v2357), ∀ a, (k1_off104 v2357) a + S1x256.size a ≤ S16x32768.size a := fun v2357 k1_hw52 => k1_hw52.2

def k1_off105 (i : grid1.Coords) : Fin 2 → Nat :=
  let arg0 : BitVec 32 := BitVec.ofNat 32 (i 0).val
  let c16_i32_863 : BitVec 32 := 16#32
  let v2400 : BitVec 32 := Scalar.muli arg0 c16_i32_863
  let c10_i32_864 : BitVec 32 := 10#32
  let v2401 : BitVec 32 := Scalar.addi v2400 c10_i32_864
  let v2402 : Index := Scalar.indexCast v2401
  let c2_865 : Index := 2#32
  ![v2402.toNat, 2]
def k1_mult53 (v2403 : BitVec 32) : BitVec 32 :=
  let c32512_i32_876 : BitVec 32 := 32512#32
  let c0_i32_875 : BitVec 32 := 0#32
  let c32_i32_866 : BitVec 32 := 32#32
  let v2404 : BitVec 32 := Scalar.subi v2403 c32_i32_866
  let c0_i32_868 : BitVec 32 := 0#32
  let v2406 : BitVec 1 := Scalar.cmpi .sgt v2404 c0_i32_868
  let v2407 : BitVec 32 := Scalar.extui v2406
  let c0_i32_869 : BitVec 32 := 0#32
  let v2408 : BitVec 1 := Scalar.cmpi .slt v2404 c0_i32_869
  let v2409 : BitVec 32 := Scalar.extui v2408
  let v2410 : BitVec 32 := Scalar.subi v2407 v2409
  let c128_i32_867 : BitVec 32 := 128#32
  let c0_i32_870 : BitVec 32 := 0#32
  let v2411 : BitVec 1 := Scalar.cmpi .sgt c128_i32_867 c0_i32_870
  let v2412 : BitVec 32 := Scalar.extui v2411
  let c0_i32_871 : BitVec 32 := 0#32
  let v2413 : BitVec 1 := Scalar.cmpi .slt c128_i32_867 c0_i32_871
  let v2414 : BitVec 32 := Scalar.extui v2413
  let v2415 : BitVec 32 := Scalar.subi v2412 v2414
  let v2416 : BitVec 1 := Scalar.cmpi .ne v2410 v2415
  let v2417 : BitVec 32 := Scalar.remsi v2404 c128_i32_867
  let c0_i32_872 : BitVec 32 := 0#32
  let v2418 : BitVec 1 := Scalar.cmpi .ne v2417 c0_i32_872
  let v2419 : BitVec 1 := Scalar.andi v2416 v2418
  let v2405 : BitVec 32 := Scalar.divsi v2404 c128_i32_867
  let c1_i32_873 : BitVec 32 := 1#32
  let v2420 : BitVec 32 := Scalar.subi v2405 c1_i32_873
  let v2421 : BitVec 32 := Scalar.select v2419 v2420 v2405
  let c128_i32_874 : BitVec 32 := 128#32
  let v2422 : BitVec 32 := Scalar.muli v2421 c128_i32_874
  let v2423 : BitVec 32 := Scalar.maxsi c0_i32_875 v2422
  let v2424 : BitVec 32 := Scalar.minsi c32512_i32_876 v2423
  v2424

def k1_off106 (v2403 : BitVec 32) : Fin 2 → Nat :=
  let c10_878 : Index := 10#32
  let c32512_i32_876 : BitVec 32 := 32512#32
  let c0_i32_875 : BitVec 32 := 0#32
  let c32_i32_866 : BitVec 32 := 32#32
  let v2404 : BitVec 32 := Scalar.subi v2403 c32_i32_866
  let c0_i32_868 : BitVec 32 := 0#32
  let v2406 : BitVec 1 := Scalar.cmpi .sgt v2404 c0_i32_868
  let v2407 : BitVec 32 := Scalar.extui v2406
  let c0_i32_869 : BitVec 32 := 0#32
  let v2408 : BitVec 1 := Scalar.cmpi .slt v2404 c0_i32_869
  let v2409 : BitVec 32 := Scalar.extui v2408
  let v2410 : BitVec 32 := Scalar.subi v2407 v2409
  let c128_i32_867 : BitVec 32 := 128#32
  let c0_i32_870 : BitVec 32 := 0#32
  let v2411 : BitVec 1 := Scalar.cmpi .sgt c128_i32_867 c0_i32_870
  let v2412 : BitVec 32 := Scalar.extui v2411
  let c0_i32_871 : BitVec 32 := 0#32
  let v2413 : BitVec 1 := Scalar.cmpi .slt c128_i32_867 c0_i32_871
  let v2414 : BitVec 32 := Scalar.extui v2413
  let v2415 : BitVec 32 := Scalar.subi v2412 v2414
  let v2416 : BitVec 1 := Scalar.cmpi .ne v2410 v2415
  let v2417 : BitVec 32 := Scalar.remsi v2404 c128_i32_867
  let c0_i32_872 : BitVec 32 := 0#32
  let v2418 : BitVec 1 := Scalar.cmpi .ne v2417 c0_i32_872
  let v2419 : BitVec 1 := Scalar.andi v2416 v2418
  let v2405 : BitVec 32 := Scalar.divsi v2404 c128_i32_867
  let c1_i32_873 : BitVec 32 := 1#32
  let v2420 : BitVec 32 := Scalar.subi v2405 c1_i32_873
  let v2421 : BitVec 32 := Scalar.select v2419 v2420 v2405
  let c128_i32_874 : BitVec 32 := 128#32
  let v2422 : BitVec 32 := Scalar.muli v2421 c128_i32_874
  let v2423 : BitVec 32 := Scalar.maxsi c0_i32_875 v2422
  let v2424 : BitVec 32 := Scalar.minsi c32512_i32_876 v2423
  let v2425 : BitVec 32 := v2424
  let v2440 : Index := Scalar.indexCast v2425
  ![10, v2440.toNat]

def k1_chk53 (v2403 : BitVec 32) : Prop :=
  (128 ∣ (k1_mult53 v2403).toNat) ∧
  (∀ a, (k1_off106 v2403) a + S1x256.size a ≤ S16x32768.size a)
theorem k1_mult53_dvd : ∀ (v2403 : BitVec 32) (k1_hw53 : k1_chk53 v2403), 128 ∣ (k1_mult53 v2403).toNat := fun v2403 k1_hw53 => k1_hw53.1
theorem k1_off106_inb : ∀ (v2403 : BitVec 32) (k1_hw53 : k1_chk53 v2403), ∀ a, (k1_off106 v2403) a + S1x256.size a ≤ S16x32768.size a := fun v2403 k1_hw53 => k1_hw53.2

def k1_off107 (i : grid1.Coords) : Fin 2 → Nat :=
  let arg0 : BitVec 32 := BitVec.ofNat 32 (i 0).val
  let c16_i32_880 : BitVec 32 := 16#32
  let v2446 : BitVec 32 := Scalar.muli arg0 c16_i32_880
  let c10_i32_881 : BitVec 32 := 10#32
  let v2447 : BitVec 32 := Scalar.addi v2446 c10_i32_881
  let v2448 : Index := Scalar.indexCast v2447
  let c3_882 : Index := 3#32
  ![v2448.toNat, 3]
def k1_mult54 (v2449 : BitVec 32) : BitVec 32 :=
  let c32512_i32_893 : BitVec 32 := 32512#32
  let c0_i32_892 : BitVec 32 := 0#32
  let c32_i32_883 : BitVec 32 := 32#32
  let v2450 : BitVec 32 := Scalar.subi v2449 c32_i32_883
  let c0_i32_885 : BitVec 32 := 0#32
  let v2452 : BitVec 1 := Scalar.cmpi .sgt v2450 c0_i32_885
  let v2453 : BitVec 32 := Scalar.extui v2452
  let c0_i32_886 : BitVec 32 := 0#32
  let v2454 : BitVec 1 := Scalar.cmpi .slt v2450 c0_i32_886
  let v2455 : BitVec 32 := Scalar.extui v2454
  let v2456 : BitVec 32 := Scalar.subi v2453 v2455
  let c128_i32_884 : BitVec 32 := 128#32
  let c0_i32_887 : BitVec 32 := 0#32
  let v2457 : BitVec 1 := Scalar.cmpi .sgt c128_i32_884 c0_i32_887
  let v2458 : BitVec 32 := Scalar.extui v2457
  let c0_i32_888 : BitVec 32 := 0#32
  let v2459 : BitVec 1 := Scalar.cmpi .slt c128_i32_884 c0_i32_888
  let v2460 : BitVec 32 := Scalar.extui v2459
  let v2461 : BitVec 32 := Scalar.subi v2458 v2460
  let v2462 : BitVec 1 := Scalar.cmpi .ne v2456 v2461
  let v2463 : BitVec 32 := Scalar.remsi v2450 c128_i32_884
  let c0_i32_889 : BitVec 32 := 0#32
  let v2464 : BitVec 1 := Scalar.cmpi .ne v2463 c0_i32_889
  let v2465 : BitVec 1 := Scalar.andi v2462 v2464
  let v2451 : BitVec 32 := Scalar.divsi v2450 c128_i32_884
  let c1_i32_890 : BitVec 32 := 1#32
  let v2466 : BitVec 32 := Scalar.subi v2451 c1_i32_890
  let v2467 : BitVec 32 := Scalar.select v2465 v2466 v2451
  let c128_i32_891 : BitVec 32 := 128#32
  let v2468 : BitVec 32 := Scalar.muli v2467 c128_i32_891
  let v2469 : BitVec 32 := Scalar.maxsi c0_i32_892 v2468
  let v2470 : BitVec 32 := Scalar.minsi c32512_i32_893 v2469
  v2470

def k1_off108 (v2449 : BitVec 32) : Fin 2 → Nat :=
  let c10_895 : Index := 10#32
  let c32512_i32_893 : BitVec 32 := 32512#32
  let c0_i32_892 : BitVec 32 := 0#32
  let c32_i32_883 : BitVec 32 := 32#32
  let v2450 : BitVec 32 := Scalar.subi v2449 c32_i32_883
  let c0_i32_885 : BitVec 32 := 0#32
  let v2452 : BitVec 1 := Scalar.cmpi .sgt v2450 c0_i32_885
  let v2453 : BitVec 32 := Scalar.extui v2452
  let c0_i32_886 : BitVec 32 := 0#32
  let v2454 : BitVec 1 := Scalar.cmpi .slt v2450 c0_i32_886
  let v2455 : BitVec 32 := Scalar.extui v2454
  let v2456 : BitVec 32 := Scalar.subi v2453 v2455
  let c128_i32_884 : BitVec 32 := 128#32
  let c0_i32_887 : BitVec 32 := 0#32
  let v2457 : BitVec 1 := Scalar.cmpi .sgt c128_i32_884 c0_i32_887
  let v2458 : BitVec 32 := Scalar.extui v2457
  let c0_i32_888 : BitVec 32 := 0#32
  let v2459 : BitVec 1 := Scalar.cmpi .slt c128_i32_884 c0_i32_888
  let v2460 : BitVec 32 := Scalar.extui v2459
  let v2461 : BitVec 32 := Scalar.subi v2458 v2460
  let v2462 : BitVec 1 := Scalar.cmpi .ne v2456 v2461
  let v2463 : BitVec 32 := Scalar.remsi v2450 c128_i32_884
  let c0_i32_889 : BitVec 32 := 0#32
  let v2464 : BitVec 1 := Scalar.cmpi .ne v2463 c0_i32_889
  let v2465 : BitVec 1 := Scalar.andi v2462 v2464
  let v2451 : BitVec 32 := Scalar.divsi v2450 c128_i32_884
  let c1_i32_890 : BitVec 32 := 1#32
  let v2466 : BitVec 32 := Scalar.subi v2451 c1_i32_890
  let v2467 : BitVec 32 := Scalar.select v2465 v2466 v2451
  let c128_i32_891 : BitVec 32 := 128#32
  let v2468 : BitVec 32 := Scalar.muli v2467 c128_i32_891
  let v2469 : BitVec 32 := Scalar.maxsi c0_i32_892 v2468
  let v2470 : BitVec 32 := Scalar.minsi c32512_i32_893 v2469
  let v2471 : BitVec 32 := v2470
  let v2486 : Index := Scalar.indexCast v2471
  ![10, v2486.toNat]

def k1_chk54 (v2449 : BitVec 32) : Prop :=
  (128 ∣ (k1_mult54 v2449).toNat) ∧
  (∀ a, (k1_off108 v2449) a + S1x256.size a ≤ S16x32768.size a)
theorem k1_mult54_dvd : ∀ (v2449 : BitVec 32) (k1_hw54 : k1_chk54 v2449), 128 ∣ (k1_mult54 v2449).toNat := fun v2449 k1_hw54 => k1_hw54.1
theorem k1_off108_inb : ∀ (v2449 : BitVec 32) (k1_hw54 : k1_chk54 v2449), ∀ a, (k1_off108 v2449) a + S1x256.size a ≤ S16x32768.size a := fun v2449 k1_hw54 => k1_hw54.2

def k1_off109 (i : grid1.Coords) : Fin 2 → Nat :=
  let arg0 : BitVec 32 := BitVec.ofNat 32 (i 0).val
  let c16_i32_897 : BitVec 32 := 16#32
  let v2492 : BitVec 32 := Scalar.muli arg0 c16_i32_897
  let c10_i32_898 : BitVec 32 := 10#32
  let v2493 : BitVec 32 := Scalar.addi v2492 c10_i32_898
  let v2494 : Index := Scalar.indexCast v2493
  let c4_899 : Index := 4#32
  ![v2494.toNat, 4]
def k1_mult55 (v2495 : BitVec 32) : BitVec 32 :=
  let c32512_i32_910 : BitVec 32 := 32512#32
  let c0_i32_909 : BitVec 32 := 0#32
  let c32_i32_900 : BitVec 32 := 32#32
  let v2496 : BitVec 32 := Scalar.subi v2495 c32_i32_900
  let c0_i32_902 : BitVec 32 := 0#32
  let v2498 : BitVec 1 := Scalar.cmpi .sgt v2496 c0_i32_902
  let v2499 : BitVec 32 := Scalar.extui v2498
  let c0_i32_903 : BitVec 32 := 0#32
  let v2500 : BitVec 1 := Scalar.cmpi .slt v2496 c0_i32_903
  let v2501 : BitVec 32 := Scalar.extui v2500
  let v2502 : BitVec 32 := Scalar.subi v2499 v2501
  let c128_i32_901 : BitVec 32 := 128#32
  let c0_i32_904 : BitVec 32 := 0#32
  let v2503 : BitVec 1 := Scalar.cmpi .sgt c128_i32_901 c0_i32_904
  let v2504 : BitVec 32 := Scalar.extui v2503
  let c0_i32_905 : BitVec 32 := 0#32
  let v2505 : BitVec 1 := Scalar.cmpi .slt c128_i32_901 c0_i32_905
  let v2506 : BitVec 32 := Scalar.extui v2505
  let v2507 : BitVec 32 := Scalar.subi v2504 v2506
  let v2508 : BitVec 1 := Scalar.cmpi .ne v2502 v2507
  let v2509 : BitVec 32 := Scalar.remsi v2496 c128_i32_901
  let c0_i32_906 : BitVec 32 := 0#32
  let v2510 : BitVec 1 := Scalar.cmpi .ne v2509 c0_i32_906
  let v2511 : BitVec 1 := Scalar.andi v2508 v2510
  let v2497 : BitVec 32 := Scalar.divsi v2496 c128_i32_901
  let c1_i32_907 : BitVec 32 := 1#32
  let v2512 : BitVec 32 := Scalar.subi v2497 c1_i32_907
  let v2513 : BitVec 32 := Scalar.select v2511 v2512 v2497
  let c128_i32_908 : BitVec 32 := 128#32
  let v2514 : BitVec 32 := Scalar.muli v2513 c128_i32_908
  let v2515 : BitVec 32 := Scalar.maxsi c0_i32_909 v2514
  let v2516 : BitVec 32 := Scalar.minsi c32512_i32_910 v2515
  v2516

def k1_off110 (v2495 : BitVec 32) : Fin 2 → Nat :=
  let c10_912 : Index := 10#32
  let c32512_i32_910 : BitVec 32 := 32512#32
  let c0_i32_909 : BitVec 32 := 0#32
  let c32_i32_900 : BitVec 32 := 32#32
  let v2496 : BitVec 32 := Scalar.subi v2495 c32_i32_900
  let c0_i32_902 : BitVec 32 := 0#32
  let v2498 : BitVec 1 := Scalar.cmpi .sgt v2496 c0_i32_902
  let v2499 : BitVec 32 := Scalar.extui v2498
  let c0_i32_903 : BitVec 32 := 0#32
  let v2500 : BitVec 1 := Scalar.cmpi .slt v2496 c0_i32_903
  let v2501 : BitVec 32 := Scalar.extui v2500
  let v2502 : BitVec 32 := Scalar.subi v2499 v2501
  let c128_i32_901 : BitVec 32 := 128#32
  let c0_i32_904 : BitVec 32 := 0#32
  let v2503 : BitVec 1 := Scalar.cmpi .sgt c128_i32_901 c0_i32_904
  let v2504 : BitVec 32 := Scalar.extui v2503
  let c0_i32_905 : BitVec 32 := 0#32
  let v2505 : BitVec 1 := Scalar.cmpi .slt c128_i32_901 c0_i32_905
  let v2506 : BitVec 32 := Scalar.extui v2505
  let v2507 : BitVec 32 := Scalar.subi v2504 v2506
  let v2508 : BitVec 1 := Scalar.cmpi .ne v2502 v2507
  let v2509 : BitVec 32 := Scalar.remsi v2496 c128_i32_901
  let c0_i32_906 : BitVec 32 := 0#32
  let v2510 : BitVec 1 := Scalar.cmpi .ne v2509 c0_i32_906
  let v2511 : BitVec 1 := Scalar.andi v2508 v2510
  let v2497 : BitVec 32 := Scalar.divsi v2496 c128_i32_901
  let c1_i32_907 : BitVec 32 := 1#32
  let v2512 : BitVec 32 := Scalar.subi v2497 c1_i32_907
  let v2513 : BitVec 32 := Scalar.select v2511 v2512 v2497
  let c128_i32_908 : BitVec 32 := 128#32
  let v2514 : BitVec 32 := Scalar.muli v2513 c128_i32_908
  let v2515 : BitVec 32 := Scalar.maxsi c0_i32_909 v2514
  let v2516 : BitVec 32 := Scalar.minsi c32512_i32_910 v2515
  let v2517 : BitVec 32 := v2516
  let v2532 : Index := Scalar.indexCast v2517
  ![10, v2532.toNat]

def k1_chk55 (v2495 : BitVec 32) : Prop :=
  (128 ∣ (k1_mult55 v2495).toNat) ∧
  (∀ a, (k1_off110 v2495) a + S1x256.size a ≤ S16x32768.size a)
theorem k1_mult55_dvd : ∀ (v2495 : BitVec 32) (k1_hw55 : k1_chk55 v2495), 128 ∣ (k1_mult55 v2495).toNat := fun v2495 k1_hw55 => k1_hw55.1
theorem k1_off110_inb : ∀ (v2495 : BitVec 32) (k1_hw55 : k1_chk55 v2495), ∀ a, (k1_off110 v2495) a + S1x256.size a ≤ S16x32768.size a := fun v2495 k1_hw55 => k1_hw55.2

def k1_off111 (i : grid1.Coords) : Fin 2 → Nat :=
  let arg0 : BitVec 32 := BitVec.ofNat 32 (i 0).val
  let c16_i32_914 : BitVec 32 := 16#32
  let v2538 : BitVec 32 := Scalar.muli arg0 c16_i32_914
  let c11_i32 : BitVec 32 := 11#32
  let v2539 : BitVec 32 := Scalar.addi v2538 c11_i32
  let v2540 : Index := Scalar.indexCast v2539
  let c0_915 : Index := 0#32
  ![v2540.toNat, 0]
def k1_mult56 (v2541 : BitVec 32) : BitVec 32 :=
  let c32512_i32_926 : BitVec 32 := 32512#32
  let c0_i32_925 : BitVec 32 := 0#32
  let c32_i32_916 : BitVec 32 := 32#32
  let v2542 : BitVec 32 := Scalar.subi v2541 c32_i32_916
  let c0_i32_918 : BitVec 32 := 0#32
  let v2544 : BitVec 1 := Scalar.cmpi .sgt v2542 c0_i32_918
  let v2545 : BitVec 32 := Scalar.extui v2544
  let c0_i32_919 : BitVec 32 := 0#32
  let v2546 : BitVec 1 := Scalar.cmpi .slt v2542 c0_i32_919
  let v2547 : BitVec 32 := Scalar.extui v2546
  let v2548 : BitVec 32 := Scalar.subi v2545 v2547
  let c128_i32_917 : BitVec 32 := 128#32
  let c0_i32_920 : BitVec 32 := 0#32
  let v2549 : BitVec 1 := Scalar.cmpi .sgt c128_i32_917 c0_i32_920
  let v2550 : BitVec 32 := Scalar.extui v2549
  let c0_i32_921 : BitVec 32 := 0#32
  let v2551 : BitVec 1 := Scalar.cmpi .slt c128_i32_917 c0_i32_921
  let v2552 : BitVec 32 := Scalar.extui v2551
  let v2553 : BitVec 32 := Scalar.subi v2550 v2552
  let v2554 : BitVec 1 := Scalar.cmpi .ne v2548 v2553
  let v2555 : BitVec 32 := Scalar.remsi v2542 c128_i32_917
  let c0_i32_922 : BitVec 32 := 0#32
  let v2556 : BitVec 1 := Scalar.cmpi .ne v2555 c0_i32_922
  let v2557 : BitVec 1 := Scalar.andi v2554 v2556
  let v2543 : BitVec 32 := Scalar.divsi v2542 c128_i32_917
  let c1_i32_923 : BitVec 32 := 1#32
  let v2558 : BitVec 32 := Scalar.subi v2543 c1_i32_923
  let v2559 : BitVec 32 := Scalar.select v2557 v2558 v2543
  let c128_i32_924 : BitVec 32 := 128#32
  let v2560 : BitVec 32 := Scalar.muli v2559 c128_i32_924
  let v2561 : BitVec 32 := Scalar.maxsi c0_i32_925 v2560
  let v2562 : BitVec 32 := Scalar.minsi c32512_i32_926 v2561
  v2562

def k1_off112 (v2541 : BitVec 32) : Fin 2 → Nat :=
  let c11 : Index := 11#32
  let c32512_i32_926 : BitVec 32 := 32512#32
  let c0_i32_925 : BitVec 32 := 0#32
  let c32_i32_916 : BitVec 32 := 32#32
  let v2542 : BitVec 32 := Scalar.subi v2541 c32_i32_916
  let c0_i32_918 : BitVec 32 := 0#32
  let v2544 : BitVec 1 := Scalar.cmpi .sgt v2542 c0_i32_918
  let v2545 : BitVec 32 := Scalar.extui v2544
  let c0_i32_919 : BitVec 32 := 0#32
  let v2546 : BitVec 1 := Scalar.cmpi .slt v2542 c0_i32_919
  let v2547 : BitVec 32 := Scalar.extui v2546
  let v2548 : BitVec 32 := Scalar.subi v2545 v2547
  let c128_i32_917 : BitVec 32 := 128#32
  let c0_i32_920 : BitVec 32 := 0#32
  let v2549 : BitVec 1 := Scalar.cmpi .sgt c128_i32_917 c0_i32_920
  let v2550 : BitVec 32 := Scalar.extui v2549
  let c0_i32_921 : BitVec 32 := 0#32
  let v2551 : BitVec 1 := Scalar.cmpi .slt c128_i32_917 c0_i32_921
  let v2552 : BitVec 32 := Scalar.extui v2551
  let v2553 : BitVec 32 := Scalar.subi v2550 v2552
  let v2554 : BitVec 1 := Scalar.cmpi .ne v2548 v2553
  let v2555 : BitVec 32 := Scalar.remsi v2542 c128_i32_917
  let c0_i32_922 : BitVec 32 := 0#32
  let v2556 : BitVec 1 := Scalar.cmpi .ne v2555 c0_i32_922
  let v2557 : BitVec 1 := Scalar.andi v2554 v2556
  let v2543 : BitVec 32 := Scalar.divsi v2542 c128_i32_917
  let c1_i32_923 : BitVec 32 := 1#32
  let v2558 : BitVec 32 := Scalar.subi v2543 c1_i32_923
  let v2559 : BitVec 32 := Scalar.select v2557 v2558 v2543
  let c128_i32_924 : BitVec 32 := 128#32
  let v2560 : BitVec 32 := Scalar.muli v2559 c128_i32_924
  let v2561 : BitVec 32 := Scalar.maxsi c0_i32_925 v2560
  let v2562 : BitVec 32 := Scalar.minsi c32512_i32_926 v2561
  let v2563 : BitVec 32 := v2562
  let v2578 : Index := Scalar.indexCast v2563
  ![11, v2578.toNat]

def k1_chk56 (v2541 : BitVec 32) : Prop :=
  (128 ∣ (k1_mult56 v2541).toNat) ∧
  (∀ a, (k1_off112 v2541) a + S1x256.size a ≤ S16x32768.size a)
theorem k1_mult56_dvd : ∀ (v2541 : BitVec 32) (k1_hw56 : k1_chk56 v2541), 128 ∣ (k1_mult56 v2541).toNat := fun v2541 k1_hw56 => k1_hw56.1
theorem k1_off112_inb : ∀ (v2541 : BitVec 32) (k1_hw56 : k1_chk56 v2541), ∀ a, (k1_off112 v2541) a + S1x256.size a ≤ S16x32768.size a := fun v2541 k1_hw56 => k1_hw56.2

def k1_off113 (i : grid1.Coords) : Fin 2 → Nat :=
  let arg0 : BitVec 32 := BitVec.ofNat 32 (i 0).val
  let c16_i32_929 : BitVec 32 := 16#32
  let v2584 : BitVec 32 := Scalar.muli arg0 c16_i32_929
  let c11_i32_930 : BitVec 32 := 11#32
  let v2585 : BitVec 32 := Scalar.addi v2584 c11_i32_930
  let v2586 : Index := Scalar.indexCast v2585
  let c1_931 : Index := 1#32
  ![v2586.toNat, 1]
def k1_mult57 (v2587 : BitVec 32) : BitVec 32 :=
  let c32512_i32_942 : BitVec 32 := 32512#32
  let c0_i32_941 : BitVec 32 := 0#32
  let c32_i32_932 : BitVec 32 := 32#32
  let v2588 : BitVec 32 := Scalar.subi v2587 c32_i32_932
  let c0_i32_934 : BitVec 32 := 0#32
  let v2590 : BitVec 1 := Scalar.cmpi .sgt v2588 c0_i32_934
  let v2591 : BitVec 32 := Scalar.extui v2590
  let c0_i32_935 : BitVec 32 := 0#32
  let v2592 : BitVec 1 := Scalar.cmpi .slt v2588 c0_i32_935
  let v2593 : BitVec 32 := Scalar.extui v2592
  let v2594 : BitVec 32 := Scalar.subi v2591 v2593
  let c128_i32_933 : BitVec 32 := 128#32
  let c0_i32_936 : BitVec 32 := 0#32
  let v2595 : BitVec 1 := Scalar.cmpi .sgt c128_i32_933 c0_i32_936
  let v2596 : BitVec 32 := Scalar.extui v2595
  let c0_i32_937 : BitVec 32 := 0#32
  let v2597 : BitVec 1 := Scalar.cmpi .slt c128_i32_933 c0_i32_937
  let v2598 : BitVec 32 := Scalar.extui v2597
  let v2599 : BitVec 32 := Scalar.subi v2596 v2598
  let v2600 : BitVec 1 := Scalar.cmpi .ne v2594 v2599
  let v2601 : BitVec 32 := Scalar.remsi v2588 c128_i32_933
  let c0_i32_938 : BitVec 32 := 0#32
  let v2602 : BitVec 1 := Scalar.cmpi .ne v2601 c0_i32_938
  let v2603 : BitVec 1 := Scalar.andi v2600 v2602
  let v2589 : BitVec 32 := Scalar.divsi v2588 c128_i32_933
  let c1_i32_939 : BitVec 32 := 1#32
  let v2604 : BitVec 32 := Scalar.subi v2589 c1_i32_939
  let v2605 : BitVec 32 := Scalar.select v2603 v2604 v2589
  let c128_i32_940 : BitVec 32 := 128#32
  let v2606 : BitVec 32 := Scalar.muli v2605 c128_i32_940
  let v2607 : BitVec 32 := Scalar.maxsi c0_i32_941 v2606
  let v2608 : BitVec 32 := Scalar.minsi c32512_i32_942 v2607
  v2608

def k1_off114 (v2587 : BitVec 32) : Fin 2 → Nat :=
  let c11_944 : Index := 11#32
  let c32512_i32_942 : BitVec 32 := 32512#32
  let c0_i32_941 : BitVec 32 := 0#32
  let c32_i32_932 : BitVec 32 := 32#32
  let v2588 : BitVec 32 := Scalar.subi v2587 c32_i32_932
  let c0_i32_934 : BitVec 32 := 0#32
  let v2590 : BitVec 1 := Scalar.cmpi .sgt v2588 c0_i32_934
  let v2591 : BitVec 32 := Scalar.extui v2590
  let c0_i32_935 : BitVec 32 := 0#32
  let v2592 : BitVec 1 := Scalar.cmpi .slt v2588 c0_i32_935
  let v2593 : BitVec 32 := Scalar.extui v2592
  let v2594 : BitVec 32 := Scalar.subi v2591 v2593
  let c128_i32_933 : BitVec 32 := 128#32
  let c0_i32_936 : BitVec 32 := 0#32
  let v2595 : BitVec 1 := Scalar.cmpi .sgt c128_i32_933 c0_i32_936
  let v2596 : BitVec 32 := Scalar.extui v2595
  let c0_i32_937 : BitVec 32 := 0#32
  let v2597 : BitVec 1 := Scalar.cmpi .slt c128_i32_933 c0_i32_937
  let v2598 : BitVec 32 := Scalar.extui v2597
  let v2599 : BitVec 32 := Scalar.subi v2596 v2598
  let v2600 : BitVec 1 := Scalar.cmpi .ne v2594 v2599
  let v2601 : BitVec 32 := Scalar.remsi v2588 c128_i32_933
  let c0_i32_938 : BitVec 32 := 0#32
  let v2602 : BitVec 1 := Scalar.cmpi .ne v2601 c0_i32_938
  let v2603 : BitVec 1 := Scalar.andi v2600 v2602
  let v2589 : BitVec 32 := Scalar.divsi v2588 c128_i32_933
  let c1_i32_939 : BitVec 32 := 1#32
  let v2604 : BitVec 32 := Scalar.subi v2589 c1_i32_939
  let v2605 : BitVec 32 := Scalar.select v2603 v2604 v2589
  let c128_i32_940 : BitVec 32 := 128#32
  let v2606 : BitVec 32 := Scalar.muli v2605 c128_i32_940
  let v2607 : BitVec 32 := Scalar.maxsi c0_i32_941 v2606
  let v2608 : BitVec 32 := Scalar.minsi c32512_i32_942 v2607
  let v2609 : BitVec 32 := v2608
  let v2624 : Index := Scalar.indexCast v2609
  ![11, v2624.toNat]

def k1_chk57 (v2587 : BitVec 32) : Prop :=
  (128 ∣ (k1_mult57 v2587).toNat) ∧
  (∀ a, (k1_off114 v2587) a + S1x256.size a ≤ S16x32768.size a)
theorem k1_mult57_dvd : ∀ (v2587 : BitVec 32) (k1_hw57 : k1_chk57 v2587), 128 ∣ (k1_mult57 v2587).toNat := fun v2587 k1_hw57 => k1_hw57.1
theorem k1_off114_inb : ∀ (v2587 : BitVec 32) (k1_hw57 : k1_chk57 v2587), ∀ a, (k1_off114 v2587) a + S1x256.size a ≤ S16x32768.size a := fun v2587 k1_hw57 => k1_hw57.2

def k1_off115 (i : grid1.Coords) : Fin 2 → Nat :=
  let arg0 : BitVec 32 := BitVec.ofNat 32 (i 0).val
  let c16_i32_946 : BitVec 32 := 16#32
  let v2630 : BitVec 32 := Scalar.muli arg0 c16_i32_946
  let c11_i32_947 : BitVec 32 := 11#32
  let v2631 : BitVec 32 := Scalar.addi v2630 c11_i32_947
  let v2632 : Index := Scalar.indexCast v2631
  let c2_948 : Index := 2#32
  ![v2632.toNat, 2]
def k1_mult58 (v2633 : BitVec 32) : BitVec 32 :=
  let c32512_i32_959 : BitVec 32 := 32512#32
  let c0_i32_958 : BitVec 32 := 0#32
  let c32_i32_949 : BitVec 32 := 32#32
  let v2634 : BitVec 32 := Scalar.subi v2633 c32_i32_949
  let c0_i32_951 : BitVec 32 := 0#32
  let v2636 : BitVec 1 := Scalar.cmpi .sgt v2634 c0_i32_951
  let v2637 : BitVec 32 := Scalar.extui v2636
  let c0_i32_952 : BitVec 32 := 0#32
  let v2638 : BitVec 1 := Scalar.cmpi .slt v2634 c0_i32_952
  let v2639 : BitVec 32 := Scalar.extui v2638
  let v2640 : BitVec 32 := Scalar.subi v2637 v2639
  let c128_i32_950 : BitVec 32 := 128#32
  let c0_i32_953 : BitVec 32 := 0#32
  let v2641 : BitVec 1 := Scalar.cmpi .sgt c128_i32_950 c0_i32_953
  let v2642 : BitVec 32 := Scalar.extui v2641
  let c0_i32_954 : BitVec 32 := 0#32
  let v2643 : BitVec 1 := Scalar.cmpi .slt c128_i32_950 c0_i32_954
  let v2644 : BitVec 32 := Scalar.extui v2643
  let v2645 : BitVec 32 := Scalar.subi v2642 v2644
  let v2646 : BitVec 1 := Scalar.cmpi .ne v2640 v2645
  let v2647 : BitVec 32 := Scalar.remsi v2634 c128_i32_950
  let c0_i32_955 : BitVec 32 := 0#32
  let v2648 : BitVec 1 := Scalar.cmpi .ne v2647 c0_i32_955
  let v2649 : BitVec 1 := Scalar.andi v2646 v2648
  let v2635 : BitVec 32 := Scalar.divsi v2634 c128_i32_950
  let c1_i32_956 : BitVec 32 := 1#32
  let v2650 : BitVec 32 := Scalar.subi v2635 c1_i32_956
  let v2651 : BitVec 32 := Scalar.select v2649 v2650 v2635
  let c128_i32_957 : BitVec 32 := 128#32
  let v2652 : BitVec 32 := Scalar.muli v2651 c128_i32_957
  let v2653 : BitVec 32 := Scalar.maxsi c0_i32_958 v2652
  let v2654 : BitVec 32 := Scalar.minsi c32512_i32_959 v2653
  v2654

def k1_off116 (v2633 : BitVec 32) : Fin 2 → Nat :=
  let c11_961 : Index := 11#32
  let c32512_i32_959 : BitVec 32 := 32512#32
  let c0_i32_958 : BitVec 32 := 0#32
  let c32_i32_949 : BitVec 32 := 32#32
  let v2634 : BitVec 32 := Scalar.subi v2633 c32_i32_949
  let c0_i32_951 : BitVec 32 := 0#32
  let v2636 : BitVec 1 := Scalar.cmpi .sgt v2634 c0_i32_951
  let v2637 : BitVec 32 := Scalar.extui v2636
  let c0_i32_952 : BitVec 32 := 0#32
  let v2638 : BitVec 1 := Scalar.cmpi .slt v2634 c0_i32_952
  let v2639 : BitVec 32 := Scalar.extui v2638
  let v2640 : BitVec 32 := Scalar.subi v2637 v2639
  let c128_i32_950 : BitVec 32 := 128#32
  let c0_i32_953 : BitVec 32 := 0#32
  let v2641 : BitVec 1 := Scalar.cmpi .sgt c128_i32_950 c0_i32_953
  let v2642 : BitVec 32 := Scalar.extui v2641
  let c0_i32_954 : BitVec 32 := 0#32
  let v2643 : BitVec 1 := Scalar.cmpi .slt c128_i32_950 c0_i32_954
  let v2644 : BitVec 32 := Scalar.extui v2643
  let v2645 : BitVec 32 := Scalar.subi v2642 v2644
  let v2646 : BitVec 1 := Scalar.cmpi .ne v2640 v2645
  let v2647 : BitVec 32 := Scalar.remsi v2634 c128_i32_950
  let c0_i32_955 : BitVec 32 := 0#32
  let v2648 : BitVec 1 := Scalar.cmpi .ne v2647 c0_i32_955
  let v2649 : BitVec 1 := Scalar.andi v2646 v2648
  let v2635 : BitVec 32 := Scalar.divsi v2634 c128_i32_950
  let c1_i32_956 : BitVec 32 := 1#32
  let v2650 : BitVec 32 := Scalar.subi v2635 c1_i32_956
  let v2651 : BitVec 32 := Scalar.select v2649 v2650 v2635
  let c128_i32_957 : BitVec 32 := 128#32
  let v2652 : BitVec 32 := Scalar.muli v2651 c128_i32_957
  let v2653 : BitVec 32 := Scalar.maxsi c0_i32_958 v2652
  let v2654 : BitVec 32 := Scalar.minsi c32512_i32_959 v2653
  let v2655 : BitVec 32 := v2654
  let v2670 : Index := Scalar.indexCast v2655
  ![11, v2670.toNat]

def k1_chk58 (v2633 : BitVec 32) : Prop :=
  (128 ∣ (k1_mult58 v2633).toNat) ∧
  (∀ a, (k1_off116 v2633) a + S1x256.size a ≤ S16x32768.size a)
theorem k1_mult58_dvd : ∀ (v2633 : BitVec 32) (k1_hw58 : k1_chk58 v2633), 128 ∣ (k1_mult58 v2633).toNat := fun v2633 k1_hw58 => k1_hw58.1
theorem k1_off116_inb : ∀ (v2633 : BitVec 32) (k1_hw58 : k1_chk58 v2633), ∀ a, (k1_off116 v2633) a + S1x256.size a ≤ S16x32768.size a := fun v2633 k1_hw58 => k1_hw58.2

def k1_off117 (i : grid1.Coords) : Fin 2 → Nat :=
  let arg0 : BitVec 32 := BitVec.ofNat 32 (i 0).val
  let c16_i32_963 : BitVec 32 := 16#32
  let v2676 : BitVec 32 := Scalar.muli arg0 c16_i32_963
  let c11_i32_964 : BitVec 32 := 11#32
  let v2677 : BitVec 32 := Scalar.addi v2676 c11_i32_964
  let v2678 : Index := Scalar.indexCast v2677
  let c3_965 : Index := 3#32
  ![v2678.toNat, 3]
def k1_mult59 (v2679 : BitVec 32) : BitVec 32 :=
  let c32512_i32_976 : BitVec 32 := 32512#32
  let c0_i32_975 : BitVec 32 := 0#32
  let c32_i32_966 : BitVec 32 := 32#32
  let v2680 : BitVec 32 := Scalar.subi v2679 c32_i32_966
  let c0_i32_968 : BitVec 32 := 0#32
  let v2682 : BitVec 1 := Scalar.cmpi .sgt v2680 c0_i32_968
  let v2683 : BitVec 32 := Scalar.extui v2682
  let c0_i32_969 : BitVec 32 := 0#32
  let v2684 : BitVec 1 := Scalar.cmpi .slt v2680 c0_i32_969
  let v2685 : BitVec 32 := Scalar.extui v2684
  let v2686 : BitVec 32 := Scalar.subi v2683 v2685
  let c128_i32_967 : BitVec 32 := 128#32
  let c0_i32_970 : BitVec 32 := 0#32
  let v2687 : BitVec 1 := Scalar.cmpi .sgt c128_i32_967 c0_i32_970
  let v2688 : BitVec 32 := Scalar.extui v2687
  let c0_i32_971 : BitVec 32 := 0#32
  let v2689 : BitVec 1 := Scalar.cmpi .slt c128_i32_967 c0_i32_971
  let v2690 : BitVec 32 := Scalar.extui v2689
  let v2691 : BitVec 32 := Scalar.subi v2688 v2690
  let v2692 : BitVec 1 := Scalar.cmpi .ne v2686 v2691
  let v2693 : BitVec 32 := Scalar.remsi v2680 c128_i32_967
  let c0_i32_972 : BitVec 32 := 0#32
  let v2694 : BitVec 1 := Scalar.cmpi .ne v2693 c0_i32_972
  let v2695 : BitVec 1 := Scalar.andi v2692 v2694
  let v2681 : BitVec 32 := Scalar.divsi v2680 c128_i32_967
  let c1_i32_973 : BitVec 32 := 1#32
  let v2696 : BitVec 32 := Scalar.subi v2681 c1_i32_973
  let v2697 : BitVec 32 := Scalar.select v2695 v2696 v2681
  let c128_i32_974 : BitVec 32 := 128#32
  let v2698 : BitVec 32 := Scalar.muli v2697 c128_i32_974
  let v2699 : BitVec 32 := Scalar.maxsi c0_i32_975 v2698
  let v2700 : BitVec 32 := Scalar.minsi c32512_i32_976 v2699
  v2700

def k1_off118 (v2679 : BitVec 32) : Fin 2 → Nat :=
  let c11_978 : Index := 11#32
  let c32512_i32_976 : BitVec 32 := 32512#32
  let c0_i32_975 : BitVec 32 := 0#32
  let c32_i32_966 : BitVec 32 := 32#32
  let v2680 : BitVec 32 := Scalar.subi v2679 c32_i32_966
  let c0_i32_968 : BitVec 32 := 0#32
  let v2682 : BitVec 1 := Scalar.cmpi .sgt v2680 c0_i32_968
  let v2683 : BitVec 32 := Scalar.extui v2682
  let c0_i32_969 : BitVec 32 := 0#32
  let v2684 : BitVec 1 := Scalar.cmpi .slt v2680 c0_i32_969
  let v2685 : BitVec 32 := Scalar.extui v2684
  let v2686 : BitVec 32 := Scalar.subi v2683 v2685
  let c128_i32_967 : BitVec 32 := 128#32
  let c0_i32_970 : BitVec 32 := 0#32
  let v2687 : BitVec 1 := Scalar.cmpi .sgt c128_i32_967 c0_i32_970
  let v2688 : BitVec 32 := Scalar.extui v2687
  let c0_i32_971 : BitVec 32 := 0#32
  let v2689 : BitVec 1 := Scalar.cmpi .slt c128_i32_967 c0_i32_971
  let v2690 : BitVec 32 := Scalar.extui v2689
  let v2691 : BitVec 32 := Scalar.subi v2688 v2690
  let v2692 : BitVec 1 := Scalar.cmpi .ne v2686 v2691
  let v2693 : BitVec 32 := Scalar.remsi v2680 c128_i32_967
  let c0_i32_972 : BitVec 32 := 0#32
  let v2694 : BitVec 1 := Scalar.cmpi .ne v2693 c0_i32_972
  let v2695 : BitVec 1 := Scalar.andi v2692 v2694
  let v2681 : BitVec 32 := Scalar.divsi v2680 c128_i32_967
  let c1_i32_973 : BitVec 32 := 1#32
  let v2696 : BitVec 32 := Scalar.subi v2681 c1_i32_973
  let v2697 : BitVec 32 := Scalar.select v2695 v2696 v2681
  let c128_i32_974 : BitVec 32 := 128#32
  let v2698 : BitVec 32 := Scalar.muli v2697 c128_i32_974
  let v2699 : BitVec 32 := Scalar.maxsi c0_i32_975 v2698
  let v2700 : BitVec 32 := Scalar.minsi c32512_i32_976 v2699
  let v2701 : BitVec 32 := v2700
  let v2716 : Index := Scalar.indexCast v2701
  ![11, v2716.toNat]

def k1_chk59 (v2679 : BitVec 32) : Prop :=
  (128 ∣ (k1_mult59 v2679).toNat) ∧
  (∀ a, (k1_off118 v2679) a + S1x256.size a ≤ S16x32768.size a)
theorem k1_mult59_dvd : ∀ (v2679 : BitVec 32) (k1_hw59 : k1_chk59 v2679), 128 ∣ (k1_mult59 v2679).toNat := fun v2679 k1_hw59 => k1_hw59.1
theorem k1_off118_inb : ∀ (v2679 : BitVec 32) (k1_hw59 : k1_chk59 v2679), ∀ a, (k1_off118 v2679) a + S1x256.size a ≤ S16x32768.size a := fun v2679 k1_hw59 => k1_hw59.2

def k1_off119 (i : grid1.Coords) : Fin 2 → Nat :=
  let arg0 : BitVec 32 := BitVec.ofNat 32 (i 0).val
  let c16_i32_980 : BitVec 32 := 16#32
  let v2722 : BitVec 32 := Scalar.muli arg0 c16_i32_980
  let c11_i32_981 : BitVec 32 := 11#32
  let v2723 : BitVec 32 := Scalar.addi v2722 c11_i32_981
  let v2724 : Index := Scalar.indexCast v2723
  let c4_982 : Index := 4#32
  ![v2724.toNat, 4]
def k1_mult60 (v2725 : BitVec 32) : BitVec 32 :=
  let c32512_i32_993 : BitVec 32 := 32512#32
  let c0_i32_992 : BitVec 32 := 0#32
  let c32_i32_983 : BitVec 32 := 32#32
  let v2726 : BitVec 32 := Scalar.subi v2725 c32_i32_983
  let c0_i32_985 : BitVec 32 := 0#32
  let v2728 : BitVec 1 := Scalar.cmpi .sgt v2726 c0_i32_985
  let v2729 : BitVec 32 := Scalar.extui v2728
  let c0_i32_986 : BitVec 32 := 0#32
  let v2730 : BitVec 1 := Scalar.cmpi .slt v2726 c0_i32_986
  let v2731 : BitVec 32 := Scalar.extui v2730
  let v2732 : BitVec 32 := Scalar.subi v2729 v2731
  let c128_i32_984 : BitVec 32 := 128#32
  let c0_i32_987 : BitVec 32 := 0#32
  let v2733 : BitVec 1 := Scalar.cmpi .sgt c128_i32_984 c0_i32_987
  let v2734 : BitVec 32 := Scalar.extui v2733
  let c0_i32_988 : BitVec 32 := 0#32
  let v2735 : BitVec 1 := Scalar.cmpi .slt c128_i32_984 c0_i32_988
  let v2736 : BitVec 32 := Scalar.extui v2735
  let v2737 : BitVec 32 := Scalar.subi v2734 v2736
  let v2738 : BitVec 1 := Scalar.cmpi .ne v2732 v2737
  let v2739 : BitVec 32 := Scalar.remsi v2726 c128_i32_984
  let c0_i32_989 : BitVec 32 := 0#32
  let v2740 : BitVec 1 := Scalar.cmpi .ne v2739 c0_i32_989
  let v2741 : BitVec 1 := Scalar.andi v2738 v2740
  let v2727 : BitVec 32 := Scalar.divsi v2726 c128_i32_984
  let c1_i32_990 : BitVec 32 := 1#32
  let v2742 : BitVec 32 := Scalar.subi v2727 c1_i32_990
  let v2743 : BitVec 32 := Scalar.select v2741 v2742 v2727
  let c128_i32_991 : BitVec 32 := 128#32
  let v2744 : BitVec 32 := Scalar.muli v2743 c128_i32_991
  let v2745 : BitVec 32 := Scalar.maxsi c0_i32_992 v2744
  let v2746 : BitVec 32 := Scalar.minsi c32512_i32_993 v2745
  v2746

def k1_off120 (v2725 : BitVec 32) : Fin 2 → Nat :=
  let c11_995 : Index := 11#32
  let c32512_i32_993 : BitVec 32 := 32512#32
  let c0_i32_992 : BitVec 32 := 0#32
  let c32_i32_983 : BitVec 32 := 32#32
  let v2726 : BitVec 32 := Scalar.subi v2725 c32_i32_983
  let c0_i32_985 : BitVec 32 := 0#32
  let v2728 : BitVec 1 := Scalar.cmpi .sgt v2726 c0_i32_985
  let v2729 : BitVec 32 := Scalar.extui v2728
  let c0_i32_986 : BitVec 32 := 0#32
  let v2730 : BitVec 1 := Scalar.cmpi .slt v2726 c0_i32_986
  let v2731 : BitVec 32 := Scalar.extui v2730
  let v2732 : BitVec 32 := Scalar.subi v2729 v2731
  let c128_i32_984 : BitVec 32 := 128#32
  let c0_i32_987 : BitVec 32 := 0#32
  let v2733 : BitVec 1 := Scalar.cmpi .sgt c128_i32_984 c0_i32_987
  let v2734 : BitVec 32 := Scalar.extui v2733
  let c0_i32_988 : BitVec 32 := 0#32
  let v2735 : BitVec 1 := Scalar.cmpi .slt c128_i32_984 c0_i32_988
  let v2736 : BitVec 32 := Scalar.extui v2735
  let v2737 : BitVec 32 := Scalar.subi v2734 v2736
  let v2738 : BitVec 1 := Scalar.cmpi .ne v2732 v2737
  let v2739 : BitVec 32 := Scalar.remsi v2726 c128_i32_984
  let c0_i32_989 : BitVec 32 := 0#32
  let v2740 : BitVec 1 := Scalar.cmpi .ne v2739 c0_i32_989
  let v2741 : BitVec 1 := Scalar.andi v2738 v2740
  let v2727 : BitVec 32 := Scalar.divsi v2726 c128_i32_984
  let c1_i32_990 : BitVec 32 := 1#32
  let v2742 : BitVec 32 := Scalar.subi v2727 c1_i32_990
  let v2743 : BitVec 32 := Scalar.select v2741 v2742 v2727
  let c128_i32_991 : BitVec 32 := 128#32
  let v2744 : BitVec 32 := Scalar.muli v2743 c128_i32_991
  let v2745 : BitVec 32 := Scalar.maxsi c0_i32_992 v2744
  let v2746 : BitVec 32 := Scalar.minsi c32512_i32_993 v2745
  let v2747 : BitVec 32 := v2746
  let v2762 : Index := Scalar.indexCast v2747
  ![11, v2762.toNat]

def k1_chk60 (v2725 : BitVec 32) : Prop :=
  (128 ∣ (k1_mult60 v2725).toNat) ∧
  (∀ a, (k1_off120 v2725) a + S1x256.size a ≤ S16x32768.size a)
theorem k1_mult60_dvd : ∀ (v2725 : BitVec 32) (k1_hw60 : k1_chk60 v2725), 128 ∣ (k1_mult60 v2725).toNat := fun v2725 k1_hw60 => k1_hw60.1
theorem k1_off120_inb : ∀ (v2725 : BitVec 32) (k1_hw60 : k1_chk60 v2725), ∀ a, (k1_off120 v2725) a + S1x256.size a ≤ S16x32768.size a := fun v2725 k1_hw60 => k1_hw60.2

def k1_off121 (i : grid1.Coords) : Fin 2 → Nat :=
  let arg0 : BitVec 32 := BitVec.ofNat 32 (i 0).val
  let c16_i32_997 : BitVec 32 := 16#32
  let v2768 : BitVec 32 := Scalar.muli arg0 c16_i32_997
  let c12_i32 : BitVec 32 := 12#32
  let v2769 : BitVec 32 := Scalar.addi v2768 c12_i32
  let v2770 : Index := Scalar.indexCast v2769
  let c0_998 : Index := 0#32
  ![v2770.toNat, 0]
def k1_mult61 (v2771 : BitVec 32) : BitVec 32 :=
  let c32512_i32_1009 : BitVec 32 := 32512#32
  let c0_i32_1008 : BitVec 32 := 0#32
  let c32_i32_999 : BitVec 32 := 32#32
  let v2772 : BitVec 32 := Scalar.subi v2771 c32_i32_999
  let c0_i32_1001 : BitVec 32 := 0#32
  let v2774 : BitVec 1 := Scalar.cmpi .sgt v2772 c0_i32_1001
  let v2775 : BitVec 32 := Scalar.extui v2774
  let c0_i32_1002 : BitVec 32 := 0#32
  let v2776 : BitVec 1 := Scalar.cmpi .slt v2772 c0_i32_1002
  let v2777 : BitVec 32 := Scalar.extui v2776
  let v2778 : BitVec 32 := Scalar.subi v2775 v2777
  let c128_i32_1000 : BitVec 32 := 128#32
  let c0_i32_1003 : BitVec 32 := 0#32
  let v2779 : BitVec 1 := Scalar.cmpi .sgt c128_i32_1000 c0_i32_1003
  let v2780 : BitVec 32 := Scalar.extui v2779
  let c0_i32_1004 : BitVec 32 := 0#32
  let v2781 : BitVec 1 := Scalar.cmpi .slt c128_i32_1000 c0_i32_1004
  let v2782 : BitVec 32 := Scalar.extui v2781
  let v2783 : BitVec 32 := Scalar.subi v2780 v2782
  let v2784 : BitVec 1 := Scalar.cmpi .ne v2778 v2783
  let v2785 : BitVec 32 := Scalar.remsi v2772 c128_i32_1000
  let c0_i32_1005 : BitVec 32 := 0#32
  let v2786 : BitVec 1 := Scalar.cmpi .ne v2785 c0_i32_1005
  let v2787 : BitVec 1 := Scalar.andi v2784 v2786
  let v2773 : BitVec 32 := Scalar.divsi v2772 c128_i32_1000
  let c1_i32_1006 : BitVec 32 := 1#32
  let v2788 : BitVec 32 := Scalar.subi v2773 c1_i32_1006
  let v2789 : BitVec 32 := Scalar.select v2787 v2788 v2773
  let c128_i32_1007 : BitVec 32 := 128#32
  let v2790 : BitVec 32 := Scalar.muli v2789 c128_i32_1007
  let v2791 : BitVec 32 := Scalar.maxsi c0_i32_1008 v2790
  let v2792 : BitVec 32 := Scalar.minsi c32512_i32_1009 v2791
  v2792

def k1_off122 (v2771 : BitVec 32) : Fin 2 → Nat :=
  let c12 : Index := 12#32
  let c32512_i32_1009 : BitVec 32 := 32512#32
  let c0_i32_1008 : BitVec 32 := 0#32
  let c32_i32_999 : BitVec 32 := 32#32
  let v2772 : BitVec 32 := Scalar.subi v2771 c32_i32_999
  let c0_i32_1001 : BitVec 32 := 0#32
  let v2774 : BitVec 1 := Scalar.cmpi .sgt v2772 c0_i32_1001
  let v2775 : BitVec 32 := Scalar.extui v2774
  let c0_i32_1002 : BitVec 32 := 0#32
  let v2776 : BitVec 1 := Scalar.cmpi .slt v2772 c0_i32_1002
  let v2777 : BitVec 32 := Scalar.extui v2776
  let v2778 : BitVec 32 := Scalar.subi v2775 v2777
  let c128_i32_1000 : BitVec 32 := 128#32
  let c0_i32_1003 : BitVec 32 := 0#32
  let v2779 : BitVec 1 := Scalar.cmpi .sgt c128_i32_1000 c0_i32_1003
  let v2780 : BitVec 32 := Scalar.extui v2779
  let c0_i32_1004 : BitVec 32 := 0#32
  let v2781 : BitVec 1 := Scalar.cmpi .slt c128_i32_1000 c0_i32_1004
  let v2782 : BitVec 32 := Scalar.extui v2781
  let v2783 : BitVec 32 := Scalar.subi v2780 v2782
  let v2784 : BitVec 1 := Scalar.cmpi .ne v2778 v2783
  let v2785 : BitVec 32 := Scalar.remsi v2772 c128_i32_1000
  let c0_i32_1005 : BitVec 32 := 0#32
  let v2786 : BitVec 1 := Scalar.cmpi .ne v2785 c0_i32_1005
  let v2787 : BitVec 1 := Scalar.andi v2784 v2786
  let v2773 : BitVec 32 := Scalar.divsi v2772 c128_i32_1000
  let c1_i32_1006 : BitVec 32 := 1#32
  let v2788 : BitVec 32 := Scalar.subi v2773 c1_i32_1006
  let v2789 : BitVec 32 := Scalar.select v2787 v2788 v2773
  let c128_i32_1007 : BitVec 32 := 128#32
  let v2790 : BitVec 32 := Scalar.muli v2789 c128_i32_1007
  let v2791 : BitVec 32 := Scalar.maxsi c0_i32_1008 v2790
  let v2792 : BitVec 32 := Scalar.minsi c32512_i32_1009 v2791
  let v2793 : BitVec 32 := v2792
  let v2808 : Index := Scalar.indexCast v2793
  ![12, v2808.toNat]

def k1_chk61 (v2771 : BitVec 32) : Prop :=
  (128 ∣ (k1_mult61 v2771).toNat) ∧
  (∀ a, (k1_off122 v2771) a + S1x256.size a ≤ S16x32768.size a)
theorem k1_mult61_dvd : ∀ (v2771 : BitVec 32) (k1_hw61 : k1_chk61 v2771), 128 ∣ (k1_mult61 v2771).toNat := fun v2771 k1_hw61 => k1_hw61.1
theorem k1_off122_inb : ∀ (v2771 : BitVec 32) (k1_hw61 : k1_chk61 v2771), ∀ a, (k1_off122 v2771) a + S1x256.size a ≤ S16x32768.size a := fun v2771 k1_hw61 => k1_hw61.2

def k1_off123 (i : grid1.Coords) : Fin 2 → Nat :=
  let arg0 : BitVec 32 := BitVec.ofNat 32 (i 0).val
  let c16_i32_1012 : BitVec 32 := 16#32
  let v2814 : BitVec 32 := Scalar.muli arg0 c16_i32_1012
  let c12_i32_1013 : BitVec 32 := 12#32
  let v2815 : BitVec 32 := Scalar.addi v2814 c12_i32_1013
  let v2816 : Index := Scalar.indexCast v2815
  let c1_1014 : Index := 1#32
  ![v2816.toNat, 1]
def k1_mult62 (v2817 : BitVec 32) : BitVec 32 :=
  let c32512_i32_1025 : BitVec 32 := 32512#32
  let c0_i32_1024 : BitVec 32 := 0#32
  let c32_i32_1015 : BitVec 32 := 32#32
  let v2818 : BitVec 32 := Scalar.subi v2817 c32_i32_1015
  let c0_i32_1017 : BitVec 32 := 0#32
  let v2820 : BitVec 1 := Scalar.cmpi .sgt v2818 c0_i32_1017
  let v2821 : BitVec 32 := Scalar.extui v2820
  let c0_i32_1018 : BitVec 32 := 0#32
  let v2822 : BitVec 1 := Scalar.cmpi .slt v2818 c0_i32_1018
  let v2823 : BitVec 32 := Scalar.extui v2822
  let v2824 : BitVec 32 := Scalar.subi v2821 v2823
  let c128_i32_1016 : BitVec 32 := 128#32
  let c0_i32_1019 : BitVec 32 := 0#32
  let v2825 : BitVec 1 := Scalar.cmpi .sgt c128_i32_1016 c0_i32_1019
  let v2826 : BitVec 32 := Scalar.extui v2825
  let c0_i32_1020 : BitVec 32 := 0#32
  let v2827 : BitVec 1 := Scalar.cmpi .slt c128_i32_1016 c0_i32_1020
  let v2828 : BitVec 32 := Scalar.extui v2827
  let v2829 : BitVec 32 := Scalar.subi v2826 v2828
  let v2830 : BitVec 1 := Scalar.cmpi .ne v2824 v2829
  let v2831 : BitVec 32 := Scalar.remsi v2818 c128_i32_1016
  let c0_i32_1021 : BitVec 32 := 0#32
  let v2832 : BitVec 1 := Scalar.cmpi .ne v2831 c0_i32_1021
  let v2833 : BitVec 1 := Scalar.andi v2830 v2832
  let v2819 : BitVec 32 := Scalar.divsi v2818 c128_i32_1016
  let c1_i32_1022 : BitVec 32 := 1#32
  let v2834 : BitVec 32 := Scalar.subi v2819 c1_i32_1022
  let v2835 : BitVec 32 := Scalar.select v2833 v2834 v2819
  let c128_i32_1023 : BitVec 32 := 128#32
  let v2836 : BitVec 32 := Scalar.muli v2835 c128_i32_1023
  let v2837 : BitVec 32 := Scalar.maxsi c0_i32_1024 v2836
  let v2838 : BitVec 32 := Scalar.minsi c32512_i32_1025 v2837
  v2838

def k1_off124 (v2817 : BitVec 32) : Fin 2 → Nat :=
  let c12_1027 : Index := 12#32
  let c32512_i32_1025 : BitVec 32 := 32512#32
  let c0_i32_1024 : BitVec 32 := 0#32
  let c32_i32_1015 : BitVec 32 := 32#32
  let v2818 : BitVec 32 := Scalar.subi v2817 c32_i32_1015
  let c0_i32_1017 : BitVec 32 := 0#32
  let v2820 : BitVec 1 := Scalar.cmpi .sgt v2818 c0_i32_1017
  let v2821 : BitVec 32 := Scalar.extui v2820
  let c0_i32_1018 : BitVec 32 := 0#32
  let v2822 : BitVec 1 := Scalar.cmpi .slt v2818 c0_i32_1018
  let v2823 : BitVec 32 := Scalar.extui v2822
  let v2824 : BitVec 32 := Scalar.subi v2821 v2823
  let c128_i32_1016 : BitVec 32 := 128#32
  let c0_i32_1019 : BitVec 32 := 0#32
  let v2825 : BitVec 1 := Scalar.cmpi .sgt c128_i32_1016 c0_i32_1019
  let v2826 : BitVec 32 := Scalar.extui v2825
  let c0_i32_1020 : BitVec 32 := 0#32
  let v2827 : BitVec 1 := Scalar.cmpi .slt c128_i32_1016 c0_i32_1020
  let v2828 : BitVec 32 := Scalar.extui v2827
  let v2829 : BitVec 32 := Scalar.subi v2826 v2828
  let v2830 : BitVec 1 := Scalar.cmpi .ne v2824 v2829
  let v2831 : BitVec 32 := Scalar.remsi v2818 c128_i32_1016
  let c0_i32_1021 : BitVec 32 := 0#32
  let v2832 : BitVec 1 := Scalar.cmpi .ne v2831 c0_i32_1021
  let v2833 : BitVec 1 := Scalar.andi v2830 v2832
  let v2819 : BitVec 32 := Scalar.divsi v2818 c128_i32_1016
  let c1_i32_1022 : BitVec 32 := 1#32
  let v2834 : BitVec 32 := Scalar.subi v2819 c1_i32_1022
  let v2835 : BitVec 32 := Scalar.select v2833 v2834 v2819
  let c128_i32_1023 : BitVec 32 := 128#32
  let v2836 : BitVec 32 := Scalar.muli v2835 c128_i32_1023
  let v2837 : BitVec 32 := Scalar.maxsi c0_i32_1024 v2836
  let v2838 : BitVec 32 := Scalar.minsi c32512_i32_1025 v2837
  let v2839 : BitVec 32 := v2838
  let v2854 : Index := Scalar.indexCast v2839
  ![12, v2854.toNat]

def k1_chk62 (v2817 : BitVec 32) : Prop :=
  (128 ∣ (k1_mult62 v2817).toNat) ∧
  (∀ a, (k1_off124 v2817) a + S1x256.size a ≤ S16x32768.size a)
theorem k1_mult62_dvd : ∀ (v2817 : BitVec 32) (k1_hw62 : k1_chk62 v2817), 128 ∣ (k1_mult62 v2817).toNat := fun v2817 k1_hw62 => k1_hw62.1
theorem k1_off124_inb : ∀ (v2817 : BitVec 32) (k1_hw62 : k1_chk62 v2817), ∀ a, (k1_off124 v2817) a + S1x256.size a ≤ S16x32768.size a := fun v2817 k1_hw62 => k1_hw62.2

def k1_off125 (i : grid1.Coords) : Fin 2 → Nat :=
  let arg0 : BitVec 32 := BitVec.ofNat 32 (i 0).val
  let c16_i32_1029 : BitVec 32 := 16#32
  let v2860 : BitVec 32 := Scalar.muli arg0 c16_i32_1029
  let c12_i32_1030 : BitVec 32 := 12#32
  let v2861 : BitVec 32 := Scalar.addi v2860 c12_i32_1030
  let v2862 : Index := Scalar.indexCast v2861
  let c2_1031 : Index := 2#32
  ![v2862.toNat, 2]
def k1_mult63 (v2863 : BitVec 32) : BitVec 32 :=
  let c32512_i32_1042 : BitVec 32 := 32512#32
  let c0_i32_1041 : BitVec 32 := 0#32
  let c32_i32_1032 : BitVec 32 := 32#32
  let v2864 : BitVec 32 := Scalar.subi v2863 c32_i32_1032
  let c0_i32_1034 : BitVec 32 := 0#32
  let v2866 : BitVec 1 := Scalar.cmpi .sgt v2864 c0_i32_1034
  let v2867 : BitVec 32 := Scalar.extui v2866
  let c0_i32_1035 : BitVec 32 := 0#32
  let v2868 : BitVec 1 := Scalar.cmpi .slt v2864 c0_i32_1035
  let v2869 : BitVec 32 := Scalar.extui v2868
  let v2870 : BitVec 32 := Scalar.subi v2867 v2869
  let c128_i32_1033 : BitVec 32 := 128#32
  let c0_i32_1036 : BitVec 32 := 0#32
  let v2871 : BitVec 1 := Scalar.cmpi .sgt c128_i32_1033 c0_i32_1036
  let v2872 : BitVec 32 := Scalar.extui v2871
  let c0_i32_1037 : BitVec 32 := 0#32
  let v2873 : BitVec 1 := Scalar.cmpi .slt c128_i32_1033 c0_i32_1037
  let v2874 : BitVec 32 := Scalar.extui v2873
  let v2875 : BitVec 32 := Scalar.subi v2872 v2874
  let v2876 : BitVec 1 := Scalar.cmpi .ne v2870 v2875
  let v2877 : BitVec 32 := Scalar.remsi v2864 c128_i32_1033
  let c0_i32_1038 : BitVec 32 := 0#32
  let v2878 : BitVec 1 := Scalar.cmpi .ne v2877 c0_i32_1038
  let v2879 : BitVec 1 := Scalar.andi v2876 v2878
  let v2865 : BitVec 32 := Scalar.divsi v2864 c128_i32_1033
  let c1_i32_1039 : BitVec 32 := 1#32
  let v2880 : BitVec 32 := Scalar.subi v2865 c1_i32_1039
  let v2881 : BitVec 32 := Scalar.select v2879 v2880 v2865
  let c128_i32_1040 : BitVec 32 := 128#32
  let v2882 : BitVec 32 := Scalar.muli v2881 c128_i32_1040
  let v2883 : BitVec 32 := Scalar.maxsi c0_i32_1041 v2882
  let v2884 : BitVec 32 := Scalar.minsi c32512_i32_1042 v2883
  v2884

def k1_off126 (v2863 : BitVec 32) : Fin 2 → Nat :=
  let c12_1044 : Index := 12#32
  let c32512_i32_1042 : BitVec 32 := 32512#32
  let c0_i32_1041 : BitVec 32 := 0#32
  let c32_i32_1032 : BitVec 32 := 32#32
  let v2864 : BitVec 32 := Scalar.subi v2863 c32_i32_1032
  let c0_i32_1034 : BitVec 32 := 0#32
  let v2866 : BitVec 1 := Scalar.cmpi .sgt v2864 c0_i32_1034
  let v2867 : BitVec 32 := Scalar.extui v2866
  let c0_i32_1035 : BitVec 32 := 0#32
  let v2868 : BitVec 1 := Scalar.cmpi .slt v2864 c0_i32_1035
  let v2869 : BitVec 32 := Scalar.extui v2868
  let v2870 : BitVec 32 := Scalar.subi v2867 v2869
  let c128_i32_1033 : BitVec 32 := 128#32
  let c0_i32_1036 : BitVec 32 := 0#32
  let v2871 : BitVec 1 := Scalar.cmpi .sgt c128_i32_1033 c0_i32_1036
  let v2872 : BitVec 32 := Scalar.extui v2871
  let c0_i32_1037 : BitVec 32 := 0#32
  let v2873 : BitVec 1 := Scalar.cmpi .slt c128_i32_1033 c0_i32_1037
  let v2874 : BitVec 32 := Scalar.extui v2873
  let v2875 : BitVec 32 := Scalar.subi v2872 v2874
  let v2876 : BitVec 1 := Scalar.cmpi .ne v2870 v2875
  let v2877 : BitVec 32 := Scalar.remsi v2864 c128_i32_1033
  let c0_i32_1038 : BitVec 32 := 0#32
  let v2878 : BitVec 1 := Scalar.cmpi .ne v2877 c0_i32_1038
  let v2879 : BitVec 1 := Scalar.andi v2876 v2878
  let v2865 : BitVec 32 := Scalar.divsi v2864 c128_i32_1033
  let c1_i32_1039 : BitVec 32 := 1#32
  let v2880 : BitVec 32 := Scalar.subi v2865 c1_i32_1039
  let v2881 : BitVec 32 := Scalar.select v2879 v2880 v2865
  let c128_i32_1040 : BitVec 32 := 128#32
  let v2882 : BitVec 32 := Scalar.muli v2881 c128_i32_1040
  let v2883 : BitVec 32 := Scalar.maxsi c0_i32_1041 v2882
  let v2884 : BitVec 32 := Scalar.minsi c32512_i32_1042 v2883
  let v2885 : BitVec 32 := v2884
  let v2900 : Index := Scalar.indexCast v2885
  ![12, v2900.toNat]

def k1_chk63 (v2863 : BitVec 32) : Prop :=
  (128 ∣ (k1_mult63 v2863).toNat) ∧
  (∀ a, (k1_off126 v2863) a + S1x256.size a ≤ S16x32768.size a)
theorem k1_mult63_dvd : ∀ (v2863 : BitVec 32) (k1_hw63 : k1_chk63 v2863), 128 ∣ (k1_mult63 v2863).toNat := fun v2863 k1_hw63 => k1_hw63.1
theorem k1_off126_inb : ∀ (v2863 : BitVec 32) (k1_hw63 : k1_chk63 v2863), ∀ a, (k1_off126 v2863) a + S1x256.size a ≤ S16x32768.size a := fun v2863 k1_hw63 => k1_hw63.2

def k1_off127 (i : grid1.Coords) : Fin 2 → Nat :=
  let arg0 : BitVec 32 := BitVec.ofNat 32 (i 0).val
  let c16_i32_1046 : BitVec 32 := 16#32
  let v2906 : BitVec 32 := Scalar.muli arg0 c16_i32_1046
  let c12_i32_1047 : BitVec 32 := 12#32
  let v2907 : BitVec 32 := Scalar.addi v2906 c12_i32_1047
  let v2908 : Index := Scalar.indexCast v2907
  let c3_1048 : Index := 3#32
  ![v2908.toNat, 3]
def k1_mult64 (v2909 : BitVec 32) : BitVec 32 :=
  let c32512_i32_1059 : BitVec 32 := 32512#32
  let c0_i32_1058 : BitVec 32 := 0#32
  let c32_i32_1049 : BitVec 32 := 32#32
  let v2910 : BitVec 32 := Scalar.subi v2909 c32_i32_1049
  let c0_i32_1051 : BitVec 32 := 0#32
  let v2912 : BitVec 1 := Scalar.cmpi .sgt v2910 c0_i32_1051
  let v2913 : BitVec 32 := Scalar.extui v2912
  let c0_i32_1052 : BitVec 32 := 0#32
  let v2914 : BitVec 1 := Scalar.cmpi .slt v2910 c0_i32_1052
  let v2915 : BitVec 32 := Scalar.extui v2914
  let v2916 : BitVec 32 := Scalar.subi v2913 v2915
  let c128_i32_1050 : BitVec 32 := 128#32
  let c0_i32_1053 : BitVec 32 := 0#32
  let v2917 : BitVec 1 := Scalar.cmpi .sgt c128_i32_1050 c0_i32_1053
  let v2918 : BitVec 32 := Scalar.extui v2917
  let c0_i32_1054 : BitVec 32 := 0#32
  let v2919 : BitVec 1 := Scalar.cmpi .slt c128_i32_1050 c0_i32_1054
  let v2920 : BitVec 32 := Scalar.extui v2919
  let v2921 : BitVec 32 := Scalar.subi v2918 v2920
  let v2922 : BitVec 1 := Scalar.cmpi .ne v2916 v2921
  let v2923 : BitVec 32 := Scalar.remsi v2910 c128_i32_1050
  let c0_i32_1055 : BitVec 32 := 0#32
  let v2924 : BitVec 1 := Scalar.cmpi .ne v2923 c0_i32_1055
  let v2925 : BitVec 1 := Scalar.andi v2922 v2924
  let v2911 : BitVec 32 := Scalar.divsi v2910 c128_i32_1050
  let c1_i32_1056 : BitVec 32 := 1#32
  let v2926 : BitVec 32 := Scalar.subi v2911 c1_i32_1056
  let v2927 : BitVec 32 := Scalar.select v2925 v2926 v2911
  let c128_i32_1057 : BitVec 32 := 128#32
  let v2928 : BitVec 32 := Scalar.muli v2927 c128_i32_1057
  let v2929 : BitVec 32 := Scalar.maxsi c0_i32_1058 v2928
  let v2930 : BitVec 32 := Scalar.minsi c32512_i32_1059 v2929
  v2930

def k1_off128 (v2909 : BitVec 32) : Fin 2 → Nat :=
  let c12_1061 : Index := 12#32
  let c32512_i32_1059 : BitVec 32 := 32512#32
  let c0_i32_1058 : BitVec 32 := 0#32
  let c32_i32_1049 : BitVec 32 := 32#32
  let v2910 : BitVec 32 := Scalar.subi v2909 c32_i32_1049
  let c0_i32_1051 : BitVec 32 := 0#32
  let v2912 : BitVec 1 := Scalar.cmpi .sgt v2910 c0_i32_1051
  let v2913 : BitVec 32 := Scalar.extui v2912
  let c0_i32_1052 : BitVec 32 := 0#32
  let v2914 : BitVec 1 := Scalar.cmpi .slt v2910 c0_i32_1052
  let v2915 : BitVec 32 := Scalar.extui v2914
  let v2916 : BitVec 32 := Scalar.subi v2913 v2915
  let c128_i32_1050 : BitVec 32 := 128#32
  let c0_i32_1053 : BitVec 32 := 0#32
  let v2917 : BitVec 1 := Scalar.cmpi .sgt c128_i32_1050 c0_i32_1053
  let v2918 : BitVec 32 := Scalar.extui v2917
  let c0_i32_1054 : BitVec 32 := 0#32
  let v2919 : BitVec 1 := Scalar.cmpi .slt c128_i32_1050 c0_i32_1054
  let v2920 : BitVec 32 := Scalar.extui v2919
  let v2921 : BitVec 32 := Scalar.subi v2918 v2920
  let v2922 : BitVec 1 := Scalar.cmpi .ne v2916 v2921
  let v2923 : BitVec 32 := Scalar.remsi v2910 c128_i32_1050
  let c0_i32_1055 : BitVec 32 := 0#32
  let v2924 : BitVec 1 := Scalar.cmpi .ne v2923 c0_i32_1055
  let v2925 : BitVec 1 := Scalar.andi v2922 v2924
  let v2911 : BitVec 32 := Scalar.divsi v2910 c128_i32_1050
  let c1_i32_1056 : BitVec 32 := 1#32
  let v2926 : BitVec 32 := Scalar.subi v2911 c1_i32_1056
  let v2927 : BitVec 32 := Scalar.select v2925 v2926 v2911
  let c128_i32_1057 : BitVec 32 := 128#32
  let v2928 : BitVec 32 := Scalar.muli v2927 c128_i32_1057
  let v2929 : BitVec 32 := Scalar.maxsi c0_i32_1058 v2928
  let v2930 : BitVec 32 := Scalar.minsi c32512_i32_1059 v2929
  let v2931 : BitVec 32 := v2930
  let v2946 : Index := Scalar.indexCast v2931
  ![12, v2946.toNat]

def k1_chk64 (v2909 : BitVec 32) : Prop :=
  (128 ∣ (k1_mult64 v2909).toNat) ∧
  (∀ a, (k1_off128 v2909) a + S1x256.size a ≤ S16x32768.size a)
theorem k1_mult64_dvd : ∀ (v2909 : BitVec 32) (k1_hw64 : k1_chk64 v2909), 128 ∣ (k1_mult64 v2909).toNat := fun v2909 k1_hw64 => k1_hw64.1
theorem k1_off128_inb : ∀ (v2909 : BitVec 32) (k1_hw64 : k1_chk64 v2909), ∀ a, (k1_off128 v2909) a + S1x256.size a ≤ S16x32768.size a := fun v2909 k1_hw64 => k1_hw64.2

def k1_off129 (i : grid1.Coords) : Fin 2 → Nat :=
  let arg0 : BitVec 32 := BitVec.ofNat 32 (i 0).val
  let c16_i32_1063 : BitVec 32 := 16#32
  let v2952 : BitVec 32 := Scalar.muli arg0 c16_i32_1063
  let c12_i32_1064 : BitVec 32 := 12#32
  let v2953 : BitVec 32 := Scalar.addi v2952 c12_i32_1064
  let v2954 : Index := Scalar.indexCast v2953
  let c4_1065 : Index := 4#32
  ![v2954.toNat, 4]
def k1_mult65 (v2955 : BitVec 32) : BitVec 32 :=
  let c32512_i32_1076 : BitVec 32 := 32512#32
  let c0_i32_1075 : BitVec 32 := 0#32
  let c32_i32_1066 : BitVec 32 := 32#32
  let v2956 : BitVec 32 := Scalar.subi v2955 c32_i32_1066
  let c0_i32_1068 : BitVec 32 := 0#32
  let v2958 : BitVec 1 := Scalar.cmpi .sgt v2956 c0_i32_1068
  let v2959 : BitVec 32 := Scalar.extui v2958
  let c0_i32_1069 : BitVec 32 := 0#32
  let v2960 : BitVec 1 := Scalar.cmpi .slt v2956 c0_i32_1069
  let v2961 : BitVec 32 := Scalar.extui v2960
  let v2962 : BitVec 32 := Scalar.subi v2959 v2961
  let c128_i32_1067 : BitVec 32 := 128#32
  let c0_i32_1070 : BitVec 32 := 0#32
  let v2963 : BitVec 1 := Scalar.cmpi .sgt c128_i32_1067 c0_i32_1070
  let v2964 : BitVec 32 := Scalar.extui v2963
  let c0_i32_1071 : BitVec 32 := 0#32
  let v2965 : BitVec 1 := Scalar.cmpi .slt c128_i32_1067 c0_i32_1071
  let v2966 : BitVec 32 := Scalar.extui v2965
  let v2967 : BitVec 32 := Scalar.subi v2964 v2966
  let v2968 : BitVec 1 := Scalar.cmpi .ne v2962 v2967
  let v2969 : BitVec 32 := Scalar.remsi v2956 c128_i32_1067
  let c0_i32_1072 : BitVec 32 := 0#32
  let v2970 : BitVec 1 := Scalar.cmpi .ne v2969 c0_i32_1072
  let v2971 : BitVec 1 := Scalar.andi v2968 v2970
  let v2957 : BitVec 32 := Scalar.divsi v2956 c128_i32_1067
  let c1_i32_1073 : BitVec 32 := 1#32
  let v2972 : BitVec 32 := Scalar.subi v2957 c1_i32_1073
  let v2973 : BitVec 32 := Scalar.select v2971 v2972 v2957
  let c128_i32_1074 : BitVec 32 := 128#32
  let v2974 : BitVec 32 := Scalar.muli v2973 c128_i32_1074
  let v2975 : BitVec 32 := Scalar.maxsi c0_i32_1075 v2974
  let v2976 : BitVec 32 := Scalar.minsi c32512_i32_1076 v2975
  v2976

def k1_off130 (v2955 : BitVec 32) : Fin 2 → Nat :=
  let c12_1078 : Index := 12#32
  let c32512_i32_1076 : BitVec 32 := 32512#32
  let c0_i32_1075 : BitVec 32 := 0#32
  let c32_i32_1066 : BitVec 32 := 32#32
  let v2956 : BitVec 32 := Scalar.subi v2955 c32_i32_1066
  let c0_i32_1068 : BitVec 32 := 0#32
  let v2958 : BitVec 1 := Scalar.cmpi .sgt v2956 c0_i32_1068
  let v2959 : BitVec 32 := Scalar.extui v2958
  let c0_i32_1069 : BitVec 32 := 0#32
  let v2960 : BitVec 1 := Scalar.cmpi .slt v2956 c0_i32_1069
  let v2961 : BitVec 32 := Scalar.extui v2960
  let v2962 : BitVec 32 := Scalar.subi v2959 v2961
  let c128_i32_1067 : BitVec 32 := 128#32
  let c0_i32_1070 : BitVec 32 := 0#32
  let v2963 : BitVec 1 := Scalar.cmpi .sgt c128_i32_1067 c0_i32_1070
  let v2964 : BitVec 32 := Scalar.extui v2963
  let c0_i32_1071 : BitVec 32 := 0#32
  let v2965 : BitVec 1 := Scalar.cmpi .slt c128_i32_1067 c0_i32_1071
  let v2966 : BitVec 32 := Scalar.extui v2965
  let v2967 : BitVec 32 := Scalar.subi v2964 v2966
  let v2968 : BitVec 1 := Scalar.cmpi .ne v2962 v2967
  let v2969 : BitVec 32 := Scalar.remsi v2956 c128_i32_1067
  let c0_i32_1072 : BitVec 32 := 0#32
  let v2970 : BitVec 1 := Scalar.cmpi .ne v2969 c0_i32_1072
  let v2971 : BitVec 1 := Scalar.andi v2968 v2970
  let v2957 : BitVec 32 := Scalar.divsi v2956 c128_i32_1067
  let c1_i32_1073 : BitVec 32 := 1#32
  let v2972 : BitVec 32 := Scalar.subi v2957 c1_i32_1073
  let v2973 : BitVec 32 := Scalar.select v2971 v2972 v2957
  let c128_i32_1074 : BitVec 32 := 128#32
  let v2974 : BitVec 32 := Scalar.muli v2973 c128_i32_1074
  let v2975 : BitVec 32 := Scalar.maxsi c0_i32_1075 v2974
  let v2976 : BitVec 32 := Scalar.minsi c32512_i32_1076 v2975
  let v2977 : BitVec 32 := v2976
  let v2992 : Index := Scalar.indexCast v2977
  ![12, v2992.toNat]

def k1_chk65 (v2955 : BitVec 32) : Prop :=
  (128 ∣ (k1_mult65 v2955).toNat) ∧
  (∀ a, (k1_off130 v2955) a + S1x256.size a ≤ S16x32768.size a)
theorem k1_mult65_dvd : ∀ (v2955 : BitVec 32) (k1_hw65 : k1_chk65 v2955), 128 ∣ (k1_mult65 v2955).toNat := fun v2955 k1_hw65 => k1_hw65.1
theorem k1_off130_inb : ∀ (v2955 : BitVec 32) (k1_hw65 : k1_chk65 v2955), ∀ a, (k1_off130 v2955) a + S1x256.size a ≤ S16x32768.size a := fun v2955 k1_hw65 => k1_hw65.2

def k1_off131 (i : grid1.Coords) : Fin 2 → Nat :=
  let arg0 : BitVec 32 := BitVec.ofNat 32 (i 0).val
  let c16_i32_1080 : BitVec 32 := 16#32
  let v2998 : BitVec 32 := Scalar.muli arg0 c16_i32_1080
  let c13_i32 : BitVec 32 := 13#32
  let v2999 : BitVec 32 := Scalar.addi v2998 c13_i32
  let v3000 : Index := Scalar.indexCast v2999
  let c0_1081 : Index := 0#32
  ![v3000.toNat, 0]
def k1_mult66 (v3001 : BitVec 32) : BitVec 32 :=
  let c32512_i32_1092 : BitVec 32 := 32512#32
  let c0_i32_1091 : BitVec 32 := 0#32
  let c32_i32_1082 : BitVec 32 := 32#32
  let v3002 : BitVec 32 := Scalar.subi v3001 c32_i32_1082
  let c0_i32_1084 : BitVec 32 := 0#32
  let v3004 : BitVec 1 := Scalar.cmpi .sgt v3002 c0_i32_1084
  let v3005 : BitVec 32 := Scalar.extui v3004
  let c0_i32_1085 : BitVec 32 := 0#32
  let v3006 : BitVec 1 := Scalar.cmpi .slt v3002 c0_i32_1085
  let v3007 : BitVec 32 := Scalar.extui v3006
  let v3008 : BitVec 32 := Scalar.subi v3005 v3007
  let c128_i32_1083 : BitVec 32 := 128#32
  let c0_i32_1086 : BitVec 32 := 0#32
  let v3009 : BitVec 1 := Scalar.cmpi .sgt c128_i32_1083 c0_i32_1086
  let v3010 : BitVec 32 := Scalar.extui v3009
  let c0_i32_1087 : BitVec 32 := 0#32
  let v3011 : BitVec 1 := Scalar.cmpi .slt c128_i32_1083 c0_i32_1087
  let v3012 : BitVec 32 := Scalar.extui v3011
  let v3013 : BitVec 32 := Scalar.subi v3010 v3012
  let v3014 : BitVec 1 := Scalar.cmpi .ne v3008 v3013
  let v3015 : BitVec 32 := Scalar.remsi v3002 c128_i32_1083
  let c0_i32_1088 : BitVec 32 := 0#32
  let v3016 : BitVec 1 := Scalar.cmpi .ne v3015 c0_i32_1088
  let v3017 : BitVec 1 := Scalar.andi v3014 v3016
  let v3003 : BitVec 32 := Scalar.divsi v3002 c128_i32_1083
  let c1_i32_1089 : BitVec 32 := 1#32
  let v3018 : BitVec 32 := Scalar.subi v3003 c1_i32_1089
  let v3019 : BitVec 32 := Scalar.select v3017 v3018 v3003
  let c128_i32_1090 : BitVec 32 := 128#32
  let v3020 : BitVec 32 := Scalar.muli v3019 c128_i32_1090
  let v3021 : BitVec 32 := Scalar.maxsi c0_i32_1091 v3020
  let v3022 : BitVec 32 := Scalar.minsi c32512_i32_1092 v3021
  v3022

def k1_off132 (v3001 : BitVec 32) : Fin 2 → Nat :=
  let c13 : Index := 13#32
  let c32512_i32_1092 : BitVec 32 := 32512#32
  let c0_i32_1091 : BitVec 32 := 0#32
  let c32_i32_1082 : BitVec 32 := 32#32
  let v3002 : BitVec 32 := Scalar.subi v3001 c32_i32_1082
  let c0_i32_1084 : BitVec 32 := 0#32
  let v3004 : BitVec 1 := Scalar.cmpi .sgt v3002 c0_i32_1084
  let v3005 : BitVec 32 := Scalar.extui v3004
  let c0_i32_1085 : BitVec 32 := 0#32
  let v3006 : BitVec 1 := Scalar.cmpi .slt v3002 c0_i32_1085
  let v3007 : BitVec 32 := Scalar.extui v3006
  let v3008 : BitVec 32 := Scalar.subi v3005 v3007
  let c128_i32_1083 : BitVec 32 := 128#32
  let c0_i32_1086 : BitVec 32 := 0#32
  let v3009 : BitVec 1 := Scalar.cmpi .sgt c128_i32_1083 c0_i32_1086
  let v3010 : BitVec 32 := Scalar.extui v3009
  let c0_i32_1087 : BitVec 32 := 0#32
  let v3011 : BitVec 1 := Scalar.cmpi .slt c128_i32_1083 c0_i32_1087
  let v3012 : BitVec 32 := Scalar.extui v3011
  let v3013 : BitVec 32 := Scalar.subi v3010 v3012
  let v3014 : BitVec 1 := Scalar.cmpi .ne v3008 v3013
  let v3015 : BitVec 32 := Scalar.remsi v3002 c128_i32_1083
  let c0_i32_1088 : BitVec 32 := 0#32
  let v3016 : BitVec 1 := Scalar.cmpi .ne v3015 c0_i32_1088
  let v3017 : BitVec 1 := Scalar.andi v3014 v3016
  let v3003 : BitVec 32 := Scalar.divsi v3002 c128_i32_1083
  let c1_i32_1089 : BitVec 32 := 1#32
  let v3018 : BitVec 32 := Scalar.subi v3003 c1_i32_1089
  let v3019 : BitVec 32 := Scalar.select v3017 v3018 v3003
  let c128_i32_1090 : BitVec 32 := 128#32
  let v3020 : BitVec 32 := Scalar.muli v3019 c128_i32_1090
  let v3021 : BitVec 32 := Scalar.maxsi c0_i32_1091 v3020
  let v3022 : BitVec 32 := Scalar.minsi c32512_i32_1092 v3021
  let v3023 : BitVec 32 := v3022
  let v3038 : Index := Scalar.indexCast v3023
  ![13, v3038.toNat]

def k1_chk66 (v3001 : BitVec 32) : Prop :=
  (128 ∣ (k1_mult66 v3001).toNat) ∧
  (∀ a, (k1_off132 v3001) a + S1x256.size a ≤ S16x32768.size a)
theorem k1_mult66_dvd : ∀ (v3001 : BitVec 32) (k1_hw66 : k1_chk66 v3001), 128 ∣ (k1_mult66 v3001).toNat := fun v3001 k1_hw66 => k1_hw66.1
theorem k1_off132_inb : ∀ (v3001 : BitVec 32) (k1_hw66 : k1_chk66 v3001), ∀ a, (k1_off132 v3001) a + S1x256.size a ≤ S16x32768.size a := fun v3001 k1_hw66 => k1_hw66.2

def k1_off133 (i : grid1.Coords) : Fin 2 → Nat :=
  let arg0 : BitVec 32 := BitVec.ofNat 32 (i 0).val
  let c16_i32_1095 : BitVec 32 := 16#32
  let v3044 : BitVec 32 := Scalar.muli arg0 c16_i32_1095
  let c13_i32_1096 : BitVec 32 := 13#32
  let v3045 : BitVec 32 := Scalar.addi v3044 c13_i32_1096
  let v3046 : Index := Scalar.indexCast v3045
  let c1_1097 : Index := 1#32
  ![v3046.toNat, 1]
def k1_mult67 (v3047 : BitVec 32) : BitVec 32 :=
  let c32512_i32_1108 : BitVec 32 := 32512#32
  let c0_i32_1107 : BitVec 32 := 0#32
  let c32_i32_1098 : BitVec 32 := 32#32
  let v3048 : BitVec 32 := Scalar.subi v3047 c32_i32_1098
  let c0_i32_1100 : BitVec 32 := 0#32
  let v3050 : BitVec 1 := Scalar.cmpi .sgt v3048 c0_i32_1100
  let v3051 : BitVec 32 := Scalar.extui v3050
  let c0_i32_1101 : BitVec 32 := 0#32
  let v3052 : BitVec 1 := Scalar.cmpi .slt v3048 c0_i32_1101
  let v3053 : BitVec 32 := Scalar.extui v3052
  let v3054 : BitVec 32 := Scalar.subi v3051 v3053
  let c128_i32_1099 : BitVec 32 := 128#32
  let c0_i32_1102 : BitVec 32 := 0#32
  let v3055 : BitVec 1 := Scalar.cmpi .sgt c128_i32_1099 c0_i32_1102
  let v3056 : BitVec 32 := Scalar.extui v3055
  let c0_i32_1103 : BitVec 32 := 0#32
  let v3057 : BitVec 1 := Scalar.cmpi .slt c128_i32_1099 c0_i32_1103
  let v3058 : BitVec 32 := Scalar.extui v3057
  let v3059 : BitVec 32 := Scalar.subi v3056 v3058
  let v3060 : BitVec 1 := Scalar.cmpi .ne v3054 v3059
  let v3061 : BitVec 32 := Scalar.remsi v3048 c128_i32_1099
  let c0_i32_1104 : BitVec 32 := 0#32
  let v3062 : BitVec 1 := Scalar.cmpi .ne v3061 c0_i32_1104
  let v3063 : BitVec 1 := Scalar.andi v3060 v3062
  let v3049 : BitVec 32 := Scalar.divsi v3048 c128_i32_1099
  let c1_i32_1105 : BitVec 32 := 1#32
  let v3064 : BitVec 32 := Scalar.subi v3049 c1_i32_1105
  let v3065 : BitVec 32 := Scalar.select v3063 v3064 v3049
  let c128_i32_1106 : BitVec 32 := 128#32
  let v3066 : BitVec 32 := Scalar.muli v3065 c128_i32_1106
  let v3067 : BitVec 32 := Scalar.maxsi c0_i32_1107 v3066
  let v3068 : BitVec 32 := Scalar.minsi c32512_i32_1108 v3067
  v3068

def k1_off134 (v3047 : BitVec 32) : Fin 2 → Nat :=
  let c13_1110 : Index := 13#32
  let c32512_i32_1108 : BitVec 32 := 32512#32
  let c0_i32_1107 : BitVec 32 := 0#32
  let c32_i32_1098 : BitVec 32 := 32#32
  let v3048 : BitVec 32 := Scalar.subi v3047 c32_i32_1098
  let c0_i32_1100 : BitVec 32 := 0#32
  let v3050 : BitVec 1 := Scalar.cmpi .sgt v3048 c0_i32_1100
  let v3051 : BitVec 32 := Scalar.extui v3050
  let c0_i32_1101 : BitVec 32 := 0#32
  let v3052 : BitVec 1 := Scalar.cmpi .slt v3048 c0_i32_1101
  let v3053 : BitVec 32 := Scalar.extui v3052
  let v3054 : BitVec 32 := Scalar.subi v3051 v3053
  let c128_i32_1099 : BitVec 32 := 128#32
  let c0_i32_1102 : BitVec 32 := 0#32
  let v3055 : BitVec 1 := Scalar.cmpi .sgt c128_i32_1099 c0_i32_1102
  let v3056 : BitVec 32 := Scalar.extui v3055
  let c0_i32_1103 : BitVec 32 := 0#32
  let v3057 : BitVec 1 := Scalar.cmpi .slt c128_i32_1099 c0_i32_1103
  let v3058 : BitVec 32 := Scalar.extui v3057
  let v3059 : BitVec 32 := Scalar.subi v3056 v3058
  let v3060 : BitVec 1 := Scalar.cmpi .ne v3054 v3059
  let v3061 : BitVec 32 := Scalar.remsi v3048 c128_i32_1099
  let c0_i32_1104 : BitVec 32 := 0#32
  let v3062 : BitVec 1 := Scalar.cmpi .ne v3061 c0_i32_1104
  let v3063 : BitVec 1 := Scalar.andi v3060 v3062
  let v3049 : BitVec 32 := Scalar.divsi v3048 c128_i32_1099
  let c1_i32_1105 : BitVec 32 := 1#32
  let v3064 : BitVec 32 := Scalar.subi v3049 c1_i32_1105
  let v3065 : BitVec 32 := Scalar.select v3063 v3064 v3049
  let c128_i32_1106 : BitVec 32 := 128#32
  let v3066 : BitVec 32 := Scalar.muli v3065 c128_i32_1106
  let v3067 : BitVec 32 := Scalar.maxsi c0_i32_1107 v3066
  let v3068 : BitVec 32 := Scalar.minsi c32512_i32_1108 v3067
  let v3069 : BitVec 32 := v3068
  let v3084 : Index := Scalar.indexCast v3069
  ![13, v3084.toNat]

def k1_chk67 (v3047 : BitVec 32) : Prop :=
  (128 ∣ (k1_mult67 v3047).toNat) ∧
  (∀ a, (k1_off134 v3047) a + S1x256.size a ≤ S16x32768.size a)
theorem k1_mult67_dvd : ∀ (v3047 : BitVec 32) (k1_hw67 : k1_chk67 v3047), 128 ∣ (k1_mult67 v3047).toNat := fun v3047 k1_hw67 => k1_hw67.1
theorem k1_off134_inb : ∀ (v3047 : BitVec 32) (k1_hw67 : k1_chk67 v3047), ∀ a, (k1_off134 v3047) a + S1x256.size a ≤ S16x32768.size a := fun v3047 k1_hw67 => k1_hw67.2

def k1_off135 (i : grid1.Coords) : Fin 2 → Nat :=
  let arg0 : BitVec 32 := BitVec.ofNat 32 (i 0).val
  let c16_i32_1112 : BitVec 32 := 16#32
  let v3090 : BitVec 32 := Scalar.muli arg0 c16_i32_1112
  let c13_i32_1113 : BitVec 32 := 13#32
  let v3091 : BitVec 32 := Scalar.addi v3090 c13_i32_1113
  let v3092 : Index := Scalar.indexCast v3091
  let c2_1114 : Index := 2#32
  ![v3092.toNat, 2]
def k1_mult68 (v3093 : BitVec 32) : BitVec 32 :=
  let c32512_i32_1125 : BitVec 32 := 32512#32
  let c0_i32_1124 : BitVec 32 := 0#32
  let c32_i32_1115 : BitVec 32 := 32#32
  let v3094 : BitVec 32 := Scalar.subi v3093 c32_i32_1115
  let c0_i32_1117 : BitVec 32 := 0#32
  let v3096 : BitVec 1 := Scalar.cmpi .sgt v3094 c0_i32_1117
  let v3097 : BitVec 32 := Scalar.extui v3096
  let c0_i32_1118 : BitVec 32 := 0#32
  let v3098 : BitVec 1 := Scalar.cmpi .slt v3094 c0_i32_1118
  let v3099 : BitVec 32 := Scalar.extui v3098
  let v3100 : BitVec 32 := Scalar.subi v3097 v3099
  let c128_i32_1116 : BitVec 32 := 128#32
  let c0_i32_1119 : BitVec 32 := 0#32
  let v3101 : BitVec 1 := Scalar.cmpi .sgt c128_i32_1116 c0_i32_1119
  let v3102 : BitVec 32 := Scalar.extui v3101
  let c0_i32_1120 : BitVec 32 := 0#32
  let v3103 : BitVec 1 := Scalar.cmpi .slt c128_i32_1116 c0_i32_1120
  let v3104 : BitVec 32 := Scalar.extui v3103
  let v3105 : BitVec 32 := Scalar.subi v3102 v3104
  let v3106 : BitVec 1 := Scalar.cmpi .ne v3100 v3105
  let v3107 : BitVec 32 := Scalar.remsi v3094 c128_i32_1116
  let c0_i32_1121 : BitVec 32 := 0#32
  let v3108 : BitVec 1 := Scalar.cmpi .ne v3107 c0_i32_1121
  let v3109 : BitVec 1 := Scalar.andi v3106 v3108
  let v3095 : BitVec 32 := Scalar.divsi v3094 c128_i32_1116
  let c1_i32_1122 : BitVec 32 := 1#32
  let v3110 : BitVec 32 := Scalar.subi v3095 c1_i32_1122
  let v3111 : BitVec 32 := Scalar.select v3109 v3110 v3095
  let c128_i32_1123 : BitVec 32 := 128#32
  let v3112 : BitVec 32 := Scalar.muli v3111 c128_i32_1123
  let v3113 : BitVec 32 := Scalar.maxsi c0_i32_1124 v3112
  let v3114 : BitVec 32 := Scalar.minsi c32512_i32_1125 v3113
  v3114

def k1_off136 (v3093 : BitVec 32) : Fin 2 → Nat :=
  let c13_1127 : Index := 13#32
  let c32512_i32_1125 : BitVec 32 := 32512#32
  let c0_i32_1124 : BitVec 32 := 0#32
  let c32_i32_1115 : BitVec 32 := 32#32
  let v3094 : BitVec 32 := Scalar.subi v3093 c32_i32_1115
  let c0_i32_1117 : BitVec 32 := 0#32
  let v3096 : BitVec 1 := Scalar.cmpi .sgt v3094 c0_i32_1117
  let v3097 : BitVec 32 := Scalar.extui v3096
  let c0_i32_1118 : BitVec 32 := 0#32
  let v3098 : BitVec 1 := Scalar.cmpi .slt v3094 c0_i32_1118
  let v3099 : BitVec 32 := Scalar.extui v3098
  let v3100 : BitVec 32 := Scalar.subi v3097 v3099
  let c128_i32_1116 : BitVec 32 := 128#32
  let c0_i32_1119 : BitVec 32 := 0#32
  let v3101 : BitVec 1 := Scalar.cmpi .sgt c128_i32_1116 c0_i32_1119
  let v3102 : BitVec 32 := Scalar.extui v3101
  let c0_i32_1120 : BitVec 32 := 0#32
  let v3103 : BitVec 1 := Scalar.cmpi .slt c128_i32_1116 c0_i32_1120
  let v3104 : BitVec 32 := Scalar.extui v3103
  let v3105 : BitVec 32 := Scalar.subi v3102 v3104
  let v3106 : BitVec 1 := Scalar.cmpi .ne v3100 v3105
  let v3107 : BitVec 32 := Scalar.remsi v3094 c128_i32_1116
  let c0_i32_1121 : BitVec 32 := 0#32
  let v3108 : BitVec 1 := Scalar.cmpi .ne v3107 c0_i32_1121
  let v3109 : BitVec 1 := Scalar.andi v3106 v3108
  let v3095 : BitVec 32 := Scalar.divsi v3094 c128_i32_1116
  let c1_i32_1122 : BitVec 32 := 1#32
  let v3110 : BitVec 32 := Scalar.subi v3095 c1_i32_1122
  let v3111 : BitVec 32 := Scalar.select v3109 v3110 v3095
  let c128_i32_1123 : BitVec 32 := 128#32
  let v3112 : BitVec 32 := Scalar.muli v3111 c128_i32_1123
  let v3113 : BitVec 32 := Scalar.maxsi c0_i32_1124 v3112
  let v3114 : BitVec 32 := Scalar.minsi c32512_i32_1125 v3113
  let v3115 : BitVec 32 := v3114
  let v3130 : Index := Scalar.indexCast v3115
  ![13, v3130.toNat]

def k1_chk68 (v3093 : BitVec 32) : Prop :=
  (128 ∣ (k1_mult68 v3093).toNat) ∧
  (∀ a, (k1_off136 v3093) a + S1x256.size a ≤ S16x32768.size a)
theorem k1_mult68_dvd : ∀ (v3093 : BitVec 32) (k1_hw68 : k1_chk68 v3093), 128 ∣ (k1_mult68 v3093).toNat := fun v3093 k1_hw68 => k1_hw68.1
theorem k1_off136_inb : ∀ (v3093 : BitVec 32) (k1_hw68 : k1_chk68 v3093), ∀ a, (k1_off136 v3093) a + S1x256.size a ≤ S16x32768.size a := fun v3093 k1_hw68 => k1_hw68.2

def k1_off137 (i : grid1.Coords) : Fin 2 → Nat :=
  let arg0 : BitVec 32 := BitVec.ofNat 32 (i 0).val
  let c16_i32_1129 : BitVec 32 := 16#32
  let v3136 : BitVec 32 := Scalar.muli arg0 c16_i32_1129
  let c13_i32_1130 : BitVec 32 := 13#32
  let v3137 : BitVec 32 := Scalar.addi v3136 c13_i32_1130
  let v3138 : Index := Scalar.indexCast v3137
  let c3_1131 : Index := 3#32
  ![v3138.toNat, 3]
def k1_mult69 (v3139 : BitVec 32) : BitVec 32 :=
  let c32512_i32_1142 : BitVec 32 := 32512#32
  let c0_i32_1141 : BitVec 32 := 0#32
  let c32_i32_1132 : BitVec 32 := 32#32
  let v3140 : BitVec 32 := Scalar.subi v3139 c32_i32_1132
  let c0_i32_1134 : BitVec 32 := 0#32
  let v3142 : BitVec 1 := Scalar.cmpi .sgt v3140 c0_i32_1134
  let v3143 : BitVec 32 := Scalar.extui v3142
  let c0_i32_1135 : BitVec 32 := 0#32
  let v3144 : BitVec 1 := Scalar.cmpi .slt v3140 c0_i32_1135
  let v3145 : BitVec 32 := Scalar.extui v3144
  let v3146 : BitVec 32 := Scalar.subi v3143 v3145
  let c128_i32_1133 : BitVec 32 := 128#32
  let c0_i32_1136 : BitVec 32 := 0#32
  let v3147 : BitVec 1 := Scalar.cmpi .sgt c128_i32_1133 c0_i32_1136
  let v3148 : BitVec 32 := Scalar.extui v3147
  let c0_i32_1137 : BitVec 32 := 0#32
  let v3149 : BitVec 1 := Scalar.cmpi .slt c128_i32_1133 c0_i32_1137
  let v3150 : BitVec 32 := Scalar.extui v3149
  let v3151 : BitVec 32 := Scalar.subi v3148 v3150
  let v3152 : BitVec 1 := Scalar.cmpi .ne v3146 v3151
  let v3153 : BitVec 32 := Scalar.remsi v3140 c128_i32_1133
  let c0_i32_1138 : BitVec 32 := 0#32
  let v3154 : BitVec 1 := Scalar.cmpi .ne v3153 c0_i32_1138
  let v3155 : BitVec 1 := Scalar.andi v3152 v3154
  let v3141 : BitVec 32 := Scalar.divsi v3140 c128_i32_1133
  let c1_i32_1139 : BitVec 32 := 1#32
  let v3156 : BitVec 32 := Scalar.subi v3141 c1_i32_1139
  let v3157 : BitVec 32 := Scalar.select v3155 v3156 v3141
  let c128_i32_1140 : BitVec 32 := 128#32
  let v3158 : BitVec 32 := Scalar.muli v3157 c128_i32_1140
  let v3159 : BitVec 32 := Scalar.maxsi c0_i32_1141 v3158
  let v3160 : BitVec 32 := Scalar.minsi c32512_i32_1142 v3159
  v3160

def k1_off138 (v3139 : BitVec 32) : Fin 2 → Nat :=
  let c13_1144 : Index := 13#32
  let c32512_i32_1142 : BitVec 32 := 32512#32
  let c0_i32_1141 : BitVec 32 := 0#32
  let c32_i32_1132 : BitVec 32 := 32#32
  let v3140 : BitVec 32 := Scalar.subi v3139 c32_i32_1132
  let c0_i32_1134 : BitVec 32 := 0#32
  let v3142 : BitVec 1 := Scalar.cmpi .sgt v3140 c0_i32_1134
  let v3143 : BitVec 32 := Scalar.extui v3142
  let c0_i32_1135 : BitVec 32 := 0#32
  let v3144 : BitVec 1 := Scalar.cmpi .slt v3140 c0_i32_1135
  let v3145 : BitVec 32 := Scalar.extui v3144
  let v3146 : BitVec 32 := Scalar.subi v3143 v3145
  let c128_i32_1133 : BitVec 32 := 128#32
  let c0_i32_1136 : BitVec 32 := 0#32
  let v3147 : BitVec 1 := Scalar.cmpi .sgt c128_i32_1133 c0_i32_1136
  let v3148 : BitVec 32 := Scalar.extui v3147
  let c0_i32_1137 : BitVec 32 := 0#32
  let v3149 : BitVec 1 := Scalar.cmpi .slt c128_i32_1133 c0_i32_1137
  let v3150 : BitVec 32 := Scalar.extui v3149
  let v3151 : BitVec 32 := Scalar.subi v3148 v3150
  let v3152 : BitVec 1 := Scalar.cmpi .ne v3146 v3151
  let v3153 : BitVec 32 := Scalar.remsi v3140 c128_i32_1133
  let c0_i32_1138 : BitVec 32 := 0#32
  let v3154 : BitVec 1 := Scalar.cmpi .ne v3153 c0_i32_1138
  let v3155 : BitVec 1 := Scalar.andi v3152 v3154
  let v3141 : BitVec 32 := Scalar.divsi v3140 c128_i32_1133
  let c1_i32_1139 : BitVec 32 := 1#32
  let v3156 : BitVec 32 := Scalar.subi v3141 c1_i32_1139
  let v3157 : BitVec 32 := Scalar.select v3155 v3156 v3141
  let c128_i32_1140 : BitVec 32 := 128#32
  let v3158 : BitVec 32 := Scalar.muli v3157 c128_i32_1140
  let v3159 : BitVec 32 := Scalar.maxsi c0_i32_1141 v3158
  let v3160 : BitVec 32 := Scalar.minsi c32512_i32_1142 v3159
  let v3161 : BitVec 32 := v3160
  let v3176 : Index := Scalar.indexCast v3161
  ![13, v3176.toNat]

def k1_chk69 (v3139 : BitVec 32) : Prop :=
  (128 ∣ (k1_mult69 v3139).toNat) ∧
  (∀ a, (k1_off138 v3139) a + S1x256.size a ≤ S16x32768.size a)
theorem k1_mult69_dvd : ∀ (v3139 : BitVec 32) (k1_hw69 : k1_chk69 v3139), 128 ∣ (k1_mult69 v3139).toNat := fun v3139 k1_hw69 => k1_hw69.1
theorem k1_off138_inb : ∀ (v3139 : BitVec 32) (k1_hw69 : k1_chk69 v3139), ∀ a, (k1_off138 v3139) a + S1x256.size a ≤ S16x32768.size a := fun v3139 k1_hw69 => k1_hw69.2

def k1_off139 (i : grid1.Coords) : Fin 2 → Nat :=
  let arg0 : BitVec 32 := BitVec.ofNat 32 (i 0).val
  let c16_i32_1146 : BitVec 32 := 16#32
  let v3182 : BitVec 32 := Scalar.muli arg0 c16_i32_1146
  let c13_i32_1147 : BitVec 32 := 13#32
  let v3183 : BitVec 32 := Scalar.addi v3182 c13_i32_1147
  let v3184 : Index := Scalar.indexCast v3183
  let c4_1148 : Index := 4#32
  ![v3184.toNat, 4]
def k1_mult70 (v3185 : BitVec 32) : BitVec 32 :=
  let c32512_i32_1159 : BitVec 32 := 32512#32
  let c0_i32_1158 : BitVec 32 := 0#32
  let c32_i32_1149 : BitVec 32 := 32#32
  let v3186 : BitVec 32 := Scalar.subi v3185 c32_i32_1149
  let c0_i32_1151 : BitVec 32 := 0#32
  let v3188 : BitVec 1 := Scalar.cmpi .sgt v3186 c0_i32_1151
  let v3189 : BitVec 32 := Scalar.extui v3188
  let c0_i32_1152 : BitVec 32 := 0#32
  let v3190 : BitVec 1 := Scalar.cmpi .slt v3186 c0_i32_1152
  let v3191 : BitVec 32 := Scalar.extui v3190
  let v3192 : BitVec 32 := Scalar.subi v3189 v3191
  let c128_i32_1150 : BitVec 32 := 128#32
  let c0_i32_1153 : BitVec 32 := 0#32
  let v3193 : BitVec 1 := Scalar.cmpi .sgt c128_i32_1150 c0_i32_1153
  let v3194 : BitVec 32 := Scalar.extui v3193
  let c0_i32_1154 : BitVec 32 := 0#32
  let v3195 : BitVec 1 := Scalar.cmpi .slt c128_i32_1150 c0_i32_1154
  let v3196 : BitVec 32 := Scalar.extui v3195
  let v3197 : BitVec 32 := Scalar.subi v3194 v3196
  let v3198 : BitVec 1 := Scalar.cmpi .ne v3192 v3197
  let v3199 : BitVec 32 := Scalar.remsi v3186 c128_i32_1150
  let c0_i32_1155 : BitVec 32 := 0#32
  let v3200 : BitVec 1 := Scalar.cmpi .ne v3199 c0_i32_1155
  let v3201 : BitVec 1 := Scalar.andi v3198 v3200
  let v3187 : BitVec 32 := Scalar.divsi v3186 c128_i32_1150
  let c1_i32_1156 : BitVec 32 := 1#32
  let v3202 : BitVec 32 := Scalar.subi v3187 c1_i32_1156
  let v3203 : BitVec 32 := Scalar.select v3201 v3202 v3187
  let c128_i32_1157 : BitVec 32 := 128#32
  let v3204 : BitVec 32 := Scalar.muli v3203 c128_i32_1157
  let v3205 : BitVec 32 := Scalar.maxsi c0_i32_1158 v3204
  let v3206 : BitVec 32 := Scalar.minsi c32512_i32_1159 v3205
  v3206

def k1_off140 (v3185 : BitVec 32) : Fin 2 → Nat :=
  let c13_1161 : Index := 13#32
  let c32512_i32_1159 : BitVec 32 := 32512#32
  let c0_i32_1158 : BitVec 32 := 0#32
  let c32_i32_1149 : BitVec 32 := 32#32
  let v3186 : BitVec 32 := Scalar.subi v3185 c32_i32_1149
  let c0_i32_1151 : BitVec 32 := 0#32
  let v3188 : BitVec 1 := Scalar.cmpi .sgt v3186 c0_i32_1151
  let v3189 : BitVec 32 := Scalar.extui v3188
  let c0_i32_1152 : BitVec 32 := 0#32
  let v3190 : BitVec 1 := Scalar.cmpi .slt v3186 c0_i32_1152
  let v3191 : BitVec 32 := Scalar.extui v3190
  let v3192 : BitVec 32 := Scalar.subi v3189 v3191
  let c128_i32_1150 : BitVec 32 := 128#32
  let c0_i32_1153 : BitVec 32 := 0#32
  let v3193 : BitVec 1 := Scalar.cmpi .sgt c128_i32_1150 c0_i32_1153
  let v3194 : BitVec 32 := Scalar.extui v3193
  let c0_i32_1154 : BitVec 32 := 0#32
  let v3195 : BitVec 1 := Scalar.cmpi .slt c128_i32_1150 c0_i32_1154
  let v3196 : BitVec 32 := Scalar.extui v3195
  let v3197 : BitVec 32 := Scalar.subi v3194 v3196
  let v3198 : BitVec 1 := Scalar.cmpi .ne v3192 v3197
  let v3199 : BitVec 32 := Scalar.remsi v3186 c128_i32_1150
  let c0_i32_1155 : BitVec 32 := 0#32
  let v3200 : BitVec 1 := Scalar.cmpi .ne v3199 c0_i32_1155
  let v3201 : BitVec 1 := Scalar.andi v3198 v3200
  let v3187 : BitVec 32 := Scalar.divsi v3186 c128_i32_1150
  let c1_i32_1156 : BitVec 32 := 1#32
  let v3202 : BitVec 32 := Scalar.subi v3187 c1_i32_1156
  let v3203 : BitVec 32 := Scalar.select v3201 v3202 v3187
  let c128_i32_1157 : BitVec 32 := 128#32
  let v3204 : BitVec 32 := Scalar.muli v3203 c128_i32_1157
  let v3205 : BitVec 32 := Scalar.maxsi c0_i32_1158 v3204
  let v3206 : BitVec 32 := Scalar.minsi c32512_i32_1159 v3205
  let v3207 : BitVec 32 := v3206
  let v3222 : Index := Scalar.indexCast v3207
  ![13, v3222.toNat]

def k1_chk70 (v3185 : BitVec 32) : Prop :=
  (128 ∣ (k1_mult70 v3185).toNat) ∧
  (∀ a, (k1_off140 v3185) a + S1x256.size a ≤ S16x32768.size a)
theorem k1_mult70_dvd : ∀ (v3185 : BitVec 32) (k1_hw70 : k1_chk70 v3185), 128 ∣ (k1_mult70 v3185).toNat := fun v3185 k1_hw70 => k1_hw70.1
theorem k1_off140_inb : ∀ (v3185 : BitVec 32) (k1_hw70 : k1_chk70 v3185), ∀ a, (k1_off140 v3185) a + S1x256.size a ≤ S16x32768.size a := fun v3185 k1_hw70 => k1_hw70.2

def k1_off141 (i : grid1.Coords) : Fin 2 → Nat :=
  let arg0 : BitVec 32 := BitVec.ofNat 32 (i 0).val
  let c16_i32_1163 : BitVec 32 := 16#32
  let v3228 : BitVec 32 := Scalar.muli arg0 c16_i32_1163
  let c14_i32 : BitVec 32 := 14#32
  let v3229 : BitVec 32 := Scalar.addi v3228 c14_i32
  let v3230 : Index := Scalar.indexCast v3229
  let c0_1164 : Index := 0#32
  ![v3230.toNat, 0]
def k1_mult71 (v3231 : BitVec 32) : BitVec 32 :=
  let c32512_i32_1175 : BitVec 32 := 32512#32
  let c0_i32_1174 : BitVec 32 := 0#32
  let c32_i32_1165 : BitVec 32 := 32#32
  let v3232 : BitVec 32 := Scalar.subi v3231 c32_i32_1165
  let c0_i32_1167 : BitVec 32 := 0#32
  let v3234 : BitVec 1 := Scalar.cmpi .sgt v3232 c0_i32_1167
  let v3235 : BitVec 32 := Scalar.extui v3234
  let c0_i32_1168 : BitVec 32 := 0#32
  let v3236 : BitVec 1 := Scalar.cmpi .slt v3232 c0_i32_1168
  let v3237 : BitVec 32 := Scalar.extui v3236
  let v3238 : BitVec 32 := Scalar.subi v3235 v3237
  let c128_i32_1166 : BitVec 32 := 128#32
  let c0_i32_1169 : BitVec 32 := 0#32
  let v3239 : BitVec 1 := Scalar.cmpi .sgt c128_i32_1166 c0_i32_1169
  let v3240 : BitVec 32 := Scalar.extui v3239
  let c0_i32_1170 : BitVec 32 := 0#32
  let v3241 : BitVec 1 := Scalar.cmpi .slt c128_i32_1166 c0_i32_1170
  let v3242 : BitVec 32 := Scalar.extui v3241
  let v3243 : BitVec 32 := Scalar.subi v3240 v3242
  let v3244 : BitVec 1 := Scalar.cmpi .ne v3238 v3243
  let v3245 : BitVec 32 := Scalar.remsi v3232 c128_i32_1166
  let c0_i32_1171 : BitVec 32 := 0#32
  let v3246 : BitVec 1 := Scalar.cmpi .ne v3245 c0_i32_1171
  let v3247 : BitVec 1 := Scalar.andi v3244 v3246
  let v3233 : BitVec 32 := Scalar.divsi v3232 c128_i32_1166
  let c1_i32_1172 : BitVec 32 := 1#32
  let v3248 : BitVec 32 := Scalar.subi v3233 c1_i32_1172
  let v3249 : BitVec 32 := Scalar.select v3247 v3248 v3233
  let c128_i32_1173 : BitVec 32 := 128#32
  let v3250 : BitVec 32 := Scalar.muli v3249 c128_i32_1173
  let v3251 : BitVec 32 := Scalar.maxsi c0_i32_1174 v3250
  let v3252 : BitVec 32 := Scalar.minsi c32512_i32_1175 v3251
  v3252

def k1_off142 (v3231 : BitVec 32) : Fin 2 → Nat :=
  let c14 : Index := 14#32
  let c32512_i32_1175 : BitVec 32 := 32512#32
  let c0_i32_1174 : BitVec 32 := 0#32
  let c32_i32_1165 : BitVec 32 := 32#32
  let v3232 : BitVec 32 := Scalar.subi v3231 c32_i32_1165
  let c0_i32_1167 : BitVec 32 := 0#32
  let v3234 : BitVec 1 := Scalar.cmpi .sgt v3232 c0_i32_1167
  let v3235 : BitVec 32 := Scalar.extui v3234
  let c0_i32_1168 : BitVec 32 := 0#32
  let v3236 : BitVec 1 := Scalar.cmpi .slt v3232 c0_i32_1168
  let v3237 : BitVec 32 := Scalar.extui v3236
  let v3238 : BitVec 32 := Scalar.subi v3235 v3237
  let c128_i32_1166 : BitVec 32 := 128#32
  let c0_i32_1169 : BitVec 32 := 0#32
  let v3239 : BitVec 1 := Scalar.cmpi .sgt c128_i32_1166 c0_i32_1169
  let v3240 : BitVec 32 := Scalar.extui v3239
  let c0_i32_1170 : BitVec 32 := 0#32
  let v3241 : BitVec 1 := Scalar.cmpi .slt c128_i32_1166 c0_i32_1170
  let v3242 : BitVec 32 := Scalar.extui v3241
  let v3243 : BitVec 32 := Scalar.subi v3240 v3242
  let v3244 : BitVec 1 := Scalar.cmpi .ne v3238 v3243
  let v3245 : BitVec 32 := Scalar.remsi v3232 c128_i32_1166
  let c0_i32_1171 : BitVec 32 := 0#32
  let v3246 : BitVec 1 := Scalar.cmpi .ne v3245 c0_i32_1171
  let v3247 : BitVec 1 := Scalar.andi v3244 v3246
  let v3233 : BitVec 32 := Scalar.divsi v3232 c128_i32_1166
  let c1_i32_1172 : BitVec 32 := 1#32
  let v3248 : BitVec 32 := Scalar.subi v3233 c1_i32_1172
  let v3249 : BitVec 32 := Scalar.select v3247 v3248 v3233
  let c128_i32_1173 : BitVec 32 := 128#32
  let v3250 : BitVec 32 := Scalar.muli v3249 c128_i32_1173
  let v3251 : BitVec 32 := Scalar.maxsi c0_i32_1174 v3250
  let v3252 : BitVec 32 := Scalar.minsi c32512_i32_1175 v3251
  let v3253 : BitVec 32 := v3252
  let v3268 : Index := Scalar.indexCast v3253
  ![14, v3268.toNat]

def k1_chk71 (v3231 : BitVec 32) : Prop :=
  (128 ∣ (k1_mult71 v3231).toNat) ∧
  (∀ a, (k1_off142 v3231) a + S1x256.size a ≤ S16x32768.size a)
theorem k1_mult71_dvd : ∀ (v3231 : BitVec 32) (k1_hw71 : k1_chk71 v3231), 128 ∣ (k1_mult71 v3231).toNat := fun v3231 k1_hw71 => k1_hw71.1
theorem k1_off142_inb : ∀ (v3231 : BitVec 32) (k1_hw71 : k1_chk71 v3231), ∀ a, (k1_off142 v3231) a + S1x256.size a ≤ S16x32768.size a := fun v3231 k1_hw71 => k1_hw71.2

def k1_off143 (i : grid1.Coords) : Fin 2 → Nat :=
  let arg0 : BitVec 32 := BitVec.ofNat 32 (i 0).val
  let c16_i32_1178 : BitVec 32 := 16#32
  let v3274 : BitVec 32 := Scalar.muli arg0 c16_i32_1178
  let c14_i32_1179 : BitVec 32 := 14#32
  let v3275 : BitVec 32 := Scalar.addi v3274 c14_i32_1179
  let v3276 : Index := Scalar.indexCast v3275
  let c1_1180 : Index := 1#32
  ![v3276.toNat, 1]
def k1_mult72 (v3277 : BitVec 32) : BitVec 32 :=
  let c32512_i32_1191 : BitVec 32 := 32512#32
  let c0_i32_1190 : BitVec 32 := 0#32
  let c32_i32_1181 : BitVec 32 := 32#32
  let v3278 : BitVec 32 := Scalar.subi v3277 c32_i32_1181
  let c0_i32_1183 : BitVec 32 := 0#32
  let v3280 : BitVec 1 := Scalar.cmpi .sgt v3278 c0_i32_1183
  let v3281 : BitVec 32 := Scalar.extui v3280
  let c0_i32_1184 : BitVec 32 := 0#32
  let v3282 : BitVec 1 := Scalar.cmpi .slt v3278 c0_i32_1184
  let v3283 : BitVec 32 := Scalar.extui v3282
  let v3284 : BitVec 32 := Scalar.subi v3281 v3283
  let c128_i32_1182 : BitVec 32 := 128#32
  let c0_i32_1185 : BitVec 32 := 0#32
  let v3285 : BitVec 1 := Scalar.cmpi .sgt c128_i32_1182 c0_i32_1185
  let v3286 : BitVec 32 := Scalar.extui v3285
  let c0_i32_1186 : BitVec 32 := 0#32
  let v3287 : BitVec 1 := Scalar.cmpi .slt c128_i32_1182 c0_i32_1186
  let v3288 : BitVec 32 := Scalar.extui v3287
  let v3289 : BitVec 32 := Scalar.subi v3286 v3288
  let v3290 : BitVec 1 := Scalar.cmpi .ne v3284 v3289
  let v3291 : BitVec 32 := Scalar.remsi v3278 c128_i32_1182
  let c0_i32_1187 : BitVec 32 := 0#32
  let v3292 : BitVec 1 := Scalar.cmpi .ne v3291 c0_i32_1187
  let v3293 : BitVec 1 := Scalar.andi v3290 v3292
  let v3279 : BitVec 32 := Scalar.divsi v3278 c128_i32_1182
  let c1_i32_1188 : BitVec 32 := 1#32
  let v3294 : BitVec 32 := Scalar.subi v3279 c1_i32_1188
  let v3295 : BitVec 32 := Scalar.select v3293 v3294 v3279
  let c128_i32_1189 : BitVec 32 := 128#32
  let v3296 : BitVec 32 := Scalar.muli v3295 c128_i32_1189
  let v3297 : BitVec 32 := Scalar.maxsi c0_i32_1190 v3296
  let v3298 : BitVec 32 := Scalar.minsi c32512_i32_1191 v3297
  v3298

def k1_off144 (v3277 : BitVec 32) : Fin 2 → Nat :=
  let c14_1193 : Index := 14#32
  let c32512_i32_1191 : BitVec 32 := 32512#32
  let c0_i32_1190 : BitVec 32 := 0#32
  let c32_i32_1181 : BitVec 32 := 32#32
  let v3278 : BitVec 32 := Scalar.subi v3277 c32_i32_1181
  let c0_i32_1183 : BitVec 32 := 0#32
  let v3280 : BitVec 1 := Scalar.cmpi .sgt v3278 c0_i32_1183
  let v3281 : BitVec 32 := Scalar.extui v3280
  let c0_i32_1184 : BitVec 32 := 0#32
  let v3282 : BitVec 1 := Scalar.cmpi .slt v3278 c0_i32_1184
  let v3283 : BitVec 32 := Scalar.extui v3282
  let v3284 : BitVec 32 := Scalar.subi v3281 v3283
  let c128_i32_1182 : BitVec 32 := 128#32
  let c0_i32_1185 : BitVec 32 := 0#32
  let v3285 : BitVec 1 := Scalar.cmpi .sgt c128_i32_1182 c0_i32_1185
  let v3286 : BitVec 32 := Scalar.extui v3285
  let c0_i32_1186 : BitVec 32 := 0#32
  let v3287 : BitVec 1 := Scalar.cmpi .slt c128_i32_1182 c0_i32_1186
  let v3288 : BitVec 32 := Scalar.extui v3287
  let v3289 : BitVec 32 := Scalar.subi v3286 v3288
  let v3290 : BitVec 1 := Scalar.cmpi .ne v3284 v3289
  let v3291 : BitVec 32 := Scalar.remsi v3278 c128_i32_1182
  let c0_i32_1187 : BitVec 32 := 0#32
  let v3292 : BitVec 1 := Scalar.cmpi .ne v3291 c0_i32_1187
  let v3293 : BitVec 1 := Scalar.andi v3290 v3292
  let v3279 : BitVec 32 := Scalar.divsi v3278 c128_i32_1182
  let c1_i32_1188 : BitVec 32 := 1#32
  let v3294 : BitVec 32 := Scalar.subi v3279 c1_i32_1188
  let v3295 : BitVec 32 := Scalar.select v3293 v3294 v3279
  let c128_i32_1189 : BitVec 32 := 128#32
  let v3296 : BitVec 32 := Scalar.muli v3295 c128_i32_1189
  let v3297 : BitVec 32 := Scalar.maxsi c0_i32_1190 v3296
  let v3298 : BitVec 32 := Scalar.minsi c32512_i32_1191 v3297
  let v3299 : BitVec 32 := v3298
  let v3314 : Index := Scalar.indexCast v3299
  ![14, v3314.toNat]

def k1_chk72 (v3277 : BitVec 32) : Prop :=
  (128 ∣ (k1_mult72 v3277).toNat) ∧
  (∀ a, (k1_off144 v3277) a + S1x256.size a ≤ S16x32768.size a)
theorem k1_mult72_dvd : ∀ (v3277 : BitVec 32) (k1_hw72 : k1_chk72 v3277), 128 ∣ (k1_mult72 v3277).toNat := fun v3277 k1_hw72 => k1_hw72.1
theorem k1_off144_inb : ∀ (v3277 : BitVec 32) (k1_hw72 : k1_chk72 v3277), ∀ a, (k1_off144 v3277) a + S1x256.size a ≤ S16x32768.size a := fun v3277 k1_hw72 => k1_hw72.2

def k1_off145 (i : grid1.Coords) : Fin 2 → Nat :=
  let arg0 : BitVec 32 := BitVec.ofNat 32 (i 0).val
  let c16_i32_1195 : BitVec 32 := 16#32
  let v3320 : BitVec 32 := Scalar.muli arg0 c16_i32_1195
  let c14_i32_1196 : BitVec 32 := 14#32
  let v3321 : BitVec 32 := Scalar.addi v3320 c14_i32_1196
  let v3322 : Index := Scalar.indexCast v3321
  let c2_1197 : Index := 2#32
  ![v3322.toNat, 2]
def k1_mult73 (v3323 : BitVec 32) : BitVec 32 :=
  let c32512_i32_1208 : BitVec 32 := 32512#32
  let c0_i32_1207 : BitVec 32 := 0#32
  let c32_i32_1198 : BitVec 32 := 32#32
  let v3324 : BitVec 32 := Scalar.subi v3323 c32_i32_1198
  let c0_i32_1200 : BitVec 32 := 0#32
  let v3326 : BitVec 1 := Scalar.cmpi .sgt v3324 c0_i32_1200
  let v3327 : BitVec 32 := Scalar.extui v3326
  let c0_i32_1201 : BitVec 32 := 0#32
  let v3328 : BitVec 1 := Scalar.cmpi .slt v3324 c0_i32_1201
  let v3329 : BitVec 32 := Scalar.extui v3328
  let v3330 : BitVec 32 := Scalar.subi v3327 v3329
  let c128_i32_1199 : BitVec 32 := 128#32
  let c0_i32_1202 : BitVec 32 := 0#32
  let v3331 : BitVec 1 := Scalar.cmpi .sgt c128_i32_1199 c0_i32_1202
  let v3332 : BitVec 32 := Scalar.extui v3331
  let c0_i32_1203 : BitVec 32 := 0#32
  let v3333 : BitVec 1 := Scalar.cmpi .slt c128_i32_1199 c0_i32_1203
  let v3334 : BitVec 32 := Scalar.extui v3333
  let v3335 : BitVec 32 := Scalar.subi v3332 v3334
  let v3336 : BitVec 1 := Scalar.cmpi .ne v3330 v3335
  let v3337 : BitVec 32 := Scalar.remsi v3324 c128_i32_1199
  let c0_i32_1204 : BitVec 32 := 0#32
  let v3338 : BitVec 1 := Scalar.cmpi .ne v3337 c0_i32_1204
  let v3339 : BitVec 1 := Scalar.andi v3336 v3338
  let v3325 : BitVec 32 := Scalar.divsi v3324 c128_i32_1199
  let c1_i32_1205 : BitVec 32 := 1#32
  let v3340 : BitVec 32 := Scalar.subi v3325 c1_i32_1205
  let v3341 : BitVec 32 := Scalar.select v3339 v3340 v3325
  let c128_i32_1206 : BitVec 32 := 128#32
  let v3342 : BitVec 32 := Scalar.muli v3341 c128_i32_1206
  let v3343 : BitVec 32 := Scalar.maxsi c0_i32_1207 v3342
  let v3344 : BitVec 32 := Scalar.minsi c32512_i32_1208 v3343
  v3344

def k1_off146 (v3323 : BitVec 32) : Fin 2 → Nat :=
  let c14_1210 : Index := 14#32
  let c32512_i32_1208 : BitVec 32 := 32512#32
  let c0_i32_1207 : BitVec 32 := 0#32
  let c32_i32_1198 : BitVec 32 := 32#32
  let v3324 : BitVec 32 := Scalar.subi v3323 c32_i32_1198
  let c0_i32_1200 : BitVec 32 := 0#32
  let v3326 : BitVec 1 := Scalar.cmpi .sgt v3324 c0_i32_1200
  let v3327 : BitVec 32 := Scalar.extui v3326
  let c0_i32_1201 : BitVec 32 := 0#32
  let v3328 : BitVec 1 := Scalar.cmpi .slt v3324 c0_i32_1201
  let v3329 : BitVec 32 := Scalar.extui v3328
  let v3330 : BitVec 32 := Scalar.subi v3327 v3329
  let c128_i32_1199 : BitVec 32 := 128#32
  let c0_i32_1202 : BitVec 32 := 0#32
  let v3331 : BitVec 1 := Scalar.cmpi .sgt c128_i32_1199 c0_i32_1202
  let v3332 : BitVec 32 := Scalar.extui v3331
  let c0_i32_1203 : BitVec 32 := 0#32
  let v3333 : BitVec 1 := Scalar.cmpi .slt c128_i32_1199 c0_i32_1203
  let v3334 : BitVec 32 := Scalar.extui v3333
  let v3335 : BitVec 32 := Scalar.subi v3332 v3334
  let v3336 : BitVec 1 := Scalar.cmpi .ne v3330 v3335
  let v3337 : BitVec 32 := Scalar.remsi v3324 c128_i32_1199
  let c0_i32_1204 : BitVec 32 := 0#32
  let v3338 : BitVec 1 := Scalar.cmpi .ne v3337 c0_i32_1204
  let v3339 : BitVec 1 := Scalar.andi v3336 v3338
  let v3325 : BitVec 32 := Scalar.divsi v3324 c128_i32_1199
  let c1_i32_1205 : BitVec 32 := 1#32
  let v3340 : BitVec 32 := Scalar.subi v3325 c1_i32_1205
  let v3341 : BitVec 32 := Scalar.select v3339 v3340 v3325
  let c128_i32_1206 : BitVec 32 := 128#32
  let v3342 : BitVec 32 := Scalar.muli v3341 c128_i32_1206
  let v3343 : BitVec 32 := Scalar.maxsi c0_i32_1207 v3342
  let v3344 : BitVec 32 := Scalar.minsi c32512_i32_1208 v3343
  let v3345 : BitVec 32 := v3344
  let v3360 : Index := Scalar.indexCast v3345
  ![14, v3360.toNat]

def k1_chk73 (v3323 : BitVec 32) : Prop :=
  (128 ∣ (k1_mult73 v3323).toNat) ∧
  (∀ a, (k1_off146 v3323) a + S1x256.size a ≤ S16x32768.size a)
theorem k1_mult73_dvd : ∀ (v3323 : BitVec 32) (k1_hw73 : k1_chk73 v3323), 128 ∣ (k1_mult73 v3323).toNat := fun v3323 k1_hw73 => k1_hw73.1
theorem k1_off146_inb : ∀ (v3323 : BitVec 32) (k1_hw73 : k1_chk73 v3323), ∀ a, (k1_off146 v3323) a + S1x256.size a ≤ S16x32768.size a := fun v3323 k1_hw73 => k1_hw73.2

def k1_off147 (i : grid1.Coords) : Fin 2 → Nat :=
  let arg0 : BitVec 32 := BitVec.ofNat 32 (i 0).val
  let c16_i32_1212 : BitVec 32 := 16#32
  let v3366 : BitVec 32 := Scalar.muli arg0 c16_i32_1212
  let c14_i32_1213 : BitVec 32 := 14#32
  let v3367 : BitVec 32 := Scalar.addi v3366 c14_i32_1213
  let v3368 : Index := Scalar.indexCast v3367
  let c3_1214 : Index := 3#32
  ![v3368.toNat, 3]
def k1_mult74 (v3369 : BitVec 32) : BitVec 32 :=
  let c32512_i32_1225 : BitVec 32 := 32512#32
  let c0_i32_1224 : BitVec 32 := 0#32
  let c32_i32_1215 : BitVec 32 := 32#32
  let v3370 : BitVec 32 := Scalar.subi v3369 c32_i32_1215
  let c0_i32_1217 : BitVec 32 := 0#32
  let v3372 : BitVec 1 := Scalar.cmpi .sgt v3370 c0_i32_1217
  let v3373 : BitVec 32 := Scalar.extui v3372
  let c0_i32_1218 : BitVec 32 := 0#32
  let v3374 : BitVec 1 := Scalar.cmpi .slt v3370 c0_i32_1218
  let v3375 : BitVec 32 := Scalar.extui v3374
  let v3376 : BitVec 32 := Scalar.subi v3373 v3375
  let c128_i32_1216 : BitVec 32 := 128#32
  let c0_i32_1219 : BitVec 32 := 0#32
  let v3377 : BitVec 1 := Scalar.cmpi .sgt c128_i32_1216 c0_i32_1219
  let v3378 : BitVec 32 := Scalar.extui v3377
  let c0_i32_1220 : BitVec 32 := 0#32
  let v3379 : BitVec 1 := Scalar.cmpi .slt c128_i32_1216 c0_i32_1220
  let v3380 : BitVec 32 := Scalar.extui v3379
  let v3381 : BitVec 32 := Scalar.subi v3378 v3380
  let v3382 : BitVec 1 := Scalar.cmpi .ne v3376 v3381
  let v3383 : BitVec 32 := Scalar.remsi v3370 c128_i32_1216
  let c0_i32_1221 : BitVec 32 := 0#32
  let v3384 : BitVec 1 := Scalar.cmpi .ne v3383 c0_i32_1221
  let v3385 : BitVec 1 := Scalar.andi v3382 v3384
  let v3371 : BitVec 32 := Scalar.divsi v3370 c128_i32_1216
  let c1_i32_1222 : BitVec 32 := 1#32
  let v3386 : BitVec 32 := Scalar.subi v3371 c1_i32_1222
  let v3387 : BitVec 32 := Scalar.select v3385 v3386 v3371
  let c128_i32_1223 : BitVec 32 := 128#32
  let v3388 : BitVec 32 := Scalar.muli v3387 c128_i32_1223
  let v3389 : BitVec 32 := Scalar.maxsi c0_i32_1224 v3388
  let v3390 : BitVec 32 := Scalar.minsi c32512_i32_1225 v3389
  v3390

def k1_off148 (v3369 : BitVec 32) : Fin 2 → Nat :=
  let c14_1227 : Index := 14#32
  let c32512_i32_1225 : BitVec 32 := 32512#32
  let c0_i32_1224 : BitVec 32 := 0#32
  let c32_i32_1215 : BitVec 32 := 32#32
  let v3370 : BitVec 32 := Scalar.subi v3369 c32_i32_1215
  let c0_i32_1217 : BitVec 32 := 0#32
  let v3372 : BitVec 1 := Scalar.cmpi .sgt v3370 c0_i32_1217
  let v3373 : BitVec 32 := Scalar.extui v3372
  let c0_i32_1218 : BitVec 32 := 0#32
  let v3374 : BitVec 1 := Scalar.cmpi .slt v3370 c0_i32_1218
  let v3375 : BitVec 32 := Scalar.extui v3374
  let v3376 : BitVec 32 := Scalar.subi v3373 v3375
  let c128_i32_1216 : BitVec 32 := 128#32
  let c0_i32_1219 : BitVec 32 := 0#32
  let v3377 : BitVec 1 := Scalar.cmpi .sgt c128_i32_1216 c0_i32_1219
  let v3378 : BitVec 32 := Scalar.extui v3377
  let c0_i32_1220 : BitVec 32 := 0#32
  let v3379 : BitVec 1 := Scalar.cmpi .slt c128_i32_1216 c0_i32_1220
  let v3380 : BitVec 32 := Scalar.extui v3379
  let v3381 : BitVec 32 := Scalar.subi v3378 v3380
  let v3382 : BitVec 1 := Scalar.cmpi .ne v3376 v3381
  let v3383 : BitVec 32 := Scalar.remsi v3370 c128_i32_1216
  let c0_i32_1221 : BitVec 32 := 0#32
  let v3384 : BitVec 1 := Scalar.cmpi .ne v3383 c0_i32_1221
  let v3385 : BitVec 1 := Scalar.andi v3382 v3384
  let v3371 : BitVec 32 := Scalar.divsi v3370 c128_i32_1216
  let c1_i32_1222 : BitVec 32 := 1#32
  let v3386 : BitVec 32 := Scalar.subi v3371 c1_i32_1222
  let v3387 : BitVec 32 := Scalar.select v3385 v3386 v3371
  let c128_i32_1223 : BitVec 32 := 128#32
  let v3388 : BitVec 32 := Scalar.muli v3387 c128_i32_1223
  let v3389 : BitVec 32 := Scalar.maxsi c0_i32_1224 v3388
  let v3390 : BitVec 32 := Scalar.minsi c32512_i32_1225 v3389
  let v3391 : BitVec 32 := v3390
  let v3406 : Index := Scalar.indexCast v3391
  ![14, v3406.toNat]

def k1_chk74 (v3369 : BitVec 32) : Prop :=
  (128 ∣ (k1_mult74 v3369).toNat) ∧
  (∀ a, (k1_off148 v3369) a + S1x256.size a ≤ S16x32768.size a)
theorem k1_mult74_dvd : ∀ (v3369 : BitVec 32) (k1_hw74 : k1_chk74 v3369), 128 ∣ (k1_mult74 v3369).toNat := fun v3369 k1_hw74 => k1_hw74.1
theorem k1_off148_inb : ∀ (v3369 : BitVec 32) (k1_hw74 : k1_chk74 v3369), ∀ a, (k1_off148 v3369) a + S1x256.size a ≤ S16x32768.size a := fun v3369 k1_hw74 => k1_hw74.2

def k1_off149 (i : grid1.Coords) : Fin 2 → Nat :=
  let arg0 : BitVec 32 := BitVec.ofNat 32 (i 0).val
  let c16_i32_1229 : BitVec 32 := 16#32
  let v3412 : BitVec 32 := Scalar.muli arg0 c16_i32_1229
  let c14_i32_1230 : BitVec 32 := 14#32
  let v3413 : BitVec 32 := Scalar.addi v3412 c14_i32_1230
  let v3414 : Index := Scalar.indexCast v3413
  let c4_1231 : Index := 4#32
  ![v3414.toNat, 4]
def k1_mult75 (v3415 : BitVec 32) : BitVec 32 :=
  let c32512_i32_1242 : BitVec 32 := 32512#32
  let c0_i32_1241 : BitVec 32 := 0#32
  let c32_i32_1232 : BitVec 32 := 32#32
  let v3416 : BitVec 32 := Scalar.subi v3415 c32_i32_1232
  let c0_i32_1234 : BitVec 32 := 0#32
  let v3418 : BitVec 1 := Scalar.cmpi .sgt v3416 c0_i32_1234
  let v3419 : BitVec 32 := Scalar.extui v3418
  let c0_i32_1235 : BitVec 32 := 0#32
  let v3420 : BitVec 1 := Scalar.cmpi .slt v3416 c0_i32_1235
  let v3421 : BitVec 32 := Scalar.extui v3420
  let v3422 : BitVec 32 := Scalar.subi v3419 v3421
  let c128_i32_1233 : BitVec 32 := 128#32
  let c0_i32_1236 : BitVec 32 := 0#32
  let v3423 : BitVec 1 := Scalar.cmpi .sgt c128_i32_1233 c0_i32_1236
  let v3424 : BitVec 32 := Scalar.extui v3423
  let c0_i32_1237 : BitVec 32 := 0#32
  let v3425 : BitVec 1 := Scalar.cmpi .slt c128_i32_1233 c0_i32_1237
  let v3426 : BitVec 32 := Scalar.extui v3425
  let v3427 : BitVec 32 := Scalar.subi v3424 v3426
  let v3428 : BitVec 1 := Scalar.cmpi .ne v3422 v3427
  let v3429 : BitVec 32 := Scalar.remsi v3416 c128_i32_1233
  let c0_i32_1238 : BitVec 32 := 0#32
  let v3430 : BitVec 1 := Scalar.cmpi .ne v3429 c0_i32_1238
  let v3431 : BitVec 1 := Scalar.andi v3428 v3430
  let v3417 : BitVec 32 := Scalar.divsi v3416 c128_i32_1233
  let c1_i32_1239 : BitVec 32 := 1#32
  let v3432 : BitVec 32 := Scalar.subi v3417 c1_i32_1239
  let v3433 : BitVec 32 := Scalar.select v3431 v3432 v3417
  let c128_i32_1240 : BitVec 32 := 128#32
  let v3434 : BitVec 32 := Scalar.muli v3433 c128_i32_1240
  let v3435 : BitVec 32 := Scalar.maxsi c0_i32_1241 v3434
  let v3436 : BitVec 32 := Scalar.minsi c32512_i32_1242 v3435
  v3436

def k1_off150 (v3415 : BitVec 32) : Fin 2 → Nat :=
  let c14_1244 : Index := 14#32
  let c32512_i32_1242 : BitVec 32 := 32512#32
  let c0_i32_1241 : BitVec 32 := 0#32
  let c32_i32_1232 : BitVec 32 := 32#32
  let v3416 : BitVec 32 := Scalar.subi v3415 c32_i32_1232
  let c0_i32_1234 : BitVec 32 := 0#32
  let v3418 : BitVec 1 := Scalar.cmpi .sgt v3416 c0_i32_1234
  let v3419 : BitVec 32 := Scalar.extui v3418
  let c0_i32_1235 : BitVec 32 := 0#32
  let v3420 : BitVec 1 := Scalar.cmpi .slt v3416 c0_i32_1235
  let v3421 : BitVec 32 := Scalar.extui v3420
  let v3422 : BitVec 32 := Scalar.subi v3419 v3421
  let c128_i32_1233 : BitVec 32 := 128#32
  let c0_i32_1236 : BitVec 32 := 0#32
  let v3423 : BitVec 1 := Scalar.cmpi .sgt c128_i32_1233 c0_i32_1236
  let v3424 : BitVec 32 := Scalar.extui v3423
  let c0_i32_1237 : BitVec 32 := 0#32
  let v3425 : BitVec 1 := Scalar.cmpi .slt c128_i32_1233 c0_i32_1237
  let v3426 : BitVec 32 := Scalar.extui v3425
  let v3427 : BitVec 32 := Scalar.subi v3424 v3426
  let v3428 : BitVec 1 := Scalar.cmpi .ne v3422 v3427
  let v3429 : BitVec 32 := Scalar.remsi v3416 c128_i32_1233
  let c0_i32_1238 : BitVec 32 := 0#32
  let v3430 : BitVec 1 := Scalar.cmpi .ne v3429 c0_i32_1238
  let v3431 : BitVec 1 := Scalar.andi v3428 v3430
  let v3417 : BitVec 32 := Scalar.divsi v3416 c128_i32_1233
  let c1_i32_1239 : BitVec 32 := 1#32
  let v3432 : BitVec 32 := Scalar.subi v3417 c1_i32_1239
  let v3433 : BitVec 32 := Scalar.select v3431 v3432 v3417
  let c128_i32_1240 : BitVec 32 := 128#32
  let v3434 : BitVec 32 := Scalar.muli v3433 c128_i32_1240
  let v3435 : BitVec 32 := Scalar.maxsi c0_i32_1241 v3434
  let v3436 : BitVec 32 := Scalar.minsi c32512_i32_1242 v3435
  let v3437 : BitVec 32 := v3436
  let v3452 : Index := Scalar.indexCast v3437
  ![14, v3452.toNat]

def k1_chk75 (v3415 : BitVec 32) : Prop :=
  (128 ∣ (k1_mult75 v3415).toNat) ∧
  (∀ a, (k1_off150 v3415) a + S1x256.size a ≤ S16x32768.size a)
theorem k1_mult75_dvd : ∀ (v3415 : BitVec 32) (k1_hw75 : k1_chk75 v3415), 128 ∣ (k1_mult75 v3415).toNat := fun v3415 k1_hw75 => k1_hw75.1
theorem k1_off150_inb : ∀ (v3415 : BitVec 32) (k1_hw75 : k1_chk75 v3415), ∀ a, (k1_off150 v3415) a + S1x256.size a ≤ S16x32768.size a := fun v3415 k1_hw75 => k1_hw75.2

def k1_off151 (i : grid1.Coords) : Fin 2 → Nat :=
  let arg0 : BitVec 32 := BitVec.ofNat 32 (i 0).val
  let c16_i32_1246 : BitVec 32 := 16#32
  let v3458 : BitVec 32 := Scalar.muli arg0 c16_i32_1246
  let c15_i32 : BitVec 32 := 15#32
  let v3459 : BitVec 32 := Scalar.addi v3458 c15_i32
  let v3460 : Index := Scalar.indexCast v3459
  let c0_1247 : Index := 0#32
  ![v3460.toNat, 0]
def k1_mult76 (v3461 : BitVec 32) : BitVec 32 :=
  let c32512_i32_1258 : BitVec 32 := 32512#32
  let c0_i32_1257 : BitVec 32 := 0#32
  let c32_i32_1248 : BitVec 32 := 32#32
  let v3462 : BitVec 32 := Scalar.subi v3461 c32_i32_1248
  let c0_i32_1250 : BitVec 32 := 0#32
  let v3464 : BitVec 1 := Scalar.cmpi .sgt v3462 c0_i32_1250
  let v3465 : BitVec 32 := Scalar.extui v3464
  let c0_i32_1251 : BitVec 32 := 0#32
  let v3466 : BitVec 1 := Scalar.cmpi .slt v3462 c0_i32_1251
  let v3467 : BitVec 32 := Scalar.extui v3466
  let v3468 : BitVec 32 := Scalar.subi v3465 v3467
  let c128_i32_1249 : BitVec 32 := 128#32
  let c0_i32_1252 : BitVec 32 := 0#32
  let v3469 : BitVec 1 := Scalar.cmpi .sgt c128_i32_1249 c0_i32_1252
  let v3470 : BitVec 32 := Scalar.extui v3469
  let c0_i32_1253 : BitVec 32 := 0#32
  let v3471 : BitVec 1 := Scalar.cmpi .slt c128_i32_1249 c0_i32_1253
  let v3472 : BitVec 32 := Scalar.extui v3471
  let v3473 : BitVec 32 := Scalar.subi v3470 v3472
  let v3474 : BitVec 1 := Scalar.cmpi .ne v3468 v3473
  let v3475 : BitVec 32 := Scalar.remsi v3462 c128_i32_1249
  let c0_i32_1254 : BitVec 32 := 0#32
  let v3476 : BitVec 1 := Scalar.cmpi .ne v3475 c0_i32_1254
  let v3477 : BitVec 1 := Scalar.andi v3474 v3476
  let v3463 : BitVec 32 := Scalar.divsi v3462 c128_i32_1249
  let c1_i32_1255 : BitVec 32 := 1#32
  let v3478 : BitVec 32 := Scalar.subi v3463 c1_i32_1255
  let v3479 : BitVec 32 := Scalar.select v3477 v3478 v3463
  let c128_i32_1256 : BitVec 32 := 128#32
  let v3480 : BitVec 32 := Scalar.muli v3479 c128_i32_1256
  let v3481 : BitVec 32 := Scalar.maxsi c0_i32_1257 v3480
  let v3482 : BitVec 32 := Scalar.minsi c32512_i32_1258 v3481
  v3482

def k1_off152 (v3461 : BitVec 32) : Fin 2 → Nat :=
  let c15 : Index := 15#32
  let c32512_i32_1258 : BitVec 32 := 32512#32
  let c0_i32_1257 : BitVec 32 := 0#32
  let c32_i32_1248 : BitVec 32 := 32#32
  let v3462 : BitVec 32 := Scalar.subi v3461 c32_i32_1248
  let c0_i32_1250 : BitVec 32 := 0#32
  let v3464 : BitVec 1 := Scalar.cmpi .sgt v3462 c0_i32_1250
  let v3465 : BitVec 32 := Scalar.extui v3464
  let c0_i32_1251 : BitVec 32 := 0#32
  let v3466 : BitVec 1 := Scalar.cmpi .slt v3462 c0_i32_1251
  let v3467 : BitVec 32 := Scalar.extui v3466
  let v3468 : BitVec 32 := Scalar.subi v3465 v3467
  let c128_i32_1249 : BitVec 32 := 128#32
  let c0_i32_1252 : BitVec 32 := 0#32
  let v3469 : BitVec 1 := Scalar.cmpi .sgt c128_i32_1249 c0_i32_1252
  let v3470 : BitVec 32 := Scalar.extui v3469
  let c0_i32_1253 : BitVec 32 := 0#32
  let v3471 : BitVec 1 := Scalar.cmpi .slt c128_i32_1249 c0_i32_1253
  let v3472 : BitVec 32 := Scalar.extui v3471
  let v3473 : BitVec 32 := Scalar.subi v3470 v3472
  let v3474 : BitVec 1 := Scalar.cmpi .ne v3468 v3473
  let v3475 : BitVec 32 := Scalar.remsi v3462 c128_i32_1249
  let c0_i32_1254 : BitVec 32 := 0#32
  let v3476 : BitVec 1 := Scalar.cmpi .ne v3475 c0_i32_1254
  let v3477 : BitVec 1 := Scalar.andi v3474 v3476
  let v3463 : BitVec 32 := Scalar.divsi v3462 c128_i32_1249
  let c1_i32_1255 : BitVec 32 := 1#32
  let v3478 : BitVec 32 := Scalar.subi v3463 c1_i32_1255
  let v3479 : BitVec 32 := Scalar.select v3477 v3478 v3463
  let c128_i32_1256 : BitVec 32 := 128#32
  let v3480 : BitVec 32 := Scalar.muli v3479 c128_i32_1256
  let v3481 : BitVec 32 := Scalar.maxsi c0_i32_1257 v3480
  let v3482 : BitVec 32 := Scalar.minsi c32512_i32_1258 v3481
  let v3483 : BitVec 32 := v3482
  let v3498 : Index := Scalar.indexCast v3483
  ![15, v3498.toNat]

def k1_chk76 (v3461 : BitVec 32) : Prop :=
  (128 ∣ (k1_mult76 v3461).toNat) ∧
  (∀ a, (k1_off152 v3461) a + S1x256.size a ≤ S16x32768.size a)
theorem k1_mult76_dvd : ∀ (v3461 : BitVec 32) (k1_hw76 : k1_chk76 v3461), 128 ∣ (k1_mult76 v3461).toNat := fun v3461 k1_hw76 => k1_hw76.1
theorem k1_off152_inb : ∀ (v3461 : BitVec 32) (k1_hw76 : k1_chk76 v3461), ∀ a, (k1_off152 v3461) a + S1x256.size a ≤ S16x32768.size a := fun v3461 k1_hw76 => k1_hw76.2

def k1_off153 (i : grid1.Coords) : Fin 2 → Nat :=
  let arg0 : BitVec 32 := BitVec.ofNat 32 (i 0).val
  let c16_i32_1261 : BitVec 32 := 16#32
  let v3504 : BitVec 32 := Scalar.muli arg0 c16_i32_1261
  let c15_i32_1262 : BitVec 32 := 15#32
  let v3505 : BitVec 32 := Scalar.addi v3504 c15_i32_1262
  let v3506 : Index := Scalar.indexCast v3505
  let c1_1263 : Index := 1#32
  ![v3506.toNat, 1]
def k1_mult77 (v3507 : BitVec 32) : BitVec 32 :=
  let c32512_i32_1274 : BitVec 32 := 32512#32
  let c0_i32_1273 : BitVec 32 := 0#32
  let c32_i32_1264 : BitVec 32 := 32#32
  let v3508 : BitVec 32 := Scalar.subi v3507 c32_i32_1264
  let c0_i32_1266 : BitVec 32 := 0#32
  let v3510 : BitVec 1 := Scalar.cmpi .sgt v3508 c0_i32_1266
  let v3511 : BitVec 32 := Scalar.extui v3510
  let c0_i32_1267 : BitVec 32 := 0#32
  let v3512 : BitVec 1 := Scalar.cmpi .slt v3508 c0_i32_1267
  let v3513 : BitVec 32 := Scalar.extui v3512
  let v3514 : BitVec 32 := Scalar.subi v3511 v3513
  let c128_i32_1265 : BitVec 32 := 128#32
  let c0_i32_1268 : BitVec 32 := 0#32
  let v3515 : BitVec 1 := Scalar.cmpi .sgt c128_i32_1265 c0_i32_1268
  let v3516 : BitVec 32 := Scalar.extui v3515
  let c0_i32_1269 : BitVec 32 := 0#32
  let v3517 : BitVec 1 := Scalar.cmpi .slt c128_i32_1265 c0_i32_1269
  let v3518 : BitVec 32 := Scalar.extui v3517
  let v3519 : BitVec 32 := Scalar.subi v3516 v3518
  let v3520 : BitVec 1 := Scalar.cmpi .ne v3514 v3519
  let v3521 : BitVec 32 := Scalar.remsi v3508 c128_i32_1265
  let c0_i32_1270 : BitVec 32 := 0#32
  let v3522 : BitVec 1 := Scalar.cmpi .ne v3521 c0_i32_1270
  let v3523 : BitVec 1 := Scalar.andi v3520 v3522
  let v3509 : BitVec 32 := Scalar.divsi v3508 c128_i32_1265
  let c1_i32_1271 : BitVec 32 := 1#32
  let v3524 : BitVec 32 := Scalar.subi v3509 c1_i32_1271
  let v3525 : BitVec 32 := Scalar.select v3523 v3524 v3509
  let c128_i32_1272 : BitVec 32 := 128#32
  let v3526 : BitVec 32 := Scalar.muli v3525 c128_i32_1272
  let v3527 : BitVec 32 := Scalar.maxsi c0_i32_1273 v3526
  let v3528 : BitVec 32 := Scalar.minsi c32512_i32_1274 v3527
  v3528

def k1_off154 (v3507 : BitVec 32) : Fin 2 → Nat :=
  let c15_1276 : Index := 15#32
  let c32512_i32_1274 : BitVec 32 := 32512#32
  let c0_i32_1273 : BitVec 32 := 0#32
  let c32_i32_1264 : BitVec 32 := 32#32
  let v3508 : BitVec 32 := Scalar.subi v3507 c32_i32_1264
  let c0_i32_1266 : BitVec 32 := 0#32
  let v3510 : BitVec 1 := Scalar.cmpi .sgt v3508 c0_i32_1266
  let v3511 : BitVec 32 := Scalar.extui v3510
  let c0_i32_1267 : BitVec 32 := 0#32
  let v3512 : BitVec 1 := Scalar.cmpi .slt v3508 c0_i32_1267
  let v3513 : BitVec 32 := Scalar.extui v3512
  let v3514 : BitVec 32 := Scalar.subi v3511 v3513
  let c128_i32_1265 : BitVec 32 := 128#32
  let c0_i32_1268 : BitVec 32 := 0#32
  let v3515 : BitVec 1 := Scalar.cmpi .sgt c128_i32_1265 c0_i32_1268
  let v3516 : BitVec 32 := Scalar.extui v3515
  let c0_i32_1269 : BitVec 32 := 0#32
  let v3517 : BitVec 1 := Scalar.cmpi .slt c128_i32_1265 c0_i32_1269
  let v3518 : BitVec 32 := Scalar.extui v3517
  let v3519 : BitVec 32 := Scalar.subi v3516 v3518
  let v3520 : BitVec 1 := Scalar.cmpi .ne v3514 v3519
  let v3521 : BitVec 32 := Scalar.remsi v3508 c128_i32_1265
  let c0_i32_1270 : BitVec 32 := 0#32
  let v3522 : BitVec 1 := Scalar.cmpi .ne v3521 c0_i32_1270
  let v3523 : BitVec 1 := Scalar.andi v3520 v3522
  let v3509 : BitVec 32 := Scalar.divsi v3508 c128_i32_1265
  let c1_i32_1271 : BitVec 32 := 1#32
  let v3524 : BitVec 32 := Scalar.subi v3509 c1_i32_1271
  let v3525 : BitVec 32 := Scalar.select v3523 v3524 v3509
  let c128_i32_1272 : BitVec 32 := 128#32
  let v3526 : BitVec 32 := Scalar.muli v3525 c128_i32_1272
  let v3527 : BitVec 32 := Scalar.maxsi c0_i32_1273 v3526
  let v3528 : BitVec 32 := Scalar.minsi c32512_i32_1274 v3527
  let v3529 : BitVec 32 := v3528
  let v3544 : Index := Scalar.indexCast v3529
  ![15, v3544.toNat]

def k1_chk77 (v3507 : BitVec 32) : Prop :=
  (128 ∣ (k1_mult77 v3507).toNat) ∧
  (∀ a, (k1_off154 v3507) a + S1x256.size a ≤ S16x32768.size a)
theorem k1_mult77_dvd : ∀ (v3507 : BitVec 32) (k1_hw77 : k1_chk77 v3507), 128 ∣ (k1_mult77 v3507).toNat := fun v3507 k1_hw77 => k1_hw77.1
theorem k1_off154_inb : ∀ (v3507 : BitVec 32) (k1_hw77 : k1_chk77 v3507), ∀ a, (k1_off154 v3507) a + S1x256.size a ≤ S16x32768.size a := fun v3507 k1_hw77 => k1_hw77.2

def k1_off155 (i : grid1.Coords) : Fin 2 → Nat :=
  let arg0 : BitVec 32 := BitVec.ofNat 32 (i 0).val
  let c16_i32_1278 : BitVec 32 := 16#32
  let v3550 : BitVec 32 := Scalar.muli arg0 c16_i32_1278
  let c15_i32_1279 : BitVec 32 := 15#32
  let v3551 : BitVec 32 := Scalar.addi v3550 c15_i32_1279
  let v3552 : Index := Scalar.indexCast v3551
  let c2_1280 : Index := 2#32
  ![v3552.toNat, 2]
def k1_mult78 (v3553 : BitVec 32) : BitVec 32 :=
  let c32512_i32_1291 : BitVec 32 := 32512#32
  let c0_i32_1290 : BitVec 32 := 0#32
  let c32_i32_1281 : BitVec 32 := 32#32
  let v3554 : BitVec 32 := Scalar.subi v3553 c32_i32_1281
  let c0_i32_1283 : BitVec 32 := 0#32
  let v3556 : BitVec 1 := Scalar.cmpi .sgt v3554 c0_i32_1283
  let v3557 : BitVec 32 := Scalar.extui v3556
  let c0_i32_1284 : BitVec 32 := 0#32
  let v3558 : BitVec 1 := Scalar.cmpi .slt v3554 c0_i32_1284
  let v3559 : BitVec 32 := Scalar.extui v3558
  let v3560 : BitVec 32 := Scalar.subi v3557 v3559
  let c128_i32_1282 : BitVec 32 := 128#32
  let c0_i32_1285 : BitVec 32 := 0#32
  let v3561 : BitVec 1 := Scalar.cmpi .sgt c128_i32_1282 c0_i32_1285
  let v3562 : BitVec 32 := Scalar.extui v3561
  let c0_i32_1286 : BitVec 32 := 0#32
  let v3563 : BitVec 1 := Scalar.cmpi .slt c128_i32_1282 c0_i32_1286
  let v3564 : BitVec 32 := Scalar.extui v3563
  let v3565 : BitVec 32 := Scalar.subi v3562 v3564
  let v3566 : BitVec 1 := Scalar.cmpi .ne v3560 v3565
  let v3567 : BitVec 32 := Scalar.remsi v3554 c128_i32_1282
  let c0_i32_1287 : BitVec 32 := 0#32
  let v3568 : BitVec 1 := Scalar.cmpi .ne v3567 c0_i32_1287
  let v3569 : BitVec 1 := Scalar.andi v3566 v3568
  let v3555 : BitVec 32 := Scalar.divsi v3554 c128_i32_1282
  let c1_i32_1288 : BitVec 32 := 1#32
  let v3570 : BitVec 32 := Scalar.subi v3555 c1_i32_1288
  let v3571 : BitVec 32 := Scalar.select v3569 v3570 v3555
  let c128_i32_1289 : BitVec 32 := 128#32
  let v3572 : BitVec 32 := Scalar.muli v3571 c128_i32_1289
  let v3573 : BitVec 32 := Scalar.maxsi c0_i32_1290 v3572
  let v3574 : BitVec 32 := Scalar.minsi c32512_i32_1291 v3573
  v3574

def k1_off156 (v3553 : BitVec 32) : Fin 2 → Nat :=
  let c15_1293 : Index := 15#32
  let c32512_i32_1291 : BitVec 32 := 32512#32
  let c0_i32_1290 : BitVec 32 := 0#32
  let c32_i32_1281 : BitVec 32 := 32#32
  let v3554 : BitVec 32 := Scalar.subi v3553 c32_i32_1281
  let c0_i32_1283 : BitVec 32 := 0#32
  let v3556 : BitVec 1 := Scalar.cmpi .sgt v3554 c0_i32_1283
  let v3557 : BitVec 32 := Scalar.extui v3556
  let c0_i32_1284 : BitVec 32 := 0#32
  let v3558 : BitVec 1 := Scalar.cmpi .slt v3554 c0_i32_1284
  let v3559 : BitVec 32 := Scalar.extui v3558
  let v3560 : BitVec 32 := Scalar.subi v3557 v3559
  let c128_i32_1282 : BitVec 32 := 128#32
  let c0_i32_1285 : BitVec 32 := 0#32
  let v3561 : BitVec 1 := Scalar.cmpi .sgt c128_i32_1282 c0_i32_1285
  let v3562 : BitVec 32 := Scalar.extui v3561
  let c0_i32_1286 : BitVec 32 := 0#32
  let v3563 : BitVec 1 := Scalar.cmpi .slt c128_i32_1282 c0_i32_1286
  let v3564 : BitVec 32 := Scalar.extui v3563
  let v3565 : BitVec 32 := Scalar.subi v3562 v3564
  let v3566 : BitVec 1 := Scalar.cmpi .ne v3560 v3565
  let v3567 : BitVec 32 := Scalar.remsi v3554 c128_i32_1282
  let c0_i32_1287 : BitVec 32 := 0#32
  let v3568 : BitVec 1 := Scalar.cmpi .ne v3567 c0_i32_1287
  let v3569 : BitVec 1 := Scalar.andi v3566 v3568
  let v3555 : BitVec 32 := Scalar.divsi v3554 c128_i32_1282
  let c1_i32_1288 : BitVec 32 := 1#32
  let v3570 : BitVec 32 := Scalar.subi v3555 c1_i32_1288
  let v3571 : BitVec 32 := Scalar.select v3569 v3570 v3555
  let c128_i32_1289 : BitVec 32 := 128#32
  let v3572 : BitVec 32 := Scalar.muli v3571 c128_i32_1289
  let v3573 : BitVec 32 := Scalar.maxsi c0_i32_1290 v3572
  let v3574 : BitVec 32 := Scalar.minsi c32512_i32_1291 v3573
  let v3575 : BitVec 32 := v3574
  let v3590 : Index := Scalar.indexCast v3575
  ![15, v3590.toNat]

def k1_chk78 (v3553 : BitVec 32) : Prop :=
  (128 ∣ (k1_mult78 v3553).toNat) ∧
  (∀ a, (k1_off156 v3553) a + S1x256.size a ≤ S16x32768.size a)
theorem k1_mult78_dvd : ∀ (v3553 : BitVec 32) (k1_hw78 : k1_chk78 v3553), 128 ∣ (k1_mult78 v3553).toNat := fun v3553 k1_hw78 => k1_hw78.1
theorem k1_off156_inb : ∀ (v3553 : BitVec 32) (k1_hw78 : k1_chk78 v3553), ∀ a, (k1_off156 v3553) a + S1x256.size a ≤ S16x32768.size a := fun v3553 k1_hw78 => k1_hw78.2

def k1_off157 (i : grid1.Coords) : Fin 2 → Nat :=
  let arg0 : BitVec 32 := BitVec.ofNat 32 (i 0).val
  let c16_i32_1295 : BitVec 32 := 16#32
  let v3596 : BitVec 32 := Scalar.muli arg0 c16_i32_1295
  let c15_i32_1296 : BitVec 32 := 15#32
  let v3597 : BitVec 32 := Scalar.addi v3596 c15_i32_1296
  let v3598 : Index := Scalar.indexCast v3597
  let c3_1297 : Index := 3#32
  ![v3598.toNat, 3]
def k1_mult79 (v3599 : BitVec 32) : BitVec 32 :=
  let c32512_i32_1308 : BitVec 32 := 32512#32
  let c0_i32_1307 : BitVec 32 := 0#32
  let c32_i32_1298 : BitVec 32 := 32#32
  let v3600 : BitVec 32 := Scalar.subi v3599 c32_i32_1298
  let c0_i32_1300 : BitVec 32 := 0#32
  let v3602 : BitVec 1 := Scalar.cmpi .sgt v3600 c0_i32_1300
  let v3603 : BitVec 32 := Scalar.extui v3602
  let c0_i32_1301 : BitVec 32 := 0#32
  let v3604 : BitVec 1 := Scalar.cmpi .slt v3600 c0_i32_1301
  let v3605 : BitVec 32 := Scalar.extui v3604
  let v3606 : BitVec 32 := Scalar.subi v3603 v3605
  let c128_i32_1299 : BitVec 32 := 128#32
  let c0_i32_1302 : BitVec 32 := 0#32
  let v3607 : BitVec 1 := Scalar.cmpi .sgt c128_i32_1299 c0_i32_1302
  let v3608 : BitVec 32 := Scalar.extui v3607
  let c0_i32_1303 : BitVec 32 := 0#32
  let v3609 : BitVec 1 := Scalar.cmpi .slt c128_i32_1299 c0_i32_1303
  let v3610 : BitVec 32 := Scalar.extui v3609
  let v3611 : BitVec 32 := Scalar.subi v3608 v3610
  let v3612 : BitVec 1 := Scalar.cmpi .ne v3606 v3611
  let v3613 : BitVec 32 := Scalar.remsi v3600 c128_i32_1299
  let c0_i32_1304 : BitVec 32 := 0#32
  let v3614 : BitVec 1 := Scalar.cmpi .ne v3613 c0_i32_1304
  let v3615 : BitVec 1 := Scalar.andi v3612 v3614
  let v3601 : BitVec 32 := Scalar.divsi v3600 c128_i32_1299
  let c1_i32_1305 : BitVec 32 := 1#32
  let v3616 : BitVec 32 := Scalar.subi v3601 c1_i32_1305
  let v3617 : BitVec 32 := Scalar.select v3615 v3616 v3601
  let c128_i32_1306 : BitVec 32 := 128#32
  let v3618 : BitVec 32 := Scalar.muli v3617 c128_i32_1306
  let v3619 : BitVec 32 := Scalar.maxsi c0_i32_1307 v3618
  let v3620 : BitVec 32 := Scalar.minsi c32512_i32_1308 v3619
  v3620

def k1_off158 (v3599 : BitVec 32) : Fin 2 → Nat :=
  let c15_1310 : Index := 15#32
  let c32512_i32_1308 : BitVec 32 := 32512#32
  let c0_i32_1307 : BitVec 32 := 0#32
  let c32_i32_1298 : BitVec 32 := 32#32
  let v3600 : BitVec 32 := Scalar.subi v3599 c32_i32_1298
  let c0_i32_1300 : BitVec 32 := 0#32
  let v3602 : BitVec 1 := Scalar.cmpi .sgt v3600 c0_i32_1300
  let v3603 : BitVec 32 := Scalar.extui v3602
  let c0_i32_1301 : BitVec 32 := 0#32
  let v3604 : BitVec 1 := Scalar.cmpi .slt v3600 c0_i32_1301
  let v3605 : BitVec 32 := Scalar.extui v3604
  let v3606 : BitVec 32 := Scalar.subi v3603 v3605
  let c128_i32_1299 : BitVec 32 := 128#32
  let c0_i32_1302 : BitVec 32 := 0#32
  let v3607 : BitVec 1 := Scalar.cmpi .sgt c128_i32_1299 c0_i32_1302
  let v3608 : BitVec 32 := Scalar.extui v3607
  let c0_i32_1303 : BitVec 32 := 0#32
  let v3609 : BitVec 1 := Scalar.cmpi .slt c128_i32_1299 c0_i32_1303
  let v3610 : BitVec 32 := Scalar.extui v3609
  let v3611 : BitVec 32 := Scalar.subi v3608 v3610
  let v3612 : BitVec 1 := Scalar.cmpi .ne v3606 v3611
  let v3613 : BitVec 32 := Scalar.remsi v3600 c128_i32_1299
  let c0_i32_1304 : BitVec 32 := 0#32
  let v3614 : BitVec 1 := Scalar.cmpi .ne v3613 c0_i32_1304
  let v3615 : BitVec 1 := Scalar.andi v3612 v3614
  let v3601 : BitVec 32 := Scalar.divsi v3600 c128_i32_1299
  let c1_i32_1305 : BitVec 32 := 1#32
  let v3616 : BitVec 32 := Scalar.subi v3601 c1_i32_1305
  let v3617 : BitVec 32 := Scalar.select v3615 v3616 v3601
  let c128_i32_1306 : BitVec 32 := 128#32
  let v3618 : BitVec 32 := Scalar.muli v3617 c128_i32_1306
  let v3619 : BitVec 32 := Scalar.maxsi c0_i32_1307 v3618
  let v3620 : BitVec 32 := Scalar.minsi c32512_i32_1308 v3619
  let v3621 : BitVec 32 := v3620
  let v3636 : Index := Scalar.indexCast v3621
  ![15, v3636.toNat]

def k1_chk79 (v3599 : BitVec 32) : Prop :=
  (128 ∣ (k1_mult79 v3599).toNat) ∧
  (∀ a, (k1_off158 v3599) a + S1x256.size a ≤ S16x32768.size a)
theorem k1_mult79_dvd : ∀ (v3599 : BitVec 32) (k1_hw79 : k1_chk79 v3599), 128 ∣ (k1_mult79 v3599).toNat := fun v3599 k1_hw79 => k1_hw79.1
theorem k1_off158_inb : ∀ (v3599 : BitVec 32) (k1_hw79 : k1_chk79 v3599), ∀ a, (k1_off158 v3599) a + S1x256.size a ≤ S16x32768.size a := fun v3599 k1_hw79 => k1_hw79.2

def k1_off159 (i : grid1.Coords) : Fin 2 → Nat :=
  let arg0 : BitVec 32 := BitVec.ofNat 32 (i 0).val
  let c16_i32_1312 : BitVec 32 := 16#32
  let v3642 : BitVec 32 := Scalar.muli arg0 c16_i32_1312
  let c15_i32_1313 : BitVec 32 := 15#32
  let v3643 : BitVec 32 := Scalar.addi v3642 c15_i32_1313
  let v3644 : Index := Scalar.indexCast v3643
  let c4_1314 : Index := 4#32
  ![v3644.toNat, 4]
def k1_mult80 (v3645 : BitVec 32) : BitVec 32 :=
  let c32512_i32_1325 : BitVec 32 := 32512#32
  let c0_i32_1324 : BitVec 32 := 0#32
  let c32_i32_1315 : BitVec 32 := 32#32
  let v3646 : BitVec 32 := Scalar.subi v3645 c32_i32_1315
  let c0_i32_1317 : BitVec 32 := 0#32
  let v3648 : BitVec 1 := Scalar.cmpi .sgt v3646 c0_i32_1317
  let v3649 : BitVec 32 := Scalar.extui v3648
  let c0_i32_1318 : BitVec 32 := 0#32
  let v3650 : BitVec 1 := Scalar.cmpi .slt v3646 c0_i32_1318
  let v3651 : BitVec 32 := Scalar.extui v3650
  let v3652 : BitVec 32 := Scalar.subi v3649 v3651
  let c128_i32_1316 : BitVec 32 := 128#32
  let c0_i32_1319 : BitVec 32 := 0#32
  let v3653 : BitVec 1 := Scalar.cmpi .sgt c128_i32_1316 c0_i32_1319
  let v3654 : BitVec 32 := Scalar.extui v3653
  let c0_i32_1320 : BitVec 32 := 0#32
  let v3655 : BitVec 1 := Scalar.cmpi .slt c128_i32_1316 c0_i32_1320
  let v3656 : BitVec 32 := Scalar.extui v3655
  let v3657 : BitVec 32 := Scalar.subi v3654 v3656
  let v3658 : BitVec 1 := Scalar.cmpi .ne v3652 v3657
  let v3659 : BitVec 32 := Scalar.remsi v3646 c128_i32_1316
  let c0_i32_1321 : BitVec 32 := 0#32
  let v3660 : BitVec 1 := Scalar.cmpi .ne v3659 c0_i32_1321
  let v3661 : BitVec 1 := Scalar.andi v3658 v3660
  let v3647 : BitVec 32 := Scalar.divsi v3646 c128_i32_1316
  let c1_i32_1322 : BitVec 32 := 1#32
  let v3662 : BitVec 32 := Scalar.subi v3647 c1_i32_1322
  let v3663 : BitVec 32 := Scalar.select v3661 v3662 v3647
  let c128_i32_1323 : BitVec 32 := 128#32
  let v3664 : BitVec 32 := Scalar.muli v3663 c128_i32_1323
  let v3665 : BitVec 32 := Scalar.maxsi c0_i32_1324 v3664
  let v3666 : BitVec 32 := Scalar.minsi c32512_i32_1325 v3665
  v3666

def k1_off160 (v3645 : BitVec 32) : Fin 2 → Nat :=
  let c15_1327 : Index := 15#32
  let c32512_i32_1325 : BitVec 32 := 32512#32
  let c0_i32_1324 : BitVec 32 := 0#32
  let c32_i32_1315 : BitVec 32 := 32#32
  let v3646 : BitVec 32 := Scalar.subi v3645 c32_i32_1315
  let c0_i32_1317 : BitVec 32 := 0#32
  let v3648 : BitVec 1 := Scalar.cmpi .sgt v3646 c0_i32_1317
  let v3649 : BitVec 32 := Scalar.extui v3648
  let c0_i32_1318 : BitVec 32 := 0#32
  let v3650 : BitVec 1 := Scalar.cmpi .slt v3646 c0_i32_1318
  let v3651 : BitVec 32 := Scalar.extui v3650
  let v3652 : BitVec 32 := Scalar.subi v3649 v3651
  let c128_i32_1316 : BitVec 32 := 128#32
  let c0_i32_1319 : BitVec 32 := 0#32
  let v3653 : BitVec 1 := Scalar.cmpi .sgt c128_i32_1316 c0_i32_1319
  let v3654 : BitVec 32 := Scalar.extui v3653
  let c0_i32_1320 : BitVec 32 := 0#32
  let v3655 : BitVec 1 := Scalar.cmpi .slt c128_i32_1316 c0_i32_1320
  let v3656 : BitVec 32 := Scalar.extui v3655
  let v3657 : BitVec 32 := Scalar.subi v3654 v3656
  let v3658 : BitVec 1 := Scalar.cmpi .ne v3652 v3657
  let v3659 : BitVec 32 := Scalar.remsi v3646 c128_i32_1316
  let c0_i32_1321 : BitVec 32 := 0#32
  let v3660 : BitVec 1 := Scalar.cmpi .ne v3659 c0_i32_1321
  let v3661 : BitVec 1 := Scalar.andi v3658 v3660
  let v3647 : BitVec 32 := Scalar.divsi v3646 c128_i32_1316
  let c1_i32_1322 : BitVec 32 := 1#32
  let v3662 : BitVec 32 := Scalar.subi v3647 c1_i32_1322
  let v3663 : BitVec 32 := Scalar.select v3661 v3662 v3647
  let c128_i32_1323 : BitVec 32 := 128#32
  let v3664 : BitVec 32 := Scalar.muli v3663 c128_i32_1323
  let v3665 : BitVec 32 := Scalar.maxsi c0_i32_1324 v3664
  let v3666 : BitVec 32 := Scalar.minsi c32512_i32_1325 v3665
  let v3667 : BitVec 32 := v3666
  let v3682 : Index := Scalar.indexCast v3667
  ![15, v3682.toNat]

def k1_chk80 (v3645 : BitVec 32) : Prop :=
  (128 ∣ (k1_mult80 v3645).toNat) ∧
  (∀ a, (k1_off160 v3645) a + S1x256.size a ≤ S16x32768.size a)
theorem k1_mult80_dvd : ∀ (v3645 : BitVec 32) (k1_hw80 : k1_chk80 v3645), 128 ∣ (k1_mult80 v3645).toNat := fun v3645 k1_hw80 => k1_hw80.1
theorem k1_off160_inb : ∀ (v3645 : BitVec 32) (k1_hw80 : k1_chk80 v3645), ∀ a, (k1_off160 v3645) a + S1x256.size a ≤ S16x32768.size a := fun v3645 k1_hw80 => k1_hw80.2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S64x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S64x32768 : Shape := ⟨2, ![64, 32768]⟩
abbrev S1 : Shape := ⟨1, ![1]⟩
abbrev S64x5 : Shape := ⟨2, ![64, 5]⟩
abbrev S32768 : Shape := ⟨1, ![32768]⟩
abbrev S1x1x32768 : Shape := ⟨3, ![1, 1, 32768]⟩
abbrev S64x5x1 : Shape := ⟨3, ![64, 5, 1]⟩
abbrev S64x5x32768 : Shape := ⟨3, ![64, 5, 32768]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S1, .f32⟩
  | .hbm, ⟨2, _⟩ => ⟨S64x5, .f32⟩
  | .hbm, ⟨3, _⟩ => ⟨S64x5, .i32⟩
  | .hbm, ⟨4, _⟩ => ⟨S64x5, .f32⟩
  | .hbm, ⟨5, _⟩ => ⟨S32768, .i32⟩
  | .hbm, ⟨6, _⟩ => ⟨S32768, .f32⟩
  | .hbm, ⟨7, _⟩ => ⟨S1x1x32768, .f32⟩
  | .hbm, ⟨8, _⟩ => ⟨S64x5x1, .f32⟩
  | .hbm, ⟨9, _⟩ => ⟨S64x5x32768, .f32⟩
  | .hbm, ⟨10, _⟩ => ⟨S64x5x32768, .f32⟩
  | .hbm, ⟨11, _⟩ => ⟨S64x5x32768, .f32⟩
  | .hbm, ⟨12, _⟩ => ⟨S_, .f32⟩
  | .hbm, ⟨13, _⟩ => ⟨S64x5x32768, .f32⟩
  | .hbm, ⟨14, _⟩ => ⟨S64x5x32768, .f32⟩
  | .hbm, ⟨15, _⟩ => ⟨S64x5x32768, .f32⟩
  | .hbm, ⟨16, _⟩ => ⟨S_, .f32⟩
  | .hbm, ⟨17, _⟩ => ⟨S64x5x32768, .f32⟩
  | .hbm, ⟨18, _⟩ => ⟨S64x5x32768, .f32⟩
  | .hbm, ⟨19, _⟩ => ⟨S64x5x32768, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64x5x32768, .f32⟩
  | .hbm, ⟨25, _⟩ => ⟨S64x5x32768, .f32⟩
  | .hbm, ⟨26, _⟩ => ⟨S_, .i32⟩
  | .hbm, ⟨27, _⟩ => ⟨S64x5, .i32⟩
  | .hbm, ⟨28, _⟩ => ⟨S64x5, .i32⟩
  | .hbm, ⟨29, _⟩ => ⟨S_, .i32⟩
  | .hbm, ⟨30, _⟩ => ⟨S64x5, .i32⟩
  | .hbm, ⟨31, _⟩ => ⟨S64x5, .i32⟩
  | .hbm, ⟨32, _⟩ => ⟨S_, .i32⟩
  | .hbm, ⟨33, _⟩ => ⟨S64x5, .i32⟩
  | .hbm, ⟨34, _⟩ => ⟨S64x5, .i32⟩
  | .hbm, ⟨35, _⟩ => ⟨S_, .i32⟩
  | .hbm, ⟨36, _⟩ => ⟨S64x5, .i32⟩
  | .hbm, ⟨37, _⟩ => ⟨S64x5, .i32⟩
  | .hbm, ⟨38, _⟩ => ⟨S_, .i32⟩
  | .hbm, ⟨39, _⟩ => ⟨S64x5, .i32⟩
  | .hbm, ⟨40, _⟩ => ⟨S64x5, .i32⟩
  | .hbm, ⟨41, _⟩ => ⟨S1x1x32768, .i32⟩
  | .hbm, ⟨42, _⟩ => ⟨S64x5x1, .i32⟩
  | .hbm, ⟨43, _⟩ => ⟨S64x5x32768, .i32⟩
  | .hbm, ⟨44, _⟩ => ⟨S64x5x32768, .i32⟩
  | .hbm, ⟨45, _⟩ => ⟨S64x5x32768, .i32⟩
  | .hbm, ⟨46, _⟩ => ⟨S_, .i32⟩
  | .hbm, ⟨47, _⟩ => ⟨S64x5x32768, .i32⟩
  | .hbm, ⟨48, _⟩ => ⟨S64x5x32768, .i1⟩
  | .hbm, ⟨49, _⟩ => ⟨S_, .i32⟩
  | .hbm, ⟨50, _⟩ => ⟨S64x5x32768, .i32⟩
  | .hbm, ⟨51, _⟩ => ⟨S64x5x32768, .i1⟩
  | .hbm, ⟨52, _⟩ => ⟨S64x5x32768, .i1⟩
  | .hbm, ⟨53, _⟩ => ⟨S_, .f32⟩
  | .hbm, ⟨54, _⟩ => ⟨S_, .f32⟩
  | .hbm, ⟨55, _⟩ => ⟨S64x5x32768, .f32⟩
  | .hbm, ⟨56, _⟩ => ⟨S64x5x32768, .f32⟩
  | .hbm, ⟨57, _⟩ => ⟨S_, .f32⟩
  | .hbm, ⟨58, _⟩ => ⟨S64x32768, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Model.lean ====
/-
  The top-five kernel's values as functions of whole 8×128 vectors, in any reading of the floats: the insertion of one
  chunk into a lane's three or five best entries, the merging of two sets of lanes, and the five pops that read the row's
  best entries off the lanes. The walk of the loops (`TopsLoops`) shows that the printed kernel computes these.
-/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic

variable {F : FTy → Type} [FloatOps F]

/-- One entry per lane: a value and the column it came from. -/
abbrev P2 (F : FTy → Type) : Type := FVec F S8x128 .f32 × IVec S8x128 32
/-- Three levels per lane; the third without its column. -/
abbrev L3 (F : FTy → Type) : Type := P2 F × P2 F × FVec F S8x128 .f32
/-- Five levels per lane. -/
abbrev L5 (F : FTy → Type) : Type := P2 F × P2 F × P2 F × P2 F × P2 F

/-- Lane by lane: the first where the condition holds, else the second. -/
def sel (g : IVec S8x128 1) (x y : P2 F) : P2 F := (select g x.1 y.1, select g x.2 y.2)

/-- The entry `z` comes before `p`: a larger value, or the same value at a smaller column. -/
def lexgt (z p : P2 F) : IVec S8x128 1 := ori (cmpf .ogt z.1 p.1) (andi (cmpf .oeq z.1 p.1) (cmpi .slt z.2 p.2))

/-- The one of the two entries that comes first, and the other one. -/
def mx (p z : P2 F) : P2 F := sel (lexgt z p) z p
@[inherit_doc mx] def mn (p z : P2 F) : P2 F := sel (lexgt z p) p z

/-- One chunk entry inserted into three levels, by value alone. -/
def ins3 (t : L3 F) (z : P2 F) : L3 F :=
  (sel (cmpf .ogt z.1 t.1.1) z t.1,
   sel (cmpf .ogt z.1 t.2.1.1) (sel (cmpf .ogt z.1 t.1.1) t.1 z) t.2.1,
   select (cmpf .ogt z.1 t.2.2) (select (cmpf .ogt z.1 t.2.1.1) t.2.1.1 z.1) t.2.2)

/-- One level of the insertion below the first: what is above it, the level, the new entry. -/
def insLevel (up p z : P2 F) : P2 F := sel (cmpf .ogt z.1 p.1) (sel (cmpf .ogt z.1 up.1) up z) p

/-- One chunk entry inserted into five levels, by value alone. -/
def ins5 (t : L5 F) (z : P2 F) : L5 F :=
  (sel (cmpf .ogt z.1 t.1.1) z t.1, insLevel t.1 t.2.1 z, insLevel t.2.1 t.2.2.1 z, insLevel t.2.2.1 t.2.2.2.1 z,
   insLevel t.2.2.2.1 t.2.2.2.2 z)

/-- Two sets of lanes with three levels each made one. -/
def merge3 (x y : L3 F) : L3 F :=
  (mx x.1 y.1,
   mx (mn x.1 y.1) (sel (lexgt y.1 x.1) y.2.1 x.2.1),
   select (lexgt (sel (lexgt y.1 x.1) y.2.1 x.2.1) (mn x.1 y.1))
     (maximumf (select (lexgt y.1 x.1) y.2.2 x.2.2) (mn x.1 y.1).1)
     (maximumf (sel (lexgt y.1 x.1) y.2.1 x.2.1).1 (sel (lexgt y.1 x.1) x.2.1 y.2.1).1))

/-- One entry pushed into five sorted levels from the top, each level keeping the one that comes first. -/
def bubble (t : L5 F) (z : P2 F) : L5 F :=
  let z1 := mn t.1 z
  let z2 := mn t.2.1 z1
  let z3 := mn t.2.2.1 z2
  let z4 := mn t.2.2.2.1 z3
  (mx t.1 z, mx t.2.1 z1, mx t.2.2.1 z2, mx t.2.2.2.1 z3, mx t.2.2.2.2 z4)

/-- The second set's five entries pushed into the first's, one after the other. -/
def merge5 (t u : L5 F) : L5 F := bubble (bubble (bubble (bubble (bubble t u.1) u.2.1) u.2.2.1) u.2.2.2.1) u.2.2.2.2

/-- Minus infinity in every lane; the column past the end in every lane. -/
abbrev negV : FVec F S8x128 .f32 := k0_pay1417
@[inherit_doc negV] abbrev bigV : IVec S8x128 32 := k0_pay1418
/-- The empty entry. -/
abbrev none2 : P2 F := (negV, bigV)
/-- The lane numbers. -/
abbrev laneV : IVec S8x128 32 := iota .tc S8x128 32 [1] iota_S8x128_d1_w32

/-- The largest value of each row. -/
def rowMax (v : FVec F S8x128 .f32) : FVec F S8x1 .f32 :=
  shapeCast S8x1 (multiReduction .maximumf [1] S8 v 0xFF800000#32 reduces_S8x128_S8 (.inl rfl) rfl) shapeCasts_S8_S8x1

/-- The lanes that hold the row's largest value. -/
def elig (v : FVec F S8x128 .f32) : IVec S8x128 1 := cmpf .oeq v (broadcastTo S8x128 (rowMax v) broadcasts_S8x1_S8x128)

/-- The smallest column among them. -/
def bestCol (p : P2 F) : IVec S8x1 32 :=
  shapeCast S8x1 (multiReductionI .minsi [1] S8 (select (elig p.1) p.2 (broadcast S8x128 32768#32)) 2147483647#32
    reduces_S8x128_S8 rfl) shapeCasts_S8_S8x1

/-- The lane whose entry is the row's best. -/
def popped (p : P2 F) : IVec S8x128 1 := andi (elig p.1) (cmpi .eq p.2 (broadcastTo S8x128 (bestCol p) broadcasts_S8x1_S8x128))

/-- The row's best column written into lane `k` of the output. -/
def put (k : BitVec 32) (p : P2 F) (o : IVec S8x128 32) : IVec S8x128 32 :=
  select (cmpi .eq laneV (broadcast S8x128 k))
    (broadcastTo S8x128 (shapeCast S8x1 (bestCol p) shapeCasts_S8x1_S8x1) broadcasts_S8x1_S8x128) o

/-- The best entry of each row taken off its lane: two levels above a third value. -/
def pop3 (t : L3 F) : L3 F :=
  (sel (popped t.1) t.2.1 t.1, sel (popped t.1) (t.2.2, bigV) t.2.1, t.2.2)

/-- The best entry of each row taken off its lane: five levels. -/
def pop5 (t : L5 F) : L5 F :=
  (sel (popped t.1) t.2.1 t.1, sel (popped t.1) t.2.2.1 t.2.1, sel (popped t.1) t.2.2.2.1 t.2.2.1,
   sel (popped t.1) t.2.2.2.2 t.2.2.2.1, sel (popped t.1) none2 t.2.2.2.2)

/-- The five best columns of each row in its first five lanes, read off three levels and off five. -/
def tops3 (t : L3 F) : IVec S8x128 32 :=
  put 4#32 (pop3 (pop3 (pop3 (pop3 t)))).1 <| put 3#32 (pop3 (pop3 (pop3 t))).1 <| put 2#32 (pop3 (pop3 t)).1 <|
    put 1#32 (pop3 t).1 <| put 0#32 t.1 <| broadcast S8x128 0#32
@[inherit_doc tops3] def tops5 (t : L5 F) : IVec S8x128 32 :=
  put 4#32 (pop5 (pop5 (pop5 (pop5 t)))).1 <| put 3#32 (pop5 (pop5 (pop5 t))).1 <| put 2#32 (pop5 (pop5 t)).1 <|
    put 1#32 (pop5 t).1 <| put 0#32 t.1 <| broadcast S8x128 0#32

/-- The word that says whether three levels were enough: not zero where some row's third value reaches its fifth pop. -/
def badWord (t : L3 F) : BitVec 32 :=
  extractAt ![0, 0, 0] (k0_pay2 t.2.2 (rowMax (pop3 (pop3 (pop3 (pop3 t)))).1.1))

/-- `q` chunks, every fourth from number `s` on, inserted in turn. -/
def scan3 (z : ℕ → P2 F) (s : ℕ) (t : L3 F) : ℕ → L3 F
  | 0 => t
  | q + 1 => ins3 (scan3 z s t q) (z (4 * q + s))
@[inherit_doc scan3] def scan5 (z : ℕ → P2 F) (s : ℕ) (t : L5 F) : ℕ → L5 F
  | 0 => t
  | q + 1 => ins5 (scan5 z s t q) (z (4 * q + s))

/-- The four sets side by side, in the order the printed loop carries them: level by level. -/
abbrev T3 (F : FTy → Type) : Type :=
  FVec F S8x128 .f32 × FVec F S8x128 .f32 × FVec F S8x128 .f32 × FVec F S8x128 .f32 × IVec S8x128 32 × IVec S8x128 32 × IVec S8x128 32 × IVec S8x128 32
  × FVec F S8x128 .f32 × FVec F S8x128 .f32 × FVec F S8x128 .f32 × FVec F S8x128 .f32 × IVec S8x128 32 × IVec S8x128 32 × IVec S8x128 32 × IVec S8x128 32
  × FVec F S8x128 .f32 × FVec F S8x128 .f32 × FVec F S8x128 .f32 × FVec F S8x128 .f32
@[inherit_doc T3] def tup3 (a b c d : L3 F) : T3 F :=
  (a.1.1, b.1.1, c.1.1, d.1.1, a.1.2, b.1.2, c.1.2, d.1.2, a.2.1.1, b.2.1.1, c.2.1.1, d.2.1.1, a.2.1.2, b.2.1.2, c.2.1.2, d.2.1.2,
   a.2.2, b.2.2, c.2.2, d.2.2)

/-- The four sets of five levels side by side: all values set by set, then all columns. -/
abbrev T5 (F : FTy → Type) : Type :=
  FVec F S8x128 .f32 × FVec F S8x128 .f32 × FVec F S8x128 .f32 × FVec F S8x128 .f32 × FVec F S8x128 .f32
  × FVec F S8x128 .f32 × FVec F S8x128 .f32 × FVec F S8x128 .f32 × FVec F S8x128 .f32 × FVec F S8x128 .f32
  × FVec F S8x128 .f32 × FVec F S8x128 .f32 × FVec F S8x128 .f32 × FVec F S8x128 .f32 × FVec F S8x128 .f32
  × FVec F S8x128 .f32 × FVec F S8x128 .f32 × FVec F S8x128 .f32 × FVec F S8x128 .f32 × FVec F S8x128 .f32
  × IVec S8x128 32 × IVec S8x128 32 × IVec S8x128 32 × IVec S8x128 32 × IVec S8x128 32
  × IVec S8x128 32 × IVec S8x128 32 × IVec S8x128 32 × IVec S8x128 32 × IVec S8x128 32
  × IVec S8x128 32 × IVec S8x128 32 × IVec S8x128 32 × IVec S8x128 32 × IVec S8x128 32
  × IVec S8x128 32 × IVec S8x128 32 × IVec S8x128 32 × IVec S8x128 32 × IVec S8x128 32
@[inherit_doc T5] def tup5 (a b c d : L5 F) : T5 F :=
  (a.1.1, a.2.1.1, a.2.2.1.1, a.2.2.2.1.1, a.2.2.2.2.1, b.1.1, b.2.1.1, b.2.2.1.1, b.2.2.2.1.1, b.2.2.2.2.1,
   c.1.1, c.2.1.1, c.2.2.1.1, c.2.2.2.1.1, c.2.2.2.2.1, d.1.1, d.2.1.1, d.2.2.1.1, d.2.2.2.1.1, d.2.2.2.2.1,
   a.1.2, a.2.1.2, a.2.2.1.2, a.2.2.2.1.2, a.2.2.2.2.2, b.1.2, b.2.1.2, b.2.2.1.2, b.2.2.2.1.2, b.2.2.2.2.2,
   c.1.2, c.2.1.2, c.2.2.1.2, c.2.2.2.1.2, c.2.2.2.2.2, d.1.2, d.2.1.2, d.2.2.1.2, d.2.2.2.1.2, d.2.2.2.2.2)

/-- The empty lanes. -/
abbrev zero3 : L3 F := (none2, none2, negV)
@[inherit_doc zero3] abbrev zero5 : L5 F := (none2, none2, none2, none2, none2)

/-- The four sets of three levels made one, and of five. -/
def all3 (a b c d : L3 F) : L3 F := merge3 (merge3 (merge3 a b) c) d
@[inherit_doc all3] def all5 (a b c d : L5 F) : L5 F := merge5 (merge5 (merge5 a b) c) d

/-- All 256 chunks in three levels, and in five. -/
def scanned3 (z : ℕ → P2 F) : L3 F := all3 (scan3 z 0 zero3 64) (scan3 z 1 zero3 64) (scan3 z 2 zero3 64) (scan3 z 3 zero3 64)
@[inherit_doc scanned3] def scanned5 (z : ℕ → P2 F) : L5 F := all5 (scan5 z 0 zero5 64) (scan5 z 1 zero5 64) (scan5 z 2 zero5 64) (scan5 z 3 zero5 64)

/-- The first where the word is zero, else the second. -/
def pick {α : Type} (w : BitVec 32) (a b : α) : α := if w = 0#32 then a else b
theorem pick_zero {α : Type} (w : BitVec 32) (a b : α) (h : w = 0#32) : pick w a b = a := if_pos h
theorem pick_one {α : Type} (w : BitVec 32) (a b : α) (h : ¬ w = 0#32) : pick w a b = b := if_neg h

/-- The kernel's output block from the chunks: by three levels where they are enough, else by five. -/
def topsOut (z : ℕ → P2 F) : IVec S8x128 32 := pick (badWord (scanned3 z)) (tops3 (scanned3 z)) (tops5 (scanned5 z))

end Cert.KernelIdeal.Hand
end
-- ==== Proof.TopsLoops.lean ====
/-
  What the two loops of the top-five kernel compute: from the four sets of lanes before a trip, the sets with that trip's
  chunks inserted; hence after all trips every chunk of the row block inserted in turn.
-/
module

public import proofs.«01_k».proof.Proof.Model
public import proofs.«01_k».proof.Proof.Gen.KernelIdeal.Loops
public import Idealize.ShloMosaic.Lib.Pipeline.Regions
public import Idealize.ShloMosaic.Lib.WholeRead
public import Idealize.ShloMosaic.Lib.ValueIdxCore

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

abbrev 𝒱₀ : Variants := Variants.none

/-- What the first loop's trip `k` loads as its chunk `u`, and the columns it gives it. -/
def zTrip1 (M1 : Memref sig .tc .vmem S8x32768 .f32) (X : BufTy.Contents (Elt F) M1.view.ty) (k : Fin k0_t1_loop.trips) (u : ℕ) : P2 F :=
  (M1.view.readAt (Elt F) (Rect.unit (s := S8x32768) (k0_off1 k (BitVec.ofNat 32 (128 * (⟨u % 64, Nat.mod_lt _ (by decide)⟩ : Fin 64).val))) S8x128.size
      (k0_off1_inb k ⟨u % 64, Nat.mod_lt _ (by decide)⟩)).toLoadRect X,
   addi laneV (broadcast S8x128 (Scalar.addi (Scalar.muli (Scf.iv 0#32 1#32 k) 8192#32) (BitVec.ofNat 32 (128 * (u % 64))))))

theorem trip1_eq (c : Dev nD) (i : grid0.Coords) (M1 : Memref sig .tc .vmem S8x32768 .f32) (h1 : M1.IsWhole)
    (M2 : Memref sig .tc .vmem S8x128 .i32) (h2 : M2.IsWhole) (X : BufTy.Contents (Elt F) M1.view.ty) (k : Fin k0_t1_loop.trips)
    (s0 s1 s2 s3 : L3 F) :
    tripR_k0_t1 (F := F) 𝒱₀ c none i M1 h1 M2 h2 laneV X k (tup3 s0 s1 s2 s3)
      = tup3 (scan3 (zTrip1 M1 X k) 0 s0 16) (scan3 (zTrip1 M1 X k) 1 s1 16) (scan3 (zTrip1 M1 X k) 2 s2 16) (scan3 (zTrip1 M1 X k) 3 s3 16) := by
  chain_rfl

/-- What the second loop's trip `k` loads as its chunk `u`, and the columns it gives it. -/
def zTrip2 (M1 : Memref sig .tc .vmem S8x32768 .f32) (X : BufTy.Contents (Elt F) M1.view.ty) (k : Fin k0_t2_loop.trips) (u : ℕ) : P2 F :=
  (M1.view.readAt (Elt F) (Rect.unit (s := S8x32768) (k0_off2 k (BitVec.ofNat 32 (128 * (⟨u % 32, Nat.mod_lt _ (by decide)⟩ : Fin 32).val))) S8x128.size
      (k0_off2_inb k ⟨u % 32, Nat.mod_lt _ (by decide)⟩)).toLoadRect X,
   addi laneV (broadcast S8x128 (Scalar.addi (Scalar.muli (Scf.iv 0#32 1#32 k) 4096#32) (BitVec.ofNat 32 (128 * (u % 32))))))

theorem trip2_eq (c : Dev nD) (i : grid0.Coords) (M1 : Memref sig .tc .vmem S8x32768 .f32) (h1 : M1.IsWhole)
    (M2 : Memref sig .tc .vmem S8x128 .i32) (h2 : M2.IsWhole) (X : BufTy.Contents (Elt F) M1.view.ty) (k : Fin k0_t2_loop.trips)
    (s0 s1 s2 s3 : L5 F) :
    tripR_k0_t2 (F := F) 𝒱₀ c none i M1 h1 M2 h2 laneV negV bigV X k (tup5 s0 s1 s2 s3)
      = tup5 (scan5 (zTrip2 M1 X k) 0 s0 8) (scan5 (zTrip2 M1 X k) 1 s1 8) (scan5 (zTrip2 M1 X k) 2 s2 8) (scan5 (zTrip2 M1 X k) 3 s3 8) := by
  chain_rfl

/-- The row block's chunk number `n`: its values and its columns. -/
def zOf (x : Vec F S8x32768 .f32) (n : ℕ) : P2 F :=
  (fun j => x (ValueIdx.ix2 (j 0) ⟨(128 * n + (j 1).val) % 32768, Nat.mod_lt _ (by decide)⟩),
   addi laneV (broadcast S8x128 (BitVec.ofNat 32 (128 * n))))

theorem off1_eq : ∀ (k : Fin k0_t1_loop.trips) (u : Fin 64), k0_off1 k (BitVec.ofNat 32 (128 * u.val)) = ![0, 128 * (64 * k.val + u.val)] := by
  decide +kernel
theorem col1_eq : ∀ (k : Fin k0_t1_loop.trips) (u : Fin 64), Scalar.addi (Scalar.muli (Scf.iv 0#32 1#32 k) 8192#32) (BitVec.ofNat 32 (128 * u.val))
    = BitVec.ofNat 32 (128 * (64 * k.val + u.val)) := by
  decide +kernel
theorem off2_eq : ∀ (k : Fin k0_t2_loop.trips) (u : Fin 32), k0_off2 k (BitVec.ofNat 32 (128 * u.val)) = ![0, 128 * (32 * k.val + u.val)] := by
  decide +kernel
theorem col2_eq : ∀ (k : Fin k0_t2_loop.trips) (u : Fin 32), Scalar.addi (Scalar.muli (Scf.iv 0#32 1#32 k) 4096#32) (BitVec.ofNat 32 (128 * u.val))
    = BitVec.ofNat 32 (128 * (32 * k.val + u.val)) := by
  decide +kernel

/-- A load of 128 columns from column `128 n` on, where they lie inside the block. -/
theorem load_eq (M1 : Memref sig .tc .vmem S8x32768 .f32) (h1 : M1.IsWhole) (x : Vec F S8x32768 .f32) (off : Fin 2 → ℕ)
    (inb : ∀ a, off a + S8x128.size a ≤ S8x32768.size a) (n : ℕ) (hn : n < 256) (hoff : off = ![0, 128 * n]) :
    M1.view.readAt (Elt F) (Rect.unit (s := S8x32768) off S8x128.size inb).toLoadRect (h1.unread x) = (zOf x n).1 := by
  subst hoff
  funext j
  rw [h1.readAt_unread]
  refine congrArg x ?_
  funext a
  have hj : (j 1).val < 128 := (j 1).isLt
  match a with
  | ⟨0, _⟩ => exact Fin.ext (by show 0 + 1 * (j 0).val = (j 0).val; omega)
  | ⟨1, _⟩ => exact Fin.ext (by show 128 * n + 1 * (j 1).val = (128 * n + (j 1).val) % 32768; omega)

theorem zTrip1_eq (M1 : Memref sig .tc .vmem S8x32768 .f32) (h1 : M1.IsWhole) (x : Vec F S8x32768 .f32) (k : Fin k0_t1_loop.trips) (u : ℕ) (hu : u < 64) :
    zTrip1 M1 (h1.unread x) k u = zOf x (64 * k.val + u) := by
  have hk : k.val < 4 := k.isLt
  have e : u % 64 = u := Nat.mod_eq_of_lt hu
  refine Prod.ext (load_eq M1 h1 x _ _ _ (by omega) ?_) ?_
  · have := off1_eq k ⟨u % 64, Nat.mod_lt _ (by decide)⟩
    simpa only [e] using this
  · have := col1_eq k ⟨u % 64, Nat.mod_lt _ (by decide)⟩
    simp only [e] at this
    simp only [zTrip1, zOf, e, this]

theorem zTrip2_eq (M1 : Memref sig .tc .vmem S8x32768 .f32) (h1 : M1.IsWhole) (x : Vec F S8x32768 .f32) (k : Fin k0_t2_loop.trips) (u : ℕ) (hu : u < 32) :
    zTrip2 M1 (h1.unread x) k u = zOf x (32 * k.val + u) := by
  have hk : k.val < 8 := k.isLt
  have e : u % 32 = u := Nat.mod_eq_of_lt hu
  refine Prod.ext (load_eq M1 h1 x _ _ _ (by omega) ?_) ?_
  · have := off2_eq k ⟨u % 32, Nat.mod_lt _ (by decide)⟩
    simpa only [e] using this
  · have := col2_eq k ⟨u % 32, Nat.mod_lt _ (by decide)⟩
    simp only [e] at this
    simp only [zTrip2, zOf, e, this]

theorem scan3_add (z z' : ℕ → P2 F) (s : ℕ) (t : L3 F) (n : ℕ) : ∀ (q : ℕ), (∀ u, u < q → z' (4 * u + s) = z (4 * (n + u) + s)) →
    scan3 z' s (scan3 z s t n) q = scan3 z s t (n + q)
  | 0, _ => rfl
  | q + 1, h => by
    show ins3 (scan3 z' s (scan3 z s t n) q) _ = ins3 (scan3 z s t (n + q)) _
    rw [scan3_add z z' s t n q fun u hu => h u (by omega), h q (by omega)]; rfl
theorem scan5_add (z z' : ℕ → P2 F) (s : ℕ) (t : L5 F) (n : ℕ) : ∀ (q : ℕ), (∀ u, u < q → z' (4 * u + s) = z (4 * (n + u) + s)) →
    scan5 z' s (scan5 z s t n) q = scan5 z s t (n + q)
  | 0, _ => rfl
  | q + 1, h => by
    show ins5 (scan5 z' s (scan5 z s t n) q) _ = ins5 (scan5 z s t (n + q)) _
    rw [scan5_add z z' s t n q fun u hu => h u (by omega), h q (by omega)]; rfl

/-- Before trip `n` of the first loop the four sets hold the chunks of the trips before it. -/
theorem st1_eq (c : Dev nD) (i : grid0.Coords) (M1 : Memref sig .tc .vmem S8x32768 .f32) (h1 : M1.IsWhole)
    (M2 : Memref sig .tc .vmem S8x128 .i32) (h2 : M2.IsWhole) (x : Vec F S8x32768 .f32) : ∀ n : ℕ, n ≤ 4 →
    st_k0_t1 (F := F) 𝒱₀ c none i M1 h1 M2 h2 laneV (h1.unread x) (tup3 zero3 zero3 zero3 zero3) n
      = tup3 (scan3 (zOf x) 0 zero3 (16 * n)) (scan3 (zOf x) 1 zero3 (16 * n)) (scan3 (zOf x) 2 zero3 (16 * n)) (scan3 (zOf x) 3 zero3 (16 * n))
  | 0, _ => rfl
  | n + 1, hn => by
    have hs := st_k0_t1_succ (F := F) 𝒱₀ c none i M1 h1 M2 h2 laneV (h1.unread x) (tup3 zero3 zero3 zero3 zero3) (⟨n, by show n < 4; omega⟩ : Fin k0_t1_loop.trips)
    rw [show n + 1 = (⟨n, by show n < 4; omega⟩ : Fin k0_t1_loop.trips).val + 1 from rfl, hs, st1_eq c i M1 h1 M2 h2 x n (by omega), trip1_eq]
    have key : ∀ s, s < 4 → scan3 (zTrip1 M1 (h1.unread x) ⟨n, by show n < 4; omega⟩) s (scan3 (zOf x) s zero3 (16 * n)) 16 = scan3 (zOf x) s zero3 (16 * (n + 1)) := fun s hs => by
      rw [show 16 * (n + 1) = 16 * n + 16 by omega]
      refine scan3_add _ _ _ _ _ _ fun u hu => ?_
      rw [zTrip1_eq _ _ _ _ _ (by omega)]
      exact congrArg _ (by show 64 * n + (4 * u + s) = _; omega)
    rw [key 0 (by omega), key 1 (by omega), key 2 (by omega), key 3 (by omega)]

/-- Before trip `n` of the second loop the four sets hold the chunks of the trips before it. -/
theorem st2_eq (c : Dev nD) (i : grid0.Coords) (M1 : Memref sig .tc .vmem S8x32768 .f32) (h1 : M1.IsWhole)
    (M2 : Memref sig .tc .vmem S8x128 .i32) (h2 : M2.IsWhole) (x : Vec F S8x32768 .f32) : ∀ n : ℕ, n ≤ 8 →
    st_k0_t2 (F := F) 𝒱₀ c none i M1 h1 M2 h2 laneV negV bigV (h1.unread x) (tup5 zero5 zero5 zero5 zero5) n
      = tup5 (scan5 (zOf x) 0 zero5 (8 * n)) (scan5 (zOf x) 1 zero5 (8 * n)) (scan5 (zOf x) 2 zero5 (8 * n)) (scan5 (zOf x) 3 zero5 (8 * n))
  | 0, _ => rfl
  | n + 1, hn => by
    have hs := st_k0_t2_succ (F := F) 𝒱₀ c none i M1 h1 M2 h2 laneV negV bigV (h1.unread x) (tup5 zero5 zero5 zero5 zero5) (⟨n, by show n < 8; omega⟩ : Fin k0_t2_loop.trips)
    rw [show n + 1 = (⟨n, by show n < 8; omega⟩ : Fin k0_t2_loop.trips).val + 1 from rfl, hs, st2_eq c i M1 h1 M2 h2 x n (by omega), trip2_eq]
    have key : ∀ s, s < 4 → scan5 (zTrip2 M1 (h1.unread x) ⟨n, by show n < 8; omega⟩) s (scan5 (zOf x) s zero5 (8 * n)) 8 = scan5 (zOf x) s zero5 (8 * (n + 1)) := fun s hs => by
      rw [show 8 * (n + 1) = 8 * n + 8 by omega]
      refine scan5_add _ _ _ _ _ _ fun u hu => ?_
      rw [zTrip2_eq _ _ _ _ _ (by omega)]
      exact congrArg _ (by show 32 * n + (4 * u + s) = _; omega)
    rw [key 0 (by omega), key 1 (by omega), key 2 (by omega), key 3 (by omega)]

end Cert.KernelIdeal.Hand
end
-- ==== Proof.TopsBody.lean ====
module

public import proofs.«01_k».proof.Proof.Gen.KernelIdeal.Skeleton
public import proofs.«01_k».proof.Proof.TopsLoops
public import proofs.«01_k».proof.Proof.Gen.KernelIdeal.Launch
public import Idealize.ShloMosaic.Lib.Pipeline.Frame
public import Idealize.ShloMosaic.Lib.VecWindow

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three-level output read off the loop's carried values; the word that says whether it may be used. -/
def un3 (T : T3 F) : L3 F :=
  all3 ((T.1, T.2.2.2.2.1), (T.2.2.2.2.2.2.2.2.1, T.2.2.2.2.2.2.2.2.2.2.2.2.1), T.2.2.2.2.2.2.2.2.2.2.2.2.2.2.2.2.1)
    ((T.2.1, T.2.2.2.2.2.1), (T.2.2.2.2.2.2.2.2.2.1, T.2.2.2.2.2.2.2.2.2.2.2.2.2.1), T.2.2.2.2.2.2.2.2.2.2.2.2.2.2.2.2.2.1)
    ((T.2.2.1, T.2.2.2.2.2.2.1), (T.2.2.2.2.2.2.2.2.2.2.1, T.2.2.2.2.2.2.2.2.2.2.2.2.2.2.1), T.2.2.2.2.2.2.2.2.2.2.2.2.2.2.2.2.2.2.1)
    ((T.2.2.2.1, T.2.2.2.2.2.2.2.1), (T.2.2.2.2.2.2.2.2.2.2.2.1, T.2.2.2.2.2.2.2.2.2.2.2.2.2.2.2.1), T.2.2.2.2.2.2.2.2.2.2.2.2.2.2.2.2.2.2.2)

/-- The last twenty entries of the five-level tuple. -/
def un5 (T : T5 F) : L5 F := match T with
  | (p0, p1, p2, p3, p4, p5, p6, p7, p8, p9, p10, p11, p12, p13, p14, p15, p16, p17, p18, p19,
     q0, q1, q2, q3, q4, q5, q6, q7, q8, q9, q10, q11, q12, q13, q14, q15, q16, q17, q18, q19) =>
    all5 ((p0, q0), (p1, q1), (p2, q2), (p3, q3), (p4, q4)) ((p5, q5), (p6, q6), (p7, q7), (p8, q8), (p9, q9))
      ((p10, q10), (p11, q11), (p12, q12), (p13, q13), (p14, q14)) ((p15, q15), (p16, q16), (p17, q17), (p18, q18), (p19, q19))

theorem un3_st (c : Dev nD) (i : grid0.Coords) (M1 : Memref sig .tc .vmem S8x32768 .f32) (h1 : M1.IsWhole)
    (M2 : Memref sig .tc .vmem S8x128 .i32) (h2 : M2.IsWhole) (x : Vec F S8x32768 .f32) :
    un3 (st_k0_t1 (F := F) 𝒱₀ c none i M1 h1 M2 h2 laneV (h1.unread x) (tup3 zero3 zero3 zero3 zero3) 4) = scanned3 (zOf x) := by
  rw [st1_eq c i M1 h1 M2 h2 x 4 (le_refl _)]
  rfl

theorem un5_st (c : Dev nD) (i : grid0.Coords) (M1 : Memref sig .tc .vmem S8x32768 .f32) (h1 : M1.IsWhole)
    (M2 : Memref sig .tc .vmem S8x128 .i32) (h2 : M2.IsWhole) (x : Vec F S8x32768 .f32) :
    un5 (st_k0_t2 (F := F) 𝒱₀ c none i M1 h1 M2 h2 laneV negV bigV (h1.unread x) (tup5 zero5 zero5 zero5 zero5) 8) = scanned5 (zOf x) := by
  rw [st2_eq c i M1 h1 M2 h2 x 8 (le_refl _)]
  rfl

/-- The second loop and what follows it: the block they store is the one read off five levels. -/
theorem part49Run (c : Dev nD) (i : grid0.Coords) (M1 : Memref sig .tc .vmem S8x32768 .f32) (h1 : M1.IsWhole)
    (M2 : Memref sig .tc .vmem S8x128 .i32) (h2 : M2.IsWhole)
    (x1 : Vec F S8x32768 .f32) (E : Set ℕ) (K : _ → sProp 𝕄) :
        iprop((M1.view.loc (c : Thread nD τ) ↦[M1.view.set]{fullShare} h1.unread x1)
            ∗ (∀ r, iprop(⌜k0_pay3 r.1 r.2.1 r.2.2 = tops5 (scanned5 (zOf x1))⌝
                ∗ M1.view.loc (c : Thread nD τ) ↦[M1.view.set]{fullShare} h1.unread x1) -∗ K r))
          ⊢ wp frame (wpE (defs₀ (F := F)) 𝒱₀ c none) E (k0_part49 i M1 h1 M2 h2 laneV k0_pay1417 k0_pay1418) K := by
    iintro ⟨H1, Hk⟩
    sl_unfold [k0_part49]
    sl_exec!
    sl_step
    iapply Hk
    isplitr; swap; · iexact H1
    ipureintro
    refine Eq.trans ?_ (congrArg tops5 (un5_st c i M1 h1 M2 h2 x1))
    chain_rfl

theorem word_eq (w : BitVec 32) (h : w ≠ 0#32) : Scalar.cmpi .ne (Scalar.extui (Scalar.cmpi .eq w 0#32) : BitVec 32) 0#32 = 0#1 := by
  have : Scalar.cmpi .eq w 0#32 = 0#1 := by
    show BitVec.ofBool (w == 0#32) = 0#1
    rw [beq_eq_false_iff_ne.mpr h]; rfl
  rw [this]; decide
theorem word_ne (w : BitVec 32) (h : w ≠ 0#32) : Scalar.cmpi .ne (Scalar.extui (Scalar.cmpi .ne w 0#32) : BitVec 32) 0#32 = 1#1 := by
  have : Scalar.cmpi .ne w 0#32 = 1#1 := by
    show BitVec.ofBool (!(w == 0#32)) = 1#1
    rw [beq_eq_false_iff_ne.mpr h]; rfl
  rw [this]; decide

/-- The kernel's body on one row block: the output block is the model's. -/
theorem topsRun (c : Dev nD) (i : grid0.Coords) (M1 : Memref sig .tc .vmem S8x32768 .f32) (h1 : M1.IsWhole)
    (M2 : Memref sig .tc .vmem S8x128 .i32) (h2 : M2.IsWhole)
    (x1 : Vec F S8x32768 .f32) (E : Set ℕ) (K : PUnit → sProp 𝕄) :
        iprop(owns (c : Thread nD τ) M1 fullShare x1 ∗ (∃ d, owns (c : Thread nD τ) M2 fullShare d)
            ∗ (iprop(owns (c : Thread nD τ) M1 fullShare x1 ∗ owns (c : Thread nD τ) M2 fullShare (topsOut (zOf x1))) -∗ K ⟨⟩))
          ⊢ wp frame (wpE (defs₀ (F := F)) 𝒱₀ c none) E (cc0__tops_kernel i M1 h1 M2 h2) K := by
    unfold owns
    iintro ⟨⟨%f1, %hf1, H1⟩, ⟨%d2, %f2, -, H2⟩, Hk⟩
    obtain rfl := h1.eq_unread hf1
    sl_unfold [cc0__tops_kernel]
    sl_exec!
    have hA : topsRun.sl.v178 c i M1 h1 M2 h2 x1 = Scalar.cmpi .ne (Scalar.extui (Scalar.cmpi .eq (badWord (scanned3 (zOf x1))) 0#32) : BitVec 32) 0#32 := by
      rw [← un3_st c i M1 h1 M2 h2 x1]; chain_rfl
    have hB : topsRun.sl.v181 c i M1 h1 M2 h2 x1 = Scalar.cmpi .ne (Scalar.extui (Scalar.cmpi .ne (badWord (scanned3 (zOf x1))) 0#32) : BitVec 32) 0#32 := by
      rw [← un3_st c i M1 h1 M2 h2 x1]; chain_rfl
    have hY : k0_pay1 topsRun.sl.v0 (topsRun.sl.r_20 c i M1 h1 M2 h2 x1) (topsRun.sl.r_21 c i M1 h1 M2 h2 x1)
              (topsRun.sl.r_22 c i M1 h1 M2 h2 x1) (topsRun.sl.r_23 c i M1 h1 M2 h2 x1) = tops3 (scanned3 (zOf x1)) := by
      rw [← un3_st c i M1 h1 M2 h2 x1]; chain_rfl
    generalize topsRun.sl.v178 c i M1 h1 M2 h2 x1 = wa at hA ⊢
    generalize topsRun.sl.v181 c i M1 h1 M2 h2 x1 = wb at hB ⊢
    rw [hY]
    by_cases hw : badWord (scanned3 (zOf x1)) = 0#32
    · rw [hw] at hA hB
      obtain rfl : wa = 1#1 := hA
      obtain rfl : wb = 0#1 := hB
      rw [dif_pos rfl, if_neg (by decide)]
      sl_step
      iapply Hk
      isplitl [H1]
      · iexists _; isplitr; · ipureintro; exact h1.read_unread _
        iexact H1
      iexists _; isplitr; swap; · iexact H2
      ipureintro
      rw [View.read_writes_full]
      exact (pick_zero _ _ _ hw).symm
    · rw [word_eq _ hw] at hA
      rw [word_ne _ hw] at hB
      obtain rfl := hA
      obtain rfl := hB
      rw [dif_neg (by decide), if_pos rfl, wp_bind]
      iapply (part49Run c i M1 h1 M2 h2 x1 E)
      isplitl [H1]; · iexact H1
      iintro %r ⟨%hr, H1⟩
      obtain ⟨ra, rb, rc⟩ := r
      sl_exec!
      sl_step
      iapply Hk
      isplitl [H1]
      · iexists _; isplitr; · ipureintro; exact h1.read_unread _
        iexact H1
      iexists _; isplitr; swap; · iexact H2
      ipureintro
      refine (View.read_writes_full (Val := Elt F) M2.view _ inb_S8x128_S8x128_0_0 (k0_pay3 ra rb rc) []).trans ?_
      exact hr.trans (pick_one _ _ _ hw).symm

end Cert.KernelIdeal.Hand
end
-- ==== Proof.ScatterBody.lean ====
module

public import proofs.«01_k».proof.Proof.TopsLoops
public import proofs.«01_k».proof.Proof.Gen.KernelIdeal.Launch
public import Idealize.ShloMosaic.Lib.Pipeline.Frame
public import Idealize.ShloMosaic.Lib.VecWindow
public import Idealize.ShloMosaic.Lib.WholeRead
public import Idealize.ShloMosaic.Lib.WritesUnit

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A multiple of 128 clamped between 0 and 32512 stays a multiple of 128 in that range. -/
theorem clamp_ok (x : BitVec 32) : 128 ∣ (Scalar.minsi 32512#32 (Scalar.maxsi 0#32 (Scalar.muli x 128#32))).toNat
    ∧ (Scalar.minsi 32512#32 (Scalar.maxsi 0#32 (Scalar.muli x 128#32))).toNat ≤ 32512 := by
  have h : 128 ∣ (Scalar.muli x 128#32).toNat := by
    show 128 ∣ (x * 128#32).toNat
    rw [BitVec.toNat_mul, show (128#32).toNat = 128 from rfl, show 2 ^ 32 = 33554432 * 128 from rfl, Nat.mul_mod_mul_right]
    exact Dvd.intro_left _ rfl
  generalize Scalar.muli x 128#32 = y at h
  by_cases h0 : y.slt 0#32 = true
  · have e : Scalar.maxsi 0#32 y = 0#32 := if_pos h0
    rw [e]; decide
  · have e : Scalar.maxsi 0#32 y = y := if_neg h0
    rw [e]
    have hy : y.toNat < 2 ^ 31 := by
      rw [BitVec.slt_eq_decide, decide_eq_true_eq, BitVec.toInt_eq_toNat_cond] at h0
      have : (0#32).toInt = 0 := rfl
      have := y.isLt
      split at h0 <;> omega
    have hi : y.toInt = y.toNat := BitVec.toInt_eq_toNat_of_lt (by omega)
    by_cases h2 : (32512#32).slt y = true
    · have e : Scalar.minsi 32512#32 y = 32512#32 := if_pos h2
      rw [e]; decide
    · have e : Scalar.minsi 32512#32 y = y := if_neg h2
      rw [e]
      refine ⟨h, ?_⟩
      rw [BitVec.slt_eq_decide, decide_eq_true_eq, hi] at h2
      have : (32512#32).toInt = 32512 := rfl
      omega

/-- The side condition of every strip: a row below 16, and 256 columns from there. -/
theorem strip_ok (row : ℕ) (hr : row < 16) (w : BitVec 32) : (128 ∣ (k1_mult1 w).toNat) ∧
    (∀ a, (![row, (k1_mult1 w).toNat] : Fin 2 → ℕ) a + S1x256.size a ≤ S16x32768.size a) := by
  obtain ⟨h1, h2⟩ : 128 ∣ (k1_mult1 w).toNat ∧ (k1_mult1 w).toNat ≤ 32512 := clamp_ok _
  refine ⟨h1, fun a => ?_⟩
  match a with
  | ⟨0, _⟩ => show row + 1 ≤ 16; omega
  | ⟨1, _⟩ => show (k1_mult1 w).toNat + 256 ≤ 32768; omega

/-- Where the `n`-th centre of block `i` lies in the array of centres: row `16 i + n / 5`, entry `n % 5`. -/
def wordOff (i : grid1.Coords) (n : ℕ) : Fin 2 → ℕ :=
  ![(Scalar.indexCast (Scalar.addi (Scalar.muli (BitVec.ofNat 32 (i 0).val) 16#32) (BitVec.ofNat 32 (n / 5 % 16)))).toNat, n % 5]

theorem wordOff_zero (i : grid1.Coords) (n : ℕ) : wordOff i n 0 = 16 * (i 0).val + n / 5 % 16 := by
  show ((BitVec.ofNat 32 (i 0).val * 16#32 + BitVec.ofNat 32 (n / 5 % 16)).toNat) = _
  have hi : (i 0).val < 4 := (i 0).isLt
  have hn : n / 5 % 16 < 16 := Nat.mod_lt _ (by decide)
  rw [BitVec.toNat_add, BitVec.toNat_mul, BitVec.toNat_ofNat, BitVec.toNat_ofNat, BitVec.toNat_ofNat]
  omega

theorem wordOff_inb (i : grid1.Coords) (n : ℕ) (a : Fin 2) : wordOff i n a + S1x1.size a ≤ S64x128.size a := by
  have hi : (i 0).val < 4 := (i 0).isLt
  match a with
  | ⟨0, _⟩ => show wordOff i n 0 + 1 ≤ 64; rw [wordOff_zero]; omega
  | ⟨1, _⟩ => show n % 5 + 1 ≤ 128; omega

/-- The `n`-th centre of block `i`, read from the array of centres. -/
def wordAt (x1 : Vec F S64x128 .i32) (i : grid1.Coords) (n : ℕ) : BitVec 32 :=
  x1 ((Rect.unit (s := S64x128) (wordOff i n) S1x1.size (wordOff_inb i n)).toLoadRect.idx (Shape.Idx.first (s := S1x1) (by decide)))

/-- The strip of the `n`-th centre `w`: its row, and 256 columns from the clamped multiple of 128. -/
def stripOff (n : ℕ) (w : BitVec 32) : Fin 2 → ℕ := ![n / 5 % 16, (k1_mult1 w).toNat]

theorem stripOff_inb (n : ℕ) (w : BitVec 32) (a : Fin 2) : stripOff n w a + S1x256.size a ≤ S16x32768.size a :=
  (strip_ok (n / 5 % 16) (Nat.mod_lt _ (by decide)) w).2 a

/-- The strip's rectangle. -/
abbrev stripRect (n : ℕ) (w : BitVec 32) : Rect S16x32768 := Rect.unit (s := S16x32768) (stripOff n w) S1x256.size (stripOff_inb n w)

/-- What one centre makes of its strip: the Gaussian around it added. -/
def bump (x2 : F .f32) (w : BitVec 32) (cur : Vec F S1x256 .f32) : Vec F S1x256 .f32 :=
  k1_pay7 (k1_pay3 x2) (k1_pay4 x2) w (k1_pay6 w) cur

/-- The block's writes after `n` centres, the newest first: the zeros, then one strip for each centre. -/
def pieces {v : View sig .tc .vmem S16x32768 .f32} (f : v.ty.Contents (Elt F)) (x2 : F .f32) (w : ℕ → BitVec 32) (n : ℕ) :
    List (View.Piece (Elt F) S16x32768 .f32) :=
  Nat.rec [⟨Rect.unit (s := S16x32768) ![0, 0] S16x32768.size (by decide), k1_pay2⟩]
    (fun n L => ⟨stripRect n (w n), bump x2 (w n) (View.readAt (Elt F) v (stripRect n (w n)).toLoadRect (v.writes (Elt F) f L))⟩ :: L) n

/-- The block after `n` centres. -/
def scattered (x2 : F .f32) (w : ℕ → BitVec 32) (n : ℕ) : Vec F S16x32768 .f32 :=
  Nat.rec k1_pay2
    (fun n cur y => if h : ∀ a, stripOff n (w n) a ≤ (y a).val ∧ (y a).val < stripOff n (w n) a + S1x256.size a then
      bump x2 (w n) (View.ld cur (stripRect n (w n))) (Rect.unitLocal (s := S16x32768) (off := stripOff n (w n)) (size := S1x256.size) y h)
      else cur y) n

theorem read_pieces (v : View sig .tc .vmem S16x32768 .f32) (f : v.ty.Contents (Elt F)) (x2 : F .f32) (w : ℕ → BitVec 32) (n : ℕ) :
    v.read (Elt F) (v.writes (Elt F) f (pieces f x2 w n)) = scattered x2 w n := by
  induction n with
  | zero =>
    funext y
    exact View.read_writes_cons_unit_of_mem v f _ k1_pay2 [] y y rfl (fun a => by
      match a with
      | ⟨0, _⟩ => exact (Nat.zero_add _).symm
      | ⟨1, _⟩ => exact (Nat.zero_add _).symm)
  | succ n ih =>
    funext y
    refine (View.read_writes_cons_unit v f (stripOff_inb n (w n)) _ (pieces f x2 w n) y rfl).trans ?_
    show (if h : _ then bump x2 (w n) (View.ld (v.read (Elt F) (v.writes (Elt F) f (pieces f x2 w n))) (stripRect n (w n))) _ else v.read (Elt F) (v.writes (Elt F) f (pieces f x2 w n)) y) = _
    rw [ih]
    rfl

set_option maxHeartbeats 4000000 in
theorem scatterRun (c : Dev nD) (i : grid1.Coords) (M1 : Memref sig .tc .smem S64x128 .i32) (h1 : M1.IsWhole)
    (M2 : Memref sig .tc .smem S1 .f32) (h2 : M2.IsWhole) (M3 : Memref sig .tc .vmem S16x32768 .f32) (h3 : M3.IsWhole)
    (x1 : Vec F S64x128 .i32) (x2 : Vec F S1 .f32) (E : Set ℕ) (K : PUnit → sProp 𝕄) :
        iprop(owns (c : Thread nD τ) M1 fullShare x1 ∗ owns (c : Thread nD τ) M2 fullShare x2 ∗ (∃ d, owns (c : Thread nD τ) M3 fullShare d)
            ∗ (iprop(owns (c : Thread nD τ) M1 fullShare x1 ∗ owns (c : Thread nD τ) M2 fullShare x2
              ∗ owns (c : Thread nD τ) M3 fullShare (scattered (x2 (Shape.Idx.first (by decide))) (wordAt x1 i) 80)) -∗ K ⟨⟩))
          ⊢ wp frame (wpE (defs₀ (F := F)) 𝒱₀ c none) E (cc1__scatter_kernel i M1 h1 M2 h2 M3 h3) K := by
    unfold owns
    iintro ⟨⟨%f1, %hf1, H1⟩, ⟨%f2, %hf2, H2⟩, ⟨%d3, %f3, -, H3⟩, Hk⟩
    obtain rfl := h1.eq_unread hf1
    obtain rfl := h2.eq_unread hf2
    sl_unfold [cc1__scatter_kernel]
    sl_exec! (disch := exact strip_ok _ (by decide) _)
    sl_step
    iapply Hk
    isplitl [H1]
    · iexists _; isplitr; · ipureintro; exact h1.read_unread x1
      iexact H1
    isplitl [H2]
    · iexists _; isplitr; · ipureintro; exact h2.read_unread x2
      iexact H2
    iexists _; isplitr; swap; · iexact H3
    ipureintro
    have hw : (fun n => View.readAt (Elt F) M1.view (Rect.unit (s := S64x128) (wordOff i n) S1x1.size (wordOff_inb i n)).toLoadRect (h1.unread x1) (Shape.Idx.first (s := S1x1) (by decide))) = wordAt x1 i :=
      funext fun n => h1.readAt_unread x1 _ _
    have hx : scatterRun.sl.r c M2 h2 x2 = x2 (Shape.Idx.first (by decide)) := by
      refine (h2.readAt_unread x2 (Rect.unit (s := S1) ![0] S1.size (by decide)).toLoadRect (Shape.Idx.first (s := S1) (by decide))).trans ?_
      exact congrArg x2 (funext fun a => Fin.ext (by have := ((Rect.unit (s := S1) ![0] S1.size (by decide)).toLoadRect.idx (Shape.Idx.first (s := S1) (by decide)) a).isLt; have := (Shape.Idx.first (s := S1) (by decide) a).isLt; match a with | ⟨0, _⟩ => exact (Nat.lt_one_iff.mp (by assumption)).trans (Nat.lt_one_iff.mp (by assumption)).symm))
    refine Eq.trans (congrArg (M3.view.read (Elt F)) (?_ : _ = M3.view.writes (Elt F) M3.view.junk
        (pieces (v := M3.view) M3.view.junk (scatterRun.sl.r c M2 h2 x2) (fun n => View.readAt (Elt F) M1.view (Rect.unit (s := S64x128) (wordOff i n) S1x1.size (wordOff_inb i n)).toLoadRect (h1.unread x1) (Shape.Idx.first (s := S1x1) (by decide))) 80))) ?_
    · chain_rfl
    · rw [hw, hx]
      exact read_pieces M3.view M3.view.junk _ _ 80
end Cert.KernelIdeal.Hand
-- ==== Proof.Run.lean ====
/-
  The program's run: the two regions' proof data at what their bodies compute, the two body obligations, the regions as
  segments over one set of held buffers, and the launch. The run's end names the result array, beside the unchanged
  arguments and the semaphore counters at zero.
-/
module

public import proofs.«01_k».proof.Proof.TopsBody
public import proofs.«01_k».proof.Proof.ScatterBody
public import proofs.«01_k».proof.Proof.Gen.KernelIdeal.Launch
public import proofs.«01_k».proof.Proof.Gen.KernelIdeal.Points
public import Idealize.ShloMosaic.Lib.Pipeline.Frame
public import Idealize.ShloMosaic.Lib.Pipeline.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg)

variable {F : FTy → Type} [FloatOps F]

local notation "𝕄" => MT nD τ sig Unit (Elt F) ℕ (UR sig nD τ) ℕ

variable (m : (ℓ : Loc nD τ sig) → Buf (Elt F) ℓ)

/-! ## What the two bodies leave at each grid point -/

/-- The block of eight rows of the first argument at point `t`. -/
def rows (c : Dev nD) (t : Fin cfg0.N) : Vec F S8x32768 .f32 :=
  ((cfg0.win 0).blk t).view.read (Elt F) (m ((c : Thread nD τ).loc main_arg0))

/-- The first region's data: the rows in, their five best columns out. -/
def dats0 (c : Dev nD) : Dat τ (Elt F) Unit ℕ (UR sig nD τ) ℕ cfg0 c where
  A w := m ((c : Thread nD τ).loc (Pipeline.arrRef spec0 w))
  after w t := match w with
    | ⟨0, _⟩ => rows m c t
    | ⟨1, _⟩ => topsOut (zOf (rows m c t))
  Φ _ := Pipeline.scopedRest spec0 c
  q _ := fullShare
  owed _ := 0

/-- The launch contents of the buffers. -/
abbrev U0 (c : Dev nD) : Valuation τ sig (Elt F) := fun b => m (c, b)
/-- The buffers between the two regions. -/
def U1 (c : Dev nD) : Valuation τ sig (Elt F) := Pipeline.afterRegion (dats0 m c) (U0 m c)

/-- The centres and the bandwidth as the second region's body reads them at point `t`. -/
def centres (c : Dev nD) (t : Fin cfg1.N) : Vec F S64x128 .i32 :=
  ((cfg1.win 0).blk t).view.read (Elt F) (U1 m c (Proc.devRef .tc main_call0_v0))
@[inherit_doc centres] def width (c : Dev nD) (t : Fin cfg1.N) : Vec F S1 .f32 :=
  ((cfg1.win 1).blk t).view.read (Elt F) (U1 m c (Proc.devRef .tc main_arg1))

/-- The second region's data: the centres and the bandwidth in, sixteen rows of the density out. -/
def dats1 (c : Dev nD) : Dat τ (Elt F) Unit ℕ (UR sig nD τ) ℕ cfg1 c where
  A w := U1 m c (Proc.devRef .tc (Pipeline.arrRef spec1 w))
  after w t := match w with
    | ⟨0, _⟩ => centres m c t
    | ⟨1, _⟩ => width m c t
    | ⟨2, _⟩ => scattered (width m c t (Shape.Idx.first (by decide))) (wordAt (centres m c t) (grid1.coords t)) 80
  Φ _ := Pipeline.scopedRest spec1 c
  q _ := fullShare
  owed _ := 0

/-- The buffers at the end. -/
def U2 (c : Dev nD) : Valuation τ sig (Elt F) := Pipeline.afterRegion (dats1 m c) (U1 m c)

/-- Both regions' data. -/
def dats (p : Fin 2) (c : Dev nD) : Dat τ (Elt F) Unit ℕ (UR sig nD τ) ℕ (cfgs p) c := match p with
  | 0 => dats0 m c
  | 1 => dats1 m c

/-! ## The body obligations -/

theorem after0_0 (c : Dev nD) (t : Fin cfg0.N) : (dats0 m c).after 0 t = rows m c t := by dsimp only [dats0]
theorem after0_1 (c : Dev nD) (t : Fin cfg0.N) : (dats0 m c).after 1 t = topsOut (zOf (rows m c t)) := by dsimp only [dats0]
theorem after1_0 (c : Dev nD) (t : Fin cfg1.N) : (dats1 m c).after 0 t = centres m c t := by dsimp only [dats1]
theorem after1_1 (c : Dev nD) (t : Fin cfg1.N) : (dats1 m c).after 1 t = width m c t := by dsimp only [dats1]
theorem after1_2 (c : Dev nD) (t : Fin cfg1.N) : (dats1 m c).after 2 t
    = scattered (width m c t (Shape.Idx.first (by decide))) (wordAt (centres m c t) (grid1.coords t)) 80 := by dsimp only [dats1]

theorem before0_0 (c : Dev nD) (t : Fin cfg0.N) (d) : (dats0 m c).before 0 t d = rows m c t :=
  ((dats0 m c).before_in_eq_fetched 0 rfl (fun _ => rfl) (fun _ _ _ => rfl) (fun _ => rfl) t d).trans rfl
theorem before1_0 (c : Dev nD) (t : Fin cfg1.N) (d) : (dats1 m c).before 0 t d = centres m c t :=
  ((dats1 m c).before_in_eq_fetched 0 rfl (fun _ => rfl) (fun _ _ _ => rfl) (fun _ => rfl) t d).trans rfl
theorem before1_1 (c : Dev nD) (t : Fin cfg1.N) (d) : (dats1 m c).before 1 t d = width m c t :=
  ((dats1 m c).before_in_eq_fetched 1 rfl (fun _ => rfl) (fun _ _ _ => rfl) (fun _ => rfl) t d).trans rfl

theorem body0 (c : Dev nD) : BodyObligation (dats0 (F := F) m c) (defs₀ (F := F)) 𝒱₀ () Set.univ := fun t => by
  rw [bigSep_W0, bigSep_W0]
  sl_whnfR [defs₀, Defs.onTc]
  simp only [before0_0]
  rw [show (dats0 m c).Φ t.succ = (dats0 m c).Φ t.castSucc from rfl,
    show (dats0 m c).owesAt () t.succ = (dats0 m c).owesAt () t.castSucc from rfl, after0_0, after0_1]
  iintro ⟨HΦ, Ho, ⟨%d0, H0⟩, ⟨%d1, H1⟩⟩
  iapply (topsRun c _ _ _ _ _ (rows m c t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body1 (c : Dev nD) : BodyObligation (dats1 (F := F) m c) (defs₀ (F := F)) 𝒱₀ () Set.univ := fun t => by
  rw [bigSep_W1, bigSep_W1]
  sl_whnfR [defs₀, Defs.onTc]
  simp only [before1_0, before1_1]
  rw [show (dats1 m c).Φ t.succ = (dats1 m c).Φ t.castSucc from rfl,
    show (dats1 m c).owesAt () t.succ = (dats1 m c).owesAt () t.castSucc from rfl, after1_0, after1_1, after1_2]
  iintro ⟨HΦ, Ho, ⟨%d0, H0⟩, ⟨%d1, H1⟩, ⟨%d2, H2⟩⟩
  iapply (scatterRun c _ _ _ _ _ _ _ (centres m c t) (width m c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The regions -/

/-- The staging waits' one index, at the TensorCores' cells. -/
def Lv : GSem nD τ sig → Finset Unit := fun g => if g.1.2 = .tc then {()} else ∅
abbrev lv : GSem nD τ sig → Unit → ℕ := fun _ _ => 0
/-- No pallas_call has a prefetched table. -/
abbrev adm : (p : Fin 2) → (pcfgs (F := F) p).Adm := fun p => (cfgs p).toPCfg_adm

theorem cut (p : Fin 2) : Pipeline.LevelCut (pcfgs (F := F)) adm () Lv lv p (fun _ => 0) (fun _ => 0) where
  hι c w s := by
    show () ∈ (if (Proc.tc : Proc τ) = .tc then {()} else ∅ : Finset Unit)
    rw [if_pos rfl]; exact Finset.mem_singleton_self _
  hιb _ _ _ := le_rfl
  hD _ _ _ h := absurd h (lt_irrefl _)

/-- What rides beside the buffers. -/
abbrev Es (c : Dev nD) : sProp 𝕄 := iprop((∃ W, owes (c : Thread nD τ) (0 : CellTallies nD τ sig Unit) W) ∗ emp ∗ emp)

/-- Region 0's invariant is the scoped buffers that no window stages. -/
theorem rest_in0 (c : Dev nD) : iprop(Pipeline.scopedRest (Pipeline.pin (pcfgs (F := F)) adm 0).spec c ∗ emp) ⊢ (dats m 0 c).Φ 0 :=
  show (iprop(Pipeline.scopedRest spec0 c ∗ emp) : sProp 𝕄) ⊢ Pipeline.scopedRest spec0 c from BI.sep_emp.1
theorem rest_out0 (c : Dev nD) : (dats m 0 c).Φ (Fin.last (Pipeline.pin (pcfgs (F := F)) adm 0).N) ⊢ iprop(Pipeline.scopedRest (Pipeline.pin (pcfgs (F := F)) adm 0).spec c ∗ emp) :=
  show (Pipeline.scopedRest spec0 c : sProp 𝕄) ⊢ iprop(Pipeline.scopedRest spec0 c ∗ emp) from BI.sep_emp.2
/-- Region 1's invariant is the scoped buffers that no window stages. -/
theorem rest_in1 (c : Dev nD) : iprop(Pipeline.scopedRest (Pipeline.pin (pcfgs (F := F)) adm 1).spec c ∗ emp) ⊢ (dats m 1 c).Φ 0 :=
  show (iprop(Pipeline.scopedRest spec1 c ∗ emp) : sProp 𝕄) ⊢ Pipeline.scopedRest spec1 c from BI.sep_emp.1
theorem rest_out1 (c : Dev nD) : (dats m 1 c).Φ (Fin.last (Pipeline.pin (pcfgs (F := F)) adm 1).N) ⊢ iprop(Pipeline.scopedRest (Pipeline.pin (pcfgs (F := F)) adm 1).spec c ∗ emp) :=
  show (Pipeline.scopedRest spec1 c : sProp 𝕄) ⊢ iprop(Pipeline.scopedRest spec1 c ∗ emp) from BI.sep_emp.2

set_option backward.isDefEq.respectTransparency.types false in
def reg0 : RegionSeg (pcfgs (F := F)) adm (dats m) () defs₀ 𝒱₀ Lv lv 0 :=
  Pipeline.RegionSeg.ofHeldIn (pcfgs (F := F)) adm (dats m) () defs₀ 𝒱₀ Lv lv 0 (fun _ => 0) (Pipeline.ucRefs τ sig) (fun _ => iprop(emp)) (fun _ => iprop(emp))
    launch0.toP rfl (fun c => (body0 m c).loose) (fun _ _ => rfl) (fun _ => rfl) (fun c => (dats m 0 c).share_full fun _ => rfl)
    (rest_in0 m) (rest_out0 m) (fun _ => 0) (cut 0) (fun _ => iprop(emp)) (U0 m) (fun c w => rfl)

set_option backward.isDefEq.respectTransparency.types false in
def reg1 : RegionSeg (pcfgs (F := F)) adm (dats m) () defs₀ 𝒱₀ Lv lv 1 :=
  Pipeline.RegionSeg.ofHeldIn (pcfgs (F := F)) adm (dats m) () defs₀ 𝒱₀ Lv lv 1 (fun _ => 0) (Pipeline.ucRefs τ sig) (fun _ => iprop(emp)) (fun _ => iprop(emp))
    launch1.toP rfl (fun c => (body1 m c).loose) (fun _ _ => rfl) (fun _ => rfl) (fun c => (dats m 1 c).share_full fun _ => rfl)
    (rest_in1 m) (rest_out1 m) (fun _ => 0) (cut 1) (fun _ => iprop(emp)) (U1 m) (fun c w => rfl)

/-! ## The launch -/

/-- No region writes an argument. -/
theorem U1_of (c : Dev nD) (r : Ref sig .tc) (h : ∀ w, Pipeline.arrRef spec0 w = r → (cfg0.win w).isOut = false) :
    U1 m c (Proc.devRef .tc r) = U0 m c (Proc.devRef .tc r) :=
  Pipeline.afterRegion_keeps (dats0 m c) (U0 m c) launch0.win.arr_inj (fun _ => rfl) r h
theorem U2_of (c : Dev nD) (r : Ref sig .tc) (h : ∀ w, Pipeline.arrRef spec1 w = r → (cfg1.win w).isOut = false) :
    U2 m c (Proc.devRef .tc r) = U1 m c (Proc.devRef .tc r) :=
  Pipeline.afterRegion_keeps (dats1 m c) (U1 m c) launch1.win.arr_inj (fun _ => rfl) r h
theorem U2_arg0 (c : Dev nD) : U2 m c (Proc.devRef .tc main_arg0) = m ((c : Thread nD τ).loc main_arg0) :=
  (U2_of m c main_arg0 (by decide)).trans (U1_of m c main_arg0 (by decide))
theorem U2_arg1 (c : Dev nD) : U2 m c (Proc.devRef .tc main_arg1) = m ((c : Thread nD τ).loc main_arg1) :=
  (U2_of m c main_arg1 (by decide)).trans (U1_of m c main_arg1 (by decide))

variable (ρ : Dev nD → PrngReg)

abbrev segs (c : Dev nD) : List (Seg (pcfgs (F := F)) adm (dats m) () defs₀ 𝒱₀ Lv lv) := [.region (reg0 m), .region (reg1 m)]

theorem tc_sems_scoped : ∀ sm : SemLoc sig, sm.isScoped .tc = true := by decide

/-! The chain of the two regions' entries and exits. -/

theorem arrs0 : Pipeline.arrRefs (τ := τ) (pcfgs (F := F) 0).spec ⊆ Pipeline.ucRefs τ sig := Pipeline.arrRefs_sub_ucRefs spec0 (by decide)
set_option backward.isDefEq.respectTransparency.types false in
theorem pre0 (c : Dev nD) : iprop(StableHlo.held (c : Thread nD τ) (Pipeline.ucRefs τ sig) (U0 m c) ∗ Es (F := F) c) ⊢ (reg0 m).pre c := by
  unfold reg0
  refine (Entails.of_eq ?_).trans (Pipeline.RegionSeg.ofHeldIn_pre (R := fun _ => iprop(emp)) (X := fun _ => iprop(emp)) (W := U0 m) arrs0 c)
  chain_rfl
set_option backward.isDefEq.respectTransparency.types false in
theorem post0 (c : Dev nD) : (reg0 m).post c ⊢ iprop(StableHlo.held (c : Thread nD τ) (Pipeline.ucRefs τ sig) (U1 m c) ∗ Es (F := F) c) := by
  unfold reg0
  refine (Pipeline.RegionSeg.ofHeldIn_post (R := fun _ => iprop(emp)) (Y := fun _ => iprop(emp)) (W := U0 m) arrs0 c).trans (Entails.of_eq ?_)
  chain_rfl
theorem arrs1 : Pipeline.arrRefs (τ := τ) (pcfgs (F := F) 1).spec ⊆ Pipeline.ucRefs τ sig := Pipeline.arrRefs_sub_ucRefs spec1 (by decide)
set_option backward.isDefEq.respectTransparency.types false in
theorem pre1 (c : Dev nD) : iprop(StableHlo.held (c : Thread nD τ) (Pipeline.ucRefs τ sig) (U1 m c) ∗ Es (F := F) c) ⊢ (reg1 m).pre c := by
  unfold reg1
  refine (Entails.of_eq ?_).trans (Pipeline.RegionSeg.ofHeldIn_pre (R := fun _ => iprop(emp)) (X := fun _ => iprop(emp)) (W := U1 m) arrs1 c)
  chain_rfl
set_option backward.isDefEq.respectTransparency.types false in
theorem post1 (c : Dev nD) : (reg1 m).post c ⊢ iprop(StableHlo.held (c : Thread nD τ) (Pipeline.ucRefs τ sig) (U2 m c) ∗ Es (F := F) c) := by
  unfold reg1
  refine (Pipeline.RegionSeg.ofHeldIn_post (R := fun _ => iprop(emp)) (Y := fun _ => iprop(emp)) (W := U1 m) arrs1 c).trans (Entails.of_eq ?_)
  chain_rfl

set_option backward.isDefEq.respectTransparency.types false in
/-- From any memory with zero counters the program terminates with its arguments unchanged, its result at what the two
    regions' data leave, and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0) = U2 m c (Proc.devRef .tc main_v0))
      ∧ r.2.sem = fun _ => 0) := by
  refine Pipeline.θ_run_regions_kit_dev_sems (pcfgs (F := F)) adm (dats m) () cellOf_inj emb₁ defs₀ 𝒱₀ Lv lv m ρ main (segs m)
    (fun c Q => by rw [main_segs adm (dats m) () 𝒱₀ Lv lv (reg0 m) (reg1 m) c])
    (fun c => by simp only [segs, Seg.pipes_region, Seg.pipes_nil]; decide) (fun _ => 0)
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (U0 m c) ∗ Es (F := F) c))
    (Tₙ := fun c => StableHlo.held (c : Thread nD τ) (Pipeline.ucRefs τ sig) (U2 m c))
    (hch := fun c => ⟨pre0 m c, (post0 m c).trans (pre1 m c), (post1 m c).trans (sep_mono .rfl (by iintro ⟨H, -, -⟩; iexact H))⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v0) = U2 m c (Proc.devRef .tc main_v0))
    (hfin := fun c s' => ?_) (hQ := fun _ h hz => ⟨h, funext fun g => hz g (.inr (tc_sems_scoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach Lv lv fun c => ?_
    rw [show unscopedBufs c (fun b => m ((c : Thread nD τ).loc b)) = StableHlo.held (c : Thread nD τ) (Pipeline.ucRefs τ sig) (U0 m c) from Pipeline.unscopedBufs_held c (U0 m c)]
    iintro ⟨⟨Hh, -, HO, -, -, -⟩, -⟩
    imodintro
    isplitl [Hh]; · iexact Hh
    isplitl [HO]; · iexists ∅; iexact HO
    isplitl []; · iempintro
    iempintro
  · unfold StableHlo.held
    iintro ⟨Hh, HSI⟩
    ihave Hr := (pointsTo_read_all (Pipeline.ucRefs τ sig) (fun b => ((c : Thread nD τ).1, b)) (U2 m c) s') $$ [Hh HSI]
    · isplitl [Hh] <;> iassumption
    icases Hr with ⟨%h, HSI⟩
    imodintro
    isplitr
    · ipureintro
      have hmem (r : Ref sig .tc) (hr : r.isScoped = false) := h (Proc.devRef .tc r)
        (Finset.mem_filter.mpr ⟨StableHlo.devRef_mem_tcRefs r, fun e => Bool.false_ne_true (hr.symm.trans e)⟩)
      exact ⟨(hmem main_arg0 rfl).trans (U2_arg0 m c), (hmem main_arg1 rfl).trans (U2_arg1 m c), hmem main_v0 rfl⟩
    · iexact HSI

end Cert.KernelIdeal.Hand
-- ==== Proof.Frames.lean ====
/-
  The kernel as printed is, operation for operation, the idealized program read at machine floats; so its frame is the
  idealized program's run at that reading.
-/
module

public import proofs.«01_k».proof.Defs
public import proofs.«01_k».proof.Proof.Run
public import proofs.«01_k».proof.Proof.Gen.Kernel

@[expose] public section

set_option maxRecDepth 65536

noncomputable section

namespace Cert.Proof

open Idealize.ShloMosaic Idealize.SL.Sem
open Idealize.ShloMosaic.TcCoe Idealize.ShloMosaic.Tactic

/-- The frame of the printed kernel, and the same words of the idealized program at machine floats. -/
def KernelFrame : Prop :=
  ∀ (m : (ℓ : Loc Cert.Kernel.nD Cert.Kernel.τ Cert.Kernel.sig) → Buf (Elt Bits) ℓ) (ρ : Dev Cert.Kernel.nD → PrngReg),
    θ_run Cert.Kernel.defs (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)
@[inherit_doc KernelFrame] def SameFrame : Prop :=
  ∀ (m : (ℓ : Loc Cert.KernelIdeal.nD Cert.KernelIdeal.τ Cert.KernelIdeal.sig) → Buf (Elt Bits) ℓ) (ρ : Dev Cert.KernelIdeal.nD → PrngReg),
    θ_run Cert.KernelIdeal.defs (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem same_frame : SameFrame = KernelFrame := by chain_rfl

theorem kernel_frame : KernelFrame :=
  same_frame ▸ fun m ρ => (θ_run _ _ _).mono (fun r h => ⟨fun c => ⟨(h.1 c).1, (h.1 c).2.1⟩, h.2⟩) (Cert.KernelIdeal.Hand.run m ρ)

end Cert.Proof
-- ==== Proof.Starts.lean ====
/-
  Where the strip of a centre starts, as the kernel's words and as the reference's words compute it.
-/
module

public import proofs.«01_k».proof.Proof.ScatterBody

@[expose] public section

set_option maxRecDepth 65536

noncomputable section

namespace Cert.KernelIdeal.Hand

open Cert.KernelIdeal Cert.KernelIdeal.Gen
open Idealize.ShloMosaic

/-- The first column of the strip of the centre at column `c`. -/
def startCol (c : ℕ) : ℕ := min ((c - 32) / 128) 254 * 128

/-- The strip's start as the reference's words compute it. -/
def refStart (w : BitVec 32) : BitVec 32 :=
  IntOp.muli (IntOp.minsi (IntOp.divsi .host (IntOp.maxsi (IntOp.subi w 32#32) 0#32) 128#32) 254#32) 128#32

theorem k1_start : ∀ c : Fin 32768, k1_mult1 (BitVec.ofNat 32 c.val) = BitVec.ofNat 32 (startCol c.val) := by
  decide +kernel

theorem refStart_eq : ∀ c : Fin 32768, refStart (BitVec.ofNat 32 c.val) = BitVec.ofNat 32 (startCol c.val) := by
  decide +kernel

end Cert.KernelIdeal.Hand
end
-- ==== Proof.Order.lean ====
/-
  Five best entries of a lane and five pops of a row, in any linear order: what a lane's levels say of the set of columns
  it has seen, how an insertion and a merge keep it, and that popping the best head takes the columns in order.
-/
module

public import Idealize.ShloMosaic.Lib.SortPrefix
public import Idealize.ShloMosaic.PureOps.Ideal.Laws

@[expose] public section

namespace Cert.Order

variable {K C ι : Type} [LinearOrder K] [DecidableEq C] [DecidableEq ι]

/-- A set of keys closed upwards that the bound `y0` is not in. -/
structure Above (y0 : K) (U : K → Prop) : Prop where
  up : ∀ a b, a ≤ b → U a → U b
  out : ¬ U y0

open Classical in
/-- How many columns of `S` have their key in `U`. -/
noncomputable def cnt (κ : C → K) (S : Finset C) (U : K → Prop) : ℕ := (S.filter fun c => U (κ c)).card

/-- The first `d` levels `x` hold the `d` best keys of the columns `S`, as far as keys above `y0` go. -/
def Best (κ : C → K) (y0 : K) (d : ℕ) (x : ℕ → K) (S : Finset C) : Prop :=
  ∀ U, Above y0 U → ∀ j < d, (U (x j) ↔ j < cnt κ S U)

theorem Above.max {y0 : K} {U : K → Prop} (h : Above y0 U) (a b : K) : U (max a b) ↔ U a ∨ U b := by
  rcases le_total a b with hab | hab
  · rw [max_eq_right hab]; exact ⟨Or.inr, fun h' => h'.elim (h.up _ _ hab) id⟩
  · rw [max_eq_left hab]; exact ⟨Or.inl, fun h' => h'.elim id (h.up _ _ hab)⟩

theorem Above.min {y0 : K} {U : K → Prop} (h : Above y0 U) (a b : K) : U (min a b) ↔ U a ∧ U b := by
  rcases le_total a b with hab | hab
  · rw [min_eq_left hab]; exact ⟨fun h' => ⟨h', h.up _ _ hab h'⟩, And.left⟩
  · rw [min_eq_right hab]; exact ⟨fun h' => ⟨h.up _ _ hab h', h'⟩, And.right⟩

theorem Above.ici {y0 a : K} (h : y0 < a) : Above y0 (a ≤ ·) := ⟨fun _ _ h1 h2 => le_trans h2 h1, not_le.mpr h⟩
theorem Above.ioi {y0 a : K} (h : y0 ≤ a) : Above y0 (a < ·) := ⟨fun _ _ h1 h2 => lt_of_lt_of_le h2 h1, not_lt.mpr h⟩

theorem Above.mono {y0 y1 : K} (h : y0 ≤ y1) {U : K → Prop} (hU : Above y1 U) : Above y0 U :=
  ⟨hU.up, fun h' => hU.out (hU.up _ _ h h')⟩

section cnt
variable (κ : C → K) (U : K → Prop)

theorem cnt_empty : cnt κ ∅ U = 0 := by simp [cnt]

open Classical in
theorem cnt_insert {S : Finset C} {c : C} (h : c ∉ S) : cnt κ (insert c S) U = cnt κ S U + if U (κ c) then 1 else 0 := by
  unfold cnt
  rw [Finset.filter_insert]
  split
  · rw [Finset.card_insert_of_notMem (fun h' => h (Finset.mem_of_mem_filter _ h'))]
  · rfl

theorem cnt_union {S T : Finset C} (h : Disjoint S T) : cnt κ (S ∪ T) U = cnt κ S U + cnt κ T U := by
  classical
  unfold cnt
  rw [Finset.filter_union, Finset.card_union_of_disjoint (Finset.disjoint_filter_filter h)]

open Classical in
theorem cnt_erase {S : Finset C} {c : C} (h : c ∈ S) : cnt κ S U = cnt κ (S.erase c) U + if U (κ c) then 1 else 0 := by
  conv_lhs => rw [← Finset.insert_erase h]
  exact cnt_insert κ U (Finset.notMem_erase c S)

theorem cnt_pos {S : Finset C} : 0 < cnt κ S U ↔ ∃ c ∈ S, U (κ c) := by
  classical
  unfold cnt
  rw [Finset.card_pos]
  constructor
  · rintro ⟨c, hc⟩; exact ⟨c, (Finset.mem_filter.mp hc).1, (Finset.mem_filter.mp hc).2⟩
  · rintro ⟨c, hc, hu⟩; exact ⟨c, Finset.mem_filter.mpr ⟨hc, hu⟩⟩
end cnt

/-- Five levels as a function of the level. -/
def lev (a b c d e : K) : ℕ → K
  | 0 => a | 1 => b | 2 => c | 3 => d | _ => e

theorem best_lev {κ : C → K} {y0 a b c d e : K} {S : Finset C} :
    Best κ y0 5 (lev a b c d e) S ↔ ∀ U, Above y0 U → (U a ↔ 0 < cnt κ S U) ∧ (U b ↔ 1 < cnt κ S U) ∧ (U c ↔ 2 < cnt κ S U)
      ∧ (U d ↔ 3 < cnt κ S U) ∧ (U e ↔ 4 < cnt κ S U) := by
  constructor
  · intro h U hU
    exact ⟨h U hU 0 (by omega), h U hU 1 (by omega), h U hU 2 (by omega), h U hU 3 (by omega), h U hU 4 (by omega)⟩
  · intro h U hU j hj
    obtain ⟨h0, h1, h2, h3, h4⟩ := h U hU
    match j, hj with
    | 0, _ => exact h0
    | 1, _ => exact h1
    | 2, _ => exact h2
    | 3, _ => exact h3
    | 4, _ => exact h4

/-- The empty lane. -/
theorem best_empty (κ : C → K) (y0 : K) : Best κ y0 5 (lev y0 y0 y0 y0 y0) ∅ := by
  rw [best_lev]
  intro U hU
  simp [cnt_empty, hU.out]

/-- One more column: its key goes in at its place. -/
theorem Best.insert {κ : C → K} {y0 a b c d e : K} {S : Finset C} (h : Best κ y0 5 (lev a b c d e) S) {x : C} (hx : x ∉ S) :
    Best κ y0 5 (lev (max a (κ x)) (max b (min a (κ x))) (max c (min b (κ x))) (max d (min c (κ x))) (max e (min d (κ x)))) (insert x S) := by
  classical
  rw [best_lev] at h ⊢
  intro U hU
  obtain ⟨h0, h1, h2, h3, h4⟩ := h U hU
  rw [cnt_insert κ U hx]
  simp only [hU.max, hU.min, h0, h1, h2, h3, h4]
  by_cases hz : U (κ x) <;> refine ⟨?_, ?_, ?_, ?_, ?_⟩ <;>
    simp only [hz, if_true, if_false, and_true, and_false, or_true, or_false, true_iff] <;> omega

/-- One key pushed into five levels from the top. -/
theorem bubble_count {y0 : K} {U : K → Prop} (hU : Above y0 U) {a b c d e z : K} {n : ℕ}
    (h : (U a ↔ 0 < n) ∧ (U b ↔ 1 < n) ∧ (U c ↔ 2 < n) ∧ (U d ↔ 3 < n) ∧ (U e ↔ 4 < n)) {p : Prop} [Decidable p] (hz : U z ↔ p) :
    (U (max a z) ↔ 0 < n + if p then 1 else 0) ∧ (U (max b (min a z)) ↔ 1 < n + if p then 1 else 0)
      ∧ (U (max c (min b (min a z))) ↔ 2 < n + if p then 1 else 0)
      ∧ (U (max d (min c (min b (min a z)))) ↔ 3 < n + if p then 1 else 0)
      ∧ (U (max e (min d (min c (min b (min a z))))) ↔ 4 < n + if p then 1 else 0) := by
  obtain ⟨h0, h1, h2, h3, h4⟩ := h
  simp only [hU.max, hU.min, h0, h1, h2, h3, h4, hz]
  by_cases hp : p <;> refine ⟨?_, ?_, ?_, ?_, ?_⟩ <;>
    simp only [hp, if_true, if_false, and_true, and_false, or_true, or_false, true_iff] <;> omega

/-- Five levels of keys. -/
abbrev Q (K : Type) : Type := K × K × K × K × K
/-- One key pushed in from the top. -/
def push (t : Q K) (z : K) : Q K :=
  (max t.1 z, max t.2.1 (min t.1 z), max t.2.2.1 (min t.2.1 (min t.1 z)),
   max t.2.2.2.1 (min t.2.2.1 (min t.2.1 (min t.1 z))),
   max t.2.2.2.2 (min t.2.2.2.1 (min t.2.2.1 (min t.2.1 (min t.1 z)))))
/-- Five keys pushed in, one after the other. -/
def join (t u : Q K) : Q K := push (push (push (push (push t u.1) u.2.1) u.2.2.1) u.2.2.2.1) u.2.2.2.2
/-- The levels of a five. -/
def levq (t : Q K) : ℕ → K := lev t.1 t.2.1 t.2.2.1 t.2.2.2.1 t.2.2.2.2

theorem Best.join {κ : C → K} {y0 : K} {t u : Q K} {S T : Finset C} (ht : Best κ y0 5 (levq t) S) (hu : Best κ y0 5 (levq u) T)
    (hST : Disjoint S T) : Best κ y0 5 (levq (join t u)) (S ∪ T) := by
  classical
  unfold levq at ht hu ⊢
  rw [best_lev] at ht hu ⊢
  intro U hU
  rw [cnt_union κ U hST]
  generalize hm : cnt κ T U = m
  obtain ⟨u0, u1, u2, u3, u4⟩ := hm ▸ hu U hU
  have s1 := bubble_count hU (ht U hU) u0
  have s2 := bubble_count hU s1 u1
  have s3 := bubble_count hU s2 u2
  have s4 := bubble_count hU s3 u3
  have s5 := bubble_count hU s4 u4
  unfold Cert.Order.join
  have e : ∀ (n : ℕ) (k : ℕ), k < 5 → ((k < n + (if 0 < m then 1 else 0) + (if 1 < m then 1 else 0) + (if 2 < m then 1 else 0)
      + (if 3 < m then 1 else 0) + (if 4 < m then 1 else 0)) ↔ k < n + m) := by
    intro n k hk
    split_ifs <;> omega
  obtain ⟨a0, a1, a2, a3, a4⟩ := s5
  exact ⟨a0.trans (e _ 0 (by omega)), a1.trans (e _ 1 (by omega)), a2.trans (e _ 2 (by omega)), a3.trans (e _ 3 (by omega)),
    a4.trans (e _ 4 (by omega))⟩

/-- Three levels of keys. -/
abbrev R (K : Type) : Type := K × K × K
/-- The levels of a three, the third from there on. -/
def levr (t : R K) : ℕ → K
  | 0 => t.1 | 1 => t.2.1 | _ => t.2.2

/-- Three and three levels made one. -/
def join3 (t u : R K) : R K :=
  (max t.1 u.1,
   max (min t.1 u.1) (if t.1 < u.1 then u.2.1 else t.2.1),
   if min t.1 u.1 < (if t.1 < u.1 then u.2.1 else t.2.1)
     then max (if t.1 < u.1 then u.2.2 else t.2.2) (min t.1 u.1)
     else max (if t.1 < u.1 then u.2.1 else t.2.1) (if t.1 < u.1 then t.2.1 else u.2.1))

theorem best_levr {κ : C → K} {y0 : K} {t : R K} {S : Finset C} :
    Best κ y0 3 (levr t) S ↔ ∀ U, Above y0 U → (U t.1 ↔ 0 < cnt κ S U) ∧ (U t.2.1 ↔ 1 < cnt κ S U) ∧ (U t.2.2 ↔ 2 < cnt κ S U) := by
  constructor
  · intro h U hU
    exact ⟨h U hU 0 (by omega), h U hU 1 (by omega), h U hU 2 (by omega)⟩
  · intro h U hU j hj
    obtain ⟨h0, h1, h2⟩ := h U hU
    match j, hj with
    | 0, _ => exact h0
    | 1, _ => exact h1
    | 2, _ => exact h2

theorem Best.join3 {κ : C → K} {y0 : K} {t u : R K} {S T : Finset C} (ht : Best κ y0 3 (levr t) S) (hu : Best κ y0 3 (levr u) T)
    (hST : Disjoint S T) : Best κ y0 3 (levr (join3 t u)) (S ∪ T) := by
  classical
  rw [best_levr] at ht hu ⊢
  intro U hU
  rw [cnt_union κ U hST]
  obtain ⟨t0, t1, t2⟩ := ht U hU
  obtain ⟨u0, u1, u2⟩ := hu U hU
  generalize cnt κ S U = n at *
  generalize cnt κ T U = m at *
  obtain ⟨a, b, c⟩ := t
  obtain ⟨a', b', c'⟩ := u
  simp only at t0 t1 t2 u0 u1 u2
  -- how membership meets an order fact between two keys
  have hle : ∀ {x y : K}, x ≤ y → U x → U y := fun h => hU.up _ _ h
  simp only [Cert.Order.join3]
  by_cases h1 : a < a'
  · simp only [h1, if_true, min_eq_left h1.le, max_eq_right h1.le]
    have f1 := hle h1.le
    rw [t0, u0] at f1
    by_cases h2 : a < b'
    · simp only [h2, if_true, hU.max, t0, t1, t2, u0, u1, u2]
      have f2 := hle h2.le
      rw [t0, u1] at f2
      refine ⟨?_, ?_, ?_⟩ <;> omega
    · simp only [h2, if_false, hU.max, t0, t1, t2, u0, u1, u2]
      have f2 := hle (not_lt.mp h2)
      rw [t0, u1] at f2
      refine ⟨?_, ?_, ?_⟩ <;> omega
  · simp only [h1, if_false, min_eq_right (not_lt.mp h1), max_eq_left (not_lt.mp h1)]
    have f1 := hle (not_lt.mp h1)
    rw [t0, u0] at f1
    by_cases h2 : a' < b
    · simp only [h2, if_true, hU.max, t0, t1, t2, u0, u1, u2]
      have f2 := hle h2.le
      rw [t1, u0] at f2
      refine ⟨?_, ?_, ?_⟩ <;> omega
    · simp only [h2, if_false, hU.max, t0, t1, t2, u0, u1, u2]
      have f2 := hle (not_lt.mp h2)
      rw [t1, u0] at f2
      refine ⟨?_, ?_, ?_⟩ <;> omega

/-! ## Pops -/

/-- Every lane holds the `d` best of the columns left in it; the columns of different lanes differ. -/
structure Held (κ : C → K) (y0 : K) (d : ℕ) (X : ι → ℕ → K) (S : ι → Finset C) : Prop where
  best : ∀ l, Best κ y0 d (X l) (S l)
  apart : ∀ l l' c, c ∈ S l → c ∈ S l' → l = l'

/-- The heads' greatest key. -/
structure Head (X : ι → ℕ → K) (M : K) : Prop where
  le : ∀ l, X l 0 ≤ M
  at_ : ∃ l, X l 0 = M

/-- Every lane whose head is `M` moved up by one. -/
def popK (X : ι → ℕ → K) (M : K) : ι → ℕ → K := fun l j => if X l 0 = M then X l (j + 1) else X l j

/-- The greatest head above `y0` is the best of all columns left, and popping it takes that column off. -/
theorem Held.pop {κ : C → K} (hκ : Function.Injective κ) {y0 : K} {d : ℕ} {X : ι → ℕ → K} {S : ι → Finset C} (h : Held κ y0 (d + 1) X S)
    {M : K} (hM : Head X M) (hy : y0 < M) :
    ∃ c, κ c = M ∧ (∃ l, c ∈ S l) ∧ (∀ l, ∀ c' ∈ S l, κ c' ≤ κ c) ∧ Held κ y0 d (popK X M) (fun l => (S l).erase c) := by
  obtain ⟨l, hl⟩ := hM.at_
  have hpos : 0 < cnt κ (S l) (M ≤ ·) := (h.best l _ (Above.ici hy) 0 (by omega)).mp hl.ge
  obtain ⟨c, hc, hcM⟩ := (cnt_pos κ _).mp hpos
  have hall : ∀ l', ∀ c' ∈ S l', κ c' ≤ M := fun l' c' hc' => by
    by_contra hlt
    have : 0 < cnt κ (S l') (M < ·) := (cnt_pos κ _).mpr ⟨c', hc', not_le.mp hlt⟩
    exact absurd ((h.best l' _ (Above.ioi hy.le) 0 (by omega)).mpr this) (not_lt.mpr (hM.le l'))
  have hcM' : κ c = M := le_antisymm (hall l c hc) hcM
  refine ⟨c, hcM', ⟨l, hc⟩, fun l' c' hc' => hcM' ▸ hall l' c' hc', ⟨fun l' U hU j hj => ?_, fun l₁ l₂ c' h₁ h₂ =>
    h.apart l₁ l₂ c' (Finset.mem_of_mem_erase h₁) (Finset.mem_of_mem_erase h₂)⟩⟩
  unfold popK
  by_cases hh : X l' 0 = M
  · rw [if_pos hh]
    have hpos' : 0 < cnt κ (S l') (M ≤ ·) := (h.best l' _ (Above.ici hy) 0 (by omega)).mp hh.ge
    obtain ⟨c₂, hc₂, hc₂M⟩ := (cnt_pos κ _).mp hpos'
    have : c₂ = c := hκ ((le_antisymm (hall l' c₂ hc₂) hc₂M).trans hcM'.symm)
    subst this
    rw [h.best l' U hU (j + 1) (by omega), cnt_erase κ U hc₂]
    by_cases hu : U (κ c₂)
    · rw [if_pos hu]; omega
    · rw [if_neg hu]
      have hz : ¬ 0 < cnt κ ((S l').erase c₂) U := fun hp => by
        obtain ⟨c₃, h₃, hu₃⟩ := (cnt_pos κ _).mp hp
        exact hu (hU.up _ _ (hcM' ▸ hall l' c₃ (Finset.mem_of_mem_erase h₃)) hu₃)
      omega
  · rw [if_neg hh]
    have hne : c ∉ S l' := fun hc' => hh (le_antisymm (hM.le l') (by
      exact (h.best l' _ (Above.ici hy) 0 (by omega)).mpr ((cnt_pos κ _).mpr ⟨c, hc', hcM⟩)))
    rw [Finset.erase_eq_of_notMem hne]
    exact h.best l' U hU j (by omega)

/-- A column left with its key above `y0`: the greatest head is above `y0`. -/
theorem Held.head_of_mem {κ : C → K} {y0 : K} {d : ℕ} {X : ι → ℕ → K} {S : ι → Finset C} (h : Held κ y0 (d + 1) X S)
    {M : K} (hM : Head X M) {c : C} {l : ι} (hc : c ∈ S l) (hy : y0 < κ c) : y0 < M :=
  lt_of_lt_of_le ((h.best l _ (Above.ioi le_rfl) 0 (by omega)).mpr ((cnt_pos κ _).mpr ⟨c, hc, hy⟩)) (hM.le l)

/-! ## Rows of pops -/

section pops
variable {κ : C → K} {y0 : K}

/-- Nothing above the bound in the levels that are to be popped: nothing above it is popped. -/
theorem low_pops : ∀ (d : ℕ) (X : ℕ → ι → ℕ → K) (M : ℕ → K), (∀ k, Head (X k) (M k)) → (∀ k, X (k + 1) = popK (X k) (M k)) →
    (∀ l, ∀ j < d, X 0 l j ≤ y0) → ∀ k < d, M k ≤ y0
  | 0, _, _, _, _, _, _, hk => absurd hk (Nat.not_lt_zero _)
  | d + 1, X, M, hM, hX, h, 0, _ => by
    obtain ⟨l, hl⟩ := (hM 0).at_
    exact hl ▸ h l 0 (by omega)
  | d + 1, X, M, hM, hX, h, k + 1, hk => by
    refine low_pops d (fun k => X (k + 1)) (fun k => M (k + 1)) (fun k => hM (k + 1)) (fun k => hX (k + 1)) (fun l j hj => ?_) k (by omega)
    show X (0 + 1) l j ≤ y0
    rw [hX 0]
    unfold popK
    split
    · exact h l (j + 1) (by omega)
    · exact h l j (by omega)

/-- The last pop above the bound: so were all before it. -/
theorem above_of_last (hκ : Function.Injective κ) : ∀ (d : ℕ) (X : ℕ → ι → ℕ → K) (M : ℕ → K) (S : ι → Finset C), (∀ k, Head (X k) (M k)) →
    (∀ k, X (k + 1) = popK (X k) (M k)) → Held κ y0 (d + 1) (X 0) S → y0 < M d → ∀ k < d + 1, y0 < M k
  | 0, X, M, S, hM, hX, h, hl, k, hk => by rwa [show k = 0 by omega]
  | d + 1, X, M, S, hM, hX, h, hl, k, hk => by
    have h0 : y0 < M 0 := by
      by_contra hle
      refine absurd hl (not_lt.mpr (low_pops (d + 2) X M hM hX (fun l j hj => ?_) (d + 1) (by omega)))
      by_contra hlt
      have hc := (h.best l _ (Above.ioi le_rfl) j hj).mp (not_le.mp hlt)
      exact hle (lt_of_lt_of_le ((h.best l _ (Above.ioi le_rfl) 0 (by omega)).mpr (by omega)) ((hM 0).le l))
    match k, hk with
    | 0, _ => exact h0
    | k + 1, hk =>
      obtain ⟨c, _, _, _, h'⟩ := h.pop hκ (hM 0) h0
      exact above_of_last hκ d (fun k => X (k + 1)) (fun k => M (k + 1)) _ (fun k => hM (k + 1)) (fun k => hX (k + 1))
        (by show Held κ y0 (d + 1) (X (0 + 1)) _; rw [hX 0]; exact h') hl k (by omega)

/-- Every column above the bound, and enough of them: all pops are above it. -/
theorem above_of_many (hκ : Function.Injective κ) (hy : ∀ c, y0 < κ c) : ∀ (d : ℕ) (X : ℕ → ι → ℕ → K) (M : ℕ → K) (S : ι → Finset C),
    (∀ k, Head (X k) (M k)) → (∀ k, X (k + 1) = popK (X k) (M k)) → Held κ y0 d (X 0) S →
    (∀ G : Finset C, G.card < d → ∃ l, ∃ c ∈ S l, c ∉ G) → ∀ k < d, y0 < M k
  | 0, _, _, _, _, _, _, _, _, hk => absurd hk (Nat.not_lt_zero _)
  | d + 1, X, M, S, hM, hX, h, hG, k, hk => by
    have h0 : y0 < M 0 := by
      obtain ⟨l, c, hc, _⟩ := hG ∅ (by rw [Finset.card_empty]; omega)
      exact h.head_of_mem (hM 0) hc (hy c)
    match k, hk with
    | 0, _ => exact h0
    | k + 1, hk =>
      obtain ⟨c, _, _, _, h'⟩ := h.pop hκ (hM 0) h0
      refine above_of_many hκ hy d (fun k => X (k + 1)) (fun k => M (k + 1)) _ (fun k => hM (k + 1)) (fun k => hX (k + 1))
        (by show Held κ y0 d (X (0 + 1)) _; rw [hX 0]; exact h') (fun G hGd => ?_) k (by omega)
      obtain ⟨l, c', hc', hn⟩ := hG (insert c G) (lt_of_le_of_lt (Finset.card_insert_le _ _) (by omega))
      exact ⟨l, c', Finset.mem_erase.mpr ⟨fun e => hn (e ▸ Finset.mem_insert_self _ _), hc'⟩, fun e => hn (Finset.mem_insert_of_mem e)⟩

/-- Pops above the bound take the columns in order. -/
theorem pops_order (hκ : Function.Injective κ) (c₁ : C) : ∀ (d : ℕ) (X : ℕ → ι → ℕ → K) (M : ℕ → K) (S : ι → Finset C), (∀ k, Head (X k) (M k)) →
    (∀ k, X (k + 1) = popK (X k) (M k)) → Held κ y0 d (X 0) S → (∀ k < d, y0 < M k) →
    ∃ c : ℕ → C, ∀ k < d, κ (c k) = M k ∧ (∃ l, c k ∈ S l) ∧ (∀ i < k, c i ≠ c k) ∧
      ∀ l, ∀ c' ∈ S l, (∀ i < k, c' ≠ c i) → κ c' ≤ κ (c k)
  | 0, X, M, S, hM, hX, h, hy => ⟨fun _ => c₁, fun k hk => absurd hk (Nat.not_lt_zero _)⟩
  | d + 1, X, M, S, hM, hX, h, hy => by
    obtain ⟨c₀, e₀, m₀, b₀, h'⟩ := h.pop hκ (hM 0) (hy 0 (by omega))
    obtain ⟨c, hc⟩ := pops_order hκ c₁ d (fun k => X (k + 1)) (fun k => M (k + 1)) _ (fun k => hM (k + 1)) (fun k => hX (k + 1))
      (by show Held κ y0 d (X (0 + 1)) _; rw [hX 0]; exact h') (fun k hk => hy (k + 1) (by omega))
    refine ⟨fun k => Nat.casesOn k c₀ c, fun k hk => ?_⟩
    match k, hk with
    | 0, _ => exact ⟨e₀, m₀, fun i hi => absurd hi (Nat.not_lt_zero _), fun l c' hc' _ => b₀ l c' hc'⟩
    | k + 1, hk =>
      obtain ⟨e, ⟨l, m⟩, n, b⟩ := hc k (by omega)
      refine ⟨e, ⟨l, Finset.mem_of_mem_erase m⟩, fun i hi => ?_, fun l' c' hc' hn => ?_⟩
      · match i, hi with
        | 0, _ => exact (Finset.mem_erase.mp m).1.symm
        | i + 1, hi => exact n i (by omega)
      · exact b l' c' (Finset.mem_erase.mpr ⟨hn 0 (by omega), hc'⟩) fun i hi => hn (i + 1) (by omega)
end pops

end Cert.Order
end
-- ==== Proof.Lanes.lean ====
/-
  The lanes of the top-five kernel at the extended reals: an entry's key is its value and then its column, the smaller
  column first. In keys the printed insertion, merges and pops are `Order`'s.
-/
module

public import proofs.«01_k».proof.Proof.Model
public import proofs.«01_k».proof.Proof.Order
public import Idealize.ShloMosaic.Lib.ValueLayoutCasts
public import Idealize.ShloMosaic.Lib.Pipeline.Value

@[expose] public section

set_option maxRecDepth 16384

noncomputable section

namespace Cert.KernelIdeal.Hand

open Cert.KernelIdeal Cert.KernelIdeal.Gen Cert.Order
open Idealize.ShloMosaic Idealize.ShloMosaic.ValueIdx

/-- A value, and then a column: the smaller column is the greater key. -/
abbrev Key : Type := EReal ×ₗ ℤᵒᵈ
abbrev mkKey (v : EReal) (n : ℤ) : Key := toLex (v, OrderDual.toDual n)
/-- A lane's entry as a key. -/
def key (p : P2 Ideal) (i : S8x128.Idx) : Key := mkKey (p.1 i) (p.2 i).toInt

theorem mkKey_lt {v w : EReal} {a b : ℤ} : mkKey v a < mkKey w b ↔ v < w ∨ v = w ∧ b < a := by
  rw [Prod.Lex.toLex_lt_toLex]; rfl
theorem mkKey_le {v w : EReal} {a b : ℤ} : mkKey v a ≤ mkKey w b ↔ v < w ∨ v = w ∧ b ≤ a := by
  rw [Prod.Lex.toLex_le_toLex]; rfl
theorem mkKey_inj {v w : EReal} {a b : ℤ} : mkKey v a = mkKey w b ↔ v = w ∧ a = b := by
  constructor
  · intro h; exact Prod.mk.inj (toLex.injective h)
  · rintro ⟨rfl, rfl⟩; rfl

theorem bool_one (b : Bool) : BitVec.ofBool b = 1#1 ↔ b = true := by cases b <;> decide
theorem gt_one (a b : EReal) : (FloatOps.cmpf (F := Ideal) (φ := .f32) .ogt a b = 1#1) ↔ b < a := by
  show BitVec.ofBool (decide (b < a)) = 1#1 ↔ _
  rw [bool_one, decide_eq_true_iff]
theorem eq_one (a b : EReal) : (FloatOps.cmpf (F := Ideal) (φ := .f32) .oeq a b = 1#1) ↔ a = b := by
  show BitVec.ofBool (decide (a = b)) = 1#1 ↔ _
  rw [bool_one, decide_eq_true_iff]
theorem ge_one (a b : EReal) : (FloatOps.cmpf (F := Ideal) (φ := .f32) .oge a b = 1#1) ↔ b ≤ a := by
  show BitVec.ofBool (decide (b ≤ a)) = 1#1 ↔ _
  rw [bool_one, decide_eq_true_iff]
theorem slt_one (a b : BitVec 32) : (IntOp.cmpi .slt a b = 1#1) ↔ a.toInt < b.toInt := by
  show BitVec.ofBool (a.slt b) = 1#1 ↔ _
  rw [bool_one, BitVec.slt_iff_toInt_lt]
theorem ieq_one (a b : BitVec 32) : (IntOp.cmpi .eq a b = 1#1) ↔ a = b := by
  show BitVec.ofBool (a == b) = 1#1 ↔ _
  rw [bool_one, beq_iff_eq]
theorem or_one (a b : BitVec 1) : (a ||| b = 1#1) ↔ a = 1#1 ∨ b = 1#1 := by revert a b; decide
theorem and_one (a b : BitVec 1) : (a &&& b = 1#1) ↔ a = 1#1 ∧ b = 1#1 := by revert a b; decide

/-- The printed comparison of two entries is the comparison of their keys. -/
theorem lexgt_one (z p : P2 Ideal) (i : S8x128.Idx) : lexgt z p i = 1#1 ↔ key p i < key z i := by
  show (FloatOps.cmpf (F := Ideal) (φ := .f32) .ogt (z.1 i) (p.1 i)
    ||| (FloatOps.cmpf (F := Ideal) (φ := .f32) .oeq (z.1 i) (p.1 i) &&& IntOp.cmpi .slt (z.2 i) (p.2 i))) = 1#1 ↔ _
  rw [or_one, and_one, gt_one, eq_one, slt_one]
  unfold key
  rw [mkKey_lt, eq_comm]

theorem key_sel (g : IVec S8x128 1) (x y : P2 Ideal) (i : S8x128.Idx) : key (sel g x y) i = if g i = 1#1 then key x i else key y i := by
  unfold key
  show mkKey (if g i = 1#1 then x.1 i else y.1 i) (if g i = 1#1 then x.2 i else y.2 i).toInt = _
  by_cases h : g i = 1#1
  · simp only [if_pos h]
  · simp only [if_neg h]

theorem key_mx (p z : P2 Ideal) (i : S8x128.Idx) : key (mx p z) i = max (key p i) (key z i) := by
  unfold mx
  rw [key_sel]
  by_cases h : key p i < key z i
  · rw [if_pos ((lexgt_one z p i).mpr h), max_eq_right h.le]
  · rw [if_neg (fun h' => h ((lexgt_one z p i).mp h')), max_eq_left (not_lt.mp h)]

theorem key_mn (p z : P2 Ideal) (i : S8x128.Idx) : key (mn p z) i = min (key p i) (key z i) := by
  unfold mn
  rw [key_sel]
  by_cases h : key p i < key z i
  · rw [if_pos ((lexgt_one z p i).mpr h), min_eq_left h.le]
  · rw [if_neg (fun h' => h ((lexgt_one z p i).mp h')), min_eq_right (not_lt.mp h)]

/-- The five levels of a lane as keys. -/
def keys5 (t : L5 Ideal) (i : S8x128.Idx) : Q Key := (key t.1 i, key t.2.1 i, key t.2.2.1 i, key t.2.2.2.1 i, key t.2.2.2.2 i)

theorem keys5_bubble (t : L5 Ideal) (z : P2 Ideal) (i : S8x128.Idx) : keys5 (bubble t z) i = push (keys5 t i) (key z i) := by
  unfold bubble keys5 push
  simp only [key_mx, key_mn]

theorem keys5_merge (t u : L5 Ideal) (i : S8x128.Idx) : keys5 (merge5 t u) i = join (keys5 t i) (keys5 u i) := by
  unfold merge5 join
  simp only [keys5_bubble]
  rfl

/-- The columns an entry may name. -/
def colOk (k : Key) : Prop := 0 ≤ OrderDual.ofDual (ofLex k).2 ∧ OrderDual.ofDual (ofLex k).2 ≤ 32768

theorem colOk_max {a b : Key} (ha : colOk a) (hb : colOk b) : colOk (max a b) := by
  rcases max_choice a b with h | h <;> rw [h] <;> assumption
theorem colOk_min {a b : Key} (ha : colOk a) (hb : colOk b) : colOk (min a b) := by
  rcases min_choice a b with h | h <;> rw [h] <;> assumption

/-- All five levels name columns. -/
def Ok5 (q : Q Key) : Prop := colOk q.1 ∧ colOk q.2.1 ∧ colOk q.2.2.1 ∧ colOk q.2.2.2.1 ∧ colOk q.2.2.2.2

theorem ok5_push {q : Q Key} (h : Ok5 q) {z : Key} (hz : colOk z) : Ok5 (push q z) := by
  obtain ⟨h0, h1, h2, h3, h4⟩ := h
  have m1 := colOk_min h0 hz
  have m2 := colOk_min h1 m1
  have m3 := colOk_min h2 m2
  exact ⟨colOk_max h0 hz, colOk_max h1 m1, colOk_max h2 m2, colOk_max h3 m3, colOk_max h4 (colOk_min h3 m3)⟩

theorem ok5_join {q r : Q Key} (h : Ok5 q) (hr : Ok5 r) : Ok5 (join q r) :=
  ok5_push (ok5_push (ok5_push (ok5_push (ok5_push h hr.1) hr.2.1) hr.2.2.1) hr.2.2.2.1) hr.2.2.2.2

/-! ## Insertion -/

/-- An entry the new one is after in columns, or an empty one. -/
def older (k : Key) (b : ℤ) : Prop := (ofLex k).1 = ⊥ ∨ OrderDual.ofDual (ofLex k).2 < b

theorem gt_key {z p : P2 Ideal} {i : S8x128.Idx} (hz : ⊥ < z.1 i) (hp : older (key p i) (z.2 i).toInt) :
    (cmpf .ogt z.1 p.1 i = 1#1) ↔ key p i < key z i := by
  show FloatOps.cmpf (F := Ideal) (φ := .f32) .ogt (z.1 i) (p.1 i) = 1#1 ↔ _
  rw [gt_one]
  unfold key
  rw [mkKey_lt]
  refine ⟨Or.inl, fun h => h.elim id fun h' => ?_⟩
  rcases hp with hp | hp
  · exact absurd (show p.1 i = ⊥ from hp) (fun e => by rw [← h'.1, e] at hz; exact lt_irrefl _ hz)
  · exact absurd (show (p.2 i).toInt < (z.2 i).toInt from hp) (not_lt.mpr h'.2.le)

theorem key_insLevel {up p z : P2 Ideal} {i : S8x128.Idx} (hz : ⊥ < z.1 i) (hu : older (key up i) (z.2 i).toInt)
    (hp : older (key p i) (z.2 i).toInt) (hs : key p i ≤ key up i) :
    key (insLevel up p z) i = max (key p i) (min (key up i) (key z i)) := by
  unfold insLevel
  rw [key_sel, key_sel]
  simp only [gt_key hz hp, gt_key hz hu]
  by_cases h1 : key p i < key z i
  · rw [if_pos h1]
    by_cases h2 : key up i < key z i
    · rw [if_pos h2, min_eq_left h2.le, max_eq_right hs]
    · rw [if_neg h2, min_eq_right (not_lt.mp h2), max_eq_right h1.le]
  · rw [if_neg h1, max_eq_left ((min_le_right _ _).trans (not_lt.mp h1))]

/-- Five levels in order. -/
def Sorted5 (q : Q Key) : Prop := q.2.1 ≤ q.1 ∧ q.2.2.1 ≤ q.2.1 ∧ q.2.2.2.1 ≤ q.2.2.1 ∧ q.2.2.2.2 ≤ q.2.2.2.1
/-- All five older than a column. -/
def Older5 (q : Q Key) (b : ℤ) : Prop := older q.1 b ∧ older q.2.1 b ∧ older q.2.2.1 b ∧ older q.2.2.2.1 b ∧ older q.2.2.2.2 b

/-- Five levels with one more key at its place. -/
def put5 (q : Q Key) (z : Key) : Q Key :=
  (max q.1 z, max q.2.1 (min q.1 z), max q.2.2.1 (min q.2.1 z), max q.2.2.2.1 (min q.2.2.1 z), max q.2.2.2.2 (min q.2.2.2.1 z))

theorem keys5_ins {t : L5 Ideal} {z : P2 Ideal} {i : S8x128.Idx} (hz : ⊥ < z.1 i) (ho : Older5 (keys5 t i) (z.2 i).toInt)
    (hs : Sorted5 (keys5 t i)) : keys5 (ins5 t z) i = put5 (keys5 t i) (key z i) := by
  obtain ⟨o0, o1, o2, o3, o4⟩ := ho
  obtain ⟨s0, s1, s2, s3⟩ := hs
  have e0 : key (sel (cmpf .ogt z.1 t.1.1) z t.1) i = max (key t.1 i) (key z i) := by
    rw [key_sel]
    simp only [gt_key hz o0]
    by_cases h : key t.1 i < key z i
    · rw [if_pos h, max_eq_right h.le]
    · rw [if_neg h, max_eq_left (not_lt.mp h)]
  unfold ins5 put5 keys5
  exact Prod.ext e0 (Prod.ext (key_insLevel hz o0 o1 s0) (Prod.ext (key_insLevel hz o1 o2 s1)
    (Prod.ext (key_insLevel hz o2 o3 s2) (key_insLevel hz o3 o4 s3))))

theorem sorted_put5 {q : Q Key} (h : Sorted5 q) (z : Key) : Sorted5 (put5 q z) := by
  obtain ⟨h0, h1, h2, h3⟩ := h
  unfold put5 Sorted5
  refine ⟨max_le_max h0 (min_le_right _ _), ?_, ?_, ?_⟩
  · exact max_le_max h1 (min_le_min h0 le_rfl)
  · exact max_le_max h2 (min_le_min h1 le_rfl)
  · exact max_le_max h3 (min_le_min h2 le_rfl)

theorem put5_all {P : Key → Prop} {q : Q Key} {z : Key} (h0 : P q.1) (h1 : P q.2.1) (h2 : P q.2.2.1) (h3 : P q.2.2.2.1) (h4 : P q.2.2.2.2)
    (hz : P z) : P (put5 q z).1 ∧ P (put5 q z).2.1 ∧ P (put5 q z).2.2.1 ∧ P (put5 q z).2.2.2.1 ∧ P (put5 q z).2.2.2.2 := by
  have M : ∀ {a b : Key}, P a → P b → P (max a b) := fun {a b} ha hb => by rcases max_choice a b with h | h <;> rw [h] <;> assumption
  have m : ∀ {a b : Key}, P a → P b → P (min a b) := fun {a b} ha hb => by rcases min_choice a b with h | h <;> rw [h] <;> assumption
  exact ⟨M h0 hz, M h1 (m h0 hz), M h2 (m h1 hz), M h3 (m h2 hz), M h4 (m h3 hz)⟩

/-! ## Three levels -/

/-- The first three levels of a five, the third without its column. -/
def proj3 (t : L5 Ideal) : L3 Ideal := (t.1, t.2.1, t.2.2.1.1)

theorem scan3_proj (z : ℕ → P2 Ideal) (s q : ℕ) : scan3 z s zero3 q = proj3 (scan5 z s zero5 q) := by
  induction q with
  | zero => rfl
  | succ q ih => exact (congrArg (fun t => ins3 t (z (4 * q + s))) ih).trans rfl

/-- Three levels as keys `r`, the third with a column the kernel does not keep. -/
structure Rep (x : L3 Ideal) (i : S8x128.Idx) (r : R Key) : Prop where
  k0 : key x.1 i = r.1
  k1 : key x.2.1 i = r.2.1
  k2 : x.2.2 i = (ofLex r.2.2).1
  ok : colOk r.1 ∧ colOk r.2.1 ∧ colOk r.2.2

theorem rep_proj (t : L5 Ideal) (i : S8x128.Idx) (h : Ok5 (keys5 t i)) : Rep (proj3 t) i (key t.1 i, key t.2.1 i, key t.2.2.1 i) :=
  ⟨rfl, rfl, rfl, h.1, h.2.1, h.2.2.1⟩

theorem fst_max (a b : Key) : (ofLex (max a b)).1 = max (ofLex a).1 (ofLex b).1 := by
  rcases le_total a b with h | h
  · rw [max_eq_right h, max_eq_right]
    rcases Prod.Lex.le_iff.mp h with h' | h'
    · exact h'.le
    · exact h'.1.le
  · rw [max_eq_left h, max_eq_left]
    rcases Prod.Lex.le_iff.mp h with h' | h'
    · exact h'.le
    · exact h'.1.le

theorem rep_merge {x y : L3 Ideal} {i : S8x128.Idx} {r r' : R Key} (hx : Rep x i r) (hy : Rep y i r') :
    Rep (merge3 x y) i (join3 r r') := by
  obtain ⟨x0, x1, x2, ox0, ox1, ox2⟩ := hx
  obtain ⟨y0, y1, y2, oy0, oy1, oy2⟩ := hy
  have e1 : key (sel (lexgt y.1 x.1) y.2.1 x.2.1) i = if r.1 < r'.1 then r'.2.1 else r.2.1 := by
    rw [key_sel]; simp only [lexgt_one, x0, y0, x1, y1]
  refine ⟨?_, ?_, ?_, ?_, ?_, ?_⟩
  · show key (mx x.1 y.1) i = _
    rw [key_mx, x0, y0]; rfl
  · show key (mx (mn x.1 y.1) (sel (lexgt y.1 x.1) y.2.1 x.2.1)) i = _
    rw [key_mx, key_mn, e1, x0, y0]; rfl
  · show (if lexgt (sel (lexgt y.1 x.1) y.2.1 x.2.1) (mn x.1 y.1) i = 1
      then max (if lexgt y.1 x.1 i = 1 then y.2.2 i else x.2.2 i) ((mn x.1 y.1).1 i)
      else max ((sel (lexgt y.1 x.1) y.2.1 x.2.1).1 i) ((sel (lexgt y.1 x.1) x.2.1 y.2.1).1 i) : EReal) = _
    have f1 : ((mn x.1 y.1).1 i : EReal) = (ofLex (min r.1 r'.1)).1 := by
      have := key_mn x.1 y.1 i
      rw [x0, y0] at this; rw [← this]; rfl
    have f2 : ((sel (lexgt y.1 x.1) y.2.1 x.2.1).1 i : EReal) = (ofLex (if r.1 < r'.1 then r'.2.1 else r.2.1)).1 := by
      rw [← e1]; rfl
    have f3 : ((sel (lexgt y.1 x.1) x.2.1 y.2.1).1 i : EReal) = (ofLex (if r.1 < r'.1 then r.2.1 else r'.2.1)).1 := by
      have : key (sel (lexgt y.1 x.1) x.2.1 y.2.1) i = if r.1 < r'.1 then r.2.1 else r'.2.1 := by
        rw [key_sel]; simp only [lexgt_one, x0, y0, x1, y1]
      rw [← this]; rfl
    have c1 : (lexgt y.1 x.1 i = 1) = (r.1 < r'.1) := propext (by rw [← x0, ← y0]; exact lexgt_one _ _ i)
    have c2 : (lexgt (sel (lexgt y.1 x.1) y.2.1 x.2.1) (mn x.1 y.1) i = 1) = (min r.1 r'.1 < if r.1 < r'.1 then r'.2.1 else r.2.1) :=
      propext (by
        have := lexgt_one (sel (lexgt y.1 x.1) y.2.1 x.2.1) (mn x.1 y.1) i
        rw [key_mn, e1, x0, y0] at this; exact this)
    simp only [c1, c2, f1, f2, f3]
    unfold join3
    by_cases hc : r.1 < r'.1
    · simp only [if_pos hc]
      split <;> simp only [fst_max, y2]
    · simp only [if_neg hc]
      split <;> simp only [fst_max, x2]
  · exact colOk_max ox0 oy0
  · refine colOk_max (colOk_min ox0 oy0) ?_
    split <;> assumption
  · unfold join3
    by_cases hc : r.1 < r'.1
    · simp only [if_pos hc]
      split
      · exact colOk_max oy2 (colOk_min ox0 oy0)
      · exact colOk_max oy1 ox1
    · simp only [if_neg hc]
      split
      · exact colOk_max ox2 (colOk_min ox0 oy0)
      · exact colOk_max ox1 oy1

end Cert.KernelIdeal.Hand
end
-- ==== Proof.Terms.lean ====
/-
  One centre's share of the density: the Gaussian's two spellings as one number.
-/
module

public import proofs.«01_k».proof.Proof.Starts
public import proofs.«01_k».proof.Proof.Lanes
public import Idealize.ShloMosaic.Lib.IdealHost

@[expose] public section

set_option maxRecDepth 65536

noncomputable section

namespace Cert.KernelIdeal.Hand

open Cert.KernelIdeal Cert.KernelIdeal.Gen
open Idealize.ShloMosaic

/-- The square root of `2π` as written. -/
def rootTwoPi : EReal := Ideal.sqrt (Ideal.ofBits .f32 0x40C90FDB#32)

theorem rootTwoPi_pos : ∃ q : ℝ, 0 < q ∧ rootTwoPi = (q : EReal) := by
  have h : ∃ a : ℝ, 0 < a ∧ Ideal.ofBits .f32 0x40C90FDB#32 = (a : EReal) := by
    refine ⟨_, ?_, rfl⟩
    simp [Ideal.ofBits, Ideal.ieee, -EReal.coe_mul]
  obtain ⟨a, ha, e⟩ := h
  refine ⟨Real.sqrt a, Real.sqrt_pos.mpr ha, ?_⟩
  unfold rootTwoPi
  rw [e]
  exact if_neg (not_lt.mpr ha.le)

/-- The kernel's Gaussian of the distance `d` at the bandwidth `b`. -/
def kGauss (b d : EReal) : EReal :=
  Ideal.exp (Ideal.ofBits .f32 0xBF000000#32 * (d * Ideal.div (Ideal.ofBits .f32 0x3F800000#32) b) * (d * Ideal.div (Ideal.ofBits .f32 0x3F800000#32) b))
    * Ideal.div (Ideal.div (Ideal.ofBits .f32 0x3F800000#32) b) rootTwoPi

/-- The reference's. -/
def rGauss (b d : EReal) : EReal :=
  Ideal.div (Ideal.exp (Ideal.ofBits .f32 0xBF000000#32 * (Ideal.div d b * Ideal.div d b))) (b * rootTwoPi)

theorem gauss_eq (b d : EReal) (hb : b ≠ 0) : kGauss b d = rGauss b d := by
  obtain ⟨q, hq, e⟩ := rootTwoPi_pos
  have h1 : Ideal.ofBits .f32 0x3F800000#32 = (1 : EReal) := Ideal.ofBits_one_f32
  unfold kGauss rGauss
  have hq0 : ((q : ℝ) : EReal) ≠ 0 := by exact_mod_cast hq.ne'
  have hbq : b * (q : EReal) ≠ 0 := mul_ne_zero hb hq0
  have hdiv : ∀ x y : EReal, y ≠ 0 → Ideal.div x y = x * y⁻¹ := fun x y h => if_neg h
  rw [e, h1, hdiv 1 b hb, hdiv _ _ hq0, hdiv d b hb, hdiv _ _ hbq, one_mul, mul_assoc, EReal.mul_inv]
end Cert.KernelIdeal.Hand
end
-- ==== Proof.Arrays.lean ====
/-
  The two regions' arrays as functions of the arguments: the array of centres from the first argument, the density from
  the centres and the bandwidth.
-/
module

public import proofs.«01_k».proof.Proof.Run
public import Idealize.ShloMosaic.Lib.Pipeline.ValueKit
public import Idealize.ShloMosaic.Lib.ValueIdxCore

@[expose] public section

set_option maxRecDepth 16384

noncomputable section

namespace Cert.KernelIdeal.Hand

open Cert.KernelIdeal Cert.KernelIdeal.Gen
open Idealize.ShloMosaic hiding ix1 ix2 ix3
open Idealize.ShloMosaic.ValueIdx (ix1 ix2)
open Idealize.ShloMosaic.TcCoe

variable {F : FTy → Type} [FloatOps F]

/-- The block of eight rows number `b`. -/
def rowsAt (x : Vec F S64x32768 .f32) (b : ℕ) : Vec F S8x32768 .f32 :=
  fun j => x (ix2 ⟨(8 * b + (j 0).val) % 64, Nat.mod_lt _ (by decide)⟩ (j 1))

/-- The array of centres. -/
def centresOf (x : Vec F S64x32768 .f32) : Vec F S64x128 .i32 :=
  fun y => topsOut (zOf (rowsAt x ((y 0).val / 8))) (ix2 ⟨(y 0).val % 8, Nat.mod_lt _ (by decide)⟩ (y 1))

/-- The centres of block `b` of sixteen rows, row by row. -/
def blockCentres (ctr : Vec F S64x128 .i32) (b n : ℕ) : BitVec 32 :=
  ctr (ix2 ⟨(16 * b + n / 5 % 16) % 64, Nat.mod_lt _ (by decide)⟩ ⟨n % 5 % 128, Nat.mod_lt _ (by decide)⟩)

/-- The density. -/
def densityOf (ctr : Vec F S64x128 .i32) (bw : Vec F S1 .f32) : Vec F S64x32768 .f32 :=
  fun y => scattered (bw (ix1 (0 : Fin 1))) (blockCentres ctr ((y 0).val / 16)) 80 (ix2 ⟨(y 0).val % 16, Nat.mod_lt _ (by decide)⟩ (y 1))

theorem centresOf_at (x : Vec F S64x32768 .f32) (y : S64x128.Idx) (b : ℕ) (j : S8x128.Idx) (h0 : (y 0).val = 8 * b + (j 0).val)
    (h1 : (y 1).val = (j 1).val) : centresOf x y = topsOut (zOf (rowsAt x b)) j := by
  have hj : (j 0).val < 8 := (j 0).isLt
  have e : (ix2 ⟨(y 0).val % 8, Nat.mod_lt _ (by decide)⟩ (y 1) : S8x128.Idx) = j := funext fun a => by
    match a with
    | ⟨0, _⟩ => exact Fin.ext (by show (y 0).val % 8 = (j 0).val; omega)
    | ⟨1, _⟩ => exact Fin.ext h1
  unfold centresOf
  rw [e, show (y 0).val / 8 = b by omega]

theorem densityOf_at (ctr : Vec F S64x128 .i32) (bw : Vec F S1 .f32) (y : S64x32768.Idx) (b : ℕ) (j : S16x32768.Idx)
    (h0 : (y 0).val = 16 * b + (j 0).val) (h1 : (y 1).val = (j 1).val) :
    densityOf ctr bw y = scattered (bw (ix1 (0 : Fin 1))) (blockCentres ctr b) 80 j := by
  have hj : (j 0).val < 16 := (j 0).isLt
  have e : (ix2 ⟨(y 0).val % 16, Nat.mod_lt _ (by decide)⟩ (y 1) : S16x32768.Idx) = j := funext fun a => by
    match a with
    | ⟨0, _⟩ => exact Fin.ext (by show (y 0).val % 16 = (j 0).val; omega)
    | ⟨1, _⟩ => exact Fin.ext h1
  unfold densityOf
  rw [e, show (y 0).val / 16 = b by omega]

theorem wordAt_eq (x1 : Vec F S64x128 .i32) (i : grid1.Coords) : wordAt x1 i = blockCentres x1 (i 0).val := by
  funext n
  have hi : (i 0).val < 4 := (i 0).isLt
  refine congrArg x1 (funext fun a => ?_)
  match a with
  | ⟨0, _⟩ => exact Fin.ext (by
      show wordOff i n 0 + 1 * 0 = (16 * (i 0).val + n / 5 % 16) % 64
      rw [wordOff_zero]; omega)
  | ⟨1, _⟩ => exact Fin.ext (by show n % 5 + 1 * 0 = n % 5 % 128; omega)

variable (m : (ℓ : Loc nD τ sig) → Buf (Elt F) ℓ)

theorem idx0_0 : ∀ t : Fin cfg0.N, win0_0.index t = ![t.val, 0] := by decide +kernel
theorem idx0_1 : ∀ t : Fin cfg0.N, win0_1.index t = ![t.val, 0] := by decide +kernel
theorem idx1_2 : ∀ t : Fin cfg1.N, win1_2.index t = ![t.val, 0] := by decide +kernel
theorem idx1_0 : ∀ t : Fin cfg1.N, win1_0.index t = ![0, 0] := by decide +kernel
theorem idx1_1 : ∀ t : Fin cfg1.N, win1_1.index t = ![0] := by decide +kernel
theorem coords1 : ∀ t : Fin cfg1.N, (grid1.coords t 0).val = t.val := by decide +kernel
theorem pts0 : cfg0.N = 8 := by decide +kernel
theorem pts1 : cfg1.N = 4 := by decide +kernel

theorem rows_eq (c : Dev nD) (t : Fin cfg0.N) : rows m c t = rowsAt (m ((c : Thread nD τ).loc main_arg0)) t.val := by
  funext y
  have ht : t.val < 8 := pts0 ▸ t.isLt
  have hy : (y 0).val < 8 := (y 0).isLt
  unfold rows rowsAt
  refine congrArg (m ((c : Thread nD τ).loc main_arg0)) (funext fun a => ?_)
  match a with
  | ⟨0, _⟩ => exact Fin.ext (by blk_simp [idx0_0]; show t.val * 8 + (y 0).val = (8 * t.val + (y 0).val) % 64; omega)
  | ⟨1, _⟩ => exact Fin.ext (by blk_simp [idx0_0]; rfl)

theorem centres_arr (c : Dev nD) : U1 m c (Proc.devRef .tc main_call0_v0) = centresOf (m ((c : Thread nD τ).loc main_arg0)) := by
  refine (Pipeline.afterRegion_arr (dats0 m c) (U0 m c) launch0.win.arr_inj 1).trans ?_
  refine (dats0 m c).arrAt_eq_of_covers 1 _ (by decide +kernel) fun t hf y => ?_
  blk_simp
  rw [after0_1, rows_eq]
  have ht : t.val < 8 := pts0 ▸ t.isLt
  have hy : (y 0).val < 8 := (y 0).isLt
  have e0 : ((((cfg0.win 1).blk t).view.emb y) 0).val = 8 * t.val + (y 0).val := by
    blk_simp [idx0_1]; show t.val * 8 + (y 0).val = _; omega
  have e1 : (((cfg0.win 1).blk t).view.emb y) 1 = y 1 := Fin.ext (by blk_simp [idx0_1])
  exact (centresOf_at _ _ t.val y e0 (congrArg Fin.val e1)).symm

theorem centres_eq (c : Dev nD) (t : Fin cfg1.N) : centres m c t = centresOf (m ((c : Thread nD τ).loc main_arg0)) := by
  funext y
  rw [← centres_arr]
  unfold centres
  refine congrArg (U1 m c (Proc.devRef .tc main_call0_v0)) (funext fun a => ?_)
  match a with
  | ⟨0, _⟩ => exact Fin.ext (by blk_simp [idx1_0])
  | ⟨1, _⟩ => exact Fin.ext (by blk_simp [idx1_0])

theorem width_eq (c : Dev nD) (t : Fin cfg1.N) (h : 0 < S1.numel) :
    width m c t (Shape.Idx.first h) = m ((c : Thread nD τ).loc main_arg1) (ix1 (0 : Fin 1)) := by
  unfold width
  rw [U1_of m c main_arg1 (by decide)]
  refine congrArg (m ((c : Thread nD τ).loc main_arg1)) (funext fun a => ?_)
  match a with
  | ⟨0, _⟩ => exact Subsingleton.elim (α := Fin 1) _ _

theorem density_arr (c : Dev nD) : U2 m c (Proc.devRef .tc main_v0)
    = densityOf (centresOf (m ((c : Thread nD τ).loc main_arg0))) (m ((c : Thread nD τ).loc main_arg1)) := by
  refine (Pipeline.afterRegion_arr (dats1 m c) (U1 m c) launch1.win.arr_inj 2).trans ?_
  refine (dats1 m c).arrAt_eq_of_covers 2 _ (by decide +kernel) fun t hf y => ?_
  blk_simp
  rw [after1_2]
  have ht : t.val < 4 := pts1 ▸ t.isLt
  have hy : (y 0).val < 16 := (y 0).isLt
  have e0 : ((((cfg1.win 2).blk t).view.emb y) 0).val = 16 * t.val + (y 0).val := by
    blk_simp [idx1_2]; show t.val * 16 + (y 0).val = _; omega
  have e1 : (((cfg1.win 2).blk t).view.emb y) 1 = y 1 := Fin.ext (by blk_simp [idx1_2])
  rw [centres_eq, width_eq, wordAt_eq, coords1]
  exact (densityOf_at _ _ _ t.val y e0 (congrArg Fin.val e1)).symm

end Cert.KernelIdeal.Hand
end
-- ==== Proof.Heads.lean ====
/-
  A row's best head: its greatest value and the smallest column among the lanes that hold it are the greatest key of the
  lanes, and the lanes the kernel pops are those with that key.
-/
module

public import proofs.«01_k».proof.Proof.Lanes

@[expose] public section

set_option maxRecDepth 16384

noncomputable section

namespace Cert.KernelIdeal.Hand

open Cert.KernelIdeal Cert.KernelIdeal.Gen Cert.Order
open Idealize.ShloMosaic Idealize.ShloMosaic.ValueIdx

theorem lift_row (r : Fin 8) (k : Fin 128) : reduces_S8x128_S8.lift (ix1 r : S8.Idx) k = (ix2 r k : S8x128.Idx) := by
  funext a
  match a with
  | ⟨0, _⟩ => rfl
  | ⟨1, _⟩ => rfl

theorem negInf : (FloatOps.ofBits (F := Ideal) .f32 0xFF800000#32 : EReal) = ⊥ := by
  show Ideal.ofBits .f32 0xFF800000#32 = ⊥
  simp [Ideal.ofBits, Ideal.ieee]

theorem rowMax_fold (v : FVec Ideal S8x128 .f32) (r : Fin 8) (u : Fin 1) :
    rowMax v (ix2 r u : S8x1.Idx) = (Finset.univ : Finset (Fin 128)).fold max (⊥ : EReal) (fun l => v (ix2 r l)) := by
  refine (shapeCast_a_a1_apply _ shapeCasts_S8_S8x1 r u).trans ?_
  refine (Ideal.multiReduction_maximumf_single v _ reduces_S8x128_S8 _ _ (ix1 r)).trans ?_
  rw [negInf]
  exact Finset.fold_congr fun k _ => congrArg v (lift_row r k)

theorem rowMax_le (v : FVec Ideal S8x128 .f32) (r : Fin 8) (u : Fin 1) (l : Fin 128) :
    (v (ix2 r l) : EReal) ≤ rowMax v (ix2 r u : S8x1.Idx) := by
  rw [rowMax_fold]
  exact Finset.le_fold_max _ |>.mpr (Or.inr ⟨l, Finset.mem_univ _, le_rfl⟩)

theorem rowMax_at (v : FVec Ideal S8x128 .f32) (r : Fin 8) (u : Fin 1) :
    ∃ l : Fin 128, (v (ix2 r l) : EReal) = rowMax v (ix2 r u : S8x1.Idx) := by
  rcases (Finset.le_fold_max (s := (Finset.univ : Finset (Fin 128))) (b := (⊥ : EReal)) (f := fun l => v (ix2 r l))
    (rowMax v (ix2 r u : S8x1.Idx))).mp (rowMax_fold v r u).le with h | ⟨l, _, h⟩
  · exact ⟨0, le_antisymm (rowMax_le v r u 0) (h.trans bot_le)⟩
  · exact ⟨l, le_antisymm (rowMax_le v r u l) h⟩

theorem elig_one (v : FVec Ideal S8x128 .f32) (r : Fin 8) (l : Fin 128) :
    elig v (ix2 r l) = 1#1 ↔ (v (ix2 r l) : EReal) = rowMax v (ix2 r 0 : S8x1.Idx) := by
  have hb : broadcastTo S8x128 (rowMax v) broadcasts_S8x1_S8x128 (ix2 r l) = rowMax v (ix2 r 0 : S8x1.Idx) :=
    broadcastTo_apply _ _ (ix2 r l) (ix2 r 0 : S8x1.Idx) fun ax => by
      match ax with
      | ⟨0, _⟩ => rfl
      | ⟨1, _⟩ => rfl
  show FloatOps.cmpf (F := Ideal) (φ := .f32) .oeq (v (ix2 r l)) (broadcastTo S8x128 (rowMax v) broadcasts_S8x1_S8x128 (ix2 r l)) = 1#1 ↔ _
  rw [eq_one, hb]

theorem minsi_toInt (x y : BitVec 32) : min x.toInt y.toInt = (IntOp.minsi x y).toInt := by
  unfold IntOp.minsi
  by_cases h : x.toInt < y.toInt
  · rw [if_pos (BitVec.slt_iff_toInt_lt.mpr h), min_eq_left h.le]
  · rw [if_neg (fun h' => h (BitVec.slt_iff_toInt_lt.mp h')), min_eq_right (not_lt.mp h)]

theorem maxsi_toInt (x y : BitVec 32) : max x.toInt y.toInt = (IntOp.maxsi x y).toInt := by
  unfold IntOp.maxsi
  by_cases h : y.toInt < x.toInt
  · rw [if_pos (BitVec.slt_iff_toInt_lt.mpr h), max_eq_left h.le]
  · rw [if_neg (fun h' => h (BitVec.slt_iff_toInt_lt.mp h')), max_eq_right (not_lt.mp h)]

theorem bestCol_fold (p : P2 Ideal) (r : Fin 8) (u : Fin 1) :
    (bestCol p (ix2 r u : S8x1.Idx)).toInt = (Finset.univ : Finset (Fin 128)).fold min (2147483647 : ℤ)
      (fun l => if (p.1 (ix2 r l) : EReal) = rowMax p.1 (ix2 r 0 : S8x1.Idx) then (p.2 (ix2 r l)).toInt else 32768) := by
  have e : bestCol p (ix2 r u : S8x1.Idx) = (Finset.univ : Finset (Fin 128)).fold IntOp.minsi 2147483647#32
      ((select (elig p.1) p.2 (broadcast S8x128 32768#32)) ∘ reduces_S8x128_S8.lift (ix1 r : S8.Idx)) := by
    refine (shapeCast_a_a1_apply _ shapeCasts_S8_S8x1 r u).trans ?_
    refine (multiReductionI_eq_fold .minsi _ _ reduces_S8x128_S8 _ (ix1 r)).trans ?_
    exact reduces_S8x128_S8.fold_filter_drop_single IntOp.minsi _ _ _
  rw [e]
  refine (Finset.fold_hom (s := (Finset.univ : Finset (Fin 128))) (m := BitVec.toInt) (op := IntOp.minsi) (op' := min)
    (fun x y => (minsi_toInt x y).symm)).symm.trans ?_
  refine Finset.fold_congr fun l _ => ?_
  show (select (elig p.1) p.2 (broadcast S8x128 32768#32) (reduces_S8x128_S8.lift (ix1 r : S8.Idx) l)).toInt = _
  rw [lift_row]
  show (if elig p.1 (ix2 r l) = 1#1 then p.2 (ix2 r l) else 32768#32).toInt = _
  by_cases h : elig p.1 (ix2 r l) = 1#1
  · rw [if_pos h, if_pos ((elig_one _ _ _).mp h)]
  · rw [if_neg h, if_neg (fun h' => h ((elig_one _ _ _).mpr h'))]; rfl

/-- The row's best head as a key. -/
def headKey (p : P2 Ideal) (r : Fin 8) : Key := mkKey (rowMax p.1 (ix2 r 0 : S8x1.Idx)) (bestCol p (ix2 r 0 : S8x1.Idx)).toInt

/-- It is the greatest key of the row's lanes. -/
theorem head_row {X : Fin 128 → ℕ → Key} {p : P2 Ideal} {r : Fin 8} (h : ∀ l, X l 0 = key p (ix2 r l)) (hc : ∀ l, colOk (X l 0)) :
    Head X (headKey p r) := by
  have hcol : ∀ l, (p.2 (ix2 r l)).toInt ≤ 32768 := fun l => by
    have := (hc l).2; rw [h l] at this; exact this
  have hle : ∀ l, (p.1 (ix2 r l) : EReal) = rowMax p.1 (ix2 r 0 : S8x1.Idx) → (bestCol p (ix2 r 0 : S8x1.Idx)).toInt ≤ (p.2 (ix2 r l)).toInt :=
    fun l hl => by
      rw [bestCol_fold]
      exact Finset.fold_min_le _ |>.mpr (Or.inr ⟨l, Finset.mem_univ _, by rw [if_pos hl]⟩)
  constructor
  · intro l
    rw [h l]
    unfold key headKey
    rw [mkKey_le]
    rcases lt_or_eq_of_le (rowMax_le p.1 r 0 l) with h' | h'
    · exact Or.inl h'
    · exact Or.inr ⟨h', hle l h'⟩
  · obtain ⟨l₀, h₀⟩ := rowMax_at p.1 r 0
    have hb := (bestCol_fold p r 0).ge
    rcases (Finset.fold_min_le _).mp hb with h' | ⟨l, _, h'⟩
    · exact absurd ((h'.trans (hle l₀ h₀)).trans (hcol l₀)) (by decide)
    · by_cases hl : (p.1 (ix2 r l) : EReal) = rowMax p.1 (ix2 r 0 : S8x1.Idx)
      · rw [if_pos hl] at h'
        refine ⟨l, ?_⟩
        rw [h l]
        exact mkKey_inj.mpr ⟨hl, le_antisymm h' (hle l hl)⟩
      · rw [if_neg hl] at h'
        refine ⟨l₀, ?_⟩
        rw [h l₀]
        exact mkKey_inj.mpr ⟨h₀, le_antisymm ((hcol l₀).trans h') (hle l₀ h₀)⟩

/-- The lanes the kernel pops are those with the greatest key. -/
theorem popped_one (p : P2 Ideal) (r : Fin 8) (l : Fin 128) : popped p (ix2 r l) = 1#1 ↔ key p (ix2 r l) = headKey p r := by
  have hb : broadcastTo S8x128 (bestCol p) broadcasts_S8x1_S8x128 (ix2 r l) = bestCol p (ix2 r 0 : S8x1.Idx) :=
    broadcastTo_apply _ _ (ix2 r l) (ix2 r 0 : S8x1.Idx) fun ax => by
      match ax with
      | ⟨0, _⟩ => rfl
      | ⟨1, _⟩ => rfl
  show (elig p.1 (ix2 r l) &&& IntOp.cmpi .eq (p.2 (ix2 r l)) (broadcastTo S8x128 (bestCol p) broadcasts_S8x1_S8x128 (ix2 r l))) = 1#1 ↔ _
  rw [and_one, elig_one, ieq_one, hb]
  unfold key headKey
  rw [mkKey_inj, BitVec.toInt_inj]

/-- What `put` leaves in its lane, and elsewhere. -/
theorem put_at (k : BitVec 32) (p : P2 Ideal) (o : IVec S8x128 32) (r : Fin 8) (l : Fin 128) :
    put k p o (ix2 r l) = if BitVec.ofNat 32 l.val = k then bestCol p (ix2 r 0 : S8x1.Idx) else o (ix2 r l) := by
  have hb : broadcastTo S8x128 (shapeCast S8x1 (bestCol p) shapeCasts_S8x1_S8x1) broadcasts_S8x1_S8x128 (ix2 r l) = bestCol p (ix2 r 0 : S8x1.Idx) := by
    refine (broadcastTo_apply _ _ (ix2 r l) (ix2 r 0 : S8x1.Idx) fun ax => by
      match ax with
      | ⟨0, _⟩ => rfl
      | ⟨1, _⟩ => rfl).trans (shapeCast_apply _ _ _ _ rfl)
  have hl : laneV (ix2 r l) = BitVec.ofNat 32 l.val := by
    show BitVec.ofNat 32 (0 * 128 + l.val) = _
    rw [Nat.zero_mul, Nat.zero_add]
  show (if IntOp.cmpi .eq (laneV (ix2 r l)) k = 1#1 then broadcastTo S8x128 (shapeCast S8x1 (bestCol p) shapeCasts_S8x1_S8x1) broadcasts_S8x1_S8x128 (ix2 r l)
    else o (ix2 r l)) = _
  rw [hb, hl]
  simp only [ieq_one]

end Cert.KernelIdeal.Hand
end
-- ==== Proof.Scans.lean ====
/-
  What the top-five kernel's lanes hold after all chunks: the best of the columns that fall on the lane.
-/
module

public import proofs.«01_k».proof.Proof.TopsLoops
public import proofs.«01_k».proof.Proof.Heads

@[expose] public section

set_option maxRecDepth 16384

noncomputable section

namespace Cert.KernelIdeal.Hand

open Cert.KernelIdeal Cert.KernelIdeal.Gen Cert.Order
open Idealize.ShloMosaic Idealize.ShloMosaic.ValueIdx

variable (x : Vec Ideal S8x32768 .f32) (r : Fin 8)

/-- The key of a column of the row. -/
def colKey (c : Fin 32768) : Key := mkKey (x (ix2 r c)) (c.val : ℤ)

theorem colKey_inj : Function.Injective (colKey x r) := fun a b h => by
  have := (mkKey_inj.mp h).2
  exact Fin.ext (by exact_mod_cast this)

/-- The key of the empty entry. -/
def noKey : Key := mkKey ⊥ 32768

theorem key_none (i : S8x128.Idx) : key (none2 : P2 Ideal) i = noKey := by
  unfold key noKey
  exact mkKey_inj.mpr ⟨negInf, show (32768#32 : BitVec 32).toInt = 32768 by decide⟩

theorem toInt_small (n : ℕ) (h : n < 2147483648) : (BitVec.ofNat 32 n).toInt = n := by
  rw [BitVec.toInt_eq_toNat_of_lt] <;> rw [BitVec.toNat_ofNat, Nat.mod_eq_of_lt (by omega)]
  omega

theorem chunk_col (n : ℕ) (hn : n < 256) (l : Fin 128) : ((zOf x n).2 (ix2 r l)).toInt = ((128 * n + l.val : ℕ) : ℤ) := by
  have e : (zOf x n).2 (ix2 r l) = BitVec.ofNat 32 (128 * n + l.val) := by
    show BitVec.ofNat 32 (0 * 128 + l.val) + BitVec.ofNat 32 (128 * n) = _
    rw [← BitVec.ofNat_add, Nat.zero_mul, Nat.zero_add, Nat.add_comm]
  rw [e, toInt_small _ (by omega)]

theorem chunk_lt (n : ℕ) (hn : n < 256) (l : Fin 128) : 128 * n + l.val < 32768 := by omega

theorem chunk_val (n : ℕ) (hn : n < 256) (l : Fin 128) : (zOf x n).1 (ix2 r l) = x (ix2 r ⟨128 * n + l.val, chunk_lt n hn l⟩) := by
  refine congrArg x (congrArg (ix2 r) (Fin.ext ?_))
  show (128 * n + l.val) % 32768 = 128 * n + l.val
  omega

theorem chunk_key (n : ℕ) (hn : n < 256) (l : Fin 128) : key (zOf x n) (ix2 r l) = colKey x r ⟨128 * n + l.val, chunk_lt n hn l⟩ :=
  mkKey_inj.mpr ⟨chunk_val x r n hn l, chunk_col x r n hn l⟩

/-- The columns set `s` has put on lane `l` after `q` chunks. -/
def colsOf (l : Fin 128) (s q : ℕ) : Finset (Fin 32768) :=
  Finset.univ.filter fun c => c.val % 128 = l.val ∧ c.val / 128 % 4 = s ∧ c.val / 512 < q

theorem mem_colsOf {l : Fin 128} {s q : ℕ} {c : Fin 32768} :
    c ∈ colsOf l s q ↔ c.val % 128 = l.val ∧ c.val / 128 % 4 = s ∧ c.val / 512 < q := by
  unfold colsOf
  rw [Finset.mem_filter]
  exact and_iff_right (Finset.mem_univ _)

theorem colsOf_zero (l : Fin 128) (s : ℕ) : colsOf l s 0 = ∅ := by
  ext c
  rw [mem_colsOf]
  simp

theorem colsOf_succ (l : Fin 128) (s q : ℕ) (hs : s < 4) (hq : q < 64) :
    colsOf l s (q + 1) = insert ⟨128 * (4 * q + s) + l.val, chunk_lt _ (by omega) l⟩ (colsOf l s q) := by
  ext c
  rw [Finset.mem_insert, mem_colsOf, mem_colsOf, Fin.ext_iff]
  have hl := l.isLt
  have hc := c.isLt
  show _ ↔ c.val = 128 * (4 * q + s) + l.val ∨ _
  omega

/-- What holds of a lane of one set after `q` chunks. -/
structure ScanOk (s q : ℕ) (l : Fin 128) (t : L5 Ideal) : Prop where
  best : Best (colKey x r) noKey 5 (levq (keys5 t (ix2 r l))) (colsOf l s q)
  sorted : Sorted5 (keys5 t (ix2 r l))
  older : Older5 (keys5 t (ix2 r l)) ((128 * (4 * q + s) : ℕ) : ℤ)
  ok : Ok5 (keys5 t (ix2 r l))

theorem older_mono {k : Key} {a b : ℤ} (h : older k a) (hab : a ≤ b) : older k b := h.imp id (fun h' => lt_of_lt_of_le h' hab)

theorem colOk_no : colOk noKey := ⟨by show (0 : ℤ) ≤ 32768; decide, by show (32768 : ℤ) ≤ 32768; decide⟩

theorem colOk_col (c : Fin 32768) : colOk (colKey x r c) := by
  have := c.isLt
  exact ⟨by show (0 : ℤ) ≤ (c.val : ℤ); omega, by show (c.val : ℤ) ≤ 32768; omega⟩

variable (hx : ∀ c, (⊥ : EReal) < x (ix2 r c))
include hx

theorem scan_ok (s : ℕ) (hs : s < 4) (l : Fin 128) : ∀ q ≤ 64, ScanOk x r s q l (scan5 (zOf x) s zero5 q)
  | 0, _ => by
    have e : keys5 (scan5 (zOf x) s zero5 0) (ix2 r l) = (noKey, noKey, noKey, noKey, noKey) := by
      show (key none2 _, key none2 _, key none2 _, key none2 _, key none2 _) = _
      rw [key_none]
    refine ⟨?_, ?_, ?_, ?_⟩ <;> rw [e]
    · rw [colsOf_zero]; exact best_empty _ _
    · exact ⟨le_rfl, le_rfl, le_rfl, le_rfl⟩
    · exact ⟨Or.inl rfl, Or.inl rfl, Or.inl rfl, Or.inl rfl, Or.inl rfl⟩
    · exact ⟨colOk_no, colOk_no, colOk_no, colOk_no, colOk_no⟩
  | q + 1, hq => by
    have ih := scan_ok s hs l q (by omega)
    have hn : 4 * q + s < 256 := by omega
    have hcol := chunk_col x r (4 * q + s) hn l
    have hz : (⊥ : EReal) < (zOf x (4 * q + s)).1 (ix2 r l) := by rw [chunk_val x r _ hn]; exact hx _
    have hb : ((128 * (4 * q + s) : ℕ) : ℤ) ≤ ((zOf x (4 * q + s)).2 (ix2 r l)).toInt := by rw [hcol]; omega
    obtain ⟨o0, o1, o2, o3, o4⟩ := ih.older
    have e : keys5 (scan5 (zOf x) s zero5 (q + 1)) (ix2 r l) = put5 (keys5 (scan5 (zOf x) s zero5 q) (ix2 r l))
        (colKey x r ⟨128 * (4 * q + s) + l.val, chunk_lt _ hn l⟩) := by
      rw [← chunk_key x r _ hn l]
      exact keys5_ins hz ⟨older_mono o0 hb, older_mono o1 hb, older_mono o2 hb, older_mono o3 hb, older_mono o4 hb⟩ ih.sorted
    refine ⟨?_, ?_, ?_, ?_⟩ <;> rw [e]
    · rw [colsOf_succ l s q hs (by omega)]
      refine Best.insert ih.best fun h => ?_
      have := (mem_colsOf.mp h).2.2
      have hl := l.isLt
      revert this
      show ¬ (128 * (4 * q + s) + l.val) / 512 < q
      omega
    · exact sorted_put5 ih.sorted _
    · have hb' : ((128 * (4 * q + s) : ℕ) : ℤ) ≤ ((128 * (4 * (q + 1) + s) : ℕ) : ℤ) := by omega
      refine put5_all (P := fun k => older k ((128 * (4 * (q + 1) + s) : ℕ) : ℤ)) (older_mono o0 hb') (older_mono o1 hb')
        (older_mono o2 hb') (older_mono o3 hb') (older_mono o4 hb') (Or.inr ?_)
      have hl := l.isLt
      show ((128 * (4 * q + s) + l.val : ℕ) : ℤ) < _
      omega
    · exact put5_all (P := colOk) ih.ok.1 ih.ok.2.1 ih.ok.2.2.1 ih.ok.2.2.2.1 ih.ok.2.2.2.2 (colOk_col x r _)

omit hx

/-- The columns of a lane. -/
def laneCols (l : Fin 128) : Finset (Fin 32768) := Finset.univ.filter fun c => c.val % 128 = l.val

theorem mem_laneCols {l : Fin 128} {c : Fin 32768} : c ∈ laneCols l ↔ c.val % 128 = l.val := by
  unfold laneCols
  rw [Finset.mem_filter]
  exact and_iff_right (Finset.mem_univ _)

theorem laneCols_eq (l : Fin 128) : ((colsOf l 0 64 ∪ colsOf l 1 64) ∪ colsOf l 2 64) ∪ colsOf l 3 64 = laneCols l := by
  ext c
  simp only [Finset.mem_union, mem_colsOf, mem_laneCols]
  have hc := c.isLt
  omega

theorem apart1 (l : Fin 128) : Disjoint (colsOf l 0 64) (colsOf l 1 64) := by
  rw [Finset.disjoint_left]; intro c; simp only [mem_colsOf]; omega
theorem apart2 (l : Fin 128) : Disjoint (colsOf l 0 64 ∪ colsOf l 1 64) (colsOf l 2 64) := by
  rw [Finset.disjoint_left]; intro c; simp only [Finset.mem_union, mem_colsOf]; omega
theorem apart3 (l : Fin 128) : Disjoint ((colsOf l 0 64 ∪ colsOf l 1 64) ∪ colsOf l 2 64) (colsOf l 3 64) := by
  rw [Finset.disjoint_left]; intro c; simp only [Finset.mem_union, mem_colsOf]; omega

include hx

/-- The five levels after all chunks. -/
theorem scanned5_best (l : Fin 128) : Best (colKey x r) noKey 5 (levq (keys5 (scanned5 (zOf x)) (ix2 r l))) (laneCols l)
    ∧ Ok5 (keys5 (scanned5 (zOf x)) (ix2 r l)) := by
  have h0 := scan_ok x r hx 0 (by omega) l 64 le_rfl
  have h1 := scan_ok x r hx 1 (by omega) l 64 le_rfl
  have h2 := scan_ok x r hx 2 (by omega) l 64 le_rfl
  have h3 := scan_ok x r hx 3 (by omega) l 64 le_rfl
  unfold scanned5 all5
  rw [keys5_merge, keys5_merge, keys5_merge, ← laneCols_eq]
  exact ⟨((h0.best.join h1.best (apart1 l)).join h2.best (apart2 l)).join h3.best (apart3 l),
    ok5_join (ok5_join (ok5_join h0.ok h1.ok) h2.ok) h3.ok⟩

theorem best3 {s q : ℕ} {l : Fin 128} {t : L5 Ideal} (h : ScanOk x r s q l t) :
    Best (colKey x r) noKey 3 (levr (key t.1 (ix2 r l), key t.2.1 (ix2 r l), key t.2.2.1 (ix2 r l))) (colsOf l s q) := by
  rw [best_levr]
  intro U hU
  exact ⟨h.best U hU 0 (by omega), h.best U hU 1 (by omega), h.best U hU 2 (by omega)⟩

/-- The three levels after all chunks. -/
theorem scanned3_best (l : Fin 128) : ∃ q : R Key, Rep (scanned3 (zOf x)) (ix2 r l) q ∧ Best (colKey x r) noKey 3 (levr q) (laneCols l) := by
  have h0 := scan_ok x r hx 0 (by omega) l 64 le_rfl
  have h1 := scan_ok x r hx 1 (by omega) l 64 le_rfl
  have h2 := scan_ok x r hx 2 (by omega) l 64 le_rfl
  have h3 := scan_ok x r hx 3 (by omega) l 64 le_rfl
  unfold scanned3 all3
  rw [scan3_proj, scan3_proj, scan3_proj, scan3_proj, ← laneCols_eq]
  exact ⟨_, rep_merge (rep_merge (rep_merge (rep_proj _ _ h0.ok) (rep_proj _ _ h1.ok)) (rep_proj _ _ h2.ok)) (rep_proj _ _ h3.ok),
    (((best3 x r hx h0).join3 (best3 x r hx h1) (apart1 l)).join3 (best3 x r hx h2) (apart2 l)).join3 (best3 x r hx h3) (apart3 l)⟩

end Cert.KernelIdeal.Hand
end
-- ==== Proof.Scatter.lean ====
/-
  The block of sixteen rows at the extended reals: at each column of a row the sum, over the row's five centres, of the
  Gaussians whose strips hold the column.
-/
module

public import proofs.«01_k».proof.Proof.Terms
public import proofs.«01_k».proof.Proof.Arrays
public import proofs.«01_k».proof.Proof.Scans

@[expose] public section

set_option maxRecDepth 65536

noncomputable section

namespace Cert.KernelIdeal.Hand

open Cert.KernelIdeal Cert.KernelIdeal.Gen
open Idealize.ShloMosaic hiding ix1 ix2 ix3
open Idealize.ShloMosaic.ValueIdx (ix1 ix2)
open scoped BigOperators

/-- Column `j` as an extended real. -/
abbrev colE (j : ℕ) : EReal := ((j : ℝ) : EReal)

/-- The share of the centre at column `c` in column `j`. -/
def share (b : EReal) (c j : ℕ) : EReal :=
  if startCol c ≤ j ∧ j < startCol c + 256 then kGauss b (colE j - colE c) else 0

theorem startCol_le (c : ℕ) : startCol c ≤ 32512 := by unfold startCol; omega

theorem toInt_col (c : ℕ) (h : c < 32768) : ((((BitVec.ofNat 32 c).toInt : ℤ) : ℝ) : EReal) = colE c := by
  rw [toInt_small c (by omega)]; norm_cast

/-- One centre's strip, read at a column. -/
theorem bump_at (b : EReal) (c : Fin 32768) (cur : Vec Ideal S1x256 .f32) (y : S1x256.Idx) :
    bump (F := Ideal) b (BitVec.ofNat 32 c.val) cur y = cur y + kGauss b (colE (startCol c.val + (y 1).val) - colE c.val) := by
  have hl : (y 1).val < 256 := (y 1).isLt
  have e6 : k1_pay6 (F := Ideal) (BitVec.ofNat 32 c.val) y = colE (startCol c.val + (y 1).val) := by
    have e : k1_pay6 (F := Ideal) (BitVec.ofNat 32 c.val) y
      = ((((BitVec.ofNat 32 (0 * 256 + (y 1).val)).toInt : ℤ) : ℝ) : EReal) + ((((k1_mult1 (BitVec.ofNat 32 c.val)).toInt : ℤ) : ℝ) : EReal) := by chain_rfl
    rw [e, k1_start c, toInt_col _ (by omega), toInt_col _ (by have := startCol_le c.val; omega), ← EReal.coe_add]
    congr 1
    push_cast
    ring
  have e7 : bump (F := Ideal) b (BitVec.ofNat 32 c.val) cur y
      = shapeCast S1x256 cur shapeCasts_S1x256_S1x256 y + kGauss b (k1_pay6 (F := Ideal) (BitVec.ofNat 32 c.val) y - ((((BitVec.ofNat 32 c.val).toInt : ℤ) : ℝ) : EReal)) := by
    chain_rfl
  rw [e7, e6, toInt_col _ c.isLt]
  congr 1
  exact shapeCast_apply _ _ _ _ rfl

/-- What the `n`-th centre adds at row `i`, column `j`. -/
def part (b : EReal) (c : ℕ → Fin 32768) (i j n : ℕ) : EReal := if n / 5 % 16 = i then share b (c n).val j else 0

theorem scattered_at (b : EReal) (c : ℕ → Fin 32768) (y : S16x32768.Idx) (n : ℕ) :
    scattered (F := Ideal) b (fun n => BitVec.ofNat 32 (c n).val) n y = ∑ k ∈ Finset.range n, part b c (y 0).val (y 1).val k := by
  induction n with
  | zero =>
    show Ideal.ofBits .f32 0x00000000#32 = _
    rw [Finset.range_zero, Finset.sum_empty]
    simp [Ideal.ofBits, Ideal.ieee]
  | succ n ih =>
    rw [Finset.sum_range_succ, ← ih]
    have hs := startCol_le (c n).val
    have hoff : (k1_mult1 (BitVec.ofNat 32 (c n).val)).toNat = startCol (c n).val := by
      rw [k1_start (c n), BitVec.toNat_ofNat]; omega
    have hiff : (∀ a, stripOff n (BitVec.ofNat 32 (c n).val) a ≤ (y a).val ∧ (y a).val < stripOff n (BitVec.ofNat 32 (c n).val) a + S1x256.size a)
        ↔ n / 5 % 16 = (y 0).val ∧ startCol (c n).val ≤ (y 1).val ∧ (y 1).val < startCol (c n).val + 256 := by
      rw [Fin.forall_fin_two]
      show ((n / 5 % 16 ≤ (y 0).val ∧ (y 0).val < n / 5 % 16 + 1)
        ∧ ((k1_mult1 (BitVec.ofNat 32 (c n).val)).toNat ≤ (y 1).val ∧ (y 1).val < (k1_mult1 (BitVec.ofNat 32 (c n).val)).toNat + 256)) ↔ _
      rw [hoff]
      omega
    show (if h : _ then bump b (BitVec.ofNat 32 (c n).val) (View.ld (scattered (F := Ideal) b (fun n => BitVec.ofNat 32 (c n).val) n) (stripRect n (BitVec.ofNat 32 (c n).val)))
      (Rect.unitLocal (s := S16x32768) (off := stripOff n (BitVec.ofNat 32 (c n).val)) (size := S1x256.size) y h)
      else scattered (F := Ideal) b (fun n => BitVec.ofNat 32 (c n).val) n y) = _
    by_cases h : ∀ a, stripOff n (BitVec.ofNat 32 (c n).val) a ≤ (y a).val ∧ (y a).val < stripOff n (BitVec.ofNat 32 (c n).val) a + S1x256.size a
    · rw [dif_pos h, bump_at]
      obtain ⟨h0, h1⟩ := hiff.mp h
      unfold part share
      rw [if_pos h0, if_pos h1]
      have el : startCol (c n).val + (Rect.unitLocal (s := S16x32768) (off := stripOff n (BitVec.ofNat 32 (c n).val)) (size := S1x256.size) y h 1).val = (y 1).val := by
        show startCol (c n).val + ((y 1).val - (k1_mult1 (BitVec.ofNat 32 (c n).val)).toNat) = (y 1).val
        rw [hoff]; omega
      rw [el]
      congr 1
      refine congrArg (scattered (F := Ideal) b (fun n => BitVec.ofNat 32 (c n).val) n) (funext fun a => Fin.ext ?_)
      show stripOff n (BitVec.ofNat 32 (c n).val) a + 1 * ((y a).val - stripOff n (BitVec.ofNat 32 (c n).val) a) = (y a).val
      have := (h a).1
      omega
    · rw [dif_neg h]
      have : part b c (y 0).val (y 1).val n = 0 := by
        unfold part share
        by_cases h0 : n / 5 % 16 = (y 0).val
        · rw [if_pos h0, if_neg fun h1 => h (hiff.mpr ⟨h0, h1⟩)]
        · rw [if_neg h0]
      rw [this, add_zero]

/-- Sums of five at a time. -/
theorem sum_fives (f : ℕ → EReal) (q : ℕ) : ∑ n ∈ Finset.range (5 * q), f n = ∑ p ∈ Finset.range q, ∑ k ∈ Finset.range 5, f (5 * p + k) := by
  induction q with
  | zero => rfl
  | succ q ih => rw [Finset.sum_range_succ, ← ih, show 5 * (q + 1) = 5 * q + 5 by ring, Finset.sum_range_add]

/-- The block after all eighty centres. -/
theorem scattered_all (b : EReal) (c : ℕ → Fin 32768) (y : S16x32768.Idx) :
    scattered (F := Ideal) b (fun n => BitVec.ofNat 32 (c n).val) 80 y = ∑ k ∈ Finset.range 5, share b (c (5 * (y 0).val + k)).val (y 1).val := by
  have hy : (y 0).val < 16 := (y 0).isLt
  have ep : ∀ p < 16, ∀ k ∈ Finset.range 5, part b c (y 0).val (y 1).val (5 * p + k) = if p = (y 0).val then share b (c (5 * p + k)).val (y 1).val else 0 := fun p hp k hk => by
    have hk := Finset.mem_range.mp hk
    unfold part
    rw [show (5 * p + k) / 5 % 16 = p by omega]
  rw [scattered_at, show 80 = 5 * 16 from rfl, sum_fives, Finset.sum_eq_single (y 0).val]
  · exact Finset.sum_congr rfl fun k hk => (ep _ hy k hk).trans (if_pos rfl)
  · exact fun p hp hne => Finset.sum_eq_zero fun k hk => (ep p (Finset.mem_range.mp hp) k hk).trans (if_neg hne)
  · exact fun h => absurd (Finset.mem_range.mpr hy) h

end Cert.KernelIdeal.Hand
end
-- ==== Proof.TopK.lean ====
/-
  The reference's `top_k` at the extended reals: the columns that come first by value and then by position.
-/
module

public import proofs.«01_k».proof.Proof.Lanes
public import Idealize.ShloMosaic.Lib.SortFacts
public import Idealize.ShloMosaic.Lib.SortPrefix

@[expose] public section

set_option maxRecDepth 16384

noncomputable section

namespace Cert.KernelIdeal.Hand

open Cert.KernelIdeal
open Idealize.ShloMosaic Idealize.ShloMosaic.ValueIdx

/-- A position's key: its value, and then the smaller position first. -/
def posKey {n : ℕ} (v : Fin n → EReal) (c : Fin n) : Key := mkKey (v c) (c.val : ℤ)

/-- A larger value. -/
def byValue {n : ℕ} (v : Fin n → EReal) (a b : Fin n) : Bool := FloatOps.cmpfTotal (F := Ideal) (φ := .f32) .gt (v a) (v b) == 1#1
/-- A larger key. -/
def byKey {n : ℕ} (v : Fin n → EReal) (a b : Fin n) : Bool := decide (posKey v b < posKey v a)

theorem byValue_iff {n : ℕ} (v : Fin n → EReal) (a b : Fin n) : byValue v a b = true ↔ v b < v a := by
  unfold byValue
  rw [beq_iff_eq]
  exact gt_one (v a) (v b)

theorem by_eq {n : ℕ} (v : Fin n → EReal) {a b : Fin n} (h : a < b) : byValue v b a = byKey v b a := by
  rw [Bool.eq_iff_iff, byValue_iff]
  unfold byKey posKey
  rw [decide_eq_true_iff, mkKey_lt]
  refine ⟨Or.inl, fun h' => h'.elim id fun h'' => ?_⟩
  have : (b.val : ℤ) < (a.val : ℤ) := h''.2
  exact absurd h (not_lt.mpr (Fin.le_def.mpr (by omega)))

/-- The stable sort by value of positions in order is the sort by key. -/
theorem stableSort_by {n : ℕ} (v : Fin n → EReal) : ∀ l : List (Fin n), l.Pairwise (· < ·) → stableSort (byValue v) l = stableSort (byKey v) l
  | [], _ => rfl
  | a :: l, h => by
    rw [List.pairwise_cons] at h
    show insertBefore (byValue v) a (stableSort (byValue v) l) = insertBefore (byKey v) a (stableSort (byKey v) l)
    rw [stableSort_by v l h.2]
    exact insertBefore_congr _ _ a _ fun b hb => by_eq v (h.1 b ((perm_stableSort _ l).mem_iff.mp hb))

theorem sortedFrom_by {n : ℕ} (v : Fin n → EReal) : sortedFrom (byValue v) = sortedFrom (byKey v) := by
  funext k
  have e : sortPositions n (byValue v) = sortPositions n (byKey v) := stableSort_by v _ (List.pairwise_lt_finRange n)
  unfold sortedFrom
  rw [List.get_of_eq e]
  rfl

theorem posKey_inj {n : ℕ} (v : Fin n → EReal) : Function.Injective (posKey v) := fun a b h => by
  have := (mkKey_inj.mp h).2
  exact Fin.ext (by exact_mod_cast this)

theorem byKey_total {n : ℕ} (v : Fin n → EReal) : StrictTotalBefore (byKey v) where
  irrefl a := decide_eq_false (lt_irrefl _)
  trans a b c hab hbc := decide_eq_true (lt_trans (of_decide_eq_true hbc) (of_decide_eq_true hab))
  total a b hne := (lt_or_gt_of_ne fun e => hne (posKey_inj v e)).elim (fun h => Or.inr (decide_eq_true h)) (fun h => Or.inl (decide_eq_true h))

/-- Columns each the best but for those before it are the sort's first. -/
theorem sorted_first {n d : ℕ} (v : Fin n → EReal) (hd : d ≤ n) (c : ℕ → Fin n)
    (hc : ∀ k < d, (∀ i < k, c i ≠ c k) ∧ ∀ c', (∀ i < k, c' ≠ c i) → posKey v c' ≤ posKey v (c k)) (k : Fin d) :
    sortedFrom (byValue v) (k.castLE hd) = c k.val := by
  rw [sortedFrom_by]
  refine (byKey_total v).sortedFrom_eq_of_prefix hd (fun i => c i.val) (fun i j h => ?_) (fun i j hij => ?_) (fun i p hp => ?_) k
  · rcases lt_trichotomy i j with hij | hij | hij
    · exact absurd h ((hc j.val j.isLt).1 i.val hij)
    · exact hij
    · exact absurd h.symm ((hc i.val i.isLt).1 j.val hij)
  · exact decide_eq_false (not_lt.mpr ((hc i.val i.isLt).2 _ fun i' hi' => ((hc j.val j.isLt).1 i' (lt_trans hi' hij)).symm))
  · exact decide_eq_false (not_lt.mpr ((hc i.val i.isLt).2 _ fun i' hi' => (hp ⟨i', lt_trans hi' i.isLt⟩).symm))

theorem along_self {s : Shape} (j : s.Idx) (d : Fin s.rank) (k : Fin (s.size d)) : j.along d k d = k := by
  unfold Shape.Idx.along
  exact Function.update_self d k j

/-- The reference's positions. -/
theorem topK_row (x : FVec Ideal ⟨2, ![64, 32768]⟩ .f32) (h : (⟨2, ![64, 32768]⟩ : Shape).Slices (fun _ => 0) ⟨2, ![64, 5]⟩) (r : Fin 64) (c : ℕ → Fin 32768)
    (hc : ∀ k < 5, (∀ i < k, c i ≠ c k) ∧ ∀ c', (∀ i < k, c' ≠ c i) → posKey (fun c => x (ix2 r c)) c' ≤ posKey (fun c => x (ix2 r c)) (c k)) (k : Fin 5) :
    (Host.topK (s := ⟨2, ![64, 32768]⟩) ⟨2, ![64, 5]⟩ 1 (FloatOps.cmpfTotal (F := Ideal) (φ := .f32) .gt) x h).2 (ix2 r k) = BitVec.ofNat 32 (c k.val).val := by
  rw [← sorted_first (fun c => x (ix2 r c)) (by decide : 5 ≤ 32768) c hc k]
  have e : ∀ j : (⟨2, ![64, 32768]⟩ : Shape).Idx, ∀ k', j.along (1 : Fin 2) k' = ix2 (j 0) k' := fun j k' => by
    funext a
    match a with
    | 0 => rfl
    | 1 => rfl
  unfold Host.topK Host.sort2
  simp only [extractStridedSlice, show (1 : ℕ) < (⟨2, ![64, 32768]⟩ : Shape).rank from by decide, dif_pos]
  refine (congrArg (fun q : Fin 32768 => BitVec.ofNat 32 q.val) (along_self _ _ _)).trans ?_
  refine congrArg (fun z : Fin 32768 => BitVec.ofNat 32 z.val) (congr (congrArg sortedFrom (funext fun a => funext fun b => ?_)) (Fin.ext (Nat.zero_add _)))
  have f : ∀ a : Fin 32768, x (Shape.Idx.along (s := ⟨2, ![64, 32768]⟩) (fun a => ⟨0 + (ix2 r k (Fin.cast (h.1.symm) a)).val, by
      match a with
      | 0 => exact (Nat.zero_add r.val).symm ▸ r.isLt
      | 1 => exact (Nat.zero_add k.val).symm ▸ lt_trans k.isLt (by decide)⟩) 1 a) = x (ix2 r a) := fun a =>
    congrArg x ((e _ a).trans (congrArg (fun q : Fin 64 => (ix2 q a : (⟨2, ![64, 32768]⟩ : Shape).Idx)) (Fin.ext (Nat.zero_add _))))
  exact congrArg₂ (fun p q => FloatOps.cmpfTotal (F := Ideal) (φ := .f32) .gt p q == 1#1) (f a) (f b)

end Cert.KernelIdeal.Hand
end
-- ==== Proof.RefValue.lean ====
/-
  The reference's result at the extended reals: at each column of a row the sum, over the row's five first columns by
  value and then by position, of the Gaussians whose strips hold the column.
-/
module

public import proofs.«01_k».proof.Proof.Scatter
public import proofs.«01_k».proof.Proof.TopK
public import proofs.«01_k».proof.Proof.Gen.ReferenceIdeal.Run
public import Idealize.ShloMosaic.Lib.IdealHost
public import Idealize.ShloMosaic.Lib.WordCmp

@[expose] public section

set_option maxRecDepth 65536

noncomputable section

namespace Cert.ReferenceIdeal.Hand

open Cert.ReferenceIdeal Cert.ReferenceIdeal.Gen
open Idealize.ShloMosaic hiding ix0 ix1 ix2 ix3
open Idealize.ShloMosaic.ValueIdx (ix0 ix1 ix2 ix3)
open Cert.KernelIdeal.Hand (colE share kGauss rGauss refStart startCol refStart_eq toInt_small toInt_col startCol_le gauss_eq rootTwoPi posKey)
open scoped BigOperators

/-- A row of columns spread over every row and centre. -/
def overCols {α : Type} (v : S32768.Idx → α) : S64x5x32768.Idx → α :=
  broadcastInDim S64x5x32768 ![0, 1, 2] bcast_S1x1x32768_S64x5x32768_0_1_2 (broadcastInDim S1x1x32768 ![2] bcast_S32768_S1x1x32768_2 v)
/-- The centres spread over every column. -/
def overCentres {α : Type} (v : S64x5.Idx → α) : S64x5x32768.Idx → α :=
  broadcastInDim S64x5x32768 ![0, 1, 2] bcast_S64x5x1_S64x5x32768_0_1_2 (broadcastInDim S64x5x1 ![0, 1] bcast_S64x5_S64x5x1_0_1 v)
/-- One value everywhere. -/
def overAll {α : Type} (v : S_.Idx → α) : S64x5x32768.Idx → α := broadcastInDim S64x5x32768 ![] bcast_S_S64x5x32768 v
/-- One word at every centre. -/
def everyCentre (w : BitVec 32) : IVec S64x5 32 := broadcastInDim S64x5 ![] bcast_S_S64x5 (constantI S_ 32 w)

variable (x : FVec Ideal S64x32768 .f32) (bw : FVec Ideal S1 .f32)

/-- The five columns of each row. -/
def firsts : IVec S64x5 32 := (Host.topK S64x5 1 (FloatOps.cmpfTotal .gt) x sliceFits_S64x32768_S64x5).2
/-- The strips' first columns. -/
def starts (idx : IVec S64x5 32) : IVec S64x5 32 :=
  muli (minsi (Host.divsi (maxsi (subi idx (everyCentre 32#32)) (everyCentre 0#32)) (everyCentre 128#32)) (everyCentre 254#32)) (everyCentre 128#32)
/-- Each column's place in each centre's strip. -/
def places (idx : IVec S64x5 32) : IVec S64x5x32768 32 := subi (overCols (iotaInDim S32768 32 0)) (overCentres (starts idx))
/-- Whether the column lies in the strip. -/
def inside (idx : IVec S64x5 32) : IVec S64x5x32768 1 :=
  andi (cmpi .sge (places idx) (overAll (constantI S_ 32 0#32))) (cmpi .slt (places idx) (overAll (constantI S_ 32 256#32)))
/-- The bandwidth as a scalar. -/
def width : FVec Ideal S_ .f32 := shapeCast S_ bw shapeCasts_S1_S_
/-- The distances in bandwidths. -/
def ratio (idx : IVec S64x5 32) : FVec Ideal S64x5x32768 .f32 :=
  Host.divf (subf (overCols (sitofp .f32 (iotaInDim S32768 32 0))) (overCentres (sitofp .f32 idx))) (overAll (width bw))
/-- The Gaussians. -/
def gaussians (idx : IVec S64x5 32) : FVec Ideal S64x5x32768 .f32 :=
  Host.divf (Host.exp (mulf (overAll (constant S_ .f32 0xBF000000#32)) (mulf (ratio bw idx) (ratio bw idx))))
    (overAll (mulf (width bw) (id (Host.sqrt (constant S_ .f32 0x40C90FDB#32)))))
/-- The Gaussians cut to their strips. -/
def cut (idx : IVec S64x5 32) : FVec Ideal S64x5x32768 .f32 :=
  select (inside idx) (gaussians bw idx) (overAll (id (constant S_ .f32 0x00000000#32)))
/-- The result. -/
def out : FVec Ideal S64x32768 .f32 :=
  Host.reduceAdd (cut bw (firsts x)) (constant S_ .f32 0x00000000#32) reducesTo_S64x5x32768_S64x32768_d1 h_S_

theorem overCols_at {α : Type} (v : S32768.Idx → α) (r : Fin 64) (k : Fin 5) (j : Fin 32768) : overCols v (ix3 r k j) = v (ix1 j) :=
  (broadcastInDim_apply _ _ _ _ (ix3 (0 : Fin 1) (0 : Fin 1) j) fun a => by
    match a with
    | 0 => exact (if_pos rfl).symm
    | 1 => exact (if_pos rfl).symm
    | 2 => exact (if_neg (show ¬ (32768 : ℕ) = 1 by decide)).symm).trans
  (broadcastInDim_apply _ _ _ _ (ix1 j) fun a => by
    match a with
    | 0 => exact (if_neg (show ¬ (32768 : ℕ) = 1 by decide)).symm)

theorem overCentres_at {α : Type} (v : S64x5.Idx → α) (r : Fin 64) (k : Fin 5) (j : Fin 32768) : overCentres v (ix3 r k j) = v (ix2 r k) :=
  (broadcastInDim_apply _ _ _ _ (ix3 r k (0 : Fin 1)) fun a => by
    match a with
    | 0 => exact (if_neg (show ¬ (64 : ℕ) = 1 by decide)).symm
    | 1 => exact (if_neg (show ¬ (5 : ℕ) = 1 by decide)).symm
    | 2 => exact (if_pos rfl).symm).trans
  (broadcastInDim_apply _ _ _ _ (ix2 r k) fun a => by
    match a with
    | 0 => exact (if_neg (show ¬ (64 : ℕ) = 1 by decide)).symm
    | 1 => exact (if_neg (show ¬ (5 : ℕ) = 1 by decide)).symm)

theorem overAll_at {α : Type} (v : S_.Idx → α) (j : S64x5x32768.Idx) : overAll v j = v ix0 := ValueIdx.broadcastInDim_scalar_apply _ v j

theorem everyCentre_at (w : BitVec 32) (j : S64x5.Idx) : everyCentre w j = w := ValueIdx.broadcastInDim_scalar_apply _ _ j

theorem starts_at (idx : IVec S64x5 32) (j : S64x5.Idx) : starts idx j = refStart (idx j) := by
  have e : starts idx j = IntOp.muli (IntOp.minsi (IntOp.divsi .host (IntOp.maxsi (IntOp.subi (idx j) (everyCentre 32#32 j)) (everyCentre 0#32 j)) (everyCentre 128#32 j)) (everyCentre 254#32 j)) (everyCentre 128#32 j) := rfl
  rw [e]
  simp only [everyCentre_at]
  rfl

theorem toInt_gap (j s : ℕ) (hj : j < 32768) (hs : s < 32768) : (BitVec.ofNat 32 j - BitVec.ofNat 32 s).toInt = (j : ℤ) - s := by
  rw [BitVec.toInt_sub, toInt_small j (by omega), toInt_small s (by omega), Int.bmod_def]
  split <;> omega

theorem width_at : width bw ix0 = bw (ix1 (0 : Fin 1)) := shapeCast_apply _ _ _ _ rfl

/-- One centre's cut Gaussian at a column. -/
theorem cut_at (hb : bw (ix1 (0 : Fin 1)) ≠ 0) (idx : IVec S64x5 32) (r : Fin 64) (k : Fin 5) (j : Fin 32768) (c : Fin 32768)
    (hc : idx (ix2 r k) = BitVec.ofNat 32 c.val) : cut bw idx (ix3 r k j) = share (bw (ix1 (0 : Fin 1))) c.val j.val := by
  have hs := startCol_le c.val
  have hp : places idx (ix3 r k j) = BitVec.ofNat 32 j.val - BitVec.ofNat 32 (startCol c.val) := by
    have e : places idx (ix3 r k j) = overCols (iotaInDim S32768 32 0) (ix3 r k j) - overCentres (starts idx) (ix3 r k j) := rfl
    rw [e, overCols_at, overCentres_at, starts_at, hc, refStart_eq c]
    rfl
  have hq : ratio bw idx (ix3 r k j) = Ideal.div (colE j.val - colE c.val) (bw (ix1 (0 : Fin 1))) := by
    have e : ratio bw idx (ix3 r k j) = Ideal.div (overCols (sitofp (F := Ideal) .f32 (iotaInDim S32768 32 0)) (ix3 r k j)
      - overCentres (sitofp (F := Ideal) .f32 idx) (ix3 r k j)) (overAll (width bw) (ix3 r k j)) := rfl
    have e1 : sitofp (F := Ideal) .f32 (iotaInDim S32768 32 0) (ix1 j) = colE j.val := toInt_col j.val j.isLt
    have e2 : sitofp (F := Ideal) .f32 idx (ix2 r k) = colE c.val := by
      have e3 : sitofp (F := Ideal) .f32 idx (ix2 r k) = ((((idx (ix2 r k)).toInt : ℤ) : ℝ) : EReal) := rfl
      rw [e3, hc, toInt_col c.val c.isLt]
    rw [e, overCols_at, overCentres_at, overAll_at, width_at, e1, e2]
  have hg : gaussians bw idx (ix3 r k j) = rGauss (bw (ix1 (0 : Fin 1))) (colE j.val - colE c.val) := by
    have e : gaussians bw idx (ix3 r k j) = Ideal.div (Ideal.exp (overAll (constant (F := Ideal) S_ .f32 0xBF000000#32) (ix3 r k j)
      * (ratio bw idx (ix3 r k j) * ratio bw idx (ix3 r k j)))) (overAll (mulf (width bw) (id (Host.sqrt (constant (F := Ideal) S_ .f32 0x40C90FDB#32)))) (ix3 r k j)) := rfl
    have e1 : mulf (width bw) (id (Host.sqrt (constant (F := Ideal) S_ .f32 0x40C90FDB#32))) ix0 = width bw ix0 * rootTwoPi := rfl
    rw [e, hq, overAll_at, overAll_at, e1, width_at]
    rfl
  have e : cut bw idx (ix3 r k j) = if IntOp.andi (IntOp.cmpi .sge (places idx (ix3 r k j)) (overAll (constantI S_ 32 0#32) (ix3 r k j)))
      (IntOp.cmpi .slt (places idx (ix3 r k j)) (overAll (constantI S_ 32 256#32) (ix3 r k j))) = 1#1
      then gaussians bw idx (ix3 r k j) else overAll (id (constant (F := Ideal) S_ .f32 0x00000000#32)) (ix3 r k j) := rfl
  have e0 : overAll (constantI S_ 32 0#32) (ix3 r k j) = 0#32 := overAll_at _ _
  have e2 : overAll (constantI S_ 32 256#32) (ix3 r k j) = 256#32 := overAll_at _ _
  have ez : overAll (id (constant (F := Ideal) S_ .f32 0x00000000#32)) (ix3 r k j) = (0 : EReal) := by
    rw [overAll_at]
    show Ideal.ofBits .f32 0x00000000#32 = 0
    simp [Ideal.ofBits, Ideal.ieee]
  rw [e, e0, e2, ez, hg, hp, WordCmp.cmpi_sge_eq, WordCmp.cmpi_slt_eq, toInt_gap j.val (startCol c.val) j.isLt (by omega)]
  unfold share
  rw [gauss_eq _ _ hb, show (0#32 : BitVec 32).toInt = 0 by decide, show (256#32 : BitVec 32).toInt = 256 by decide]
  have hiff : IntOp.andi (BitVec.ofBool (decide ((0 : ℤ) ≤ (j.val : ℤ) - startCol c.val))) (BitVec.ofBool (decide ((j.val : ℤ) - startCol c.val < 256))) = 1#1
      ↔ startCol c.val ≤ j.val ∧ j.val < startCol c.val + 256 := by
    have hand : ∀ p q : Bool, IntOp.andi (BitVec.ofBool p) (BitVec.ofBool q) = 1#1 ↔ p = true ∧ q = true := by decide
    rw [hand, decide_eq_true_iff, decide_eq_true_iff]
    omega
  by_cases h : startCol c.val ≤ j.val ∧ j.val < startCol c.val + 256
  · rw [if_pos h, if_pos (hiff.mpr h)]
  · rw [if_neg h, if_neg fun h' => h (hiff.mp h')]

/-- The result at a column of a row whose first five columns are known. -/
theorem out_at (hb : bw (ix1 (0 : Fin 1)) ≠ 0) (r : Fin 64) (j : Fin 32768) (c : ℕ → Fin 32768)
    (hc : ∀ k < 5, (∀ i < k, c i ≠ c k) ∧ ∀ c', (∀ i < k, c' ≠ c i) → posKey (fun c => x (ix2 r c)) c' ≤ posKey (fun c => x (ix2 r c)) (c k)) :
    out x bw (ix2 r j) = ∑ k ∈ Finset.range 5, share (bw (ix1 (0 : Fin 1))) (c k).val j.val := by
  have hr : S64x5x32768.Reduces [1] S64x32768 := by decide
  unfold out
  rw [ValueIdx.hostReduceAdd_apply, Ideal.hostReduceAdd_single _ hr, Finset.sum_range]
  have ez : constant (F := Ideal) S_ .f32 0x00000000#32 (Shape.Idx.first h_S_) = (0 : EReal) := by
    show Ideal.ofBits .f32 0x00000000#32 = 0
    simp [Ideal.ofBits, Ideal.ieee]
  rw [ez, zero_add]
  refine Finset.sum_congr rfl fun (k : Fin 5) _ => ?_
  have el : hr.lift (ix2 r j) k = ix3 r k j := by
    funext a
    match a with
    | 0 => rfl
    | 1 => rfl
    | 2 => rfl
  rw [el]
  exact cut_at bw hb (firsts x) r k j (c k.val) (Cert.KernelIdeal.Hand.topK_row x _ r c hc k)

end Cert.ReferenceIdeal.Hand
end
-- ==== Proof.TopsValue.lean ====
/-
  The top-five kernel's output block: lane `k` of row `r` is the column with the row's `k`-th best key.
-/
module

public import proofs.«01_k».proof.Proof.Scans

@[expose] public section

set_option maxRecDepth 16384

noncomputable section

namespace Cert.KernelIdeal.Hand

open Cert.KernelIdeal Cert.KernelIdeal.Gen Cert.Order
open Idealize.ShloMosaic Idealize.ShloMosaic.ValueIdx

/-- The levels of a row's lanes as keys, empty from the sixth on. -/
def slowX (t : L5 Ideal) (r : Fin 8) : Fin 128 → ℕ → Key := fun l j =>
  match j with
  | 0 => key t.1 (ix2 r l) | 1 => key t.2.1 (ix2 r l) | 2 => key t.2.2.1 (ix2 r l) | 3 => key t.2.2.2.1 (ix2 r l)
  | 4 => key t.2.2.2.2 (ix2 r l) | _ => noKey

/-- The three levels as keys: from the third on the third value at the column past the end. -/
def fastX (t : L3 Ideal) (r : Fin 8) : Fin 128 → ℕ → Key := fun l j =>
  match j with
  | 0 => key t.1 (ix2 r l) | 1 => key t.2.1 (ix2 r l) | _ => key (t.2.2, bigV) (ix2 r l)

theorem key_popped (p a b : P2 Ideal) (r : Fin 8) (l : Fin 128) :
    key (sel (popped p) a b) (ix2 r l) = if key p (ix2 r l) = headKey p r then key a (ix2 r l) else key b (ix2 r l) := by
  rw [key_sel]
  simp only [popped_one]

theorem slowX_pop (t : L5 Ideal) (r : Fin 8) : slowX (pop5 t) r = popK (slowX t r) (headKey t.1 r) := by
  funext l j
  match j with
  | 0 => exact key_popped _ _ _ r l
  | 1 => exact key_popped _ _ _ r l
  | 2 => exact key_popped _ _ _ r l
  | 3 => exact key_popped _ _ _ r l
  | 4 => exact (key_popped t.1 none2 t.2.2.2.2 r l).trans (by rw [key_none]; rfl)
  | j + 5 => exact (ite_self _).symm

theorem fastX_pop (t : L3 Ideal) (r : Fin 8) : fastX (pop3 t) r = popK (fastX t r) (headKey t.1 r) := by
  funext l j
  match j with
  | 0 => exact key_popped _ _ _ r l
  | 1 => exact key_popped _ _ _ r l
  | j + 2 => exact (ite_self _).symm

/-- The levels after `k` pops. -/
def popsN {T : Type} (f : T → T) (t : T) : ℕ → T
  | 0 => t
  | k + 1 => f (popsN f t k)

theorem popK_all {P : Key → Prop} {X : Fin 128 → ℕ → Key} (h : ∀ l j, P (X l j)) (M : Key) : ∀ l j, P (popK X M l j) := fun l j => by
  unfold popK; split
  · exact h l (j + 1)
  · exact h l j

theorem slow_cols {t : L5 Ideal} {r : Fin 8} (h : ∀ l j, colOk (slowX t r l j)) : ∀ k, ∀ l j, colOk (slowX (popsN pop5 t k) r l j)
  | 0 => h
  | k + 1 => by
    show ∀ l j, colOk (slowX (pop5 (popsN pop5 t k)) r l j)
    rw [slowX_pop]; exact popK_all (slow_cols h k) _
theorem fast_cols {t : L3 Ideal} {r : Fin 8} (h : ∀ l j, colOk (fastX t r l j)) : ∀ k, ∀ l j, colOk (fastX (popsN pop3 t k) r l j)
  | 0 => h
  | k + 1 => by
    show ∀ l j, colOk (fastX (pop3 (popsN pop3 t k)) r l j)
    rw [fastX_pop]; exact popK_all (fast_cols h k) _

theorem lane_word {k : ℕ} (hk : k < 5) {n : ℕ} (hn : n < 5) : (BitVec.ofNat 32 k = BitVec.ofNat 32 n) ↔ k = n := by
  interval_cases k <;> interval_cases n <;> decide

/-- Lane `k` of the output is the best column after `k` pops. -/
theorem tops5_at (t : L5 Ideal) (r : Fin 8) (k : ℕ) (hk : k < 5) :
    tops5 t (ix2 r ⟨k, by omega⟩) = bestCol (popsN pop5 t k).1 (ix2 r 0 : S8x1.Idx) := by
  unfold tops5
  simp only [put_at]
  match k, hk with
  | 0, _ => rfl
  | 1, _ => rfl
  | 2, _ => rfl
  | 3, _ => rfl
  | 4, _ => rfl
theorem tops3_at (t : L3 Ideal) (r : Fin 8) (k : ℕ) (hk : k < 5) :
    tops3 t (ix2 r ⟨k, by omega⟩) = bestCol (popsN pop3 t k).1 (ix2 r 0 : S8x1.Idx) := by
  unfold tops3
  simp only [put_at]
  match k, hk with
  | 0, _ => rfl
  | 1, _ => rfl
  | 2, _ => rfl
  | 3, _ => rfl
  | 4, _ => rfl

/-- The rows whose third values reach the fifth pop, as words. -/
def badRows (a : FVec Ideal S8x128 .f32) (b : FVec Ideal S8x1 .f32) : IVec S8x1 32 :=
  select (cmpf .oge (rowMax a) b) (broadcast S8x1 1#32) (broadcast S8x1 0#32)

theorem pay2_fold (a : FVec Ideal S8x128 .f32) (b : FVec Ideal S8x1 .f32) (i : S1x1x1.Idx) :
    k0_pay2 a b i = ((Finset.univ : Finset S1x8x1.Idx).filter fun i => reduces_S1x8x1_S1.drop i = ix1 (0 : Fin 1)).fold IntOp.maxsi 2147483648#32
      (shapeCast S1x8x1 (badRows a b) shapeCasts_S8x1_S1x8x1) := by
  refine Eq.trans ?_ (multiReductionI_eq_fold .maxsi (shapeCast S1x8x1 (badRows a b) shapeCasts_S8x1_S1x8x1) 2147483648#32 reduces_S1x8x1_S1 rfl (ix1 (0 : Fin 1)))
  show shapeCast S1x1x1 (multiReductionI .maxsi [1, 2] S1 (shapeCast S1x8x1 (badRows a b) shapeCasts_S8x1_S1x8x1) 2147483648#32 reduces_S1x8x1_S1 rfl)
    shapeCasts_S1_S1x1x1 i = _
  refine shapeCast_apply _ shapeCasts_S1_S1x1x1 i (ix1 (0 : Fin 1)) ?_
  revert i
  decide

theorem badRows_cast (a : FVec Ideal S8x128 .f32) (b : FVec Ideal S8x1 .f32) (r : Fin 8) :
    shapeCast S1x8x1 (badRows a b) shapeCasts_S8x1_S1x8x1 (ix3 (0 : Fin 1) r (0 : Fin 1)) = badRows a b (ix2 r 0 : S8x1.Idx) := by
  refine shapeCast_apply (badRows a b) shapeCasts_S8x1_S1x8x1 _ (ix2 r 0 : S8x1.Idx) ?_
  revert r
  decide

/-- The word is zero only where every row's third values lie below its fifth pop. -/
theorem badWord_zero (t : L3 Ideal) (h : badWord t = 0#32) (r : Fin 8) :
    (rowMax t.2.2 (ix2 r 0 : S8x1.Idx) : EReal) < rowMax (popsN pop3 t 4).1.1 (ix2 r 0 : S8x1.Idx) := by
  by_contra hlt
  have hge := not_lt.mp hlt
  have hv : badRows t.2.2 (rowMax (popsN pop3 t 4).1.1) (ix2 r 0) = 1#32 := if_pos ((ge_one _ _).mpr hge)
  have e : badWord t = _ := pay2_fold t.2.2 (rowMax (popsN pop3 t 4).1.1) _
  have hle : (1 : ℤ) ≤ (badWord t).toInt := by
    rw [e, ← Finset.fold_hom (op' := max) (m := BitVec.toInt) (fun x y => (maxsi_toInt x y).symm)]
    refine (Finset.le_fold_max _).mpr (Or.inr ⟨ix3 (0 : Fin 1) r (0 : Fin 1), Finset.mem_filter.mpr ⟨Finset.mem_univ _, ?_⟩, ?_⟩)
    · funext a
      match a with
      | ⟨0, _⟩ => exact Subsingleton.elim (α := Fin 1) _ _
    · rw [badRows_cast, hv]; decide
  rw [h] at hle
  exact absurd hle (by decide)

variable (x : Vec Ideal S8x32768 .f32) (r : Fin 8) (hx : ∀ c, (⊥ : EReal) < x (ix2 r c))
include hx

theorem slow_held : Held (colKey x r) noKey 5 (slowX (scanned5 (zOf x)) r) laneCols where
  best l := by
    intro U hU j hj
    have h := (scanned5_best x r hx l).1 U hU j hj
    match j, hj with
    | 0, _ => exact h
    | 1, _ => exact h
    | 2, _ => exact h
    | 3, _ => exact h
    | 4, _ => exact h
  apart l l' c h h' := Fin.ext ((mem_laneCols.mp h).symm.trans (mem_laneCols.mp h'))

/-- The bound of the three levels: the row's greatest third value. -/
def fastBound : Key := mkKey (rowMax (scanned3 (zOf x)).2.2 (ix2 r 0 : S8x1.Idx)) 0

omit hx in
theorem no_le_fast : noKey ≤ fastBound x r := by
  unfold noKey fastBound
  rw [mkKey_le]
  rcases eq_bot_or_bot_lt (rowMax (scanned3 (zOf x)).2.2 (ix2 r 0 : S8x1.Idx) : EReal) with h | h
  · exact Or.inr ⟨h.symm, by decide⟩
  · exact Or.inl h

omit hx in
theorem third_le (l : Fin 128) (n : ℤ) (hn : 0 ≤ n) : mkKey ((scanned3 (zOf x)).2.2 (ix2 r l)) n ≤ fastBound x r := by
  unfold fastBound
  rw [mkKey_le]
  rcases lt_or_eq_of_le (rowMax_le (scanned3 (zOf x)).2.2 r 0 l) with h | h
  · exact Or.inl h
  · exact Or.inr ⟨h, hn⟩

theorem fast_held : Held (colKey x r) (fastBound x r) 5 (fastX (scanned3 (zOf x)) r) laneCols where
  best l := by
    intro U hU j hj
    obtain ⟨q, hq, hb⟩ := scanned3_best x r hx l
    obtain ⟨b0, b1, b2⟩ := best_levr.mp hb U (hU.mono (no_le_fast x r))
    rw [← hq.k0] at b0
    rw [← hq.k1] at b1
    have n2 : ¬ U q.2.2 := fun h => hU.out (hU.up _ _ (by
      have := third_le x r l (OrderDual.ofDual (ofLex q.2.2).2) hq.ok.2.2.1
      rw [hq.k2] at this
      exact this) h)
    have n3 : ¬ U (key ((scanned3 (zOf x)).2.2, bigV) (ix2 r l)) := fun h => hU.out (hU.up _ _ (third_le x r l 32768 (by decide)) h)
    match j, hj with
    | 0, _ => exact b0
    | 1, _ => exact b1
    | j + 2, _ => exact iff_of_false n3 (fun h => n2 (b2.mpr (by omega)))
  apart l l' c h h' := Fin.ext ((mem_laneCols.mp h).symm.trans (mem_laneCols.mp h'))

theorem slow_colOk : ∀ l j, colOk (slowX (scanned5 (zOf x)) r l j) := fun l j => by
  obtain ⟨h0, h1, h2, h3, h4⟩ := (scanned5_best x r hx l).2
  match j with
  | 0 => exact h0
  | 1 => exact h1
  | 2 => exact h2
  | 3 => exact h3
  | 4 => exact h4
  | j + 5 => exact colOk_no

theorem fast_colOk : ∀ l j, colOk (fastX (scanned3 (zOf x)) r l j) := fun l j => by
  obtain ⟨q, hq, -⟩ := scanned3_best x r hx l
  match j with
  | 0 => exact show colOk (key (scanned3 (zOf x)).1 (ix2 r l)) from hq.k0 ▸ hq.ok.1
  | 1 => exact show colOk (key (scanned3 (zOf x)).2.1 (ix2 r l)) from hq.k1 ▸ hq.ok.2.1
  | j + 2 => exact ⟨show (0 : ℤ) ≤ 32768 by decide, show (32768 : ℤ) ≤ 32768 by decide⟩

omit hx in
/-- The popped columns and the words written. -/
theorem word_of {p : P2 Ideal} {c : Fin 32768} (h : colKey x r c = headKey p r) : bestCol p (ix2 r 0 : S8x1.Idx) = BitVec.ofNat 32 c.val := by
  have h2 := (mkKey_inj.mp h).2
  have := c.isLt
  exact BitVec.toInt_inj.mp (h2.symm.trans (toInt_small _ (by omega)).symm)

/-- **The row's five best columns**, best first. -/
theorem topsOut_row : ∃ c : ℕ → Fin 32768, ∀ k (hk : k < 5), topsOut (zOf x) (ix2 r ⟨k, by omega⟩) = BitVec.ofNat 32 (c k).val
    ∧ (∀ i < k, c i ≠ c k) ∧ ∀ c', (∀ i < k, c' ≠ c i) → colKey x r c' ≤ colKey x r (c k) := by
  have hin : ∀ c' : Fin 32768, c' ∈ laneCols ⟨c'.val % 128, Nat.mod_lt _ (by decide)⟩ := fun c' => mem_laneCols.mpr rfl
  unfold topsOut
  by_cases hw : badWord (scanned3 (zOf x)) = 0#32
  · rw [pick_zero _ _ _ hw]
    let t := scanned3 (zOf x)
    have hM : ∀ k, Head (fastX (popsN pop3 t k) r) (headKey (popsN pop3 t k).1 r) := fun k =>
      head_row (fun l => rfl) fun l => fast_cols (fast_colOk x r hx) k l 0
    have hX : ∀ k, fastX (popsN pop3 t (k + 1)) r = popK (fastX (popsN pop3 t k) r) (headKey (popsN pop3 t k).1 r) := fun k => fastX_pop _ r
    have hy := above_of_last (colKey_inj x r) 4 (fun k => fastX (popsN pop3 t k) r) (fun k => headKey (popsN pop3 t k).1 r) laneCols hM hX
      (fast_held x r hx) (mkKey_lt.mpr (Or.inl (badWord_zero t hw r)))
    obtain ⟨c, hc⟩ := pops_order (colKey_inj x r) 0 5 (fun k => fastX (popsN pop3 t k) r) (fun k => headKey (popsN pop3 t k).1 r) laneCols hM hX
      (fast_held x r hx) hy
    refine ⟨c, fun k hk => ?_⟩
    obtain ⟨e, _, n, b⟩ := hc k hk
    exact ⟨(tops3_at t r k hk).trans (word_of x r e), n, fun c' hn => b _ c' (hin c') hn⟩
  · rw [pick_one _ _ _ hw]
    let t := scanned5 (zOf x)
    have hM : ∀ k, Head (slowX (popsN pop5 t k) r) (headKey (popsN pop5 t k).1 r) := fun k =>
      head_row (fun l => rfl) fun l => slow_cols (slow_colOk x r hx) k l 0
    have hX : ∀ k, slowX (popsN pop5 t (k + 1)) r = popK (slowX (popsN pop5 t k) r) (headKey (popsN pop5 t k).1 r) := fun k => slowX_pop _ r
    have hy := above_of_many (colKey_inj x r) (fun c => mkKey_lt.mpr (Or.inl (hx c))) 5 (fun k => slowX (popsN pop5 t k) r)
      (fun k => headKey (popsN pop5 t k).1 r) laneCols hM hX (slow_held x r hx) (fun G hG => by
        have : ∃ c : Fin 32768, c ∉ G := by
          by_contra hall
          have hu : G = Finset.univ := Finset.eq_univ_of_forall fun c => by by_contra hc; exact hall ⟨c, hc⟩
          rw [hu, Finset.card_univ, Fintype.card_fin] at hG
          omega
        obtain ⟨c, hc⟩ := this
        exact ⟨_, c, hin c, hc⟩)
    obtain ⟨c, hc⟩ := pops_order (colKey_inj x r) 0 5 (fun k => slowX (popsN pop5 t k) r) (fun k => headKey (popsN pop5 t k).1 r) laneCols hM hX
      (slow_held x r hx) hy
    refine ⟨c, fun k hk => ?_⟩
    obtain ⟨e, _, n, b⟩ := hc k hk
    exact ⟨(tops5_at t r k hk).trans (word_of x r e), n, fun c' hn => b _ c' (hin c') hn⟩

end Cert.KernelIdeal.Hand
end
-- ==== Proof.Equal.lean ====
/-
  The kernel's density and the reference's are one function of inputs above minus infinity and a nonzero bandwidth; and
  the claim that says so of the two programs' runs.
-/
module

public import proofs.«01_k».proof.Defs
public import proofs.«01_k».proof.Proof.RefValue
public import proofs.«01_k».proof.Proof.TopsValue
public import proofs.«01_k».proof.Proof.Gen.Pre_has_a_density
public import Idealize.ShloMosaic.Lib.ReduceAll

@[expose] public section

set_option maxRecDepth 65536

noncomputable section

namespace Cert.KernelIdeal.Hand

open Idealize.ShloMosaic hiding ix0 ix1 ix2 ix3
open Idealize.ShloMosaic.ValueIdx (ix0 ix1 ix2 ix3)
open Idealize.ShloMosaic.TcCoe Idealize.SL.Sem
open scoped BigOperators

/-- The kernel's five columns of a row. -/
theorem centres_row (x : Vec Ideal S64x32768 .f32) (hx : ∀ j, (⊥ : EReal) < x j) (r : Fin 64) :
    ∃ c : ℕ → Fin 32768, (∀ k (hk : k < 5), centresOf x (ix2 r ⟨k, by omega⟩) = BitVec.ofNat 32 (c k).val)
      ∧ ∀ k < 5, (∀ i < k, c i ≠ c k) ∧ ∀ c', (∀ i < k, c' ≠ c i) → posKey (fun c => x (ix2 r c)) c' ≤ posKey (fun c => x (ix2 r c)) (c k) := by
  have hr : r.val < 64 := r.isLt
  obtain ⟨c, hc⟩ := topsOut_row (rowsAt x (r.val / 8)) ⟨r.val % 8, Nat.mod_lt _ (by decide)⟩ fun c => hx _
  have ek : ∀ c' : Fin 32768, colKey (rowsAt x (r.val / 8)) ⟨r.val % 8, Nat.mod_lt _ (by decide)⟩ c' = posKey (fun c => x (ix2 r c)) c' := fun c' => by
    refine congrArg (fun q : Fin 64 => mkKey (x (ix2 q c')) (c'.val : ℤ)) (Fin.ext ?_)
    show (8 * (r.val / 8) + r.val % 8) % 64 = r.val
    omega
  refine ⟨c, fun k hk => (hc k hk).1, fun k hk => ⟨(hc k hk).2.1, fun c' h => ?_⟩⟩
  rw [← ek, ← ek]
  exact (hc k hk).2.2 c' h

/-- The two results are one. -/
theorem density_eq (x : Vec Ideal S64x32768 .f32) (bw : Vec Ideal S1 .f32) (hx : ∀ j, (⊥ : EReal) < x j) (hb : bw (ix1 (0 : Fin 1)) ≠ (0 : EReal)) :
    densityOf (centresOf x) bw = Cert.ReferenceIdeal.Hand.out x bw := by
  choose c hc hbest using centres_row x hx
  funext y
  obtain ⟨r, j, rfl⟩ : ∃ (r : Fin 64) (j : Fin 32768), y = ix2 r j := ⟨y 0, y 1, funext fun a => by
    match a with
    | ⟨0, _⟩ => rfl
    | ⟨1, _⟩ => rfl⟩
  have hr : r.val < 64 := r.isLt
  have hw : blockCentres (centresOf x) (r.val / 16) = fun n => BitVec.ofNat 32 (c ⟨(16 * (r.val / 16) + n / 5 % 16) % 64, Nat.mod_lt _ (by decide)⟩ (n % 5)).val := by
    funext n
    rw [← hc _ (n % 5) (Nat.mod_lt _ (by decide))]
    refine congrArg (fun q : Fin 128 => centresOf x (ix2 _ q)) (Fin.ext ?_)
    show n % 5 % 128 = n % 5
    omega
  rw [Cert.ReferenceIdeal.Hand.out_at x bw hb r j (c r) (hbest r),
    densityOf_at (centresOf x) bw (ix2 r j) (r.val / 16) (ix2 ⟨r.val % 16, Nat.mod_lt _ (by decide)⟩ j)
      (by show r.val = 16 * (r.val / 16) + r.val % 16; omega) rfl, hw,
    scattered_all (bw (ix1 (0 : Fin 1))) (fun n => c ⟨(16 * (r.val / 16) + n / 5 % 16) % 64, Nat.mod_lt _ (by decide)⟩ (n % 5))]
  refine Finset.sum_congr rfl fun k hk => ?_
  have hk := Finset.mem_range.mp hk
  have er : (⟨(16 * (r.val / 16) + (5 * (r.val % 16) + k) / 5 % 16) % 64, Nat.mod_lt _ (by decide)⟩ : Fin 64) = r := Fin.ext (by
    show (16 * (r.val / 16) + (5 * (r.val % 16) + k) / 5 % 16) % 64 = r.val; omega)
  show share (bw (ix1 (0 : Fin 1))) (c ⟨(16 * (r.val / 16) + (5 * (r.val % 16) + k) / 5 % 16) % 64, _⟩ ((5 * (r.val % 16) + k) % 5)).val j.val = _
  rw [er, show (5 * (r.val % 16) + k) % 5 = k by omega]

/-- What the precondition says of the two arguments. -/
theorem pre_iff (x : FVec Ideal S64x32768 .f32) (bw : FVec Ideal S1 .f32)
    (h : Cert.Pre_has_a_density.fn (F := Ideal) x bw = fun _ => 1#1) : (∀ j, (⊥ : EReal) < x j) ∧ bw (ix1 (0 : Fin 1)) ≠ (0 : EReal) := by
  haveI : Subsingleton (Cert.Pre_has_a_density.S_).Idx := ⟨fun a b => funext fun i => i.elim0⟩
  have h0 := congrFun h ix0
  obtain ⟨h1, h2⟩ := (and_one _ _).mp h0
  refine ⟨fun j => ?_, ?_⟩
  · have h3 := (gt_one _ _).mp (Host.reduce_andi_all _ _ _ _ _ h1 j)
    refine lt_of_le_of_lt bot_le h3
  · have h3 := Host.reduce_andi_all _ _ _ _ _ h2 (ix1 (0 : Fin 1))
    have h4 : BitVec.ofBool (decide (bw (ix1 (0 : Fin 1)) ≠ Ideal.ofBits .f32 0x00000000#32)) = 1#1 := h3
    have h5 : bw (ix1 (0 : Fin 1)) ≠ Ideal.ofBits .f32 0x00000000#32 := of_decide_eq_true ((bool_one _).mp h4)
    have e : Ideal.ofBits .f32 0x00000000#32 = (0 : EReal) := by simp [Ideal.ofBits, Ideal.ieee]
    rwa [e] at h5

/-- From arguments of a density the kernel and the reference run to one result. -/
theorem algebraic : Cert.algebraic_KernelIdeal_ReferenceIdeal_pre_has_a_density := by
  intro m g m' g' hpre hargs
  refine ⟨fun c => densityOf (centresOf (m ((c : Thread nD τ).loc main_arg0))) (m ((c : Thread nD τ).loc main_arg1)), ?_, ?_⟩
  · exact (θ_run _ _ _).mono (fun r h c => ⟨((h.1 c).2.2).trans (density_arr m c), (h.1 c).1, (h.1 c).2.1⟩) (run m g)
  · refine (θ_run _ _ _).mono (fun r h c => ⟨(h c).1.trans ?_, (h c).2.1, (h c).2.2⟩) (Cert.ReferenceIdeal.Value.run m' g')
    obtain ⟨hx, hb⟩ := pre_iff _ _ (hpre c)
    refine Eq.trans (b := Cert.ReferenceIdeal.Hand.out
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))) (by chain_rfl) ?_
    exact (congrArg₂ Cert.ReferenceIdeal.Hand.out (hargs c).1 (hargs c).2).trans (density_eq _ _ hx hb).symm

end Cert.KernelIdeal.Hand
end
-- ==== Proof.lean ====
module

public import proofs.«01_k».proof.Defs
public import proofs.«01_k».proof.Proof.Frames
public import proofs.«01_k».proof.Proof.Equal
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_has_a_density
public import Idealize.ShloMosaic.Adequacy
public import Idealize.ShloMosaic.Init

@[expose] public section

noncomputable section

namespace Cert.Proof

open Idealize.ShloMosaic Idealize.SL.Sem Cert.Kernel

/-- The idealized kernel's frame at the extended reals. -/
theorem ideal_frame (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun r h => ⟨fun c => ⟨(h.1 c).1, (h.1 c).2.1⟩, h.2⟩) (Cert.KernelIdeal.Hand.run m ρ)

/-- The reference's frame; it declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Cert.Pre_has_a_density.Gen.facts,
  fun m ρ _ => kernel_frame m ρ, fun m ρ _ => ideal_frame m ρ, fun m ρ _ => ideal_frame m ρ,
  fun m ρ _ => reference_frame m ρ, fun m ρ _ => reference_frame m ρ, trivial, Cert.KernelIdeal.Hand.algebraic⟩

end Cert.Proof

end
